-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def Pre_DwIn (m : (ℓ : Loc Cert.DwIn.nD Cert.DwIn.τ Cert.DwIn.sig) → Buf (Elt Bits) ℓ) : Prop :=
  True

def Pre_DwInIdeal (m : (ℓ : Loc Cert.DwInIdeal.nD Cert.DwInIdeal.τ Cert.DwInIdeal.sig) → Buf (Elt Ideal) ℓ) : Prop :=
  True

def Pre_DwInRefIdeal (m : (ℓ : Loc Cert.DwInRefIdeal.nD Cert.DwInRefIdeal.τ Cert.DwInRefIdeal.sig) → Buf (Elt Ideal) ℓ) : Prop :=
  True

def Pre_DwUp (m : (ℓ : Loc Cert.DwUp.nD Cert.DwUp.τ Cert.DwUp.sig) → Buf (Elt Bits) ℓ) : Prop :=
  True

def Pre_DwUpIdeal (m : (ℓ : Loc Cert.DwUpIdeal.nD Cert.DwUpIdeal.τ Cert.DwUpIdeal.sig) → Buf (Elt Ideal) ℓ) : Prop :=
  True

def Pre_DwUpRefIdeal (m : (ℓ : Loc Cert.DwUpRefIdeal.nD Cert.DwUpRefIdeal.τ Cert.DwUpRefIdeal.sig) → Buf (Elt Ideal) ℓ) : Prop :=
  True

def Pre_DwDown (m : (ℓ : Loc Cert.DwDown.nD Cert.DwDown.τ Cert.DwDown.sig) → Buf (Elt Bits) ℓ) : Prop :=
  True

def Pre_DwDownIdeal (m : (ℓ : Loc Cert.DwDownIdeal.nD Cert.DwDownIdeal.τ Cert.DwDownIdeal.sig) → Buf (Elt Ideal) ℓ) : Prop :=
  True

def Pre_DwDownRefIdeal (m : (ℓ : Loc Cert.DwDownRefIdeal.nD Cert.DwDownRefIdeal.τ Cert.DwDownRefIdeal.sig) → Buf (Elt Ideal) ℓ) : Prop :=
  True

def Pre_DwOut (m : (ℓ : Loc Cert.DwOut.nD Cert.DwOut.τ Cert.DwOut.sig) → Buf (Elt Bits) ℓ) : Prop :=
  True

def Pre_DwOutIdeal (m : (ℓ : Loc Cert.DwOutIdeal.nD Cert.DwOutIdeal.τ Cert.DwOutIdeal.sig) → Buf (Elt Ideal) ℓ) : Prop :=
  True

def Pre_DwOutRefIdeal (m : (ℓ : Loc Cert.DwOutRefIdeal.nD Cert.DwOutRefIdeal.τ Cert.DwOutRefIdeal.sig) → Buf (Elt Ideal) ℓ) : Prop :=
  True

def Pre_DAct (m : (ℓ : Loc Cert.DAct.nD Cert.DAct.τ Cert.DAct.sig) → Buf (Elt Bits) ℓ) : Prop :=
  True

def Pre_DActIdeal (m : (ℓ : Loc Cert.DActIdeal.nD Cert.DActIdeal.τ Cert.DActIdeal.sig) → Buf (Elt Ideal) ℓ) : Prop :=
  True

def Pre_DActRefIdeal (m : (ℓ : Loc Cert.DActRefIdeal.nD Cert.DActRefIdeal.τ Cert.DActRefIdeal.sig) → Buf (Elt Ideal) ℓ) : Prop :=
  True

def Pre_DMix (m : (ℓ : Loc Cert.DMix.nD Cert.DMix.τ Cert.DMix.sig) → Buf (Elt Bits) ℓ) : Prop :=
  True

def Pre_DMixIdeal (m : (ℓ : Loc Cert.DMixIdeal.nD Cert.DMixIdeal.τ Cert.DMixIdeal.sig) → Buf (Elt Ideal) ℓ) : Prop :=
  True

def Pre_DMixRefIdeal (m : (ℓ : Loc Cert.DMixRefIdeal.nD Cert.DMixRefIdeal.τ Cert.DMixRefIdeal.sig) → Buf (Elt Ideal) ℓ) : Prop :=
  True

def Pre_InProj (m : (ℓ : Loc Cert.InProj.nD Cert.InProj.τ Cert.InProj.sig) → Buf (Elt Bits) ℓ) : Prop :=
  True

def Pre_InProjIdeal (m : (ℓ : Loc Cert.InProjIdeal.nD Cert.InProjIdeal.τ Cert.InProjIdeal.sig) → Buf (Elt Ideal) ℓ) : Prop :=
  True

def Pre_InProjRefIdeal (m : (ℓ : Loc Cert.InProjRefIdeal.nD Cert.InProjRefIdeal.τ Cert.InProjRefIdeal.sig) → Buf (Elt Ideal) ℓ) : Prop :=
  True

def Pre_FfnUp (m : (ℓ : Loc Cert.FfnUp.nD Cert.FfnUp.τ Cert.FfnUp.sig) → Buf (Elt Bits) ℓ) : Prop :=
  True

def Pre_FfnUpIdeal (m : (ℓ : Loc Cert.FfnUpIdeal.nD Cert.FfnUpIdeal.τ Cert.FfnUpIdeal.sig) → Buf (Elt Ideal) ℓ) : Prop :=
  True

def Pre_FfnUpRefIdeal (m : (ℓ : Loc Cert.FfnUpRefIdeal.nD Cert.FfnUpRefIdeal.τ Cert.FfnUpRefIdeal.sig) → Buf (Elt Ideal) ℓ) : Prop :=
  True

def Pre_OutProj (m : (ℓ : Loc Cert.OutProj.nD Cert.OutProj.τ Cert.OutProj.sig) → Buf (Elt Bits) ℓ) : Prop :=
  True

def Pre_OutProjIdeal (m : (ℓ : Loc Cert.OutProjIdeal.nD Cert.OutProjIdeal.τ Cert.OutProjIdeal.sig) → Buf (Elt Ideal) ℓ) : Prop :=
  True

def Pre_OutProjRefIdeal (m : (ℓ : Loc Cert.OutProjRefIdeal.nD Cert.OutProjRefIdeal.τ Cert.OutProjRefIdeal.sig) → Buf (Elt Ideal) ℓ) : Prop :=
  True

def Pre_FfnDown (m : (ℓ : Loc Cert.FfnDown.nD Cert.FfnDown.τ Cert.FfnDown.sig) → Buf (Elt Bits) ℓ) : Prop :=
  True

def Pre_FfnDownIdeal (m : (ℓ : Loc Cert.FfnDownIdeal.nD Cert.FfnDownIdeal.τ Cert.FfnDownIdeal.sig) → Buf (Elt Ideal) ℓ) : Prop :=
  True

def Pre_FfnDownRefIdeal (m : (ℓ : Loc Cert.FfnDownRefIdeal.nD Cert.FfnDownRefIdeal.τ Cert.FfnDownRefIdeal.sig) → Buf (Elt Ideal) ℓ) : Prop :=
  True

def Pre_UpdateOut (m : (ℓ : Loc Cert.UpdateOut.nD Cert.UpdateOut.τ Cert.UpdateOut.sig) → Buf (Elt Bits) ℓ) : Prop :=
  True

def Pre_UpdateOutIdeal (m : (ℓ : Loc Cert.UpdateOutIdeal.nD Cert.UpdateOutIdeal.τ Cert.UpdateOutIdeal.sig) → Buf (Elt Ideal) ℓ) : Prop :=
  True

def Pre_UpdateOutRefIdeal (m : (ℓ : Loc Cert.UpdateOutRefIdeal.nD Cert.UpdateOutRefIdeal.τ Cert.UpdateOutRefIdeal.sig) → Buf (Elt Ideal) ℓ) : Prop :=
  True

def Pre_UpdateUp (m : (ℓ : Loc Cert.UpdateUp.nD Cert.UpdateUp.τ Cert.UpdateUp.sig) → Buf (Elt Bits) ℓ) : Prop :=
  True

def Pre_UpdateUpIdeal (m : (ℓ : Loc Cert.UpdateUpIdeal.nD Cert.UpdateUpIdeal.τ Cert.UpdateUpIdeal.sig) → Buf (Elt Ideal) ℓ) : Prop :=
  True

def Pre_UpdateUpRefIdeal (m : (ℓ : Loc Cert.UpdateUpRefIdeal.nD Cert.UpdateUpRefIdeal.τ Cert.UpdateUpRefIdeal.sig) → Buf (Elt Ideal) ℓ) : Prop :=
  True

def Pre_UpdateDown (m : (ℓ : Loc Cert.UpdateDown.nD Cert.UpdateDown.τ Cert.UpdateDown.sig) → Buf (Elt Bits) ℓ) : Prop :=
  True

def Pre_UpdateDownIdeal (m : (ℓ : Loc Cert.UpdateDownIdeal.nD Cert.UpdateDownIdeal.τ Cert.UpdateDownIdeal.sig) → Buf (Elt Ideal) ℓ) : Prop :=
  True

def Pre_UpdateDownRefIdeal (m : (ℓ : Loc Cert.UpdateDownRefIdeal.nD Cert.UpdateDownRefIdeal.τ Cert.UpdateDownRefIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_DwIn [hDwIn : Cert.DwIn.Facts] : Prop :=
  ∀ (m : (ℓ : Loc Cert.DwIn.nD Cert.DwIn.τ Cert.DwIn.sig) → Buf (Elt Bits) ℓ) (g : Dev Cert.DwIn.nD → PrngReg), Pre_DwIn m →
    θ_run (Cert.DwIn.defs (F := Bits)) (onTc (τ := Cert.DwIn.τ) (Cert.DwIn.main (F := Bits))) ⟨m, fun _ => 0, g⟩ (fun r => (∀ c : Dev Cert.DwIn.nD,
      r.2.mem ((c.tc : Thread Cert.DwIn.nD Cert.DwIn.τ).loc Cert.DwIn.main_arg0) = m ((c.tc : Thread Cert.DwIn.nD Cert.DwIn.τ).loc Cert.DwIn.main_arg0)
      ∧ r.2.mem ((c.tc : Thread Cert.DwIn.nD Cert.DwIn.τ).loc Cert.DwIn.main_arg1) = m ((c.tc : Thread Cert.DwIn.nD Cert.DwIn.τ).loc Cert.DwIn.main_arg1))
      ∧ r.2.sem = fun _ => 0)

def quiescent_DwInIdeal [hDwInIdeal : Cert.DwInIdeal.Facts] : Prop :=
  ∀ (m : (ℓ : Loc Cert.DwInIdeal.nD Cert.DwInIdeal.τ Cert.DwInIdeal.sig) → Buf (Elt Ideal) ℓ) (g : Dev Cert.DwInIdeal.nD → PrngReg), Pre_DwInIdeal m →
    θ_run (Cert.DwInIdeal.defs (F := Ideal)) (onTc (τ := Cert.DwInIdeal.τ) (Cert.DwInIdeal.main (F := Ideal))) ⟨m, fun _ => 0, g⟩ (fun r => (∀ c : Dev Cert.DwInIdeal.nD,
      r.2.mem ((c.tc : Thread Cert.DwInIdeal.nD Cert.DwInIdeal.τ).loc Cert.DwInIdeal.main_arg0) = m ((c.tc : Thread Cert.DwInIdeal.nD Cert.DwInIdeal.τ).loc Cert.DwInIdeal.main_arg0)
      ∧ r.2.mem ((c.tc : Thread Cert.DwInIdeal.nD Cert.DwInIdeal.τ).loc Cert.DwInIdeal.main_arg1) = m ((c.tc : Thread Cert.DwInIdeal.nD Cert.DwInIdeal.τ).loc Cert.DwInIdeal.main_arg1))
      ∧ r.2.sem = fun _ => 0)

def quiescent_DwInRefIdeal [hDwInRefIdeal : Cert.DwInRefIdeal.Facts] : Prop :=
  ∀ (m : (ℓ : Loc Cert.DwInRefIdeal.nD Cert.DwInRefIdeal.τ Cert.DwInRefIdeal.sig) → Buf (Elt Ideal) ℓ) (g : Dev Cert.DwInRefIdeal.nD → PrngReg), Pre_DwInRefIdeal m →
    θ_run (Cert.DwInRefIdeal.defs (F := Ideal)) (onTc (τ := Cert.DwInRefIdeal.τ) (Cert.DwInRefIdeal.main (F := Ideal))) ⟨m, fun _ => 0, g⟩ (fun r => (∀ c : Dev Cert.DwInRefIdeal.nD,
      r.2.mem ((c.tc : Thread Cert.DwInRefIdeal.nD Cert.DwInRefIdeal.τ).loc Cert.DwInRefIdeal.main_arg0) = m ((c.tc : Thread Cert.DwInRefIdeal.nD Cert.DwInRefIdeal.τ).loc Cert.DwInRefIdeal.main_arg0)
      ∧ r.2.mem ((c.tc : Thread Cert.DwInRefIdeal.nD Cert.DwInRefIdeal.τ).loc Cert.DwInRefIdeal.main_arg1) = m ((c.tc : Thread Cert.DwInRefIdeal.nD Cert.DwInRefIdeal.τ).loc Cert.DwInRefIdeal.main_arg1))
      ∧ r.2.sem = fun _ => 0)

def quiescent_DwUp [hDwUp : Cert.DwUp.Facts] : Prop :=
  ∀ (m : (ℓ : Loc Cert.DwUp.nD Cert.DwUp.τ Cert.DwUp.sig) → Buf (Elt Bits) ℓ) (g : Dev Cert.DwUp.nD → PrngReg), Pre_DwUp m →
    θ_run (Cert.DwUp.defs (F := Bits)) (onTc (τ := Cert.DwUp.τ) (Cert.DwUp.main (F := Bits))) ⟨m, fun _ => 0, g⟩ (fun r => (∀ c : Dev Cert.DwUp.nD,
      r.2.mem ((c.tc : Thread Cert.DwUp.nD Cert.DwUp.τ).loc Cert.DwUp.main_arg0) = m ((c.tc : Thread Cert.DwUp.nD Cert.DwUp.τ).loc Cert.DwUp.main_arg0)
      ∧ r.2.mem ((c.tc : Thread Cert.DwUp.nD Cert.DwUp.τ).loc Cert.DwUp.main_arg1) = m ((c.tc : Thread Cert.DwUp.nD Cert.DwUp.τ).loc Cert.DwUp.main_arg1))
      ∧ r.2.sem = fun _ => 0)

def quiescent_DwUpIdeal [hDwUpIdeal : Cert.DwUpIdeal.Facts] : Prop :=
  ∀ (m : (ℓ : Loc Cert.DwUpIdeal.nD Cert.DwUpIdeal.τ Cert.DwUpIdeal.sig) → Buf (Elt Ideal) ℓ) (g : Dev Cert.DwUpIdeal.nD → PrngReg), Pre_DwUpIdeal m →
    θ_run (Cert.DwUpIdeal.defs (F := Ideal)) (onTc (τ := Cert.DwUpIdeal.τ) (Cert.DwUpIdeal.main (F := Ideal))) ⟨m, fun _ => 0, g⟩ (fun r => (∀ c : Dev Cert.DwUpIdeal.nD,
      r.2.mem ((c.tc : Thread Cert.DwUpIdeal.nD Cert.DwUpIdeal.τ).loc Cert.DwUpIdeal.main_arg0) = m ((c.tc : Thread Cert.DwUpIdeal.nD Cert.DwUpIdeal.τ).loc Cert.DwUpIdeal.main_arg0)
      ∧ r.2.mem ((c.tc : Thread Cert.DwUpIdeal.nD Cert.DwUpIdeal.τ).loc Cert.DwUpIdeal.main_arg1) = m ((c.tc : Thread Cert.DwUpIdeal.nD Cert.DwUpIdeal.τ).loc Cert.DwUpIdeal.main_arg1))
      ∧ r.2.sem = fun _ => 0)

def quiescent_DwUpRefIdeal [hDwUpRefIdeal : Cert.DwUpRefIdeal.Facts] : Prop :=
  ∀ (m : (ℓ : Loc Cert.DwUpRefIdeal.nD Cert.DwUpRefIdeal.τ Cert.DwUpRefIdeal.sig) → Buf (Elt Ideal) ℓ) (g : Dev Cert.DwUpRefIdeal.nD → PrngReg), Pre_DwUpRefIdeal m →
    θ_run (Cert.DwUpRefIdeal.defs (F := Ideal)) (onTc (τ := Cert.DwUpRefIdeal.τ) (Cert.DwUpRefIdeal.main (F := Ideal))) ⟨m, fun _ => 0, g⟩ (fun r => (∀ c : Dev Cert.DwUpRefIdeal.nD,
      r.2.mem ((c.tc : Thread Cert.DwUpRefIdeal.nD Cert.DwUpRefIdeal.τ).loc Cert.DwUpRefIdeal.main_arg0) = m ((c.tc : Thread Cert.DwUpRefIdeal.nD Cert.DwUpRefIdeal.τ).loc Cert.DwUpRefIdeal.main_arg0)
      ∧ r.2.mem ((c.tc : Thread Cert.DwUpRefIdeal.nD Cert.DwUpRefIdeal.τ).loc Cert.DwUpRefIdeal.main_arg1) = m ((c.tc : Thread Cert.DwUpRefIdeal.nD Cert.DwUpRefIdeal.τ).loc Cert.DwUpRefIdeal.main_arg1))
      ∧ r.2.sem = fun _ => 0)

def quiescent_DwDown [hDwDown : Cert.DwDown.Facts] : Prop :=
  ∀ (m : (ℓ : Loc Cert.DwDown.nD Cert.DwDown.τ Cert.DwDown.sig) → Buf (Elt Bits) ℓ) (g : Dev Cert.DwDown.nD → PrngReg), Pre_DwDown m →
    θ_run (Cert.DwDown.defs (F := Bits)) (onTc (τ := Cert.DwDown.τ) (Cert.DwDown.main (F := Bits))) ⟨m, fun _ => 0, g⟩ (fun r => (∀ c : Dev Cert.DwDown.nD,
      r.2.mem ((c.tc : Thread Cert.DwDown.nD Cert.DwDown.τ).loc Cert.DwDown.main_arg0) = m ((c.tc : Thread Cert.DwDown.nD Cert.DwDown.τ).loc Cert.DwDown.main_arg0)
      ∧ r.2.mem ((c.tc : Thread Cert.DwDown.nD Cert.DwDown.τ).loc Cert.DwDown.main_arg1) = m ((c.tc : Thread Cert.DwDown.nD Cert.DwDown.τ).loc Cert.DwDown.main_arg1))
      ∧ r.2.sem = fun _ => 0)

def quiescent_DwDownIdeal [hDwDownIdeal : Cert.DwDownIdeal.Facts] : Prop :=
  ∀ (m : (ℓ : Loc Cert.DwDownIdeal.nD Cert.DwDownIdeal.τ Cert.DwDownIdeal.sig) → Buf (Elt Ideal) ℓ) (g : Dev Cert.DwDownIdeal.nD → PrngReg), Pre_DwDownIdeal m →
    θ_run (Cert.DwDownIdeal.defs (F := Ideal)) (onTc (τ := Cert.DwDownIdeal.τ) (Cert.DwDownIdeal.main (F := Ideal))) ⟨m, fun _ => 0, g⟩ (fun r => (∀ c : Dev Cert.DwDownIdeal.nD,
      r.2.mem ((c.tc : Thread Cert.DwDownIdeal.nD Cert.DwDownIdeal.τ).loc Cert.DwDownIdeal.main_arg0) = m ((c.tc : Thread Cert.DwDownIdeal.nD Cert.DwDownIdeal.τ).loc Cert.DwDownIdeal.main_arg0)
      ∧ r.2.mem ((c.tc : Thread Cert.DwDownIdeal.nD Cert.DwDownIdeal.τ).loc Cert.DwDownIdeal.main_arg1) = m ((c.tc : Thread Cert.DwDownIdeal.nD Cert.DwDownIdeal.τ).loc Cert.DwDownIdeal.main_arg1))
      ∧ r.2.sem = fun _ => 0)

def quiescent_DwDownRefIdeal [hDwDownRefIdeal : Cert.DwDownRefIdeal.Facts] : Prop :=
  ∀ (m : (ℓ : Loc Cert.DwDownRefIdeal.nD Cert.DwDownRefIdeal.τ Cert.DwDownRefIdeal.sig) → Buf (Elt Ideal) ℓ) (g : Dev Cert.DwDownRefIdeal.nD → PrngReg), Pre_DwDownRefIdeal m →
    θ_run (Cert.DwDownRefIdeal.defs (F := Ideal)) (onTc (τ := Cert.DwDownRefIdeal.τ) (Cert.DwDownRefIdeal.main (F := Ideal))) ⟨m, fun _ => 0, g⟩ (fun r => (∀ c : Dev Cert.DwDownRefIdeal.nD,
      r.2.mem ((c.tc : Thread Cert.DwDownRefIdeal.nD Cert.DwDownRefIdeal.τ).loc Cert.DwDownRefIdeal.main_arg0) = m ((c.tc : Thread Cert.DwDownRefIdeal.nD Cert.DwDownRefIdeal.τ).loc Cert.DwDownRefIdeal.main_arg0)
      ∧ r.2.mem ((c.tc : Thread Cert.DwDownRefIdeal.nD Cert.DwDownRefIdeal.τ).loc Cert.DwDownRefIdeal.main_arg1) = m ((c.tc : Thread Cert.DwDownRefIdeal.nD Cert.DwDownRefIdeal.τ).loc Cert.DwDownRefIdeal.main_arg1))
      ∧ r.2.sem = fun _ => 0)

def quiescent_DwOut [hDwOut : Cert.DwOut.Facts] : Prop :=
  ∀ (m : (ℓ : Loc Cert.DwOut.nD Cert.DwOut.τ Cert.DwOut.sig) → Buf (Elt Bits) ℓ) (g : Dev Cert.DwOut.nD → PrngReg), Pre_DwOut m →
    θ_run (Cert.DwOut.defs (F := Bits)) (onTc (τ := Cert.DwOut.τ) (Cert.DwOut.main (F := Bits))) ⟨m, fun _ => 0, g⟩ (fun r => (∀ c : Dev Cert.DwOut.nD,
      r.2.mem ((c.tc : Thread Cert.DwOut.nD Cert.DwOut.τ).loc Cert.DwOut.main_arg0) = m ((c.tc : Thread Cert.DwOut.nD Cert.DwOut.τ).loc Cert.DwOut.main_arg0)
      ∧ r.2.mem ((c.tc : Thread Cert.DwOut.nD Cert.DwOut.τ).loc Cert.DwOut.main_arg1) = m ((c.tc : Thread Cert.DwOut.nD Cert.DwOut.τ).loc Cert.DwOut.main_arg1))
      ∧ r.2.sem = fun _ => 0)

def quiescent_DwOutIdeal [hDwOutIdeal : Cert.DwOutIdeal.Facts] : Prop :=
  ∀ (m : (ℓ : Loc Cert.DwOutIdeal.nD Cert.DwOutIdeal.τ Cert.DwOutIdeal.sig) → Buf (Elt Ideal) ℓ) (g : Dev Cert.DwOutIdeal.nD → PrngReg), Pre_DwOutIdeal m →
    θ_run (Cert.DwOutIdeal.defs (F := Ideal)) (onTc (τ := Cert.DwOutIdeal.τ) (Cert.DwOutIdeal.main (F := Ideal))) ⟨m, fun _ => 0, g⟩ (fun r => (∀ c : Dev Cert.DwOutIdeal.nD,
      r.2.mem ((c.tc : Thread Cert.DwOutIdeal.nD Cert.DwOutIdeal.τ).loc Cert.DwOutIdeal.main_arg0) = m ((c.tc : Thread Cert.DwOutIdeal.nD Cert.DwOutIdeal.τ).loc Cert.DwOutIdeal.main_arg0)
      ∧ r.2.mem ((c.tc : Thread Cert.DwOutIdeal.nD Cert.DwOutIdeal.τ).loc Cert.DwOutIdeal.main_arg1) = m ((c.tc : Thread Cert.DwOutIdeal.nD Cert.DwOutIdeal.τ).loc Cert.DwOutIdeal.main_arg1))
      ∧ r.2.sem = fun _ => 0)

def quiescent_DwOutRefIdeal [hDwOutRefIdeal : Cert.DwOutRefIdeal.Facts] : Prop :=
  ∀ (m : (ℓ : Loc Cert.DwOutRefIdeal.nD Cert.DwOutRefIdeal.τ Cert.DwOutRefIdeal.sig) → Buf (Elt Ideal) ℓ) (g : Dev Cert.DwOutRefIdeal.nD → PrngReg), Pre_DwOutRefIdeal m →
    θ_run (Cert.DwOutRefIdeal.defs (F := Ideal)) (onTc (τ := Cert.DwOutRefIdeal.τ) (Cert.DwOutRefIdeal.main (F := Ideal))) ⟨m, fun _ => 0, g⟩ (fun r => (∀ c : Dev Cert.DwOutRefIdeal.nD,
      r.2.mem ((c.tc : Thread Cert.DwOutRefIdeal.nD Cert.DwOutRefIdeal.τ).loc Cert.DwOutRefIdeal.main_arg0) = m ((c.tc : Thread Cert.DwOutRefIdeal.nD Cert.DwOutRefIdeal.τ).loc Cert.DwOutRefIdeal.main_arg0)
      ∧ r.2.mem ((c.tc : Thread Cert.DwOutRefIdeal.nD Cert.DwOutRefIdeal.τ).loc Cert.DwOutRefIdeal.main_arg1) = m ((c.tc : Thread Cert.DwOutRefIdeal.nD Cert.DwOutRefIdeal.τ).loc Cert.DwOutRefIdeal.main_arg1))
      ∧ r.2.sem = fun _ => 0)

def quiescent_DAct [hDAct : Cert.DAct.Facts] : Prop :=
  ∀ (m : (ℓ : Loc Cert.DAct.nD Cert.DAct.τ Cert.DAct.sig) → Buf (Elt Bits) ℓ) (g : Dev Cert.DAct.nD → PrngReg), Pre_DAct m →
    θ_run (Cert.DAct.defs (F := Bits)) (onTc (τ := Cert.DAct.τ) (Cert.DAct.main (F := Bits))) ⟨m, fun _ => 0, g⟩ (fun r => (∀ c : Dev Cert.DAct.nD,
      r.2.mem ((c.tc : Thread Cert.DAct.nD Cert.DAct.τ).loc Cert.DAct.main_arg0) = m ((c.tc : Thread Cert.DAct.nD Cert.DAct.τ).loc Cert.DAct.main_arg0)
      ∧ r.2.mem ((c.tc : Thread Cert.DAct.nD Cert.DAct.τ).loc Cert.DAct.main_arg1) = m ((c.tc : Thread Cert.DAct.nD Cert.DAct.τ).loc Cert.DAct.main_arg1))
      ∧ r.2.sem = fun _ => 0)

def quiescent_DActIdeal [hDActIdeal : Cert.DActIdeal.Facts] : Prop :=
  ∀ (m : (ℓ : Loc Cert.DActIdeal.nD Cert.DActIdeal.τ Cert.DActIdeal.sig) → Buf (Elt Ideal) ℓ) (g : Dev Cert.DActIdeal.nD → PrngReg), Pre_DActIdeal m →
    θ_run (Cert.DActIdeal.defs (F := Ideal)) (onTc (τ := Cert.DActIdeal.τ) (Cert.DActIdeal.main (F := Ideal))) ⟨m, fun _ => 0, g⟩ (fun r => (∀ c : Dev Cert.DActIdeal.nD,
      r.2.mem ((c.tc : Thread Cert.DActIdeal.nD Cert.DActIdeal.τ).loc Cert.DActIdeal.main_arg0) = m ((c.tc : Thread Cert.DActIdeal.nD Cert.DActIdeal.τ).loc Cert.DActIdeal.main_arg0)
      ∧ r.2.mem ((c.tc : Thread Cert.DActIdeal.nD Cert.DActIdeal.τ).loc Cert.DActIdeal.main_arg1) = m ((c.tc : Thread Cert.DActIdeal.nD Cert.DActIdeal.τ).loc Cert.DActIdeal.main_arg1))
      ∧ r.2.sem = fun _ => 0)

def quiescent_DActRefIdeal [hDActRefIdeal : Cert.DActRefIdeal.Facts] : Prop :=
  ∀ (m : (ℓ : Loc Cert.DActRefIdeal.nD Cert.DActRefIdeal.τ Cert.DActRefIdeal.sig) → Buf (Elt Ideal) ℓ) (g : Dev Cert.DActRefIdeal.nD → PrngReg), Pre_DActRefIdeal m →
    θ_run (Cert.DActRefIdeal.defs (F := Ideal)) (onTc (τ := Cert.DActRefIdeal.τ) (Cert.DActRefIdeal.main (F := Ideal))) ⟨m, fun _ => 0, g⟩ (fun r => (∀ c : Dev Cert.DActRefIdeal.nD,
      r.2.mem ((c.tc : Thread Cert.DActRefIdeal.nD Cert.DActRefIdeal.τ).loc Cert.DActRefIdeal.main_arg0) = m ((c.tc : Thread Cert.DActRefIdeal.nD Cert.DActRefIdeal.τ).loc Cert.DActRefIdeal.main_arg0)
      ∧ r.2.mem ((c.tc : Thread Cert.DActRefIdeal.nD Cert.DActRefIdeal.τ).loc Cert.DActRefIdeal.main_arg1) = m ((c.tc : Thread Cert.DActRefIdeal.nD Cert.DActRefIdeal.τ).loc Cert.DActRefIdeal.main_arg1))
      ∧ r.2.sem = fun _ => 0)

def quiescent_DMix [hDMix : Cert.DMix.Facts] : Prop :=
  ∀ (m : (ℓ : Loc Cert.DMix.nD Cert.DMix.τ Cert.DMix.sig) → Buf (Elt Bits) ℓ) (g : Dev Cert.DMix.nD → PrngReg), Pre_DMix m →
    θ_run (Cert.DMix.defs (F := Bits)) (onTc (τ := Cert.DMix.τ) (Cert.DMix.main (F := Bits))) ⟨m, fun _ => 0, g⟩ (fun r => (∀ c : Dev Cert.DMix.nD,
      r.2.mem ((c.tc : Thread Cert.DMix.nD Cert.DMix.τ).loc Cert.DMix.main_arg0) = m ((c.tc : Thread Cert.DMix.nD Cert.DMix.τ).loc Cert.DMix.main_arg0)
      ∧ r.2.mem ((c.tc : Thread Cert.DMix.nD Cert.DMix.τ).loc Cert.DMix.main_arg1) = m ((c.tc : Thread Cert.DMix.nD Cert.DMix.τ).loc Cert.DMix.main_arg1))
      ∧ r.2.sem = fun _ => 0)

def quiescent_DMixIdeal [hDMixIdeal : Cert.DMixIdeal.Facts] : Prop :=
  ∀ (m : (ℓ : Loc Cert.DMixIdeal.nD Cert.DMixIdeal.τ Cert.DMixIdeal.sig) → Buf (Elt Ideal) ℓ) (g : Dev Cert.DMixIdeal.nD → PrngReg), Pre_DMixIdeal m →
    θ_run (Cert.DMixIdeal.defs (F := Ideal)) (onTc (τ := Cert.DMixIdeal.τ) (Cert.DMixIdeal.main (F := Ideal))) ⟨m, fun _ => 0, g⟩ (fun r => (∀ c : Dev Cert.DMixIdeal.nD,
      r.2.mem ((c.tc : Thread Cert.DMixIdeal.nD Cert.DMixIdeal.τ).loc Cert.DMixIdeal.main_arg0) = m ((c.tc : Thread Cert.DMixIdeal.nD Cert.DMixIdeal.τ).loc Cert.DMixIdeal.main_arg0)
      ∧ r.2.mem ((c.tc : Thread Cert.DMixIdeal.nD Cert.DMixIdeal.τ).loc Cert.DMixIdeal.main_arg1) = m ((c.tc : Thread Cert.DMixIdeal.nD Cert.DMixIdeal.τ).loc Cert.DMixIdeal.main_arg1))
      ∧ r.2.sem = fun _ => 0)

def quiescent_DMixRefIdeal [hDMixRefIdeal : Cert.DMixRefIdeal.Facts] : Prop :=
  ∀ (m : (ℓ : Loc Cert.DMixRefIdeal.nD Cert.DMixRefIdeal.τ Cert.DMixRefIdeal.sig) → Buf (Elt Ideal) ℓ) (g : Dev Cert.DMixRefIdeal.nD → PrngReg), Pre_DMixRefIdeal m →
    θ_run (Cert.DMixRefIdeal.defs (F := Ideal)) (onTc (τ := Cert.DMixRefIdeal.τ) (Cert.DMixRefIdeal.main (F := Ideal))) ⟨m, fun _ => 0, g⟩ (fun r => (∀ c : Dev Cert.DMixRefIdeal.nD,
      r.2.mem ((c.tc : Thread Cert.DMixRefIdeal.nD Cert.DMixRefIdeal.τ).loc Cert.DMixRefIdeal.main_arg0) = m ((c.tc : Thread Cert.DMixRefIdeal.nD Cert.DMixRefIdeal.τ).loc Cert.DMixRefIdeal.main_arg0)
      ∧ r.2.mem ((c.tc : Thread Cert.DMixRefIdeal.nD Cert.DMixRefIdeal.τ).loc Cert.DMixRefIdeal.main_arg1) = m ((c.tc : Thread Cert.DMixRefIdeal.nD Cert.DMixRefIdeal.τ).loc Cert.DMixRefIdeal.main_arg1))
      ∧ r.2.sem = fun _ => 0)

def quiescent_InProj [hInProj : Cert.InProj.Facts] : Prop :=
  ∀ (m : (ℓ : Loc Cert.InProj.nD Cert.InProj.τ Cert.InProj.sig) → Buf (Elt Bits) ℓ) (g : Dev Cert.InProj.nD → PrngReg), Pre_InProj m →
    θ_run (Cert.InProj.defs (F := Bits)) (onTc (τ := Cert.InProj.τ) (Cert.InProj.main (F := Bits))) ⟨m, fun _ => 0, g⟩ (fun r => (∀ c : Dev Cert.InProj.nD,
      r.2.mem ((c.tc : Thread Cert.InProj.nD Cert.InProj.τ).loc Cert.InProj.main_arg0) = m ((c.tc : Thread Cert.InProj.nD Cert.InProj.τ).loc Cert.InProj.main_arg0)
      ∧ r.2.mem ((c.tc : Thread Cert.InProj.nD Cert.InProj.τ).loc Cert.InProj.main_arg1) = m ((c.tc : Thread Cert.InProj.nD Cert.InProj.τ).loc Cert.InProj.main_arg1))
      ∧ r.2.sem = fun _ => 0)

def quiescent_InProjIdeal [hInProjIdeal : Cert.InProjIdeal.Facts] : Prop :=
  ∀ (m : (ℓ : Loc Cert.InProjIdeal.nD Cert.InProjIdeal.τ Cert.InProjIdeal.sig) → Buf (Elt Ideal) ℓ) (g : Dev Cert.InProjIdeal.nD → PrngReg), Pre_InProjIdeal m →
    θ_run (Cert.InProjIdeal.defs (F := Ideal)) (onTc (τ := Cert.InProjIdeal.τ) (Cert.InProjIdeal.main (F := Ideal))) ⟨m, fun _ => 0, g⟩ (fun r => (∀ c : Dev Cert.InProjIdeal.nD,
      r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
      ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1))
      ∧ r.2.sem = fun _ => 0)

def quiescent_InProjRefIdeal [hInProjRefIdeal : Cert.InProjRefIdeal.Facts] : Prop :=
  ∀ (m : (ℓ : Loc Cert.InProjRefIdeal.nD Cert.InProjRefIdeal.τ Cert.InProjRefIdeal.sig) → Buf (Elt Ideal) ℓ) (g : Dev Cert.InProjRefIdeal.nD → PrngReg), Pre_InProjRefIdeal m →
    θ_run (Cert.InProjRefIdeal.defs (F := Ideal)) (onTc (τ := Cert.InProjRefIdeal.τ) (Cert.InProjRefIdeal.main (F := Ideal))) ⟨m, fun _ => 0, g⟩ (fun r => (∀ c : Dev Cert.InProjRefIdeal.nD,
      r.2.mem ((c.tc : Thread Cert.InProjRefIdeal.nD Cert.InProjRefIdeal.τ).loc Cert.InProjRefIdeal.main_arg0) = m ((c.tc : Thread Cert.InProjRefIdeal.nD Cert.InProjRefIdeal.τ).loc Cert.InProjRefIdeal.main_arg0)
      ∧ r.2.mem ((c.tc : Thread Cert.InProjRefIdeal.nD Cert.InProjRefIdeal.τ).loc Cert.InProjRefIdeal.main_arg1) = m ((c.tc : Thread Cert.InProjRefIdeal.nD Cert.InProjRefIdeal.τ).loc Cert.InProjRefIdeal.main_arg1))
      ∧ r.2.sem = fun _ => 0)

def quiescent_FfnUp [hFfnUp : Cert.FfnUp.Facts] : Prop :=
  ∀ (m : (ℓ : Loc Cert.FfnUp.nD Cert.FfnUp.τ Cert.FfnUp.sig) → Buf (Elt Bits) ℓ) (g : Dev Cert.FfnUp.nD → PrngReg), Pre_FfnUp m →
    θ_run (Cert.FfnUp.defs (F := Bits)) (onTc (τ := Cert.FfnUp.τ) (Cert.FfnUp.main (F := Bits))) ⟨m, fun _ => 0, g⟩ (fun r => (∀ c : Dev Cert.FfnUp.nD,
      r.2.mem ((c.tc : Thread Cert.FfnUp.nD Cert.FfnUp.τ).loc Cert.FfnUp.main_arg0) = m ((c.tc : Thread Cert.FfnUp.nD Cert.FfnUp.τ).loc Cert.FfnUp.main_arg0)
      ∧ r.2.mem ((c.tc : Thread Cert.FfnUp.nD Cert.FfnUp.τ).loc Cert.FfnUp.main_arg1) = m ((c.tc : Thread Cert.FfnUp.nD Cert.FfnUp.τ).loc Cert.FfnUp.main_arg1))
      ∧ r.2.sem = fun _ => 0)

def quiescent_FfnUpIdeal [hFfnUpIdeal : Cert.FfnUpIdeal.Facts] : Prop :=
  ∀ (m : (ℓ : Loc Cert.FfnUpIdeal.nD Cert.FfnUpIdeal.τ Cert.FfnUpIdeal.sig) → Buf (Elt Ideal) ℓ) (g : Dev Cert.FfnUpIdeal.nD → PrngReg), Pre_FfnUpIdeal m →
    θ_run (Cert.FfnUpIdeal.defs (F := Ideal)) (onTc (τ := Cert.FfnUpIdeal.τ) (Cert.FfnUpIdeal.main (F := Ideal))) ⟨m, fun _ => 0, g⟩ (fun r => (∀ c : Dev Cert.FfnUpIdeal.nD,
      r.2.mem ((c.tc : Thread Cert.FfnUpIdeal.nD Cert.FfnUpIdeal.τ).loc Cert.FfnUpIdeal.main_arg0) = m ((c.tc : Thread Cert.FfnUpIdeal.nD Cert.FfnUpIdeal.τ).loc Cert.FfnUpIdeal.main_arg0)
      ∧ r.2.mem ((c.tc : Thread Cert.FfnUpIdeal.nD Cert.FfnUpIdeal.τ).loc Cert.FfnUpIdeal.main_arg1) = m ((c.tc : Thread Cert.FfnUpIdeal.nD Cert.FfnUpIdeal.τ).loc Cert.FfnUpIdeal.main_arg1))
      ∧ r.2.sem = fun _ => 0)

def quiescent_FfnUpRefIdeal [hFfnUpRefIdeal : Cert.FfnUpRefIdeal.Facts] : Prop :=
  ∀ (m : (ℓ : Loc Cert.FfnUpRefIdeal.nD Cert.FfnUpRefIdeal.τ Cert.FfnUpRefIdeal.sig) → Buf (Elt Ideal) ℓ) (g : Dev Cert.FfnUpRefIdeal.nD → PrngReg), Pre_FfnUpRefIdeal m →
    θ_run (Cert.FfnUpRefIdeal.defs (F := Ideal)) (onTc (τ := Cert.FfnUpRefIdeal.τ) (Cert.FfnUpRefIdeal.main (F := Ideal))) ⟨m, fun _ => 0, g⟩ (fun r => (∀ c : Dev Cert.FfnUpRefIdeal.nD,
      r.2.mem ((c.tc : Thread Cert.FfnUpRefIdeal.nD Cert.FfnUpRefIdeal.τ).loc Cert.FfnUpRefIdeal.main_arg0) = m ((c.tc : Thread Cert.FfnUpRefIdeal.nD Cert.FfnUpRefIdeal.τ).loc Cert.FfnUpRefIdeal.main_arg0)
      ∧ r.2.mem ((c.tc : Thread Cert.FfnUpRefIdeal.nD Cert.FfnUpRefIdeal.τ).loc Cert.FfnUpRefIdeal.main_arg1) = m ((c.tc : Thread Cert.FfnUpRefIdeal.nD Cert.FfnUpRefIdeal.τ).loc Cert.FfnUpRefIdeal.main_arg1))
      ∧ r.2.sem = fun _ => 0)

def quiescent_OutProj [hOutProj : Cert.OutProj.Facts] : Prop :=
  ∀ (m : (ℓ : Loc Cert.OutProj.nD Cert.OutProj.τ Cert.OutProj.sig) → Buf (Elt Bits) ℓ) (g : Dev Cert.OutProj.nD → PrngReg), Pre_OutProj m →
    θ_run (Cert.OutProj.defs (F := Bits)) (onTc (τ := Cert.OutProj.τ) (Cert.OutProj.main (F := Bits))) ⟨m, fun _ => 0, g⟩ (fun r => (∀ c : Dev Cert.OutProj.nD,
      r.2.mem ((c.tc : Thread Cert.OutProj.nD Cert.OutProj.τ).loc Cert.OutProj.main_arg0) = m ((c.tc : Thread Cert.OutProj.nD Cert.OutProj.τ).loc Cert.OutProj.main_arg0)
      ∧ r.2.mem ((c.tc : Thread Cert.OutProj.nD Cert.OutProj.τ).loc Cert.OutProj.main_arg1) = m ((c.tc : Thread Cert.OutProj.nD Cert.OutProj.τ).loc Cert.OutProj.main_arg1)
      ∧ r.2.mem ((c.tc : Thread Cert.OutProj.nD Cert.OutProj.τ).loc Cert.OutProj.main_arg2) = m ((c.tc : Thread Cert.OutProj.nD Cert.OutProj.τ).loc Cert.OutProj.main_arg2))
      ∧ r.2.sem = fun _ => 0)

def quiescent_OutProjIdeal [hOutProjIdeal : Cert.OutProjIdeal.Facts] : Prop :=
  ∀ (m : (ℓ : Loc Cert.OutProjIdeal.nD Cert.OutProjIdeal.τ Cert.OutProjIdeal.sig) → Buf (Elt Ideal) ℓ) (g : Dev Cert.OutProjIdeal.nD → PrngReg), Pre_OutProjIdeal m →
    θ_run (Cert.OutProjIdeal.defs (F := Ideal)) (onTc (τ := Cert.OutProjIdeal.τ) (Cert.OutProjIdeal.main (F := Ideal))) ⟨m, fun _ => 0, g⟩ (fun r => (∀ c : Dev Cert.OutProjIdeal.nD,
      r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
      ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1)
      ∧ r.2.mem ((c.tc : Thread Cert.OutProjIdeal.nD Cert.OutProjIdeal.τ).loc Cert.OutProjIdeal.main_arg2) = m ((c.tc : Thread Cert.OutProjIdeal.nD Cert.OutProjIdeal.τ).loc Cert.OutProjIdeal.main_arg2))
      ∧ r.2.sem = fun _ => 0)

def quiescent_OutProjRefIdeal [hOutProjRefIdeal : Cert.OutProjRefIdeal.Facts] : Prop :=
  ∀ (m : (ℓ : Loc Cert.OutProjRefIdeal.nD Cert.OutProjRefIdeal.τ Cert.OutProjRefIdeal.sig) → Buf (Elt Ideal) ℓ) (g : Dev Cert.OutProjRefIdeal.nD → PrngReg), Pre_OutProjRefIdeal m →
    θ_run (Cert.OutProjRefIdeal.defs (F := Ideal)) (onTc (τ := Cert.OutProjRefIdeal.τ) (Cert.OutProjRefIdeal.main (F := Ideal))) ⟨m, fun _ => 0, g⟩ (fun r => (∀ c : Dev Cert.OutProjRefIdeal.nD,
      r.2.mem ((c.tc : Thread Cert.OutProjRefIdeal.nD Cert.OutProjRefIdeal.τ).loc Cert.OutProjRefIdeal.main_arg0) = m ((c.tc : Thread Cert.OutProjRefIdeal.nD Cert.OutProjRefIdeal.τ).loc Cert.OutProjRefIdeal.main_arg0)
      ∧ r.2.mem ((c.tc : Thread Cert.OutProjRefIdeal.nD Cert.OutProjRefIdeal.τ).loc Cert.OutProjRefIdeal.main_arg1) = m ((c.tc : Thread Cert.OutProjRefIdeal.nD Cert.OutProjRefIdeal.τ).loc Cert.OutProjRefIdeal.main_arg1)
      ∧ r.2.mem ((c.tc : Thread Cert.OutProjRefIdeal.nD Cert.OutProjRefIdeal.τ).loc Cert.OutProjRefIdeal.main_arg2) = m ((c.tc : Thread Cert.OutProjRefIdeal.nD Cert.OutProjRefIdeal.τ).loc Cert.OutProjRefIdeal.main_arg2))
      ∧ r.2.sem = fun _ => 0)

def quiescent_FfnDown [hFfnDown : Cert.FfnDown.Facts] : Prop :=
  ∀ (m : (ℓ : Loc Cert.FfnDown.nD Cert.FfnDown.τ Cert.FfnDown.sig) → Buf (Elt Bits) ℓ) (g : Dev Cert.FfnDown.nD → PrngReg), Pre_FfnDown m →
    θ_run (Cert.FfnDown.defs (F := Bits)) (onTc (τ := Cert.FfnDown.τ) (Cert.FfnDown.main (F := Bits))) ⟨m, fun _ => 0, g⟩ (fun r => (∀ c : Dev Cert.FfnDown.nD,
      r.2.mem ((c.tc : Thread Cert.FfnDown.nD Cert.FfnDown.τ).loc Cert.FfnDown.main_arg0) = m ((c.tc : Thread Cert.FfnDown.nD Cert.FfnDown.τ).loc Cert.FfnDown.main_arg0)
      ∧ r.2.mem ((c.tc : Thread Cert.FfnDown.nD Cert.FfnDown.τ).loc Cert.FfnDown.main_arg1) = m ((c.tc : Thread Cert.FfnDown.nD Cert.FfnDown.τ).loc Cert.FfnDown.main_arg1)
      ∧ r.2.mem ((c.tc : Thread Cert.FfnDown.nD Cert.FfnDown.τ).loc Cert.FfnDown.main_arg2) = m ((c.tc : Thread Cert.FfnDown.nD Cert.FfnDown.τ).loc Cert.FfnDown.main_arg2))
      ∧ r.2.sem = fun _ => 0)

def quiescent_FfnDownIdeal [hFfnDownIdeal : Cert.FfnDownIdeal.Facts] : Prop :=
  ∀ (m : (ℓ : Loc Cert.FfnDownIdeal.nD Cert.FfnDownIdeal.τ Cert.FfnDownIdeal.sig) → Buf (Elt Ideal) ℓ) (g : Dev Cert.FfnDownIdeal.nD → PrngReg), Pre_FfnDownIdeal m →
    θ_run (Cert.FfnDownIdeal.defs (F := Ideal)) (onTc (τ := Cert.FfnDownIdeal.τ) (Cert.FfnDownIdeal.main (F := Ideal))) ⟨m, fun _ => 0, g⟩ (fun r => (∀ c : Dev Cert.FfnDownIdeal.nD,
      r.2.mem ((c.tc : Thread Cert.FfnDownIdeal.nD Cert.FfnDownIdeal.τ).loc Cert.FfnDownIdeal.main_arg0) = m ((c.tc : Thread Cert.FfnDownIdeal.nD Cert.FfnDownIdeal.τ).loc Cert.FfnDownIdeal.main_arg0)
      ∧ r.2.mem ((c.tc : Thread Cert.FfnDownIdeal.nD Cert.FfnDownIdeal.τ).loc Cert.FfnDownIdeal.main_arg1) = m ((c.tc : Thread Cert.FfnDownIdeal.nD Cert.FfnDownIdeal.τ).loc Cert.FfnDownIdeal.main_arg1)
      ∧ r.2.mem ((c.tc : Thread Cert.FfnDownIdeal.nD Cert.FfnDownIdeal.τ).loc Cert.FfnDownIdeal.main_arg2) = m ((c.tc : Thread Cert.FfnDownIdeal.nD Cert.FfnDownIdeal.τ).loc Cert.FfnDownIdeal.main_arg2))
      ∧ r.2.sem = fun _ => 0)

def quiescent_FfnDownRefIdeal [hFfnDownRefIdeal : Cert.FfnDownRefIdeal.Facts] : Prop :=
  ∀ (m : (ℓ : Loc Cert.FfnDownRefIdeal.nD Cert.FfnDownRefIdeal.τ Cert.FfnDownRefIdeal.sig) → Buf (Elt Ideal) ℓ) (g : Dev Cert.FfnDownRefIdeal.nD → PrngReg), Pre_FfnDownRefIdeal m →
    θ_run (Cert.FfnDownRefIdeal.defs (F := Ideal)) (onTc (τ := Cert.FfnDownRefIdeal.τ) (Cert.FfnDownRefIdeal.main (F := Ideal))) ⟨m, fun _ => 0, g⟩ (fun r => (∀ c : Dev Cert.FfnDownRefIdeal.nD,
      r.2.mem ((c.tc : Thread Cert.FfnDownRefIdeal.nD Cert.FfnDownRefIdeal.τ).loc Cert.FfnDownRefIdeal.main_arg0) = m ((c.tc : Thread Cert.FfnDownRefIdeal.nD Cert.FfnDownRefIdeal.τ).loc Cert.FfnDownRefIdeal.main_arg0)
      ∧ r.2.mem ((c.tc : Thread Cert.FfnDownRefIdeal.nD Cert.FfnDownRefIdeal.τ).loc Cert.FfnDownRefIdeal.main_arg1) = m ((c.tc : Thread Cert.FfnDownRefIdeal.nD Cert.FfnDownRefIdeal.τ).loc Cert.FfnDownRefIdeal.main_arg1)
      ∧ r.2.mem ((c.tc : Thread Cert.FfnDownRefIdeal.nD Cert.FfnDownRefIdeal.τ).loc Cert.FfnDownRefIdeal.main_arg2) = m ((c.tc : Thread Cert.FfnDownRefIdeal.nD Cert.FfnDownRefIdeal.τ).loc Cert.FfnDownRefIdeal.main_arg2))
      ∧ r.2.sem = fun _ => 0)

def quiescent_UpdateOut [hUpdateOut : Cert.UpdateOut.Facts] : Prop :=
  ∀ (m : (ℓ : Loc Cert.UpdateOut.nD Cert.UpdateOut.τ Cert.UpdateOut.sig) → Buf (Elt Bits) ℓ) (g : Dev Cert.UpdateOut.nD → PrngReg), Pre_UpdateOut m →
    θ_run (Cert.UpdateOut.defs (F := Bits)) (onTc (τ := Cert.UpdateOut.τ) (Cert.UpdateOut.main (F := Bits))) ⟨m, fun _ => 0, g⟩ (fun r => (∀ c : Dev Cert.UpdateOut.nD,
      r.2.mem ((c.tc : Thread Cert.UpdateOut.nD Cert.UpdateOut.τ).loc Cert.UpdateOut.main_arg0) = m ((c.tc : Thread Cert.UpdateOut.nD Cert.UpdateOut.τ).loc Cert.UpdateOut.main_arg0)
      ∧ r.2.mem ((c.tc : Thread Cert.UpdateOut.nD Cert.UpdateOut.τ).loc Cert.UpdateOut.main_arg1) = m ((c.tc : Thread Cert.UpdateOut.nD Cert.UpdateOut.τ).loc Cert.UpdateOut.main_arg1)
      ∧ r.2.mem ((c.tc : Thread Cert.UpdateOut.nD Cert.UpdateOut.τ).loc Cert.UpdateOut.main_arg2) = m ((c.tc : Thread Cert.UpdateOut.nD Cert.UpdateOut.τ).loc Cert.UpdateOut.main_arg2)
      ∧ r.2.mem ((c.tc : Thread Cert.UpdateOut.nD Cert.UpdateOut.τ).loc Cert.UpdateOut.main_arg3) = m ((c.tc : Thread Cert.UpdateOut.nD Cert.UpdateOut.τ).loc Cert.UpdateOut.main_arg3))
      ∧ r.2.sem = fun _ => 0)

def quiescent_UpdateOutIdeal [hUpdateOutIdeal : Cert.UpdateOutIdeal.Facts] : Prop :=
  ∀ (m : (ℓ : Loc Cert.UpdateOutIdeal.nD Cert.UpdateOutIdeal.τ Cert.UpdateOutIdeal.sig) → Buf (Elt Ideal) ℓ) (g : Dev Cert.UpdateOutIdeal.nD → PrngReg), Pre_UpdateOutIdeal m →
    θ_run (Cert.UpdateOutIdeal.defs (F := Ideal)) (onTc (τ := Cert.UpdateOutIdeal.τ) (Cert.UpdateOutIdeal.main (F := Ideal))) ⟨m, fun _ => 0, g⟩ (fun r => (∀ c : Dev Cert.UpdateOutIdeal.nD,
      r.2.mem ((c.tc : Thread Cert.UpdateOutIdeal.nD Cert.UpdateOutIdeal.τ).loc Cert.UpdateOutIdeal.main_arg0) = m ((c.tc : Thread Cert.UpdateOutIdeal.nD Cert.UpdateOutIdeal.τ).loc Cert.UpdateOutIdeal.main_arg0)
      ∧ r.2.mem ((c.tc : Thread Cert.UpdateOutIdeal.nD Cert.UpdateOutIdeal.τ).loc Cert.UpdateOutIdeal.main_arg1) = m ((c.tc : Thread Cert.UpdateOutIdeal.nD Cert.UpdateOutIdeal.τ).loc Cert.UpdateOutIdeal.main_arg1)
      ∧ r.2.mem ((c.tc : Thread Cert.UpdateOutIdeal.nD Cert.UpdateOutIdeal.τ).loc Cert.UpdateOutIdeal.main_arg2) = m ((c.tc : Thread Cert.UpdateOutIdeal.nD Cert.UpdateOutIdeal.τ).loc Cert.UpdateOutIdeal.main_arg2)
      ∧ r.2.mem ((c.tc : Thread Cert.UpdateOutIdeal.nD Cert.UpdateOutIdeal.τ).loc Cert.UpdateOutIdeal.main_arg3) = m ((c.tc : Thread Cert.UpdateOutIdeal.nD Cert.UpdateOutIdeal.τ).loc Cert.UpdateOutIdeal.main_arg3))
      ∧ r.2.sem = fun _ => 0)

def quiescent_UpdateOutRefIdeal [hUpdateOutRefIdeal : Cert.UpdateOutRefIdeal.Facts] : Prop :=
  ∀ (m : (ℓ : Loc Cert.UpdateOutRefIdeal.nD Cert.UpdateOutRefIdeal.τ Cert.UpdateOutRefIdeal.sig) → Buf (Elt Ideal) ℓ) (g : Dev Cert.UpdateOutRefIdeal.nD → PrngReg), Pre_UpdateOutRefIdeal m →
    θ_run (Cert.UpdateOutRefIdeal.defs (F := Ideal)) (onTc (τ := Cert.UpdateOutRefIdeal.τ) (Cert.UpdateOutRefIdeal.main (F := Ideal))) ⟨m, fun _ => 0, g⟩ (fun r => (∀ c : Dev Cert.UpdateOutRefIdeal.nD,
      r.2.mem ((c.tc : Thread Cert.UpdateOutRefIdeal.nD Cert.UpdateOutRefIdeal.τ).loc Cert.UpdateOutRefIdeal.main_arg0) = m ((c.tc : Thread Cert.UpdateOutRefIdeal.nD Cert.UpdateOutRefIdeal.τ).loc Cert.UpdateOutRefIdeal.main_arg0)
      ∧ r.2.mem ((c.tc : Thread Cert.UpdateOutRefIdeal.nD Cert.UpdateOutRefIdeal.τ).loc Cert.UpdateOutRefIdeal.main_arg1) = m ((c.tc : Thread Cert.UpdateOutRefIdeal.nD Cert.UpdateOutRefIdeal.τ).loc Cert.UpdateOutRefIdeal.main_arg1)
      ∧ r.2.mem ((c.tc : Thread Cert.UpdateOutRefIdeal.nD Cert.UpdateOutRefIdeal.τ).loc Cert.UpdateOutRefIdeal.main_arg2) = m ((c.tc : Thread Cert.UpdateOutRefIdeal.nD Cert.UpdateOutRefIdeal.τ).loc Cert.UpdateOutRefIdeal.main_arg2)
      ∧ r.2.mem ((c.tc : Thread Cert.UpdateOutRefIdeal.nD Cert.UpdateOutRefIdeal.τ).loc Cert.UpdateOutRefIdeal.main_arg3) = m ((c.tc : Thread Cert.UpdateOutRefIdeal.nD Cert.UpdateOutRefIdeal.τ).loc Cert.UpdateOutRefIdeal.main_arg3))
      ∧ r.2.sem = fun _ => 0)

def quiescent_UpdateUp [hUpdateUp : Cert.UpdateUp.Facts] : Prop :=
  ∀ (m : (ℓ : Loc Cert.UpdateUp.nD Cert.UpdateUp.τ Cert.UpdateUp.sig) → Buf (Elt Bits) ℓ) (g : Dev Cert.UpdateUp.nD → PrngReg), Pre_UpdateUp m →
    θ_run (Cert.UpdateUp.defs (F := Bits)) (onTc (τ := Cert.UpdateUp.τ) (Cert.UpdateUp.main (F := Bits))) ⟨m, fun _ => 0, g⟩ (fun r => (∀ c : Dev Cert.UpdateUp.nD,
      r.2.mem ((c.tc : Thread Cert.UpdateUp.nD Cert.UpdateUp.τ).loc Cert.UpdateUp.main_arg0) = m ((c.tc : Thread Cert.UpdateUp.nD Cert.UpdateUp.τ).loc Cert.UpdateUp.main_arg0)
      ∧ r.2.mem ((c.tc : Thread Cert.UpdateUp.nD Cert.UpdateUp.τ).loc Cert.UpdateUp.main_arg1) = m ((c.tc : Thread Cert.UpdateUp.nD Cert.UpdateUp.τ).loc Cert.UpdateUp.main_arg1)
      ∧ r.2.mem ((c.tc : Thread Cert.UpdateUp.nD Cert.UpdateUp.τ).loc Cert.UpdateUp.main_arg2) = m ((c.tc : Thread Cert.UpdateUp.nD Cert.UpdateUp.τ).loc Cert.UpdateUp.main_arg2)
      ∧ r.2.mem ((c.tc : Thread Cert.UpdateUp.nD Cert.UpdateUp.τ).loc Cert.UpdateUp.main_arg3) = m ((c.tc : Thread Cert.UpdateUp.nD Cert.UpdateUp.τ).loc Cert.UpdateUp.main_arg3))
      ∧ r.2.sem = fun _ => 0)

def quiescent_UpdateUpIdeal [hUpdateUpIdeal : Cert.UpdateUpIdeal.Facts] : Prop :=
  ∀ (m : (ℓ : Loc Cert.UpdateUpIdeal.nD Cert.UpdateUpIdeal.τ Cert.UpdateUpIdeal.sig) → Buf (Elt Ideal) ℓ) (g : Dev Cert.UpdateUpIdeal.nD → PrngReg), Pre_UpdateUpIdeal m →
    θ_run (Cert.UpdateUpIdeal.defs (F := Ideal)) (onTc (τ := Cert.UpdateUpIdeal.τ) (Cert.UpdateUpIdeal.main (F := Ideal))) ⟨m, fun _ => 0, g⟩ (fun r => (∀ c : Dev Cert.UpdateUpIdeal.nD,
      r.2.mem ((c.tc : Thread Cert.UpdateUpIdeal.nD Cert.UpdateUpIdeal.τ).loc Cert.UpdateUpIdeal.main_arg0) = m ((c.tc : Thread Cert.UpdateUpIdeal.nD Cert.UpdateUpIdeal.τ).loc Cert.UpdateUpIdeal.main_arg0)
      ∧ r.2.mem ((c.tc : Thread Cert.UpdateUpIdeal.nD Cert.UpdateUpIdeal.τ).loc Cert.UpdateUpIdeal.main_arg1) = m ((c.tc : Thread Cert.UpdateUpIdeal.nD Cert.UpdateUpIdeal.τ).loc Cert.UpdateUpIdeal.main_arg1)
      ∧ r.2.mem ((c.tc : Thread Cert.UpdateUpIdeal.nD Cert.UpdateUpIdeal.τ).loc Cert.UpdateUpIdeal.main_arg2) = m ((c.tc : Thread Cert.UpdateUpIdeal.nD Cert.UpdateUpIdeal.τ).loc Cert.UpdateUpIdeal.main_arg2)
      ∧ r.2.mem ((c.tc : Thread Cert.UpdateUpIdeal.nD Cert.UpdateUpIdeal.τ).loc Cert.UpdateUpIdeal.main_arg3) = m ((c.tc : Thread Cert.UpdateUpIdeal.nD Cert.UpdateUpIdeal.τ).loc Cert.UpdateUpIdeal.main_arg3))
      ∧ r.2.sem = fun _ => 0)

def quiescent_UpdateUpRefIdeal [hUpdateUpRefIdeal : Cert.UpdateUpRefIdeal.Facts] : Prop :=
  ∀ (m : (ℓ : Loc Cert.UpdateUpRefIdeal.nD Cert.UpdateUpRefIdeal.τ Cert.UpdateUpRefIdeal.sig) → Buf (Elt Ideal) ℓ) (g : Dev Cert.UpdateUpRefIdeal.nD → PrngReg), Pre_UpdateUpRefIdeal m →
    θ_run (Cert.UpdateUpRefIdeal.defs (F := Ideal)) (onTc (τ := Cert.UpdateUpRefIdeal.τ) (Cert.UpdateUpRefIdeal.main (F := Ideal))) ⟨m, fun _ => 0, g⟩ (fun r => (∀ c : Dev Cert.UpdateUpRefIdeal.nD,
      r.2.mem ((c.tc : Thread Cert.UpdateUpRefIdeal.nD Cert.UpdateUpRefIdeal.τ).loc Cert.UpdateUpRefIdeal.main_arg0) = m ((c.tc : Thread Cert.UpdateUpRefIdeal.nD Cert.UpdateUpRefIdeal.τ).loc Cert.UpdateUpRefIdeal.main_arg0)
      ∧ r.2.mem ((c.tc : Thread Cert.UpdateUpRefIdeal.nD Cert.UpdateUpRefIdeal.τ).loc Cert.UpdateUpRefIdeal.main_arg1) = m ((c.tc : Thread Cert.UpdateUpRefIdeal.nD Cert.UpdateUpRefIdeal.τ).loc Cert.UpdateUpRefIdeal.main_arg1)
      ∧ r.2.mem ((c.tc : Thread Cert.UpdateUpRefIdeal.nD Cert.UpdateUpRefIdeal.τ).loc Cert.UpdateUpRefIdeal.main_arg2) = m ((c.tc : Thread Cert.UpdateUpRefIdeal.nD Cert.UpdateUpRefIdeal.τ).loc Cert.UpdateUpRefIdeal.main_arg2)
      ∧ r.2.mem ((c.tc : Thread Cert.UpdateUpRefIdeal.nD Cert.UpdateUpRefIdeal.τ).loc Cert.UpdateUpRefIdeal.main_arg3) = m ((c.tc : Thread Cert.UpdateUpRefIdeal.nD Cert.UpdateUpRefIdeal.τ).loc Cert.UpdateUpRefIdeal.main_arg3))
      ∧ r.2.sem = fun _ => 0)

def quiescent_UpdateDown [hUpdateDown : Cert.UpdateDown.Facts] : Prop :=
  ∀ (m : (ℓ : Loc Cert.UpdateDown.nD Cert.UpdateDown.τ Cert.UpdateDown.sig) → Buf (Elt Bits) ℓ) (g : Dev Cert.UpdateDown.nD → PrngReg), Pre_UpdateDown m →
    θ_run (Cert.UpdateDown.defs (F := Bits)) (onTc (τ := Cert.UpdateDown.τ) (Cert.UpdateDown.main (F := Bits))) ⟨m, fun _ => 0, g⟩ (fun r => (∀ c : Dev Cert.UpdateDown.nD,
      r.2.mem ((c.tc : Thread Cert.UpdateDown.nD Cert.UpdateDown.τ).loc Cert.UpdateDown.main_arg0) = m ((c.tc : Thread Cert.UpdateDown.nD Cert.UpdateDown.τ).loc Cert.UpdateDown.main_arg0)
      ∧ r.2.mem ((c.tc : Thread Cert.UpdateDown.nD Cert.UpdateDown.τ).loc Cert.UpdateDown.main_arg1) = m ((c.tc : Thread Cert.UpdateDown.nD Cert.UpdateDown.τ).loc Cert.UpdateDown.main_arg1)
      ∧ r.2.mem ((c.tc : Thread Cert.UpdateDown.nD Cert.UpdateDown.τ).loc Cert.UpdateDown.main_arg2) = m ((c.tc : Thread Cert.UpdateDown.nD Cert.UpdateDown.τ).loc Cert.UpdateDown.main_arg2)
      ∧ r.2.mem ((c.tc : Thread Cert.UpdateDown.nD Cert.UpdateDown.τ).loc Cert.UpdateDown.main_arg3) = m ((c.tc : Thread Cert.UpdateDown.nD Cert.UpdateDown.τ).loc Cert.UpdateDown.main_arg3))
      ∧ r.2.sem = fun _ => 0)

def quiescent_UpdateDownIdeal [hUpdateDownIdeal : Cert.UpdateDownIdeal.Facts] : Prop :=
  ∀ (m : (ℓ : Loc Cert.UpdateDownIdeal.nD Cert.UpdateDownIdeal.τ Cert.UpdateDownIdeal.sig) → Buf (Elt Ideal) ℓ) (g : Dev Cert.UpdateDownIdeal.nD → PrngReg), Pre_UpdateDownIdeal m →
    θ_run (Cert.UpdateDownIdeal.defs (F := Ideal)) (onTc (τ := Cert.UpdateDownIdeal.τ) (Cert.UpdateDownIdeal.main (F := Ideal))) ⟨m, fun _ => 0, g⟩ (fun r => (∀ c : Dev Cert.UpdateDownIdeal.nD,
      r.2.mem ((c.tc : Thread Cert.UpdateDownIdeal.nD Cert.UpdateDownIdeal.τ).loc Cert.UpdateDownIdeal.main_arg0) = m ((c.tc : Thread Cert.UpdateDownIdeal.nD Cert.UpdateDownIdeal.τ).loc Cert.UpdateDownIdeal.main_arg0)
      ∧ r.2.mem ((c.tc : Thread Cert.UpdateDownIdeal.nD Cert.UpdateDownIdeal.τ).loc Cert.UpdateDownIdeal.main_arg1) = m ((c.tc : Thread Cert.UpdateDownIdeal.nD Cert.UpdateDownIdeal.τ).loc Cert.UpdateDownIdeal.main_arg1)
      ∧ r.2.mem ((c.tc : Thread Cert.UpdateDownIdeal.nD Cert.UpdateDownIdeal.τ).loc Cert.UpdateDownIdeal.main_arg2) = m ((c.tc : Thread Cert.UpdateDownIdeal.nD Cert.UpdateDownIdeal.τ).loc Cert.UpdateDownIdeal.main_arg2)
      ∧ r.2.mem ((c.tc : Thread Cert.UpdateDownIdeal.nD Cert.UpdateDownIdeal.τ).loc Cert.UpdateDownIdeal.main_arg3) = m ((c.tc : Thread Cert.UpdateDownIdeal.nD Cert.UpdateDownIdeal.τ).loc Cert.UpdateDownIdeal.main_arg3))
      ∧ r.2.sem = fun _ => 0)

def quiescent_UpdateDownRefIdeal [hUpdateDownRefIdeal : Cert.UpdateDownRefIdeal.Facts] : Prop :=
  ∀ (m : (ℓ : Loc Cert.UpdateDownRefIdeal.nD Cert.UpdateDownRefIdeal.τ Cert.UpdateDownRefIdeal.sig) → Buf (Elt Ideal) ℓ) (g : Dev Cert.UpdateDownRefIdeal.nD → PrngReg), Pre_UpdateDownRefIdeal m →
    θ_run (Cert.UpdateDownRefIdeal.defs (F := Ideal)) (onTc (τ := Cert.UpdateDownRefIdeal.τ) (Cert.UpdateDownRefIdeal.main (F := Ideal))) ⟨m, fun _ => 0, g⟩ (fun r => (∀ c : Dev Cert.UpdateDownRefIdeal.nD,
      r.2.mem ((c.tc : Thread Cert.UpdateDownRefIdeal.nD Cert.UpdateDownRefIdeal.τ).loc Cert.UpdateDownRefIdeal.main_arg0) = m ((c.tc : Thread Cert.UpdateDownRefIdeal.nD Cert.UpdateDownRefIdeal.τ).loc Cert.UpdateDownRefIdeal.main_arg0)
      ∧ r.2.mem ((c.tc : Thread Cert.UpdateDownRefIdeal.nD Cert.UpdateDownRefIdeal.τ).loc Cert.UpdateDownRefIdeal.main_arg1) = m ((c.tc : Thread Cert.UpdateDownRefIdeal.nD Cert.UpdateDownRefIdeal.τ).loc Cert.UpdateDownRefIdeal.main_arg1)
      ∧ r.2.mem ((c.tc : Thread Cert.UpdateDownRefIdeal.nD Cert.UpdateDownRefIdeal.τ).loc Cert.UpdateDownRefIdeal.main_arg2) = m ((c.tc : Thread Cert.UpdateDownRefIdeal.nD Cert.UpdateDownRefIdeal.τ).loc Cert.UpdateDownRefIdeal.main_arg2)
      ∧ r.2.mem ((c.tc : Thread Cert.UpdateDownRefIdeal.nD Cert.UpdateDownRefIdeal.τ).loc Cert.UpdateDownRefIdeal.main_arg3) = m ((c.tc : Thread Cert.UpdateDownRefIdeal.nD Cert.UpdateDownRefIdeal.τ).loc Cert.UpdateDownRefIdeal.main_arg3))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v114)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v114) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v200) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def preserves_DwIn_DwInIdeal : Prop :=
  True

def algebraic_DwInIdeal_DwInRefIdeal [hDwInIdeal : Cert.DwInIdeal.Facts] [hDwInRefIdeal : Cert.DwInRefIdeal.Facts] : Prop :=
  ∀ (m : (ℓ : Loc Cert.DwInIdeal.nD Cert.DwInIdeal.τ Cert.DwInIdeal.sig) → Buf (Elt Ideal) ℓ) (g : Dev Cert.DwInIdeal.nD → PrngReg)
    (m' : (ℓ : Loc Cert.DwInRefIdeal.nD Cert.DwInRefIdeal.τ Cert.DwInRefIdeal.sig) → Buf (Elt Ideal) ℓ) (g' : Dev Cert.DwInRefIdeal.nD → PrngReg), Pre_DwInIdeal m →
    (∀ c : Dev Cert.DwInIdeal.nD,
      m' ((c.tc : Thread Cert.DwInRefIdeal.nD Cert.DwInRefIdeal.τ).loc Cert.DwInRefIdeal.main_arg0) = m ((c.tc : Thread Cert.DwInIdeal.nD Cert.DwInIdeal.τ).loc Cert.DwInIdeal.main_arg0)
      ∧ m' ((c.tc : Thread Cert.DwInRefIdeal.nD Cert.DwInRefIdeal.τ).loc Cert.DwInRefIdeal.main_arg1) = m ((c.tc : Thread Cert.DwInIdeal.nD Cert.DwInIdeal.τ).loc Cert.DwInIdeal.main_arg1)) →
    ∃ (v0 : (c : Dev Cert.DwInIdeal.nD) → Buf (Elt Ideal) ((c.tc : Thread Cert.DwInIdeal.nD Cert.DwInIdeal.τ).loc Cert.DwInIdeal.main_v5)),
      θ_run (Cert.DwInIdeal.defs (F := Ideal)) (onTc (τ := Cert.DwInIdeal.τ) (Cert.DwInIdeal.main (F := Ideal))) ⟨m, fun _ => 0, g⟩ (fun r => ∀ c : Dev Cert.DwInIdeal.nD,
          r.2.mem ((c.tc : Thread Cert.DwInIdeal.nD Cert.DwInIdeal.τ).loc Cert.DwInIdeal.main_v5) = v0 c
          ∧ r.2.mem ((c.tc : Thread Cert.DwInIdeal.nD Cert.DwInIdeal.τ).loc Cert.DwInIdeal.main_arg0) = m ((c.tc : Thread Cert.DwInIdeal.nD Cert.DwInIdeal.τ).loc Cert.DwInIdeal.main_arg0)
          ∧ r.2.mem ((c.tc : Thread Cert.DwInIdeal.nD Cert.DwInIdeal.τ).loc Cert.DwInIdeal.main_arg1) = m ((c.tc : Thread Cert.DwInIdeal.nD Cert.DwInIdeal.τ).loc Cert.DwInIdeal.main_arg1))
      ∧ θ_run (Cert.DwInRefIdeal.defs (F := Ideal)) (onTc (τ := Cert.DwInRefIdeal.τ) (Cert.DwInRefIdeal.main (F := Ideal))) ⟨m', fun _ => 0, g'⟩ (fun r => ∀ c : Dev Cert.DwInRefIdeal.nD,
          r.2.mem ((c.tc : Thread Cert.DwInRefIdeal.nD Cert.DwInRefIdeal.τ).loc Cert.DwInRefIdeal.main_v4) = v0 c
          ∧ r.2.mem ((c.tc : Thread Cert.DwInRefIdeal.nD Cert.DwInRefIdeal.τ).loc Cert.DwInRefIdeal.main_arg0) = m' ((c.tc : Thread Cert.DwInRefIdeal.nD Cert.DwInRefIdeal.τ).loc Cert.DwInRefIdeal.main_arg0)
          ∧ r.2.mem ((c.tc : Thread Cert.DwInRefIdeal.nD Cert.DwInRefIdeal.τ).loc Cert.DwInRefIdeal.main_arg1) = m' ((c.tc : Thread Cert.DwInRefIdeal.nD Cert.DwInRefIdeal.τ).loc Cert.DwInRefIdeal.main_arg1))

def preserves_DwUp_DwUpIdeal : Prop :=
  True

def algebraic_DwUpIdeal_DwUpRefIdeal [hDwUpIdeal : Cert.DwUpIdeal.Facts] [hDwUpRefIdeal : Cert.DwUpRefIdeal.Facts] : Prop :=
  ∀ (m : (ℓ : Loc Cert.DwUpIdeal.nD Cert.DwUpIdeal.τ Cert.DwUpIdeal.sig) → Buf (Elt Ideal) ℓ) (g : Dev Cert.DwUpIdeal.nD → PrngReg)
    (m' : (ℓ : Loc Cert.DwUpRefIdeal.nD Cert.DwUpRefIdeal.τ Cert.DwUpRefIdeal.sig) → Buf (Elt Ideal) ℓ) (g' : Dev Cert.DwUpRefIdeal.nD → PrngReg), Pre_DwUpIdeal m →
    (∀ c : Dev Cert.DwUpIdeal.nD,
      m' ((c.tc : Thread Cert.DwUpRefIdeal.nD Cert.DwUpRefIdeal.τ).loc Cert.DwUpRefIdeal.main_arg0) = m ((c.tc : Thread Cert.DwUpIdeal.nD Cert.DwUpIdeal.τ).loc Cert.DwUpIdeal.main_arg0)
      ∧ m' ((c.tc : Thread Cert.DwUpRefIdeal.nD Cert.DwUpRefIdeal.τ).loc Cert.DwUpRefIdeal.main_arg1) = m ((c.tc : Thread Cert.DwUpIdeal.nD Cert.DwUpIdeal.τ).loc Cert.DwUpIdeal.main_arg1)) →
    ∃ (v0 : (c : Dev Cert.DwUpIdeal.nD) → Buf (Elt Ideal) ((c.tc : Thread Cert.DwUpIdeal.nD Cert.DwUpIdeal.τ).loc Cert.DwUpIdeal.main_v5)),
      θ_run (Cert.DwUpIdeal.defs (F := Ideal)) (onTc (τ := Cert.DwUpIdeal.τ) (Cert.DwUpIdeal.main (F := Ideal))) ⟨m, fun _ => 0, g⟩ (fun r => ∀ c : Dev Cert.DwUpIdeal.nD,
          r.2.mem ((c.tc : Thread Cert.DwUpIdeal.nD Cert.DwUpIdeal.τ).loc Cert.DwUpIdeal.main_v5) = v0 c
          ∧ r.2.mem ((c.tc : Thread Cert.DwUpIdeal.nD Cert.DwUpIdeal.τ).loc Cert.DwUpIdeal.main_arg0) = m ((c.tc : Thread Cert.DwUpIdeal.nD Cert.DwUpIdeal.τ).loc Cert.DwUpIdeal.main_arg0)
          ∧ r.2.mem ((c.tc : Thread Cert.DwUpIdeal.nD Cert.DwUpIdeal.τ).loc Cert.DwUpIdeal.main_arg1) = m ((c.tc : Thread Cert.DwUpIdeal.nD Cert.DwUpIdeal.τ).loc Cert.DwUpIdeal.main_arg1))
      ∧ θ_run (Cert.DwUpRefIdeal.defs (F := Ideal)) (onTc (τ := Cert.DwUpRefIdeal.τ) (Cert.DwUpRefIdeal.main (F := Ideal))) ⟨m', fun _ => 0, g'⟩ (fun r => ∀ c : Dev Cert.DwUpRefIdeal.nD,
          r.2.mem ((c.tc : Thread Cert.DwUpRefIdeal.nD Cert.DwUpRefIdeal.τ).loc Cert.DwUpRefIdeal.main_v4) = v0 c
          ∧ r.2.mem ((c.tc : Thread Cert.DwUpRefIdeal.nD Cert.DwUpRefIdeal.τ).loc Cert.DwUpRefIdeal.main_arg0) = m' ((c.tc : Thread Cert.DwUpRefIdeal.nD Cert.DwUpRefIdeal.τ).loc Cert.DwUpRefIdeal.main_arg0)
          ∧ r.2.mem ((c.tc : Thread Cert.DwUpRefIdeal.nD Cert.DwUpRefIdeal.τ).loc Cert.DwUpRefIdeal.main_arg1) = m' ((c.tc : Thread Cert.DwUpRefIdeal.nD Cert.DwUpRefIdeal.τ).loc Cert.DwUpRefIdeal.main_arg1))

def preserves_DwDown_DwDownIdeal : Prop :=
  True

def algebraic_DwDownIdeal_DwDownRefIdeal [hDwDownIdeal : Cert.DwDownIdeal.Facts] [hDwDownRefIdeal : Cert.DwDownRefIdeal.Facts] : Prop :=
  ∀ (m : (ℓ : Loc Cert.DwDownIdeal.nD Cert.DwDownIdeal.τ Cert.DwDownIdeal.sig) → Buf (Elt Ideal) ℓ) (g : Dev Cert.DwDownIdeal.nD → PrngReg)
    (m' : (ℓ : Loc Cert.DwDownRefIdeal.nD Cert.DwDownRefIdeal.τ Cert.DwDownRefIdeal.sig) → Buf (Elt Ideal) ℓ) (g' : Dev Cert.DwDownRefIdeal.nD → PrngReg), Pre_DwDownIdeal m →
    (∀ c : Dev Cert.DwDownIdeal.nD,
      m' ((c.tc : Thread Cert.DwDownRefIdeal.nD Cert.DwDownRefIdeal.τ).loc Cert.DwDownRefIdeal.main_arg0) = m ((c.tc : Thread Cert.DwDownIdeal.nD Cert.DwDownIdeal.τ).loc Cert.DwDownIdeal.main_arg0)
      ∧ m' ((c.tc : Thread Cert.DwDownRefIdeal.nD Cert.DwDownRefIdeal.τ).loc Cert.DwDownRefIdeal.main_arg1) = m ((c.tc : Thread Cert.DwDownIdeal.nD Cert.DwDownIdeal.τ).loc Cert.DwDownIdeal.main_arg1)) →
    ∃ (v0 : (c : Dev Cert.DwDownIdeal.nD) → Buf (Elt Ideal) ((c.tc : Thread Cert.DwDownIdeal.nD Cert.DwDownIdeal.τ).loc Cert.DwDownIdeal.main_v5)),
      θ_run (Cert.DwDownIdeal.defs (F := Ideal)) (onTc (τ := Cert.DwDownIdeal.τ) (Cert.DwDownIdeal.main (F := Ideal))) ⟨m, fun _ => 0, g⟩ (fun r => ∀ c : Dev Cert.DwDownIdeal.nD,
          r.2.mem ((c.tc : Thread Cert.DwDownIdeal.nD Cert.DwDownIdeal.τ).loc Cert.DwDownIdeal.main_v5) = v0 c
          ∧ r.2.mem ((c.tc : Thread Cert.DwDownIdeal.nD Cert.DwDownIdeal.τ).loc Cert.DwDownIdeal.main_arg0) = m ((c.tc : Thread Cert.DwDownIdeal.nD Cert.DwDownIdeal.τ).loc Cert.DwDownIdeal.main_arg0)
          ∧ r.2.mem ((c.tc : Thread Cert.DwDownIdeal.nD Cert.DwDownIdeal.τ).loc Cert.DwDownIdeal.main_arg1) = m ((c.tc : Thread Cert.DwDownIdeal.nD Cert.DwDownIdeal.τ).loc Cert.DwDownIdeal.main_arg1))
      ∧ θ_run (Cert.DwDownRefIdeal.defs (F := Ideal)) (onTc (τ := Cert.DwDownRefIdeal.τ) (Cert.DwDownRefIdeal.main (F := Ideal))) ⟨m', fun _ => 0, g'⟩ (fun r => ∀ c : Dev Cert.DwDownRefIdeal.nD,
          r.2.mem ((c.tc : Thread Cert.DwDownRefIdeal.nD Cert.DwDownRefIdeal.τ).loc Cert.DwDownRefIdeal.main_v4) = v0 c
          ∧ r.2.mem ((c.tc : Thread Cert.DwDownRefIdeal.nD Cert.DwDownRefIdeal.τ).loc Cert.DwDownRefIdeal.main_arg0) = m' ((c.tc : Thread Cert.DwDownRefIdeal.nD Cert.DwDownRefIdeal.τ).loc Cert.DwDownRefIdeal.main_arg0)
          ∧ r.2.mem ((c.tc : Thread Cert.DwDownRefIdeal.nD Cert.DwDownRefIdeal.τ).loc Cert.DwDownRefIdeal.main_arg1) = m' ((c.tc : Thread Cert.DwDownRefIdeal.nD Cert.DwDownRefIdeal.τ).loc Cert.DwDownRefIdeal.main_arg1))

def preserves_DwOut_DwOutIdeal : Prop :=
  True

def algebraic_DwOutIdeal_DwOutRefIdeal [hDwOutIdeal : Cert.DwOutIdeal.Facts] [hDwOutRefIdeal : Cert.DwOutRefIdeal.Facts] : Prop :=
  ∀ (m : (ℓ : Loc Cert.DwOutIdeal.nD Cert.DwOutIdeal.τ Cert.DwOutIdeal.sig) → Buf (Elt Ideal) ℓ) (g : Dev Cert.DwOutIdeal.nD → PrngReg)
    (m' : (ℓ : Loc Cert.DwOutRefIdeal.nD Cert.DwOutRefIdeal.τ Cert.DwOutRefIdeal.sig) → Buf (Elt Ideal) ℓ) (g' : Dev Cert.DwOutRefIdeal.nD → PrngReg), Pre_DwOutIdeal m →
    (∀ c : Dev Cert.DwOutIdeal.nD,
      m' ((c.tc : Thread Cert.DwOutRefIdeal.nD Cert.DwOutRefIdeal.τ).loc Cert.DwOutRefIdeal.main_arg0) = m ((c.tc : Thread Cert.DwOutIdeal.nD Cert.DwOutIdeal.τ).loc Cert.DwOutIdeal.main_arg0)
      ∧ m' ((c.tc : Thread Cert.DwOutRefIdeal.nD Cert.DwOutRefIdeal.τ).loc Cert.DwOutRefIdeal.main_arg1) = m ((c.tc : Thread Cert.DwOutIdeal.nD Cert.DwOutIdeal.τ).loc Cert.DwOutIdeal.main_arg1)) →
    ∃ (v0 : (c : Dev Cert.DwOutIdeal.nD) → Buf (Elt Ideal) ((c.tc : Thread Cert.DwOutIdeal.nD Cert.DwOutIdeal.τ).loc Cert.DwOutIdeal.main_v5)),
      θ_run (Cert.DwOutIdeal.defs (F := Ideal)) (onTc (τ := Cert.DwOutIdeal.τ) (Cert.DwOutIdeal.main (F := Ideal))) ⟨m, fun _ => 0, g⟩ (fun r => ∀ c : Dev Cert.DwOutIdeal.nD,
          r.2.mem ((c.tc : Thread Cert.DwOutIdeal.nD Cert.DwOutIdeal.τ).loc Cert.DwOutIdeal.main_v5) = v0 c
          ∧ r.2.mem ((c.tc : Thread Cert.DwOutIdeal.nD Cert.DwOutIdeal.τ).loc Cert.DwOutIdeal.main_arg0) = m ((c.tc : Thread Cert.DwOutIdeal.nD Cert.DwOutIdeal.τ).loc Cert.DwOutIdeal.main_arg0)
          ∧ r.2.mem ((c.tc : Thread Cert.DwOutIdeal.nD Cert.DwOutIdeal.τ).loc Cert.DwOutIdeal.main_arg1) = m ((c.tc : Thread Cert.DwOutIdeal.nD Cert.DwOutIdeal.τ).loc Cert.DwOutIdeal.main_arg1))
      ∧ θ_run (Cert.DwOutRefIdeal.defs (F := Ideal)) (onTc (τ := Cert.DwOutRefIdeal.τ) (Cert.DwOutRefIdeal.main (F := Ideal))) ⟨m', fun _ => 0, g'⟩ (fun r => ∀ c : Dev Cert.DwOutRefIdeal.nD,
          r.2.mem ((c.tc : Thread Cert.DwOutRefIdeal.nD Cert.DwOutRefIdeal.τ).loc Cert.DwOutRefIdeal.main_v4) = v0 c
          ∧ r.2.mem ((c.tc : Thread Cert.DwOutRefIdeal.nD Cert.DwOutRefIdeal.τ).loc Cert.DwOutRefIdeal.main_arg0) = m' ((c.tc : Thread Cert.DwOutRefIdeal.nD Cert.DwOutRefIdeal.τ).loc Cert.DwOutRefIdeal.main_arg0)
          ∧ r.2.mem ((c.tc : Thread Cert.DwOutRefIdeal.nD Cert.DwOutRefIdeal.τ).loc Cert.DwOutRefIdeal.main_arg1) = m' ((c.tc : Thread Cert.DwOutRefIdeal.nD Cert.DwOutRefIdeal.τ).loc Cert.DwOutRefIdeal.main_arg1))

def preserves_DAct_DActIdeal : Prop :=
  True

def algebraic_DActIdeal_DActRefIdeal [hDActIdeal : Cert.DActIdeal.Facts] [hDActRefIdeal : Cert.DActRefIdeal.Facts] : Prop :=
  ∀ (m : (ℓ : Loc Cert.DActIdeal.nD Cert.DActIdeal.τ Cert.DActIdeal.sig) → Buf (Elt Ideal) ℓ) (g : Dev Cert.DActIdeal.nD → PrngReg)
    (m' : (ℓ : Loc Cert.DActRefIdeal.nD Cert.DActRefIdeal.τ Cert.DActRefIdeal.sig) → Buf (Elt Ideal) ℓ) (g' : Dev Cert.DActRefIdeal.nD → PrngReg), Pre_DActIdeal m →
    (∀ c : Dev Cert.DActIdeal.nD,
      m' ((c.tc : Thread Cert.DActRefIdeal.nD Cert.DActRefIdeal.τ).loc Cert.DActRefIdeal.main_arg0) = m ((c.tc : Thread Cert.DActIdeal.nD Cert.DActIdeal.τ).loc Cert.DActIdeal.main_arg0)
      ∧ m' ((c.tc : Thread Cert.DActRefIdeal.nD Cert.DActRefIdeal.τ).loc Cert.DActRefIdeal.main_arg1) = m ((c.tc : Thread Cert.DActIdeal.nD Cert.DActIdeal.τ).loc Cert.DActIdeal.main_arg1)) →
    ∃ (v0 : (c : Dev Cert.DActIdeal.nD) → Buf (Elt Ideal) ((c.tc : Thread Cert.DActIdeal.nD Cert.DActIdeal.τ).loc Cert.DActIdeal.main_v3)),
      θ_run (Cert.DActIdeal.defs (F := Ideal)) (onTc (τ := Cert.DActIdeal.τ) (Cert.DActIdeal.main (F := Ideal))) ⟨m, fun _ => 0, g⟩ (fun r => ∀ c : Dev Cert.DActIdeal.nD,
          r.2.mem ((c.tc : Thread Cert.DActIdeal.nD Cert.DActIdeal.τ).loc Cert.DActIdeal.main_v3) = v0 c
          ∧ r.2.mem ((c.tc : Thread Cert.DActIdeal.nD Cert.DActIdeal.τ).loc Cert.DActIdeal.main_arg0) = m ((c.tc : Thread Cert.DActIdeal.nD Cert.DActIdeal.τ).loc Cert.DActIdeal.main_arg0)
          ∧ r.2.mem ((c.tc : Thread Cert.DActIdeal.nD Cert.DActIdeal.τ).loc Cert.DActIdeal.main_arg1) = m ((c.tc : Thread Cert.DActIdeal.nD Cert.DActIdeal.τ).loc Cert.DActIdeal.main_arg1))
      ∧ θ_run (Cert.DActRefIdeal.defs (F := Ideal)) (onTc (τ := Cert.DActRefIdeal.τ) (Cert.DActRefIdeal.main (F := Ideal))) ⟨m', fun _ => 0, g'⟩ (fun r => ∀ c : Dev Cert.DActRefIdeal.nD,
          r.2.mem ((c.tc : Thread Cert.DActRefIdeal.nD Cert.DActRefIdeal.τ).loc Cert.DActRefIdeal.main_v4) = v0 c
          ∧ r.2.mem ((c.tc : Thread Cert.DActRefIdeal.nD Cert.DActRefIdeal.τ).loc Cert.DActRefIdeal.main_arg0) = m' ((c.tc : Thread Cert.DActRefIdeal.nD Cert.DActRefIdeal.τ).loc Cert.DActRefIdeal.main_arg0)
          ∧ r.2.mem ((c.tc : Thread Cert.DActRefIdeal.nD Cert.DActRefIdeal.τ).loc Cert.DActRefIdeal.main_arg1) = m' ((c.tc : Thread Cert.DActRefIdeal.nD Cert.DActRefIdeal.τ).loc Cert.DActRefIdeal.main_arg1))

def preserves_DMix_DMixIdeal : Prop :=
  True

def algebraic_DMixIdeal_DMixRefIdeal [hDMixIdeal : Cert.DMixIdeal.Facts] [hDMixRefIdeal : Cert.DMixRefIdeal.Facts] : Prop :=
  ∀ (m : (ℓ : Loc Cert.DMixIdeal.nD Cert.DMixIdeal.τ Cert.DMixIdeal.sig) → Buf (Elt Ideal) ℓ) (g : Dev Cert.DMixIdeal.nD → PrngReg)
    (m' : (ℓ : Loc Cert.DMixRefIdeal.nD Cert.DMixRefIdeal.τ Cert.DMixRefIdeal.sig) → Buf (Elt Ideal) ℓ) (g' : Dev Cert.DMixRefIdeal.nD → PrngReg), Pre_DMixIdeal m →
    (∀ c : Dev Cert.DMixIdeal.nD,
      m' ((c.tc : Thread Cert.DMixRefIdeal.nD Cert.DMixRefIdeal.τ).loc Cert.DMixRefIdeal.main_arg0) = m ((c.tc : Thread Cert.DMixIdeal.nD Cert.DMixIdeal.τ).loc Cert.DMixIdeal.main_arg0)
      ∧ m' ((c.tc : Thread Cert.DMixRefIdeal.nD Cert.DMixRefIdeal.τ).loc Cert.DMixRefIdeal.main_arg1) = m ((c.tc : Thread Cert.DMixIdeal.nD Cert.DMixIdeal.τ).loc Cert.DMixIdeal.main_arg1)) →
    ∃ (v0 : (c : Dev Cert.DMixIdeal.nD) → Buf (Elt Ideal) ((c.tc : Thread Cert.DMixIdeal.nD Cert.DMixIdeal.τ).loc Cert.DMixIdeal.main_v3)),
      θ_run (Cert.DMixIdeal.defs (F := Ideal)) (onTc (τ := Cert.DMixIdeal.τ) (Cert.DMixIdeal.main (F := Ideal))) ⟨m, fun _ => 0, g⟩ (fun r => ∀ c : Dev Cert.DMixIdeal.nD,
          r.2.mem ((c.tc : Thread Cert.DMixIdeal.nD Cert.DMixIdeal.τ).loc Cert.DMixIdeal.main_v3) = v0 c
          ∧ r.2.mem ((c.tc : Thread Cert.DMixIdeal.nD Cert.DMixIdeal.τ).loc Cert.DMixIdeal.main_arg0) = m ((c.tc : Thread Cert.DMixIdeal.nD Cert.DMixIdeal.τ).loc Cert.DMixIdeal.main_arg0)
          ∧ r.2.mem ((c.tc : Thread Cert.DMixIdeal.nD Cert.DMixIdeal.τ).loc Cert.DMixIdeal.main_arg1) = m ((c.tc : Thread Cert.DMixIdeal.nD Cert.DMixIdeal.τ).loc Cert.DMixIdeal.main_arg1))
      ∧ θ_run (Cert.DMixRefIdeal.defs (F := Ideal)) (onTc (τ := Cert.DMixRefIdeal.τ) (Cert.DMixRefIdeal.main (F := Ideal))) ⟨m', fun _ => 0, g'⟩ (fun r => ∀ c : Dev Cert.DMixRefIdeal.nD,
          r.2.mem ((c.tc : Thread Cert.DMixRefIdeal.nD Cert.DMixRefIdeal.τ).loc Cert.DMixRefIdeal.main_v4) = v0 c
          ∧ r.2.mem ((c.tc : Thread Cert.DMixRefIdeal.nD Cert.DMixRefIdeal.τ).loc Cert.DMixRefIdeal.main_arg0) = m' ((c.tc : Thread Cert.DMixRefIdeal.nD Cert.DMixRefIdeal.τ).loc Cert.DMixRefIdeal.main_arg0)
          ∧ r.2.mem ((c.tc : Thread Cert.DMixRefIdeal.nD Cert.DMixRefIdeal.τ).loc Cert.DMixRefIdeal.main_arg1) = m' ((c.tc : Thread Cert.DMixRefIdeal.nD Cert.DMixRefIdeal.τ).loc Cert.DMixRefIdeal.main_arg1))

def preserves_InProj_InProjIdeal : Prop :=
  True

def algebraic_InProjIdeal_InProjRefIdeal [hInProjIdeal : Cert.InProjIdeal.Facts] [hInProjRefIdeal : Cert.InProjRefIdeal.Facts] : Prop :=
  ∀ (m : (ℓ : Loc Cert.InProjIdeal.nD Cert.InProjIdeal.τ Cert.InProjIdeal.sig) → Buf (Elt Ideal) ℓ) (g : Dev Cert.InProjIdeal.nD → PrngReg)
    (m' : (ℓ : Loc Cert.InProjRefIdeal.nD Cert.InProjRefIdeal.τ Cert.InProjRefIdeal.sig) → Buf (Elt Ideal) ℓ) (g' : Dev Cert.InProjRefIdeal.nD → PrngReg), Pre_InProjIdeal m →
    (∀ c : Dev Cert.InProjIdeal.nD,
      m' ((c.tc : Thread Cert.InProjRefIdeal.nD Cert.InProjRefIdeal.τ).loc Cert.InProjRefIdeal.main_arg0) = m ((c.tc : Thread Cert.InProjIdeal.nD Cert.InProjIdeal.τ).loc Cert.InProjIdeal.main_arg0)
      ∧ m' ((c.tc : Thread Cert.InProjRefIdeal.nD Cert.InProjRefIdeal.τ).loc Cert.InProjRefIdeal.main_arg1) = m ((c.tc : Thread Cert.InProjIdeal.nD Cert.InProjIdeal.τ).loc Cert.InProjIdeal.main_arg1)) →
    ∃ (v0 : (c : Dev Cert.InProjIdeal.nD) → Buf (Elt Ideal) ((c.tc : Thread Cert.InProjIdeal.nD Cert.InProjIdeal.τ).loc Cert.InProjIdeal.main_v3)),
      θ_run (Cert.InProjIdeal.defs (F := Ideal)) (onTc (τ := Cert.InProjIdeal.τ) (Cert.InProjIdeal.main (F := Ideal))) ⟨m, fun _ => 0, g⟩ (fun r => ∀ c : Dev Cert.InProjIdeal.nD,
          r.2.mem ((c.tc : Thread Cert.InProjIdeal.nD Cert.InProjIdeal.τ).loc Cert.InProjIdeal.main_v3) = v0 c
          ∧ r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
          ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1))
      ∧ θ_run (Cert.InProjRefIdeal.defs (F := Ideal)) (onTc (τ := Cert.InProjRefIdeal.τ) (Cert.InProjRefIdeal.main (F := Ideal))) ⟨m', fun _ => 0, g'⟩ (fun r => ∀ c : Dev Cert.InProjRefIdeal.nD,
          r.2.mem ((c.tc : Thread Cert.InProjRefIdeal.nD Cert.InProjRefIdeal.τ).loc Cert.InProjRefIdeal.main_v2) = v0 c
          ∧ r.2.mem ((c.tc : Thread Cert.InProjRefIdeal.nD Cert.InProjRefIdeal.τ).loc Cert.InProjRefIdeal.main_arg0) = m' ((c.tc : Thread Cert.InProjRefIdeal.nD Cert.InProjRefIdeal.τ).loc Cert.InProjRefIdeal.main_arg0)
          ∧ r.2.mem ((c.tc : Thread Cert.InProjRefIdeal.nD Cert.InProjRefIdeal.τ).loc Cert.InProjRefIdeal.main_arg1) = m' ((c.tc : Thread Cert.InProjRefIdeal.nD Cert.InProjRefIdeal.τ).loc Cert.InProjRefIdeal.main_arg1))

def preserves_FfnUp_FfnUpIdeal : Prop :=
  True

def algebraic_FfnUpIdeal_FfnUpRefIdeal [hFfnUpIdeal : Cert.FfnUpIdeal.Facts] [hFfnUpRefIdeal : Cert.FfnUpRefIdeal.Facts] : Prop :=
  ∀ (m : (ℓ : Loc Cert.FfnUpIdeal.nD Cert.FfnUpIdeal.τ Cert.FfnUpIdeal.sig) → Buf (Elt Ideal) ℓ) (g : Dev Cert.FfnUpIdeal.nD → PrngReg)
    (m' : (ℓ : Loc Cert.FfnUpRefIdeal.nD Cert.FfnUpRefIdeal.τ Cert.FfnUpRefIdeal.sig) → Buf (Elt Ideal) ℓ) (g' : Dev Cert.FfnUpRefIdeal.nD → PrngReg), Pre_FfnUpIdeal m →
    (∀ c : Dev Cert.FfnUpIdeal.nD,
      m' ((c.tc : Thread Cert.FfnUpRefIdeal.nD Cert.FfnUpRefIdeal.τ).loc Cert.FfnUpRefIdeal.main_arg0) = m ((c.tc : Thread Cert.FfnUpIdeal.nD Cert.FfnUpIdeal.τ).loc Cert.FfnUpIdeal.main_arg0)
      ∧ m' ((c.tc : Thread Cert.FfnUpRefIdeal.nD Cert.FfnUpRefIdeal.τ).loc Cert.FfnUpRefIdeal.main_arg1) = m ((c.tc : Thread Cert.FfnUpIdeal.nD Cert.FfnUpIdeal.τ).loc Cert.FfnUpIdeal.main_arg1)) →
    ∃ (v0 : (c : Dev Cert.FfnUpIdeal.nD) → Buf (Elt Ideal) ((c.tc : Thread Cert.FfnUpIdeal.nD Cert.FfnUpIdeal.τ).loc Cert.FfnUpIdeal.main_v3)),
      θ_run (Cert.FfnUpIdeal.defs (F := Ideal)) (onTc (τ := Cert.FfnUpIdeal.τ) (Cert.FfnUpIdeal.main (F := Ideal))) ⟨m, fun _ => 0, g⟩ (fun r => ∀ c : Dev Cert.FfnUpIdeal.nD,
          r.2.mem ((c.tc : Thread Cert.FfnUpIdeal.nD Cert.FfnUpIdeal.τ).loc Cert.FfnUpIdeal.main_v3) = v0 c
          ∧ r.2.mem ((c.tc : Thread Cert.FfnUpIdeal.nD Cert.FfnUpIdeal.τ).loc Cert.FfnUpIdeal.main_arg0) = m ((c.tc : Thread Cert.FfnUpIdeal.nD Cert.FfnUpIdeal.τ).loc Cert.FfnUpIdeal.main_arg0)
          ∧ r.2.mem ((c.tc : Thread Cert.FfnUpIdeal.nD Cert.FfnUpIdeal.τ).loc Cert.FfnUpIdeal.main_arg1) = m ((c.tc : Thread Cert.FfnUpIdeal.nD Cert.FfnUpIdeal.τ).loc Cert.FfnUpIdeal.main_arg1))
      ∧ θ_run (Cert.FfnUpRefIdeal.defs (F := Ideal)) (onTc (τ := Cert.FfnUpRefIdeal.τ) (Cert.FfnUpRefIdeal.main (F := Ideal))) ⟨m', fun _ => 0, g'⟩ (fun r => ∀ c : Dev Cert.FfnUpRefIdeal.nD,
          r.2.mem ((c.tc : Thread Cert.FfnUpRefIdeal.nD Cert.FfnUpRefIdeal.τ).loc Cert.FfnUpRefIdeal.main_v2) = v0 c
          ∧ r.2.mem ((c.tc : Thread Cert.FfnUpRefIdeal.nD Cert.FfnUpRefIdeal.τ).loc Cert.FfnUpRefIdeal.main_arg0) = m' ((c.tc : Thread Cert.FfnUpRefIdeal.nD Cert.FfnUpRefIdeal.τ).loc Cert.FfnUpRefIdeal.main_arg0)
          ∧ r.2.mem ((c.tc : Thread Cert.FfnUpRefIdeal.nD Cert.FfnUpRefIdeal.τ).loc Cert.FfnUpRefIdeal.main_arg1) = m' ((c.tc : Thread Cert.FfnUpRefIdeal.nD Cert.FfnUpRefIdeal.τ).loc Cert.FfnUpRefIdeal.main_arg1))

def preserves_OutProj_OutProjIdeal : Prop :=
  True

def algebraic_OutProjIdeal_OutProjRefIdeal [hOutProjIdeal : Cert.OutProjIdeal.Facts] [hOutProjRefIdeal : Cert.OutProjRefIdeal.Facts] : Prop :=
  ∀ (m : (ℓ : Loc Cert.OutProjIdeal.nD Cert.OutProjIdeal.τ Cert.OutProjIdeal.sig) → Buf (Elt Ideal) ℓ) (g : Dev Cert.OutProjIdeal.nD → PrngReg)
    (m' : (ℓ : Loc Cert.OutProjRefIdeal.nD Cert.OutProjRefIdeal.τ Cert.OutProjRefIdeal.sig) → Buf (Elt Ideal) ℓ) (g' : Dev Cert.OutProjRefIdeal.nD → PrngReg), Pre_OutProjIdeal m →
    (∀ c : Dev Cert.OutProjIdeal.nD,
      m' ((c.tc : Thread Cert.OutProjRefIdeal.nD Cert.OutProjRefIdeal.τ).loc Cert.OutProjRefIdeal.main_arg0) = m ((c.tc : Thread Cert.OutProjIdeal.nD Cert.OutProjIdeal.τ).loc Cert.OutProjIdeal.main_arg0)
      ∧ m' ((c.tc : Thread Cert.OutProjRefIdeal.nD Cert.OutProjRefIdeal.τ).loc Cert.OutProjRefIdeal.main_arg1) = m ((c.tc : Thread Cert.OutProjIdeal.nD Cert.OutProjIdeal.τ).loc Cert.OutProjIdeal.main_arg1)
      ∧ m' ((c.tc : Thread Cert.OutProjRefIdeal.nD Cert.OutProjRefIdeal.τ).loc Cert.OutProjRefIdeal.main_arg2) = m ((c.tc : Thread Cert.OutProjIdeal.nD Cert.OutProjIdeal.τ).loc Cert.OutProjIdeal.main_arg2)) →
    ∃ (v0 : (c : Dev Cert.OutProjIdeal.nD) → Buf (Elt Ideal) ((c.tc : Thread Cert.OutProjIdeal.nD Cert.OutProjIdeal.τ).loc Cert.OutProjIdeal.main_v4)),
      θ_run (Cert.OutProjIdeal.defs (F := Ideal)) (onTc (τ := Cert.OutProjIdeal.τ) (Cert.OutProjIdeal.main (F := Ideal))) ⟨m, fun _ => 0, g⟩ (fun r => ∀ c : Dev Cert.OutProjIdeal.nD,
          r.2.mem ((c.tc : Thread Cert.OutProjIdeal.nD Cert.OutProjIdeal.τ).loc Cert.OutProjIdeal.main_v4) = v0 c
          ∧ r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
          ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1)
          ∧ r.2.mem ((c.tc : Thread Cert.OutProjIdeal.nD Cert.OutProjIdeal.τ).loc Cert.OutProjIdeal.main_arg2) = m ((c.tc : Thread Cert.OutProjIdeal.nD Cert.OutProjIdeal.τ).loc Cert.OutProjIdeal.main_arg2))
      ∧ θ_run (Cert.OutProjRefIdeal.defs (F := Ideal)) (onTc (τ := Cert.OutProjRefIdeal.τ) (Cert.OutProjRefIdeal.main (F := Ideal))) ⟨m', fun _ => 0, g'⟩ (fun r => ∀ c : Dev Cert.OutProjRefIdeal.nD,
          r.2.mem ((c.tc : Thread Cert.OutProjRefIdeal.nD Cert.OutProjRefIdeal.τ).loc Cert.OutProjRefIdeal.main_v2) = v0 c
          ∧ r.2.mem ((c.tc : Thread Cert.OutProjRefIdeal.nD Cert.OutProjRefIdeal.τ).loc Cert.OutProjRefIdeal.main_arg0) = m' ((c.tc : Thread Cert.OutProjRefIdeal.nD Cert.OutProjRefIdeal.τ).loc Cert.OutProjRefIdeal.main_arg0)
          ∧ r.2.mem ((c.tc : Thread Cert.OutProjRefIdeal.nD Cert.OutProjRefIdeal.τ).loc Cert.OutProjRefIdeal.main_arg1) = m' ((c.tc : Thread Cert.OutProjRefIdeal.nD Cert.OutProjRefIdeal.τ).loc Cert.OutProjRefIdeal.main_arg1)
          ∧ r.2.mem ((c.tc : Thread Cert.OutProjRefIdeal.nD Cert.OutProjRefIdeal.τ).loc Cert.OutProjRefIdeal.main_arg2) = m' ((c.tc : Thread Cert.OutProjRefIdeal.nD Cert.OutProjRefIdeal.τ).loc Cert.OutProjRefIdeal.main_arg2))

def preserves_FfnDown_FfnDownIdeal : Prop :=
  True

def algebraic_FfnDownIdeal_FfnDownRefIdeal [hFfnDownIdeal : Cert.FfnDownIdeal.Facts] [hFfnDownRefIdeal : Cert.FfnDownRefIdeal.Facts] : Prop :=
  ∀ (m : (ℓ : Loc Cert.FfnDownIdeal.nD Cert.FfnDownIdeal.τ Cert.FfnDownIdeal.sig) → Buf (Elt Ideal) ℓ) (g : Dev Cert.FfnDownIdeal.nD → PrngReg)
    (m' : (ℓ : Loc Cert.FfnDownRefIdeal.nD Cert.FfnDownRefIdeal.τ Cert.FfnDownRefIdeal.sig) → Buf (Elt Ideal) ℓ) (g' : Dev Cert.FfnDownRefIdeal.nD → PrngReg), Pre_FfnDownIdeal m →
    (∀ c : Dev Cert.FfnDownIdeal.nD,
      m' ((c.tc : Thread Cert.FfnDownRefIdeal.nD Cert.FfnDownRefIdeal.τ).loc Cert.FfnDownRefIdeal.main_arg0) = m ((c.tc : Thread Cert.FfnDownIdeal.nD Cert.FfnDownIdeal.τ).loc Cert.FfnDownIdeal.main_arg0)
      ∧ m' ((c.tc : Thread Cert.FfnDownRefIdeal.nD Cert.FfnDownRefIdeal.τ).loc Cert.FfnDownRefIdeal.main_arg1) = m ((c.tc : Thread Cert.FfnDownIdeal.nD Cert.FfnDownIdeal.τ).loc Cert.FfnDownIdeal.main_arg1)
      ∧ m' ((c.tc : Thread Cert.FfnDownRefIdeal.nD Cert.FfnDownRefIdeal.τ).loc Cert.FfnDownRefIdeal.main_arg2) = m ((c.tc : Thread Cert.FfnDownIdeal.nD Cert.FfnDownIdeal.τ).loc Cert.FfnDownIdeal.main_arg2)) →
    ∃ (v0 : (c : Dev Cert.FfnDownIdeal.nD) → Buf (Elt Ideal) ((c.tc : Thread Cert.FfnDownIdeal.nD Cert.FfnDownIdeal.τ).loc Cert.FfnDownIdeal.main_v4)),
      θ_run (Cert.FfnDownIdeal.defs (F := Ideal)) (onTc (τ := Cert.FfnDownIdeal.τ) (Cert.FfnDownIdeal.main (F := Ideal))) ⟨m, fun _ => 0, g⟩ (fun r => ∀ c : Dev Cert.FfnDownIdeal.nD,
          r.2.mem ((c.tc : Thread Cert.FfnDownIdeal.nD Cert.FfnDownIdeal.τ).loc Cert.FfnDownIdeal.main_v4) = v0 c
          ∧ r.2.mem ((c.tc : Thread Cert.FfnDownIdeal.nD Cert.FfnDownIdeal.τ).loc Cert.FfnDownIdeal.main_arg0) = m ((c.tc : Thread Cert.FfnDownIdeal.nD Cert.FfnDownIdeal.τ).loc Cert.FfnDownIdeal.main_arg0)
          ∧ r.2.mem ((c.tc : Thread Cert.FfnDownIdeal.nD Cert.FfnDownIdeal.τ).loc Cert.FfnDownIdeal.main_arg1) = m ((c.tc : Thread Cert.FfnDownIdeal.nD Cert.FfnDownIdeal.τ).loc Cert.FfnDownIdeal.main_arg1)
          ∧ r.2.mem ((c.tc : Thread Cert.FfnDownIdeal.nD Cert.FfnDownIdeal.τ).loc Cert.FfnDownIdeal.main_arg2) = m ((c.tc : Thread Cert.FfnDownIdeal.nD Cert.FfnDownIdeal.τ).loc Cert.FfnDownIdeal.main_arg2))
      ∧ θ_run (Cert.FfnDownRefIdeal.defs (F := Ideal)) (onTc (τ := Cert.FfnDownRefIdeal.τ) (Cert.FfnDownRefIdeal.main (F := Ideal))) ⟨m', fun _ => 0, g'⟩ (fun r => ∀ c : Dev Cert.FfnDownRefIdeal.nD,
          r.2.mem ((c.tc : Thread Cert.FfnDownRefIdeal.nD Cert.FfnDownRefIdeal.τ).loc Cert.FfnDownRefIdeal.main_v2) = v0 c
          ∧ r.2.mem ((c.tc : Thread Cert.FfnDownRefIdeal.nD Cert.FfnDownRefIdeal.τ).loc Cert.FfnDownRefIdeal.main_arg0) = m' ((c.tc : Thread Cert.FfnDownRefIdeal.nD Cert.FfnDownRefIdeal.τ).loc Cert.FfnDownRefIdeal.main_arg0)
          ∧ r.2.mem ((c.tc : Thread Cert.FfnDownRefIdeal.nD Cert.FfnDownRefIdeal.τ).loc Cert.FfnDownRefIdeal.main_arg1) = m' ((c.tc : Thread Cert.FfnDownRefIdeal.nD Cert.FfnDownRefIdeal.τ).loc Cert.FfnDownRefIdeal.main_arg1)
          ∧ r.2.mem ((c.tc : Thread Cert.FfnDownRefIdeal.nD Cert.FfnDownRefIdeal.τ).loc Cert.FfnDownRefIdeal.main_arg2) = m' ((c.tc : Thread Cert.FfnDownRefIdeal.nD Cert.FfnDownRefIdeal.τ).loc Cert.FfnDownRefIdeal.main_arg2))

def preserves_UpdateOut_UpdateOutIdeal : Prop :=
  True

def algebraic_UpdateOutIdeal_UpdateOutRefIdeal [hUpdateOutIdeal : Cert.UpdateOutIdeal.Facts] [hUpdateOutRefIdeal : Cert.UpdateOutRefIdeal.Facts] : Prop :=
  ∀ (m : (ℓ : Loc Cert.UpdateOutIdeal.nD Cert.UpdateOutIdeal.τ Cert.UpdateOutIdeal.sig) → Buf (Elt Ideal) ℓ) (g : Dev Cert.UpdateOutIdeal.nD → PrngReg)
    (m' : (ℓ : Loc Cert.UpdateOutRefIdeal.nD Cert.UpdateOutRefIdeal.τ Cert.UpdateOutRefIdeal.sig) → Buf (Elt Ideal) ℓ) (g' : Dev Cert.UpdateOutRefIdeal.nD → PrngReg), Pre_UpdateOutIdeal m →
    (∀ c : Dev Cert.UpdateOutIdeal.nD,
      m' ((c.tc : Thread Cert.UpdateOutRefIdeal.nD Cert.UpdateOutRefIdeal.τ).loc Cert.UpdateOutRefIdeal.main_arg0) = m ((c.tc : Thread Cert.UpdateOutIdeal.nD Cert.UpdateOutIdeal.τ).loc Cert.UpdateOutIdeal.main_arg0)
      ∧ m' ((c.tc : Thread Cert.UpdateOutRefIdeal.nD Cert.UpdateOutRefIdeal.τ).loc Cert.UpdateOutRefIdeal.main_arg1) = m ((c.tc : Thread Cert.UpdateOutIdeal.nD Cert.UpdateOutIdeal.τ).loc Cert.UpdateOutIdeal.main_arg1)
      ∧ m' ((c.tc : Thread Cert.UpdateOutRefIdeal.nD Cert.UpdateOutRefIdeal.τ).loc Cert.UpdateOutRefIdeal.main_arg2) = m ((c.tc : Thread Cert.UpdateOutIdeal.nD Cert.UpdateOutIdeal.τ).loc Cert.UpdateOutIdeal.main_arg2)
      ∧ m' ((c.tc : Thread Cert.UpdateOutRefIdeal.nD Cert.UpdateOutRefIdeal.τ).loc Cert.UpdateOutRefIdeal.main_arg3) = m ((c.tc : Thread Cert.UpdateOutIdeal.nD Cert.UpdateOutIdeal.τ).loc Cert.UpdateOutIdeal.main_arg3)) →
    ∃ (v0 : (c : Dev Cert.UpdateOutIdeal.nD) → Buf (Elt Ideal) ((c.tc : Thread Cert.UpdateOutIdeal.nD Cert.UpdateOutIdeal.τ).loc Cert.UpdateOutIdeal.main_v3_0)) (v1 : (c : Dev Cert.UpdateOutIdeal.nD) → Buf (Elt Ideal) ((c.tc : Thread Cert.UpdateOutIdeal.nD Cert.UpdateOutIdeal.τ).loc Cert.UpdateOutIdeal.main_v3_1)) (v2 : (c : Dev Cert.UpdateOutIdeal.nD) → Buf (Elt Ideal) ((c.tc : Thread Cert.UpdateOutIdeal.nD Cert.UpdateOutIdeal.τ).loc Cert.UpdateOutIdeal.main_v3_2)) (v3 : (c : Dev Cert.UpdateOutIdeal.nD) → Buf (Elt Ideal) ((c.tc : Thread Cert.UpdateOutIdeal.nD Cert.UpdateOutIdeal.τ).loc Cert.UpdateOutIdeal.main_v3_3)),
      θ_run (Cert.UpdateOutIdeal.defs (F := Ideal)) (onTc (τ := Cert.UpdateOutIdeal.τ) (Cert.UpdateOutIdeal.main (F := Ideal))) ⟨m, fun _ => 0, g⟩ (fun r => ∀ c : Dev Cert.UpdateOutIdeal.nD,
          r.2.mem ((c.tc : Thread Cert.UpdateOutIdeal.nD Cert.UpdateOutIdeal.τ).loc Cert.UpdateOutIdeal.main_v3_0) = v0 c
          ∧ r.2.mem ((c.tc : Thread Cert.UpdateOutIdeal.nD Cert.UpdateOutIdeal.τ).loc Cert.UpdateOutIdeal.main_v3_1) = v1 c
          ∧ r.2.mem ((c.tc : Thread Cert.UpdateOutIdeal.nD Cert.UpdateOutIdeal.τ).loc Cert.UpdateOutIdeal.main_v3_2) = v2 c
          ∧ r.2.mem ((c.tc : Thread Cert.UpdateOutIdeal.nD Cert.UpdateOutIdeal.τ).loc Cert.UpdateOutIdeal.main_v3_3) = v3 c
          ∧ r.2.mem ((c.tc : Thread Cert.UpdateOutIdeal.nD Cert.UpdateOutIdeal.τ).loc Cert.UpdateOutIdeal.main_arg0) = m ((c.tc : Thread Cert.UpdateOutIdeal.nD Cert.UpdateOutIdeal.τ).loc Cert.UpdateOutIdeal.main_arg0)
          ∧ r.2.mem ((c.tc : Thread Cert.UpdateOutIdeal.nD Cert.UpdateOutIdeal.τ).loc Cert.UpdateOutIdeal.main_arg1) = m ((c.tc : Thread Cert.UpdateOutIdeal.nD Cert.UpdateOutIdeal.τ).loc Cert.UpdateOutIdeal.main_arg1)
          ∧ r.2.mem ((c.tc : Thread Cert.UpdateOutIdeal.nD Cert.UpdateOutIdeal.τ).loc Cert.UpdateOutIdeal.main_arg2) = m ((c.tc : Thread Cert.UpdateOutIdeal.nD Cert.UpdateOutIdeal.τ).loc Cert.UpdateOutIdeal.main_arg2)
          ∧ r.2.mem ((c.tc : Thread Cert.UpdateOutIdeal.nD Cert.UpdateOutIdeal.τ).loc Cert.UpdateOutIdeal.main_arg3) = m ((c.tc : Thread Cert.UpdateOutIdeal.nD Cert.UpdateOutIdeal.τ).loc Cert.UpdateOutIdeal.main_arg3))
      ∧ θ_run (Cert.UpdateOutRefIdeal.defs (F := Ideal)) (onTc (τ := Cert.UpdateOutRefIdeal.τ) (Cert.UpdateOutRefIdeal.main (F := Ideal))) ⟨m', fun _ => 0, g'⟩ (fun r => ∀ c : Dev Cert.UpdateOutRefIdeal.nD,
          r.2.mem ((c.tc : Thread Cert.UpdateOutRefIdeal.nD Cert.UpdateOutRefIdeal.τ).loc Cert.UpdateOutRefIdeal.main_v27) = v0 c
          ∧ r.2.mem ((c.tc : Thread Cert.UpdateOutRefIdeal.nD Cert.UpdateOutRefIdeal.τ).loc Cert.UpdateOutRefIdeal.main_v28) = v1 c
          ∧ r.2.mem ((c.tc : Thread Cert.UpdateOutRefIdeal.nD Cert.UpdateOutRefIdeal.τ).loc Cert.UpdateOutRefIdeal.main_v29) = v2 c
          ∧ r.2.mem ((c.tc : Thread Cert.UpdateOutRefIdeal.nD Cert.UpdateOutRefIdeal.τ).loc Cert.UpdateOutRefIdeal.main_v30) = v3 c
          ∧ r.2.mem ((c.tc : Thread Cert.UpdateOutRefIdeal.nD Cert.UpdateOutRefIdeal.τ).loc Cert.UpdateOutRefIdeal.main_arg0) = m' ((c.tc : Thread Cert.UpdateOutRefIdeal.nD Cert.UpdateOutRefIdeal.τ).loc Cert.UpdateOutRefIdeal.main_arg0)
          ∧ r.2.mem ((c.tc : Thread Cert.UpdateOutRefIdeal.nD Cert.UpdateOutRefIdeal.τ).loc Cert.UpdateOutRefIdeal.main_arg1) = m' ((c.tc : Thread Cert.UpdateOutRefIdeal.nD Cert.UpdateOutRefIdeal.τ).loc Cert.UpdateOutRefIdeal.main_arg1)
          ∧ r.2.mem ((c.tc : Thread Cert.UpdateOutRefIdeal.nD Cert.UpdateOutRefIdeal.τ).loc Cert.UpdateOutRefIdeal.main_arg2) = m' ((c.tc : Thread Cert.UpdateOutRefIdeal.nD Cert.UpdateOutRefIdeal.τ).loc Cert.UpdateOutRefIdeal.main_arg2)
          ∧ r.2.mem ((c.tc : Thread Cert.UpdateOutRefIdeal.nD Cert.UpdateOutRefIdeal.τ).loc Cert.UpdateOutRefIdeal.main_arg3) = m' ((c.tc : Thread Cert.UpdateOutRefIdeal.nD Cert.UpdateOutRefIdeal.τ).loc Cert.UpdateOutRefIdeal.main_arg3))

def preserves_UpdateUp_UpdateUpIdeal : Prop :=
  True

def algebraic_UpdateUpIdeal_UpdateUpRefIdeal [hUpdateUpIdeal : Cert.UpdateUpIdeal.Facts] [hUpdateUpRefIdeal : Cert.UpdateUpRefIdeal.Facts] : Prop :=
  ∀ (m : (ℓ : Loc Cert.UpdateUpIdeal.nD Cert.UpdateUpIdeal.τ Cert.UpdateUpIdeal.sig) → Buf (Elt Ideal) ℓ) (g : Dev Cert.UpdateUpIdeal.nD → PrngReg)
    (m' : (ℓ : Loc Cert.UpdateUpRefIdeal.nD Cert.UpdateUpRefIdeal.τ Cert.UpdateUpRefIdeal.sig) → Buf (Elt Ideal) ℓ) (g' : Dev Cert.UpdateUpRefIdeal.nD → PrngReg), Pre_UpdateUpIdeal m →
    (∀ c : Dev Cert.UpdateUpIdeal.nD,
      m' ((c.tc : Thread Cert.UpdateUpRefIdeal.nD Cert.UpdateUpRefIdeal.τ).loc Cert.UpdateUpRefIdeal.main_arg0) = m ((c.tc : Thread Cert.UpdateUpIdeal.nD Cert.UpdateUpIdeal.τ).loc Cert.UpdateUpIdeal.main_arg0)
      ∧ m' ((c.tc : Thread Cert.UpdateUpRefIdeal.nD Cert.UpdateUpRefIdeal.τ).loc Cert.UpdateUpRefIdeal.main_arg1) = m ((c.tc : Thread Cert.UpdateUpIdeal.nD Cert.UpdateUpIdeal.τ).loc Cert.UpdateUpIdeal.main_arg1)
      ∧ m' ((c.tc : Thread Cert.UpdateUpRefIdeal.nD Cert.UpdateUpRefIdeal.τ).loc Cert.UpdateUpRefIdeal.main_arg2) = m ((c.tc : Thread Cert.UpdateUpIdeal.nD Cert.UpdateUpIdeal.τ).loc Cert.UpdateUpIdeal.main_arg2)
      ∧ m' ((c.tc : Thread Cert.UpdateUpRefIdeal.nD Cert.UpdateUpRefIdeal.τ).loc Cert.UpdateUpRefIdeal.main_arg3) = m ((c.tc : Thread Cert.UpdateUpIdeal.nD Cert.UpdateUpIdeal.τ).loc Cert.UpdateUpIdeal.main_arg3)) →
    ∃ (v0 : (c : Dev Cert.UpdateUpIdeal.nD) → Buf (Elt Ideal) ((c.tc : Thread Cert.UpdateUpIdeal.nD Cert.UpdateUpIdeal.τ).loc Cert.UpdateUpIdeal.main_v3_0)) (v1 : (c : Dev Cert.UpdateUpIdeal.nD) → Buf (Elt Ideal) ((c.tc : Thread Cert.UpdateUpIdeal.nD Cert.UpdateUpIdeal.τ).loc Cert.UpdateUpIdeal.main_v3_1)) (v2 : (c : Dev Cert.UpdateUpIdeal.nD) → Buf (Elt Ideal) ((c.tc : Thread Cert.UpdateUpIdeal.nD Cert.UpdateUpIdeal.τ).loc Cert.UpdateUpIdeal.main_v3_2)) (v3 : (c : Dev Cert.UpdateUpIdeal.nD) → Buf (Elt Ideal) ((c.tc : Thread Cert.UpdateUpIdeal.nD Cert.UpdateUpIdeal.τ).loc Cert.UpdateUpIdeal.main_v3_3)),
      θ_run (Cert.UpdateUpIdeal.defs (F := Ideal)) (onTc (τ := Cert.UpdateUpIdeal.τ) (Cert.UpdateUpIdeal.main (F := Ideal))) ⟨m, fun _ => 0, g⟩ (fun r => ∀ c : Dev Cert.UpdateUpIdeal.nD,
          r.2.mem ((c.tc : Thread Cert.UpdateUpIdeal.nD Cert.UpdateUpIdeal.τ).loc Cert.UpdateUpIdeal.main_v3_0) = v0 c
          ∧ r.2.mem ((c.tc : Thread Cert.UpdateUpIdeal.nD Cert.UpdateUpIdeal.τ).loc Cert.UpdateUpIdeal.main_v3_1) = v1 c
          ∧ r.2.mem ((c.tc : Thread Cert.UpdateUpIdeal.nD Cert.UpdateUpIdeal.τ).loc Cert.UpdateUpIdeal.main_v3_2) = v2 c
          ∧ r.2.mem ((c.tc : Thread Cert.UpdateUpIdeal.nD Cert.UpdateUpIdeal.τ).loc Cert.UpdateUpIdeal.main_v3_3) = v3 c
          ∧ r.2.mem ((c.tc : Thread Cert.UpdateUpIdeal.nD Cert.UpdateUpIdeal.τ).loc Cert.UpdateUpIdeal.main_arg0) = m ((c.tc : Thread Cert.UpdateUpIdeal.nD Cert.UpdateUpIdeal.τ).loc Cert.UpdateUpIdeal.main_arg0)
          ∧ r.2.mem ((c.tc : Thread Cert.UpdateUpIdeal.nD Cert.UpdateUpIdeal.τ).loc Cert.UpdateUpIdeal.main_arg1) = m ((c.tc : Thread Cert.UpdateUpIdeal.nD Cert.UpdateUpIdeal.τ).loc Cert.UpdateUpIdeal.main_arg1)
          ∧ r.2.mem ((c.tc : Thread Cert.UpdateUpIdeal.nD Cert.UpdateUpIdeal.τ).loc Cert.UpdateUpIdeal.main_arg2) = m ((c.tc : Thread Cert.UpdateUpIdeal.nD Cert.UpdateUpIdeal.τ).loc Cert.UpdateUpIdeal.main_arg2)
          ∧ r.2.mem ((c.tc : Thread Cert.UpdateUpIdeal.nD Cert.UpdateUpIdeal.τ).loc Cert.UpdateUpIdeal.main_arg3) = m ((c.tc : Thread Cert.UpdateUpIdeal.nD Cert.UpdateUpIdeal.τ).loc Cert.UpdateUpIdeal.main_arg3))
      ∧ θ_run (Cert.UpdateUpRefIdeal.defs (F := Ideal)) (onTc (τ := Cert.UpdateUpRefIdeal.τ) (Cert.UpdateUpRefIdeal.main (F := Ideal))) ⟨m', fun _ => 0, g'⟩ (fun r => ∀ c : Dev Cert.UpdateUpRefIdeal.nD,
          r.2.mem ((c.tc : Thread Cert.UpdateUpRefIdeal.nD Cert.UpdateUpRefIdeal.τ).loc Cert.UpdateUpRefIdeal.main_v27) = v0 c
          ∧ r.2.mem ((c.tc : Thread Cert.UpdateUpRefIdeal.nD Cert.UpdateUpRefIdeal.τ).loc Cert.UpdateUpRefIdeal.main_v28) = v1 c
          ∧ r.2.mem ((c.tc : Thread Cert.UpdateUpRefIdeal.nD Cert.UpdateUpRefIdeal.τ).loc Cert.UpdateUpRefIdeal.main_v29) = v2 c
          ∧ r.2.mem ((c.tc : Thread Cert.UpdateUpRefIdeal.nD Cert.UpdateUpRefIdeal.τ).loc Cert.UpdateUpRefIdeal.main_v30) = v3 c
          ∧ r.2.mem ((c.tc : Thread Cert.UpdateUpRefIdeal.nD Cert.UpdateUpRefIdeal.τ).loc Cert.UpdateUpRefIdeal.main_arg0) = m' ((c.tc : Thread Cert.UpdateUpRefIdeal.nD Cert.UpdateUpRefIdeal.τ).loc Cert.UpdateUpRefIdeal.main_arg0)
          ∧ r.2.mem ((c.tc : Thread Cert.UpdateUpRefIdeal.nD Cert.UpdateUpRefIdeal.τ).loc Cert.UpdateUpRefIdeal.main_arg1) = m' ((c.tc : Thread Cert.UpdateUpRefIdeal.nD Cert.UpdateUpRefIdeal.τ).loc Cert.UpdateUpRefIdeal.main_arg1)
          ∧ r.2.mem ((c.tc : Thread Cert.UpdateUpRefIdeal.nD Cert.UpdateUpRefIdeal.τ).loc Cert.UpdateUpRefIdeal.main_arg2) = m' ((c.tc : Thread Cert.UpdateUpRefIdeal.nD Cert.UpdateUpRefIdeal.τ).loc Cert.UpdateUpRefIdeal.main_arg2)
          ∧ r.2.mem ((c.tc : Thread Cert.UpdateUpRefIdeal.nD Cert.UpdateUpRefIdeal.τ).loc Cert.UpdateUpRefIdeal.main_arg3) = m' ((c.tc : Thread Cert.UpdateUpRefIdeal.nD Cert.UpdateUpRefIdeal.τ).loc Cert.UpdateUpRefIdeal.main_arg3))

def preserves_UpdateDown_UpdateDownIdeal : Prop :=
  True

def algebraic_UpdateDownIdeal_UpdateDownRefIdeal [hUpdateDownIdeal : Cert.UpdateDownIdeal.Facts] [hUpdateDownRefIdeal : Cert.UpdateDownRefIdeal.Facts] : Prop :=
  ∀ (m : (ℓ : Loc Cert.UpdateDownIdeal.nD Cert.UpdateDownIdeal.τ Cert.UpdateDownIdeal.sig) → Buf (Elt Ideal) ℓ) (g : Dev Cert.UpdateDownIdeal.nD → PrngReg)
    (m' : (ℓ : Loc Cert.UpdateDownRefIdeal.nD Cert.UpdateDownRefIdeal.τ Cert.UpdateDownRefIdeal.sig) → Buf (Elt Ideal) ℓ) (g' : Dev Cert.UpdateDownRefIdeal.nD → PrngReg), Pre_UpdateDownIdeal m →
    (∀ c : Dev Cert.UpdateDownIdeal.nD,
      m' ((c.tc : Thread Cert.UpdateDownRefIdeal.nD Cert.UpdateDownRefIdeal.τ).loc Cert.UpdateDownRefIdeal.main_arg0) = m ((c.tc : Thread Cert.UpdateDownIdeal.nD Cert.UpdateDownIdeal.τ).loc Cert.UpdateDownIdeal.main_arg0)
      ∧ m' ((c.tc : Thread Cert.UpdateDownRefIdeal.nD Cert.UpdateDownRefIdeal.τ).loc Cert.UpdateDownRefIdeal.main_arg1) = m ((c.tc : Thread Cert.UpdateDownIdeal.nD Cert.UpdateDownIdeal.τ).loc Cert.UpdateDownIdeal.main_arg1)
      ∧ m' ((c.tc : Thread Cert.UpdateDownRefIdeal.nD Cert.UpdateDownRefIdeal.τ).loc Cert.UpdateDownRefIdeal.main_arg2) = m ((c.tc : Thread Cert.UpdateDownIdeal.nD Cert.UpdateDownIdeal.τ).loc Cert.UpdateDownIdeal.main_arg2)
      ∧ m' ((c.tc : Thread Cert.UpdateDownRefIdeal.nD Cert.UpdateDownRefIdeal.τ).loc Cert.UpdateDownRefIdeal.main_arg3) = m ((c.tc : Thread Cert.UpdateDownIdeal.nD Cert.UpdateDownIdeal.τ).loc Cert.UpdateDownIdeal.main_arg3)) →
    ∃ (v0 : (c : Dev Cert.UpdateDownIdeal.nD) → Buf (Elt Ideal) ((c.tc : Thread Cert.UpdateDownIdeal.nD Cert.UpdateDownIdeal.τ).loc Cert.UpdateDownIdeal.main_v3_0)) (v1 : (c : Dev Cert.UpdateDownIdeal.nD) → Buf (Elt Ideal) ((c.tc : Thread Cert.UpdateDownIdeal.nD Cert.UpdateDownIdeal.τ).loc Cert.UpdateDownIdeal.main_v3_1)) (v2 : (c : Dev Cert.UpdateDownIdeal.nD) → Buf (Elt Ideal) ((c.tc : Thread Cert.UpdateDownIdeal.nD Cert.UpdateDownIdeal.τ).loc Cert.UpdateDownIdeal.main_v3_2)) (v3 : (c : Dev Cert.UpdateDownIdeal.nD) → Buf (Elt Ideal) ((c.tc : Thread Cert.UpdateDownIdeal.nD Cert.UpdateDownIdeal.τ).loc Cert.UpdateDownIdeal.main_v3_3)),
      θ_run (Cert.UpdateDownIdeal.defs (F := Ideal)) (onTc (τ := Cert.UpdateDownIdeal.τ) (Cert.UpdateDownIdeal.main (F := Ideal))) ⟨m, fun _ => 0, g⟩ (fun r => ∀ c : Dev Cert.UpdateDownIdeal.nD,
          r.2.mem ((c.tc : Thread Cert.UpdateDownIdeal.nD Cert.UpdateDownIdeal.τ).loc Cert.UpdateDownIdeal.main_v3_0) = v0 c
          ∧ r.2.mem ((c.tc : Thread Cert.UpdateDownIdeal.nD Cert.UpdateDownIdeal.τ).loc Cert.UpdateDownIdeal.main_v3_1) = v1 c
          ∧ r.2.mem ((c.tc : Thread Cert.UpdateDownIdeal.nD Cert.UpdateDownIdeal.τ).loc Cert.UpdateDownIdeal.main_v3_2) = v2 c
          ∧ r.2.mem ((c.tc : Thread Cert.UpdateDownIdeal.nD Cert.UpdateDownIdeal.τ).loc Cert.UpdateDownIdeal.main_v3_3) = v3 c
          ∧ r.2.mem ((c.tc : Thread Cert.UpdateDownIdeal.nD Cert.UpdateDownIdeal.τ).loc Cert.UpdateDownIdeal.main_arg0) = m ((c.tc : Thread Cert.UpdateDownIdeal.nD Cert.UpdateDownIdeal.τ).loc Cert.UpdateDownIdeal.main_arg0)
          ∧ r.2.mem ((c.tc : Thread Cert.UpdateDownIdeal.nD Cert.UpdateDownIdeal.τ).loc Cert.UpdateDownIdeal.main_arg1) = m ((c.tc : Thread Cert.UpdateDownIdeal.nD Cert.UpdateDownIdeal.τ).loc Cert.UpdateDownIdeal.main_arg1)
          ∧ r.2.mem ((c.tc : Thread Cert.UpdateDownIdeal.nD Cert.UpdateDownIdeal.τ).loc Cert.UpdateDownIdeal.main_arg2) = m ((c.tc : Thread Cert.UpdateDownIdeal.nD Cert.UpdateDownIdeal.τ).loc Cert.UpdateDownIdeal.main_arg2)
          ∧ r.2.mem ((c.tc : Thread Cert.UpdateDownIdeal.nD Cert.UpdateDownIdeal.τ).loc Cert.UpdateDownIdeal.main_arg3) = m ((c.tc : Thread Cert.UpdateDownIdeal.nD Cert.UpdateDownIdeal.τ).loc Cert.UpdateDownIdeal.main_arg3))
      ∧ θ_run (Cert.UpdateDownRefIdeal.defs (F := Ideal)) (onTc (τ := Cert.UpdateDownRefIdeal.τ) (Cert.UpdateDownRefIdeal.main (F := Ideal))) ⟨m', fun _ => 0, g'⟩ (fun r => ∀ c : Dev Cert.UpdateDownRefIdeal.nD,
          r.2.mem ((c.tc : Thread Cert.UpdateDownRefIdeal.nD Cert.UpdateDownRefIdeal.τ).loc Cert.UpdateDownRefIdeal.main_v27) = v0 c
          ∧ r.2.mem ((c.tc : Thread Cert.UpdateDownRefIdeal.nD Cert.UpdateDownRefIdeal.τ).loc Cert.UpdateDownRefIdeal.main_v28) = v1 c
          ∧ r.2.mem ((c.tc : Thread Cert.UpdateDownRefIdeal.nD Cert.UpdateDownRefIdeal.τ).loc Cert.UpdateDownRefIdeal.main_v29) = v2 c
          ∧ r.2.mem ((c.tc : Thread Cert.UpdateDownRefIdeal.nD Cert.UpdateDownRefIdeal.τ).loc Cert.UpdateDownRefIdeal.main_v30) = v3 c
          ∧ r.2.mem ((c.tc : Thread Cert.UpdateDownRefIdeal.nD Cert.UpdateDownRefIdeal.τ).loc Cert.UpdateDownRefIdeal.main_arg0) = m' ((c.tc : Thread Cert.UpdateDownRefIdeal.nD Cert.UpdateDownRefIdeal.τ).loc Cert.UpdateDownRefIdeal.main_arg0)
          ∧ r.2.mem ((c.tc : Thread Cert.UpdateDownRefIdeal.nD Cert.UpdateDownRefIdeal.τ).loc Cert.UpdateDownRefIdeal.main_arg1) = m' ((c.tc : Thread Cert.UpdateDownRefIdeal.nD Cert.UpdateDownRefIdeal.τ).loc Cert.UpdateDownRefIdeal.main_arg1)
          ∧ r.2.mem ((c.tc : Thread Cert.UpdateDownRefIdeal.nD Cert.UpdateDownRefIdeal.τ).loc Cert.UpdateDownRefIdeal.main_arg2) = m' ((c.tc : Thread Cert.UpdateDownRefIdeal.nD Cert.UpdateDownRefIdeal.τ).loc Cert.UpdateDownRefIdeal.main_arg2)
          ∧ r.2.mem ((c.tc : Thread Cert.UpdateDownRefIdeal.nD Cert.UpdateDownRefIdeal.τ).loc Cert.UpdateDownRefIdeal.main_arg3) = m' ((c.tc : Thread Cert.UpdateDownRefIdeal.nD Cert.UpdateDownRefIdeal.τ).loc Cert.UpdateDownRefIdeal.main_arg3))

def Claim : Prop :=
  ∃ (hKernel : Cert.Kernel.Facts) (hKernelIdeal : Cert.KernelIdeal.Facts) (hReferenceIdeal : Cert.ReferenceIdeal.Facts) (hDwIn : Cert.DwIn.Facts) (hDwInIdeal : Cert.DwInIdeal.Facts) (hDwInRefIdeal : Cert.DwInRefIdeal.Facts) (hDwUp : Cert.DwUp.Facts) (hDwUpIdeal : Cert.DwUpIdeal.Facts) (hDwUpRefIdeal : Cert.DwUpRefIdeal.Facts) (hDwDown : Cert.DwDown.Facts) (hDwDownIdeal : Cert.DwDownIdeal.Facts) (hDwDownRefIdeal : Cert.DwDownRefIdeal.Facts) (hDwOut : Cert.DwOut.Facts) (hDwOutIdeal : Cert.DwOutIdeal.Facts) (hDwOutRefIdeal : Cert.DwOutRefIdeal.Facts) (hDAct : Cert.DAct.Facts) (hDActIdeal : Cert.DActIdeal.Facts) (hDActRefIdeal : Cert.DActRefIdeal.Facts) (hDMix : Cert.DMix.Facts) (hDMixIdeal : Cert.DMixIdeal.Facts) (hDMixRefIdeal : Cert.DMixRefIdeal.Facts) (hInProj : Cert.InProj.Facts) (hInProjIdeal : Cert.InProjIdeal.Facts) (hInProjRefIdeal : Cert.InProjRefIdeal.Facts) (hFfnUp : Cert.FfnUp.Facts) (hFfnUpIdeal : Cert.FfnUpIdeal.Facts) (hFfnUpRefIdeal : Cert.FfnUpRefIdeal.Facts) (hOutProj : Cert.OutProj.Facts) (hOutProjIdeal : Cert.OutProjIdeal.Facts) (hOutProjRefIdeal : Cert.OutProjRefIdeal.Facts) (hFfnDown : Cert.FfnDown.Facts) (hFfnDownIdeal : Cert.FfnDownIdeal.Facts) (hFfnDownRefIdeal : Cert.FfnDownRefIdeal.Facts) (hUpdateOut : Cert.UpdateOut.Facts) (hUpdateOutIdeal : Cert.UpdateOutIdeal.Facts) (hUpdateOutRefIdeal : Cert.UpdateOutRefIdeal.Facts) (hUpdateUp : Cert.UpdateUp.Facts) (hUpdateUpIdeal : Cert.UpdateUpIdeal.Facts) (hUpdateUpRefIdeal : Cert.UpdateUpRefIdeal.Facts) (hUpdateDown : Cert.UpdateDown.Facts) (hUpdateDownIdeal : Cert.UpdateDownIdeal.Facts) (hUpdateDownRefIdeal : Cert.UpdateDownRefIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_DwIn (hDwIn := hDwIn)
    ∧ quiescent_DwInIdeal (hDwInIdeal := hDwInIdeal)
    ∧ quiescent_DwInRefIdeal (hDwInRefIdeal := hDwInRefIdeal)
    ∧ quiescent_DwUp (hDwUp := hDwUp)
    ∧ quiescent_DwUpIdeal (hDwUpIdeal := hDwUpIdeal)
    ∧ quiescent_DwUpRefIdeal (hDwUpRefIdeal := hDwUpRefIdeal)
    ∧ quiescent_DwDown (hDwDown := hDwDown)
    ∧ quiescent_DwDownIdeal (hDwDownIdeal := hDwDownIdeal)
    ∧ quiescent_DwDownRefIdeal (hDwDownRefIdeal := hDwDownRefIdeal)
    ∧ quiescent_DwOut (hDwOut := hDwOut)
    ∧ quiescent_DwOutIdeal (hDwOutIdeal := hDwOutIdeal)
    ∧ quiescent_DwOutRefIdeal (hDwOutRefIdeal := hDwOutRefIdeal)
    ∧ quiescent_DAct (hDAct := hDAct)
    ∧ quiescent_DActIdeal (hDActIdeal := hDActIdeal)
    ∧ quiescent_DActRefIdeal (hDActRefIdeal := hDActRefIdeal)
    ∧ quiescent_DMix (hDMix := hDMix)
    ∧ quiescent_DMixIdeal (hDMixIdeal := hDMixIdeal)
    ∧ quiescent_DMixRefIdeal (hDMixRefIdeal := hDMixRefIdeal)
    ∧ quiescent_InProj (hInProj := hInProj)
    ∧ quiescent_InProjIdeal (hInProjIdeal := hInProjIdeal)
    ∧ quiescent_InProjRefIdeal (hInProjRefIdeal := hInProjRefIdeal)
    ∧ quiescent_FfnUp (hFfnUp := hFfnUp)
    ∧ quiescent_FfnUpIdeal (hFfnUpIdeal := hFfnUpIdeal)
    ∧ quiescent_FfnUpRefIdeal (hFfnUpRefIdeal := hFfnUpRefIdeal)
    ∧ quiescent_OutProj (hOutProj := hOutProj)
    ∧ quiescent_OutProjIdeal (hOutProjIdeal := hOutProjIdeal)
    ∧ quiescent_OutProjRefIdeal (hOutProjRefIdeal := hOutProjRefIdeal)
    ∧ quiescent_FfnDown (hFfnDown := hFfnDown)
    ∧ quiescent_FfnDownIdeal (hFfnDownIdeal := hFfnDownIdeal)
    ∧ quiescent_FfnDownRefIdeal (hFfnDownRefIdeal := hFfnDownRefIdeal)
    ∧ quiescent_UpdateOut (hUpdateOut := hUpdateOut)
    ∧ quiescent_UpdateOutIdeal (hUpdateOutIdeal := hUpdateOutIdeal)
    ∧ quiescent_UpdateOutRefIdeal (hUpdateOutRefIdeal := hUpdateOutRefIdeal)
    ∧ quiescent_UpdateUp (hUpdateUp := hUpdateUp)
    ∧ quiescent_UpdateUpIdeal (hUpdateUpIdeal := hUpdateUpIdeal)
    ∧ quiescent_UpdateUpRefIdeal (hUpdateUpRefIdeal := hUpdateUpRefIdeal)
    ∧ quiescent_UpdateDown (hUpdateDown := hUpdateDown)
    ∧ quiescent_UpdateDownIdeal (hUpdateDownIdeal := hUpdateDownIdeal)
    ∧ quiescent_UpdateDownRefIdeal (hUpdateDownRefIdeal := hUpdateDownRefIdeal)
    ∧ preserves_Kernel_KernelIdeal
    ∧ algebraic_KernelIdeal_ReferenceIdeal_pre_finite (hKernelIdeal := hKernelIdeal) (hReferenceIdeal := hReferenceIdeal) (hPre_finite := hPre_finite)
    ∧ preserves_DwIn_DwInIdeal
    ∧ algebraic_DwInIdeal_DwInRefIdeal (hDwInIdeal := hDwInIdeal) (hDwInRefIdeal := hDwInRefIdeal)
    ∧ preserves_DwUp_DwUpIdeal
    ∧ algebraic_DwUpIdeal_DwUpRefIdeal (hDwUpIdeal := hDwUpIdeal) (hDwUpRefIdeal := hDwUpRefIdeal)
    ∧ preserves_DwDown_DwDownIdeal
    ∧ algebraic_DwDownIdeal_DwDownRefIdeal (hDwDownIdeal := hDwDownIdeal) (hDwDownRefIdeal := hDwDownRefIdeal)
    ∧ preserves_DwOut_DwOutIdeal
    ∧ algebraic_DwOutIdeal_DwOutRefIdeal (hDwOutIdeal := hDwOutIdeal) (hDwOutRefIdeal := hDwOutRefIdeal)
    ∧ preserves_DAct_DActIdeal
    ∧ algebraic_DActIdeal_DActRefIdeal (hDActIdeal := hDActIdeal) (hDActRefIdeal := hDActRefIdeal)
    ∧ preserves_DMix_DMixIdeal
    ∧ algebraic_DMixIdeal_DMixRefIdeal (hDMixIdeal := hDMixIdeal) (hDMixRefIdeal := hDMixRefIdeal)
    ∧ preserves_InProj_InProjIdeal
    ∧ algebraic_InProjIdeal_InProjRefIdeal (hInProjIdeal := hInProjIdeal) (hInProjRefIdeal := hInProjRefIdeal)
    ∧ preserves_FfnUp_FfnUpIdeal
    ∧ algebraic_FfnUpIdeal_FfnUpRefIdeal (hFfnUpIdeal := hFfnUpIdeal) (hFfnUpRefIdeal := hFfnUpRefIdeal)
    ∧ preserves_OutProj_OutProjIdeal
    ∧ algebraic_OutProjIdeal_OutProjRefIdeal (hOutProjIdeal := hOutProjIdeal) (hOutProjRefIdeal := hOutProjRefIdeal)
    ∧ preserves_FfnDown_FfnDownIdeal
    ∧ algebraic_FfnDownIdeal_FfnDownRefIdeal (hFfnDownIdeal := hFfnDownIdeal) (hFfnDownRefIdeal := hFfnDownRefIdeal)
    ∧ preserves_UpdateOut_UpdateOutIdeal
    ∧ algebraic_UpdateOutIdeal_UpdateOutRefIdeal (hUpdateOutIdeal := hUpdateOutIdeal) (hUpdateOutRefIdeal := hUpdateOutRefIdeal)
    ∧ preserves_UpdateUp_UpdateUpIdeal
    ∧ algebraic_UpdateUpIdeal_UpdateUpRefIdeal (hUpdateUpIdeal := hUpdateUpIdeal) (hUpdateUpRefIdeal := hUpdateUpRefIdeal)
    ∧ preserves_UpdateDown_UpdateDownIdeal
    ∧ algebraic_UpdateDownIdeal_UpdateDownRefIdeal (hUpdateDownIdeal := hUpdateDownIdeal) (hUpdateDownRefIdeal := hUpdateDownRefIdeal)
-- ==== Pre_finite.lean ====
abbrev S1x4096x16x64 : Shape := ⟨4, ![1, 4096, 16, 64]⟩
abbrev S1x4096x16 : Shape := ⟨3, ![1, 4096, 16]⟩
abbrev S_ : Shape := ⟨0, ![]⟩

class Facts : Prop where
  bcast_S_S1x4096x16x64 : S_.BroadcastsInDim S1x4096x16x64 (![] : Fin 0 → Fin S1x4096x16x64.rank)
  reducesTo_S1x4096x16x64_S_d0_1_2_3 : S1x4096x16x64.ReducesTo [0, 1, 2, 3] S_
  h_S_ : 0 < S_.numel
  bcast_S_S1x4096x16 : S_.BroadcastsInDim S1x4096x16 (![] : Fin 0 → Fin S1x4096x16.rank)
  reducesTo_S1x4096x16_S_d0_1_2 : S1x4096x16.ReducesTo [0, 1, 2] S_

variable [Facts]

def fn_part2 {F : FTy → Type} [FloatOps F] (main_arg7 : FVec F S1x4096x16x64 .f32) (main_v33 : IVec S_ 1) : IVec S_ 1 :=
  let main_v34 : FVec F S1x4096x16x64 .f32 := Host.absf main_arg7
  let main_cst_12 : FVec F S_ .f32 := constant S_ .f32 0x7F800000#32
  let main_v35 : FVec F S1x4096x16x64 .f32 := broadcastInDim S1x4096x16x64 ![] bcast_S_S1x4096x16x64 main_cst_12
  let main_v36 : IVec S1x4096x16x64 1 := cmpf .olt main_v34 main_v35
  let main_c_13 : IVec S_ 1 := constantI S_ 1 1#1
  let main_v37 : IVec S_ 1 := (fun x v => Host.reduce IntOp.andi x v reducesTo_S1x4096x16x64_S_d0_1_2_3 h_S_) main_v36 main_c_13
  let main_v38 : IVec S_ 1 := andi main_v33 main_v37
  main_v38

def fn_part1 {F : FTy → Type} [FloatOps F] (main_arg4 : FVec F S1x4096x16x64 .f32) (main_arg5 : FVec F S1x4096x16 .f32) (main_arg6 : FVec F S1x4096x16 .f32) (main_arg7 : FVec F S1x4096x16x64 .f32) (main_v13 : IVec S_ 1) (main_v16 : IVec S1x4096x16x64 1) : IVec S_ 1 :=
  let main_c_5 : IVec S_ 1 := constantI S_ 1 1#1
  let main_v17 : IVec S_ 1 := (fun x v => Host.reduce IntOp.andi x v reducesTo_S1x4096x16x64_S_d0_1_2_3 h_S_) main_v16 main_c_5
  let main_v18 : IVec S_ 1 := andi main_v13 main_v17
  let main_v19 : FVec F S1x4096x16x64 .f32 := Host.absf main_arg4
  let main_cst_6 : FVec F S_ .f32 := constant S_ .f32 0x7F800000#32
  let main_v20 : FVec F S1x4096x16x64 .f32 := broadcastInDim S1x4096x16x64 ![] bcast_S_S1x4096x16x64 main_cst_6
  let main_v21 : IVec S1x4096x16x64 1 := cmpf .olt main_v19 main_v20
  let main_c_7 : IVec S_ 1 := constantI S_ 1 1#1
  let main_v22 : IVec S_ 1 := (fun x v => Host.reduce IntOp.andi x v reducesTo_S1x4096x16x64_S_d0_1_2_3 h_S_) main_v21 main_c_7
  let main_v23 : IVec S_ 1 := andi main_v18 main_v22
  let main_v24 : FVec F S1x4096x16 .f32 := Host.absf main_arg5
  let main_cst_8 : FVec F S_ .f32 := constant S_ .f32 0x7F800000#32
  let main_v25 : FVec F S1x4096x16 .f32 := broadcastInDim S1x4096x16 ![] bcast_S_S1x4096x16 main_cst_8
  let main_v26 : IVec S1x4096x16 1 := cmpf .olt main_v24 main_v25
  let main_c_9 : IVec S_ 1 := constantI S_ 1 1#1
  let main_v27 : IVec S_ 1 := (fun x v => Host.reduce IntOp.andi x v reducesTo_S1x4096x16_S_d0_1_2 h_S_) main_v26 main_c_9
  let main_v28 : IVec S_ 1 := andi main_v23 main_v27
  let main_v29 : FVec F S1x4096x16 .f32 := Host.absf main_arg6
  let main_cst_10 : FVec F S_ .f32 := constant S_ .f32 0x7F800000#32
  let main_v30 : FVec F S1x4096x16 .f32 := broadcastInDim S1x4096x16 ![] bcast_S_S1x4096x16 main_cst_10
  let main_v31 : IVec S1x4096x16 1 := cmpf .olt main_v29 main_v30
  let main_c_11 : IVec S_ 1 := constantI S_ 1 1#1
  let main_v32 : IVec S_ 1 := (fun x v => Host.reduce IntOp.andi x v reducesTo_S1x4096x16_S_d0_1_2 h_S_) main_v31 main_c_11
  let main_v33 : IVec S_ 1 := andi main_v28 main_v32
  fn_part2 (F := F) main_arg7 main_v33

def fn {F : FTy → Type} [FloatOps F] (main_arg0 : FVec F S1x4096x16x64 .f32) (main_arg1 : FVec F S1x4096x16x64 .f32) (main_arg2 : FVec F S1x4096x16x64 .f32) (main_arg3 : FVec F S1x4096x16x64 .f32) (main_arg4 : FVec F S1x4096x16x64 .f32) (main_arg5 : FVec F S1x4096x16 .f32) (main_arg6 : FVec F S1x4096x16 .f32) (main_arg7 : FVec F S1x4096x16x64 .f32) : IVec S_ 1 :=
  let main_v0 : FVec F S1x4096x16x64 .f32 := Host.absf main_arg0
  let main_cst : FVec F S_ .f32 := constant S_ .f32 0x7F800000#32
  let main_v1 : FVec F S1x4096x16x64 .f32 := broadcastInDim S1x4096x16x64 ![] bcast_S_S1x4096x16x64 main_cst
  let main_v2 : IVec S1x4096x16x64 1 := cmpf .olt main_v0 main_v1
  let main_c : IVec S_ 1 := constantI S_ 1 1#1
  let main_v3 : IVec S_ 1 := (fun x v => Host.reduce IntOp.andi x v reducesTo_S1x4096x16x64_S_d0_1_2_3 h_S_) main_v2 main_c
  let main_v4 : FVec F S1x4096x16x64 .f32 := Host.absf main_arg1
  let main_cst_0 : FVec F S_ .f32 := constant S_ .f32 0x7F800000#32
  let main_v5 : FVec F S1x4096x16x64 .f32 := broadcastInDim S1x4096x16x64 ![] bcast_S_S1x4096x16x64 main_cst_0
  let main_v6 : IVec S1x4096x16x64 1 := cmpf .olt main_v4 main_v5
  let main_c_1 : IVec S_ 1 := constantI S_ 1 1#1
  let main_v7 : IVec S_ 1 := (fun x v => Host.reduce IntOp.andi x v reducesTo_S1x4096x16x64_S_d0_1_2_3 h_S_) main_v6 main_c_1
  let main_v8 : IVec S_ 1 := andi main_v3 main_v7
  let main_v9 : FVec F S1x4096x16x64 .f32 := Host.absf main_arg2
  let main_cst_2 : FVec F S_ .f32 := constant S_ .f32 0x7F800000#32
  let main_v10 : FVec F S1x4096x16x64 .f32 := broadcastInDim S1x4096x16x64 ![] bcast_S_S1x4096x16x64 main_cst_2
  let main_v11 : IVec S1x4096x16x64 1 := cmpf .olt main_v9 main_v10
  let main_c_3 : IVec S_ 1 := constantI S_ 1 1#1
  let main_v12 : IVec S_ 1 := (fun x v => Host.reduce IntOp.andi x v reducesTo_S1x4096x16x64_S_d0_1_2_3 h_S_) main_v11 main_c_3
  let main_v13 : IVec S_ 1 := andi main_v8 main_v12
  let main_v14 : FVec F S1x4096x16x64 .f32 := Host.absf main_arg3
  let main_cst_4 : FVec F S_ .f32 := constant S_ .f32 0x7F800000#32
  let main_v15 : FVec F S1x4096x16x64 .f32 := broadcastInDim S1x4096x16x64 ![] bcast_S_S1x4096x16x64 main_cst_4
  let main_v16 : IVec S1x4096x16x64 1 := cmpf .olt main_v14 main_v15
  fn_part1 (F := F) main_arg4 main_arg5 main_arg6 main_arg7 main_v13 main_v16
-- ==== Kernel.lean ====
abbrev S1x4096x16x64 : Shape := ⟨4, ![1, 4096, 16, 64]⟩
abbrev S1x4096x16 : Shape := ⟨3, ![1, 4096, 16]⟩
abbrev S4096x1024 : Shape := ⟨2, ![4096, 1024]⟩
abbrev S_ : Shape := ⟨0, ![]⟩
abbrev S4096x3072 : Shape := ⟨2, ![4096, 3072]⟩
abbrev S1x64x64x16x64 : Shape := ⟨5, ![1, 64, 64, 16, 64]⟩
abbrev S1x4224x16x64 : Shape := ⟨4, ![1, 4224, 16, 64]⟩
abbrev S1x66x64x16x64 : Shape := ⟨5, ![1, 66, 64, 16, 64]⟩
abbrev S1x64x192x16x64 : Shape := ⟨5, ![1, 64, 192, 16, 64]⟩
abbrev S1x64x16x64x192 : Shape := ⟨5, ![1, 64, 16, 64, 192]⟩
abbrev S64 : Shape := ⟨1, ![64]⟩
abbrev S64x1 : Shape := ⟨2, ![64, 1]⟩
abbrev S1x64 : Shape := ⟨2, ![1, 64]⟩
abbrev S64x64 : Shape := ⟨2, ![64, 64]⟩
abbrev S192 : Shape := ⟨1, ![192]⟩
abbrev S1x192 : Shape := ⟨2, ![1, 192]⟩
abbrev S64x192 : Shape := ⟨2, ![64, 192]⟩
abbrev S64x1x192 : Shape := ⟨3, ![64, 1, 192]⟩
abbrev S64x64x1 : Shape := ⟨3, ![64, 64, 1]⟩
abbrev S64x64x192 : Shape := ⟨3, ![64, 64, 192]⟩
abbrev S1x64x1x64x192 : Shape := ⟨5, ![1, 64, 1, 64, 192]⟩
abbrev S1x64x16x64 : Shape := ⟨4, ![1, 64, 16, 64]⟩
abbrev S1x64x16x64x1 : Shape := ⟨5, ![1, 64, 16, 64, 1]⟩
abbrev S1x64x16x64x64 : Shape := ⟨5, ![1, 64, 16, 64, 64]⟩
abbrev S1x64x64x16 : Shape := ⟨4, ![1, 64, 64, 16]⟩
abbrev S1x64x64x16x1 : Shape := ⟨5, ![1, 64, 64, 16, 1]⟩
abbrev S1x4096x16x1 : Shape := ⟨4, ![1, 4096, 16, 1]⟩
abbrev S4096x16 : Shape := ⟨2, ![4096, 16]⟩
abbrev S128x1024 : Shape := ⟨2, ![128, 1024]⟩
abbrev S128x16 : Shape := ⟨2, ![128, 16]⟩
abbrev S128x256 : Shape := ⟨2, ![128, 256]⟩
abbrev S1x128 : Shape := ⟨2, ![1, 128]⟩
abbrev S128x128 : Shape := ⟨2, ![128, 128]⟩
abbrev S64x128 : Shape := ⟨2, ![64, 128]⟩
abbrev S256x128 : Shape := ⟨2, ![256, 128]⟩
abbrev S128x1 : Shape := ⟨2, ![128, 1]⟩

abbrev nBuf : Space → Nat
  | .hbm => 144
  | .vmem => 22
  | .smem => 0
  | _ => 0

abbrev hbmTy0_0 (i : Nat) : BufTy := match i % 128 with
  | 0 => ⟨S1x4096x16x64, .f32⟩
  | 1 => ⟨S1x4096x16x64, .f32⟩
  | 2 => ⟨S1x4096x16x64, .f32⟩
  | 3 => ⟨S1x4096x16x64, .f32⟩
  | 4 => ⟨S1x4096x16x64, .f32⟩
  | 5 => ⟨S1x4096x16, .f32⟩
  | 6 => ⟨S1x4096x16, .f32⟩
  | 7 => ⟨S1x4096x16x64, .f32⟩
  | 8 => ⟨S4096x1024, .f32⟩
  | 9 => ⟨S_, .f32⟩
  | 10 => ⟨S4096x1024, .f32⟩
  | 11 => ⟨S4096x1024, .f32⟩
  | 12 => ⟨S4096x1024, .f32⟩
  | 13 => ⟨S4096x1024, .f32⟩
  | 14 => ⟨S4096x3072, .f32⟩
  | 15 => ⟨S4096x3072, .bf16⟩
  | 16 => ⟨S4096x1024, .f32⟩
  | 17 => ⟨S_, .i32⟩
  | 18 => ⟨S_, .f32⟩
  | 19 => ⟨S1x4096x16x64, .f32⟩
  | 20 => ⟨S1x64x64x16x64, .f32⟩
  | 21 => ⟨S_, .i32⟩
  | 22 => ⟨S_, .f32⟩
  | 23 => ⟨S1x4224x16x64, .f32⟩
  | 24 => ⟨S1x66x64x16x64, .f32⟩
  | 25 => ⟨S_, .i32⟩
  | 26 => ⟨S_, .f32⟩
  | 27 => ⟨S1x4224x16x64, .f32⟩
  | 28 => ⟨S1x66x64x16x64, .f32⟩
  | 29 => ⟨S1x64x64x16x64, .f32⟩
  | 30 => ⟨S1x64x64x16x64, .f32⟩
  | 31 => ⟨S1x64x64x16x64, .f32⟩
  | 32 => ⟨S1x64x192x16x64, .f32⟩
  | 33 => ⟨S1x64x64x16x64, .f32⟩
  | 34 => ⟨S1x64x64x16x64, .f32⟩
  | 35 => ⟨S1x64x64x16x64, .f32⟩
  | 36 => ⟨S1x64x192x16x64, .f32⟩
  | 37 => ⟨S1x64x16x64x192, .f32⟩
  | 38 => ⟨S_, .f32⟩
  | 39 => ⟨S1x64x16x64x192, .f32⟩
  | 40 => ⟨S1x64x16x64x192, .f32⟩
  | 41 => ⟨S64, .i32⟩
  | 42 => ⟨S64x1, .i32⟩
  | 43 => ⟨S_, .i32⟩
  | 44 => ⟨S64x1, .i32⟩
  | 45 => ⟨S64x1, .i32⟩
  | 46 => ⟨S64, .i32⟩
  | 47 => ⟨S1x64, .i32⟩
  | 48 => ⟨S64x64, .i32⟩
  | 49 => ⟨S64x64, .i32⟩
  | 50 => ⟨S64x64, .i32⟩
  | 51 => ⟨S64, .i32⟩
  | 52 => ⟨S64x1, .i32⟩
  | 53 => ⟨S_, .i32⟩
  | 54 => ⟨S64x1, .i32⟩
  | 55 => ⟨S64x1, .i32⟩
  | 56 => ⟨S_, .i32⟩
  | 57 => ⟨S64x1, .i32⟩
  | 58 => ⟨S64x1, .i32⟩
  | 59 => ⟨S192, .i32⟩
  | 60 => ⟨S1x192, .i32⟩
  | 61 => ⟨S64x192, .i32⟩
  | 62 => ⟨S64x192, .i32⟩
  | 63 => ⟨S64x192, .i32⟩
  | 64 => ⟨S64x1x192, .i32⟩
  | 65 => ⟨S64x64x1, .i32⟩
  | 66 => ⟨S64x64x192, .i32⟩
  | 67 => ⟨S64x64x192, .i32⟩
  | 68 => ⟨S64x64x192, .i32⟩
  | 69 => ⟨S64x64x192, .i32⟩
  | 70 => ⟨S_, .i32⟩
  | 71 => ⟨S64x64x192, .i32⟩
  | 72 => ⟨S64x64x192, .i1⟩
  | 73 => ⟨S_, .i32⟩
  | 74 => ⟨S64x192, .i32⟩
  | 75 => ⟨S64x192, .i1⟩
  | 76 => ⟨S64x1x192, .i1⟩
  | 77 => ⟨S64x64x192, .i1⟩
  | 78 => ⟨S64x64x192, .i1⟩
  | 79 => ⟨S_, .i32⟩
  | 80 => ⟨S64x192, .i32⟩
  | 81 => ⟨S64x192, .i1⟩
  | 82 => ⟨S64x1x192, .i1⟩
  | 83 => ⟨S64x64x192, .i1⟩
  | 84 => ⟨S64x64x192, .i1⟩
  | 85 => ⟨S1x64x1x64x192, .i1⟩
  | 86 => ⟨S_, .f32⟩
  | 87 => ⟨S_, .f32⟩
  | 88 => ⟨S1x64x16x64x192, .i1⟩
  | 89 => ⟨S1x64x16x64x192, .f32⟩
  | 90 => ⟨S1x64x16x64x192, .f32⟩
  | 91 => ⟨S_, .f32⟩
  | 92 => ⟨S1x64x16x64, .f32⟩
  | 93 => ⟨S1x64x16x64x1, .f32⟩
  | 94 => ⟨S1x64x16x64x192, .f32⟩
  | 95 => ⟨S1x64x16x64x192, .f32⟩
  | 96 => ⟨S1x64x16x64x192, .f32⟩
  | 97 => ⟨S_, .f32⟩
  | 98 => ⟨S1x64x16x64, .f32⟩
  | 99 => ⟨S1x64x16x64x64, .f32⟩
  | 100 => ⟨S1x64x64x16x64, .f32⟩
  | 101 => ⟨S1x64x64x16, .f32⟩
  | 102 => ⟨S1x64x64x16x1, .f32⟩
  | 103 => ⟨S1x64x64x16x64, .f32⟩
  | 104 => ⟨S1x64x64x16x64, .f32⟩
  | 105 => ⟨S1x64x16x64, .f32⟩
  | 106 => ⟨S1x64x16x64, .f32⟩
  | 107 => ⟨S1x64x16x64, .f32⟩
  | 108 => ⟨S1x64x64x16, .f32⟩
  | 109 => ⟨S1x4096x16x64, .f32⟩
  | 110 => ⟨S1x4096x16, .f32⟩
  | 111 => ⟨S1x4096x16, .f32⟩
  | 112 => ⟨S1x4096x16, .f32⟩
  | 113 => ⟨S1x4096x16, .f32⟩
  | 114 => ⟨S1x4096x16, .f32⟩
  | 115 => ⟨S1x4096x16, .f32⟩
  | 116 => ⟨S1x4096x16, .f32⟩
  | 117 => ⟨S1x4096x16, .f32⟩
  | 118 => ⟨S1x4096x16, .f32⟩
  | 119 => ⟨S1x4096x16, .f32⟩
  | 120 => ⟨S1x4096x16, .f32⟩
  | 121 => ⟨S1x4096x16, .f32⟩
  | 122 => ⟨S1x4096x16x1, .f32⟩
  | 123 => ⟨S1x4096x16x64, .f32⟩
  | 124 => ⟨S1x4096x16x64, .f32⟩
  | 125 => ⟨S1x4096x16, .f32⟩
  | 126 => ⟨S1x4096x16x1, .f32⟩
  | 127 => ⟨S1x4096x16x64, .f32⟩
  | _ => ⟨S1x4096x16x64, .f32⟩

abbrev hbmTy0_1 (i : Nat) : BufTy := match i % 128 with
  | 0 => ⟨S1x4096x16x64, .f32⟩
  | 1 => ⟨S1x4096x16x64, .f32⟩
  | 2 => ⟨S1x4096x16, .f32⟩
  | 3 => ⟨S1x4096x16x1, .f32⟩
  | 4 => ⟨S1x4096x16x64, .f32⟩
  | 5 => ⟨S1x4096x16x64, .f32⟩
  | 6 => ⟨S1x4096x16x64, .f32⟩
  | 7 => ⟨S1x4096x16, .f32⟩
  | 8 => ⟨S1x4096x16, .f32⟩
  | 9 => ⟨S4096x16, .f32⟩
  | 10 => ⟨S1x4096x16x64, .f32⟩
  | 11 => ⟨S_, .f32⟩
  | 12 => ⟨S1x4096x16, .f32⟩
  | 13 => ⟨S4096x16, .f32⟩
  | 14 => ⟨S4096x1024, .bf16⟩
  | 15 => ⟨S4096x1024, .bf16⟩
  | _ => ⟨S1x4096x16x64, .f32⟩

abbrev hbmTy (i : Nat) : BufTy := match i / 128 with
  | 0 => hbmTy0_0 i
  | 1 => hbmTy0_1 i
  | _ => ⟨S1x4096x16x64, .f32⟩

abbrev bufTy : (tb : Table) → Fin (tcTables nBuf tb) → BufTy
  | .hbm, ⟨i, _⟩ => hbmTy i
  | .local _ .vmem, ⟨0, _⟩ => ⟨S128x1024, .bf16⟩
  | .local _ .vmem, ⟨1, _⟩ => ⟨S128x1024, .bf16⟩
  | .local _ .vmem, ⟨2, _⟩ => ⟨S128x1024, .bf16⟩
  | .local _ .vmem, ⟨3, _⟩ => ⟨S128x1024, .bf16⟩
  | .local _ .vmem, ⟨4, _⟩ => ⟨S128x1024, .bf16⟩
  | .local _ .vmem, ⟨5, _⟩ => ⟨S128x1024, .bf16⟩
  | .local _ .vmem, ⟨6, _⟩ => ⟨S128x1024, .bf16⟩
  | .local _ .vmem, ⟨7, _⟩ => ⟨S128x1024, .bf16⟩
  | .local _ .vmem, ⟨8, _⟩ => ⟨S128x1024, .bf16⟩
  | .local _ .vmem, ⟨9, _⟩ => ⟨S128x1024, .bf16⟩
  | .local _ .vmem, ⟨10, _⟩ => ⟨S128x1024, .bf16⟩
  | .local _ .vmem, ⟨11, _⟩ => ⟨S128x1024, .bf16⟩
  | .local _ .vmem, ⟨12, _⟩ => ⟨S128x1024, .bf16⟩
  | .local _ .vmem, ⟨13, _⟩ => ⟨S128x1024, .bf16⟩
  | .local _ .vmem, ⟨14, _⟩ => ⟨S128x1024, .bf16⟩
  | .local _ .vmem, ⟨15, _⟩ => ⟨S128x1024, .bf16⟩
  | .local _ .vmem, ⟨16, _⟩ => ⟨S128x16, .f32⟩
  | .local _ .vmem, ⟨17, _⟩ => ⟨S128x16, .f32⟩
  | .local _ .vmem, ⟨18, _⟩ => ⟨S128x16, .f32⟩
  | .local _ .vmem, ⟨19, _⟩ => ⟨S128x16, .f32⟩
  | .local _ .vmem, ⟨20, _⟩ => ⟨S128x1024, .bf16⟩
  | .local _ .vmem, ⟨21, _⟩ => ⟨S128x1024, .bf16⟩
  | _, _ => ⟨S1x4096x16x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_c : Ref sig .tc := ⟨.hbm, 17, rfl⟩
abbrev main_call0_v0 : Ref sig .tc := ⟨.hbm, 18, rfl⟩
abbrev main_v8 : Ref sig .tc := ⟨.hbm, 19, rfl⟩
abbrev main_v9 : Ref sig .tc := ⟨.hbm, 20, rfl⟩
abbrev main_c_0 : Ref sig .tc := ⟨.hbm, 21, rfl⟩
abbrev main_call1_v0 : Ref sig .tc := ⟨.hbm, 22, rfl⟩
abbrev main_v10 : Ref sig .tc := ⟨.hbm, 23, rfl⟩
abbrev main_v11 : Ref sig .tc := ⟨.hbm, 24, rfl⟩
abbrev main_c_1 : Ref sig .tc := ⟨.hbm, 25, rfl⟩
abbrev main_call2_v0 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_cst_2 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_c_3 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_c_4 : Ref sig .tc := ⟨.hbm, 53, rfl⟩
abbrev main_v36 : Ref sig .tc := ⟨.hbm, 54, rfl⟩
abbrev main_v37 : Ref sig .tc := ⟨.hbm, 55, rfl⟩
abbrev main_c_5 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_c_6 : Ref sig .tc := ⟨.hbm, 70, rfl⟩
abbrev main_v51 : Ref sig .tc := ⟨.hbm, 71, rfl⟩
abbrev main_v52 : Ref sig .tc := ⟨.hbm, 72, rfl⟩
abbrev main_c_7 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_c_8 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_cst_9 : Ref sig .tc := ⟨.hbm, 86, rfl⟩
abbrev main_call3_v0 : Ref sig .tc := ⟨.hbm, 87, rfl⟩
abbrev main_call3_v1 : Ref sig .tc := ⟨.hbm, 88, rfl⟩
abbrev main_call3_v2 : Ref sig .tc := ⟨.hbm, 89, rfl⟩
abbrev main_v64 : Ref sig .tc := ⟨.hbm, 90, rfl⟩
abbrev main_cst_10 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_cst_11 : Ref sig .tc := ⟨.hbm, 97, rfl⟩
abbrev main_v70 : Ref sig .tc := ⟨.hbm, 98, rfl⟩
abbrev main_v71 : Ref sig .tc := ⟨.hbm, 99, rfl⟩
abbrev main_v72 : Ref sig .tc := ⟨.hbm, 100, rfl⟩
abbrev main_v73 : Ref sig .tc := ⟨.hbm, 101, rfl⟩
abbrev main_v74 : Ref sig .tc := ⟨.hbm, 102, rfl⟩
abbrev main_v75 : Ref sig .tc := ⟨.hbm, 103, rfl⟩
abbrev main_v76 : Ref sig .tc := ⟨.hbm, 104, rfl⟩
abbrev main_v77 : Ref sig .tc := ⟨.hbm, 105, rfl⟩
abbrev main_v78 : Ref sig .tc := ⟨.hbm, 106, rfl⟩
abbrev main_v79 : Ref sig .tc := ⟨.hbm, 107, rfl⟩
abbrev main_v80 : Ref sig .tc := ⟨.hbm, 108, rfl⟩
abbrev main_v81 : Ref sig .tc := ⟨.hbm, 109, rfl⟩
abbrev main_v82 : Ref sig .tc := ⟨.hbm, 110, rfl⟩
abbrev main_v83 : Ref sig .tc := ⟨.hbm, 111, rfl⟩
abbrev main_v84 : Ref sig .tc := ⟨.hbm, 112, rfl⟩
abbrev main_v85 : Ref sig .tc := ⟨.hbm, 113, rfl⟩
abbrev main_v86 : Ref sig .tc := ⟨.hbm, 114, rfl⟩
abbrev main_v87 : Ref sig .tc := ⟨.hbm, 115, rfl⟩
abbrev main_v88 : Ref sig .tc := ⟨.hbm, 116, rfl⟩
abbrev main_v89 : Ref sig .tc := ⟨.hbm, 117, rfl⟩
abbrev main_v90 : Ref sig .tc := ⟨.hbm, 118, rfl⟩
abbrev main_v91 : Ref sig .tc := ⟨.hbm, 119, rfl⟩
abbrev main_v92 : Ref sig .tc := ⟨.hbm, 120, rfl⟩
abbrev main_v93 : Ref sig .tc := ⟨.hbm, 121, rfl⟩
abbrev main_v94 : Ref sig .tc := ⟨.hbm, 122, rfl⟩
abbrev main_v95 : Ref sig .tc := ⟨.hbm, 123, rfl⟩
abbrev main_v96 : Ref sig .tc := ⟨.hbm, 124, rfl⟩
abbrev main_v97 : Ref sig .tc := ⟨.hbm, 125, rfl⟩
abbrev main_v98 : Ref sig .tc := ⟨.hbm, 126, rfl⟩
abbrev main_v99 : Ref sig .tc := ⟨.hbm, 127, rfl⟩
abbrev main_v100 : Ref sig .tc := ⟨.hbm, 128, rfl⟩
abbrev main_v101 : Ref sig .tc := ⟨.hbm, 129, rfl⟩
abbrev main_v102 : Ref sig .tc := ⟨.hbm, 130, rfl⟩
abbrev main_v103 : Ref sig .tc := ⟨.hbm, 131, rfl⟩
abbrev main_v104 : Ref sig .tc := ⟨.hbm, 132, rfl⟩
abbrev main_v105 : Ref sig .tc := ⟨.hbm, 133, rfl⟩
abbrev main_v106 : Ref sig .tc := ⟨.hbm, 134, rfl⟩
abbrev main_v107 : Ref sig .tc := ⟨.hbm, 135, rfl⟩
abbrev main_v108 : Ref sig .tc := ⟨.hbm, 136, rfl⟩
abbrev main_v109 : Ref sig .tc := ⟨.hbm, 137, rfl⟩
abbrev main_v110 : Ref sig .tc := ⟨.hbm, 138, rfl⟩
abbrev main_cst_12 : Ref sig .tc := ⟨.hbm, 139, rfl⟩
abbrev main_v111 : Ref sig .tc := ⟨.hbm, 140, rfl⟩
abbrev main_v112 : Ref sig .tc := ⟨.hbm, 141, rfl⟩
abbrev main_v113 : Ref sig .tc := ⟨.hbm, 142, rfl⟩
abbrev main_v114 : Ref sig .tc := ⟨.hbm, 143, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c1_i32_0 : BitVec 32 := 1#32
  let c0_i32_1 : BitVec 32 := 0#32
  ![v1.toNat, c1_i32_0.toNat]

def cc0_transform_2 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_3 (i : grid0.Coords) : Fin 2 → Nat :=
  let arg0 : BitVec 32 := BitVec.ofNat 32 (i 0).val
  let c1_i32 : BitVec 32 := 1#32
  let v0 : BitVec 32 := Scalar.addi arg0 c1_i32
  let c31_i32 : BitVec 32 := 31#32
  let v1 : BitVec 32 := Scalar.minsi v0 c31_i32
  let c1_i32_0 : BitVec 32 := 1#32
  let c0_i32 : BitVec 32 := 0#32
  ![v1.toNat, c1_i32_0.toNat]

def cc0_transform_4 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c2_i32 : BitVec 32 := 2#32
  let c0_i32_0 : BitVec 32 := 0#32
  ![v1.toNat, c2_i32.toNat]

def cc0_transform_5 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_6 (i : grid0.Coords) : Fin 2 → Nat :=
  let arg0 : BitVec 32 := BitVec.ofNat 32 (i 0).val
  let c1_i32 : BitVec 32 := 1#32
  let v0 : BitVec 32 := Scalar.addi arg0 c1_i32
  let c31_i32 : BitVec 32 := 31#32
  let v1 : BitVec 32 := Scalar.minsi v0 c31_i32
  let c2_i32 : BitVec 32 := 2#32
  let c0_i32 : BitVec 32 := 0#32
  ![v1.toNat, c2_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S128x16 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S128x16 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S128x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== KernelIdeal.lean ====
variable {F : FTy → Type} [FloatOps F] [Named F]
def κ : String → Option EReal := fun
  | "mask" => some ⊥
  | _ => none
-- ==== ReferenceIdeal.lean ====
abbrev S1x4096x16x64 : Shape := ⟨4, ![1, 4096, 16, 64]⟩
abbrev S1x4096x16 : Shape := ⟨3, ![1, 4096, 16]⟩
abbrev S_ : Shape := ⟨0, ![]⟩
abbrev S1x64x64x16x64 : Shape := ⟨5, ![1, 64, 64, 16, 64]⟩
abbrev S1x4224x16x64 : Shape := ⟨4, ![1, 4224, 16, 64]⟩
abbrev S1x66x64x16x64 : Shape := ⟨5, ![1, 66, 64, 16, 64]⟩
abbrev S1x64x192x16x64 : Shape := ⟨5, ![1, 64, 192, 16, 64]⟩
abbrev S1x64x16x64x192 : Shape := ⟨5, ![1, 64, 16, 64, 192]⟩
abbrev S64 : Shape := ⟨1, ![64]⟩
abbrev S64x1 : Shape := ⟨2, ![64, 1]⟩
abbrev S1x64 : Shape := ⟨2, ![1, 64]⟩
abbrev S64x64 : Shape := ⟨2, ![64, 64]⟩
abbrev S192 : Shape := ⟨1, ![192]⟩
abbrev S1x192 : Shape := ⟨2, ![1, 192]⟩
abbrev S64x192 : Shape := ⟨2, ![64, 192]⟩
abbrev S64x1x192 : Shape := ⟨3, ![64, 1, 192]⟩
abbrev S64x64x1 : Shape := ⟨3, ![64, 64, 1]⟩
abbrev S64x64x192 : Shape := ⟨3, ![64, 64, 192]⟩
abbrev S1x64x1x64x192 : Shape := ⟨5, ![1, 64, 1, 64, 192]⟩
abbrev S1x64x16x64 : Shape := ⟨4, ![1, 64, 16, 64]⟩
abbrev S1x64x16x64x1 : Shape := ⟨5, ![1, 64, 16, 64, 1]⟩
abbrev S1x64x16x64x64 : Shape := ⟨5, ![1, 64, 16, 64, 64]⟩
abbrev S1x64x64x16 : Shape := ⟨4, ![1, 64, 64, 16]⟩
abbrev S1x64x64x16x1 : Shape := ⟨5, ![1, 64, 64, 16, 1]⟩
abbrev S1x1x4096x16 : Shape := ⟨4, ![1, 1, 4096, 16]⟩
abbrev S3x1x4096x16 : Shape := ⟨4, ![3, 1, 4096, 16]⟩
abbrev S3x1x4096x16x1 : Shape := ⟨5, ![3, 1, 4096, 16, 1]⟩
abbrev S1x1x4096x16x64 : Shape := ⟨5, ![1, 1, 4096, 16, 64]⟩
abbrev S3x1x4096x16x64 : Shape := ⟨5, ![3, 1, 4096, 16, 64]⟩
abbrev S3x4096x16 : Shape := ⟨3, ![3, 4096, 16]⟩
abbrev S4096x16 : Shape := ⟨2, ![4096, 16]⟩
abbrev S64x64x16 : Shape := ⟨3, ![64, 64, 16]⟩
abbrev S64x16x64 : Shape := ⟨3, ![64, 16, 64]⟩
abbrev S4096x1024 : Shape := ⟨2, ![4096, 1024]⟩

abbrev nBuf : Space → Nat
  | .hbm => 261
  | .vmem => 0
  | .smem => 0
  | _ => 0

abbrev hbmTy0_0 (i : Nat) : BufTy := match i % 128 with
  | 0 => ⟨S1x4096x16x64, .f32⟩
  | 1 => ⟨S1x4096x16x64, .f32⟩
  | 2 => ⟨S1x4096x16x64, .f32⟩
  | 3 => ⟨S1x4096x16x64, .f32⟩
  | 4 => ⟨S1x4096x16x64, .f32⟩
  | 5 => ⟨S1x4096x16, .f32⟩
  | 6 => ⟨S1x4096x16, .f32⟩
  | 7 => ⟨S1x4096x16x64, .f32⟩
  | 8 => ⟨S_, .i32⟩
  | 9 => ⟨S_, .f32⟩
  | 10 => ⟨S1x4096x16x64, .f32⟩
  | 11 => ⟨S_, .f32⟩
  | 12 => ⟨S1x64x64x16x64, .f32⟩
  | 13 => ⟨S_, .i32⟩
  | 14 => ⟨S_, .f32⟩
  | 15 => ⟨S1x4224x16x64, .f32⟩
  | 16 => ⟨S1x66x64x16x64, .f32⟩
  | 17 => ⟨S_, .i32⟩
  | 18 => ⟨S_, .f32⟩
  | 19 => ⟨S1x4224x16x64, .f32⟩
  | 20 => ⟨S1x66x64x16x64, .f32⟩
  | 21 => ⟨S1x64x64x16x64, .f32⟩
  | 22 => ⟨S1x64x64x16x64, .f32⟩
  | 23 => ⟨S1x64x64x16x64, .f32⟩
  | 24 => ⟨S1x64x192x16x64, .f32⟩
  | 25 => ⟨S1x64x64x16x64, .f32⟩
  | 26 => ⟨S1x64x64x16x64, .f32⟩
  | 27 => ⟨S1x64x64x16x64, .f32⟩
  | 28 => ⟨S1x64x192x16x64, .f32⟩
  | 29 => ⟨S1x64x16x64x192, .f32⟩
  | 30 => ⟨S_, .f32⟩
  | 31 => ⟨S1x64x16x64x192, .f32⟩
  | 32 => ⟨S1x64x16x64x192, .f32⟩
  | 33 => ⟨S64, .i32⟩
  | 34 => ⟨S64x1, .i32⟩
  | 35 => ⟨S_, .i32⟩
  | 36 => ⟨S64x1, .i32⟩
  | 37 => ⟨S64x1, .i32⟩
  | 38 => ⟨S64, .i32⟩
  | 39 => ⟨S1x64, .i32⟩
  | 40 => ⟨S64x64, .i32⟩
  | 41 => ⟨S64x64, .i32⟩
  | 42 => ⟨S64x64, .i32⟩
  | 43 => ⟨S64, .i32⟩
  | 44 => ⟨S64x1, .i32⟩
  | 45 => ⟨S_, .i32⟩
  | 46 => ⟨S64x1, .i32⟩
  | 47 => ⟨S64x1, .i32⟩
  | 48 => ⟨S_, .i32⟩
  | 49 => ⟨S64x1, .i32⟩
  | 50 => ⟨S64x1, .i32⟩
  | 51 => ⟨S192, .i32⟩
  | 52 => ⟨S1x192, .i32⟩
  | 53 => ⟨S64x192, .i32⟩
  | 54 => ⟨S64x192, .i32⟩
  | 55 => ⟨S64x192, .i32⟩
  | 56 => ⟨S64x1x192, .i32⟩
  | 57 => ⟨S64x64x1, .i32⟩
  | 58 => ⟨S64x64x192, .i32⟩
  | 59 => ⟨S64x64x192, .i32⟩
  | 60 => ⟨S64x64x192, .i32⟩
  | 61 => ⟨S64x64x192, .i32⟩
  | 62 => ⟨S_, .i32⟩
  | 63 => ⟨S64x64x192, .i32⟩
  | 64 => ⟨S64x64x192, .i1⟩
  | 65 => ⟨S_, .i32⟩
  | 66 => ⟨S64x192, .i32⟩
  | 67 => ⟨S64x192, .i1⟩
  | 68 => ⟨S64x1x192, .i1⟩
  | 69 => ⟨S64x64x192, .i1⟩
  | 70 => ⟨S64x64x192, .i1⟩
  | 71 => ⟨S_, .i32⟩
  | 72 => ⟨S64x192, .i32⟩
  | 73 => ⟨S64x192, .i1⟩
  | 74 => ⟨S64x1x192, .i1⟩
  | 75 => ⟨S64x64x192, .i1⟩
  | 76 => ⟨S64x64x192, .i1⟩
  | 77 => ⟨S1x64x1x64x192, .i1⟩
  | 78 => ⟨S_, .f32⟩
  | 79 => ⟨S_, .f32⟩
  | 80 => ⟨S1x64x16x64x192, .i1⟩
  | 81 => ⟨S1x64x16x64x192, .f32⟩
  | 82 => ⟨S1x64x16x64x192, .f32⟩
  | 83 => ⟨S_, .f32⟩
  | 84 => ⟨S1x64x16x64x192, .f32⟩
  | 85 => ⟨S_, .f32⟩
  | 86 => ⟨S1x64x16x64, .f32⟩
  | 87 => ⟨S1x64x16x64x1, .f32⟩
  | 88 => ⟨S1x64x16x64x192, .f32⟩
  | 89 => ⟨S1x64x16x64x192, .i1⟩
  | 90 => ⟨S1x64x16x64x192, .f32⟩
  | 91 => ⟨S_, .f32⟩
  | 92 => ⟨S1x64x16x64, .f32⟩
  | 93 => ⟨S1x64x16x64x1, .f32⟩
  | 94 => ⟨S1x64x16x64x192, .f32⟩
  | 95 => ⟨S1x64x16x64x192, .f32⟩
  | 96 => ⟨S1x64x16x64x192, .f32⟩
  | 97 => ⟨S_, .f32⟩
  | 98 => ⟨S1x64x16x64, .f32⟩
  | 99 => ⟨S1x64x16x64x64, .f32⟩
  | 100 => ⟨S1x64x64x16x64, .f32⟩
  | 101 => ⟨S1x64x64x16, .f32⟩
  | 102 => ⟨S1x64x64x16x1, .f32⟩
  | 103 => ⟨S1x64x64x16x64, .f32⟩
  | 104 => ⟨S1x64x64x16x64, .f32⟩
  | 105 => ⟨S1x64x64x16x1, .f32⟩
  | 106 => ⟨S_, .f32⟩
  | 107 => ⟨S1x64x64x16x1, .f32⟩
  | 108 => ⟨S1x64x64x16x1, .f32⟩
  | 109 => ⟨S1x64x16x64, .f32⟩
  | 110 => ⟨S1x64x16x64, .f32⟩
  | 111 => ⟨S1x64x16x64, .f32⟩
  | 112 => ⟨S1x64x64x16, .f32⟩
  | 113 => ⟨S1x4096x16x64, .f32⟩
  | 114 => ⟨S1x4096x16, .f32⟩
  | 115 => ⟨S1x1x4096x16, .f32⟩
  | 116 => ⟨S1x1x4096x16, .f32⟩
  | 117 => ⟨S1x1x4096x16, .f32⟩
  | 118 => ⟨S3x1x4096x16, .f32⟩
  | 119 => ⟨S_, .f32⟩
  | 120 => ⟨S1x4096x16, .f32⟩
  | 121 => ⟨S_, .f32⟩
  | 122 => ⟨S1x4096x16, .f32⟩
  | 123 => ⟨S_, .f32⟩
  | 124 => ⟨S1x4096x16, .f32⟩
  | 125 => ⟨S1x1x4096x16, .f32⟩
  | 126 => ⟨S3x1x4096x16, .f32⟩
  | 127 => ⟨S3x1x4096x16, .i1⟩
  | _ => ⟨S1x4096x16x64, .f32⟩

abbrev hbmTy0_1 (i : Nat) : BufTy := match i % 128 with
  | 0 => ⟨S3x1x4096x16, .f32⟩
  | 1 => ⟨S_, .f32⟩
  | 2 => ⟨S1x4096x16, .f32⟩
  | 3 => ⟨S_, .f32⟩
  | 4 => ⟨S1x4096x16, .f32⟩
  | 5 => ⟨S1x4096x16, .f32⟩
  | 6 => ⟨S_, .f32⟩
  | 7 => ⟨S1x4096x16, .f32⟩
  | 8 => ⟨S1x4096x16, .i1⟩
  | 9 => ⟨S_, .f32⟩
  | 10 => ⟨S1x4096x16, .f32⟩
  | 11 => ⟨S1x4096x16, .i1⟩
  | 12 => ⟨S_, .f32⟩
  | 13 => ⟨S1x4096x16, .f32⟩
  | 14 => ⟨S_, .f32⟩
  | 15 => ⟨S1x4096x16, .f32⟩
  | 16 => ⟨S_, .f32⟩
  | 17 => ⟨S1x4096x16, .f32⟩
  | 18 => ⟨S1x4096x16, .f32⟩
  | 19 => ⟨S1x4096x16, .f32⟩
  | 20 => ⟨S1x1x4096x16, .f32⟩
  | 21 => ⟨S3x1x4096x16, .f32⟩
  | 22 => ⟨S3x1x4096x16, .f32⟩
  | 23 => ⟨S3x1x4096x16, .f32⟩
  | 24 => ⟨S_, .f32⟩
  | 25 => ⟨S1x4096x16, .f32⟩
  | 26 => ⟨S1x1x4096x16, .f32⟩
  | 27 => ⟨S3x1x4096x16, .f32⟩
  | 28 => ⟨S3x1x4096x16, .f32⟩
  | 29 => ⟨S1x1x4096x16, .f32⟩
  | 30 => ⟨S_, .f32⟩
  | 31 => ⟨S1x1x4096x16, .f32⟩
  | 32 => ⟨S1x1x4096x16, .f32⟩
  | 33 => ⟨S3x1x4096x16x1, .f32⟩
  | 34 => ⟨S1x1x4096x16x64, .f32⟩
  | 35 => ⟨S1x1x4096x16x64, .f32⟩
  | 36 => ⟨S1x1x4096x16x64, .f32⟩
  | 37 => ⟨S3x1x4096x16x64, .f32⟩
  | 38 => ⟨S_, .f32⟩
  | 39 => ⟨S1x4096x16x64, .f32⟩
  | 40 => ⟨S_, .f32⟩
  | 41 => ⟨S1x4096x16x64, .f32⟩
  | 42 => ⟨S3x1x4096x16x64, .f32⟩
  | 43 => ⟨S3x1x4096x16x64, .f32⟩
  | 44 => ⟨S_, .f32⟩
  | 45 => ⟨S1x4096x16x64, .f32⟩
  | 46 => ⟨S3x1x4096x16x64, .f32⟩
  | 47 => ⟨S3x1x4096x16x64, .f32⟩
  | 48 => ⟨S3x1x4096x16x64, .f32⟩
  | 49 => ⟨S3x1x4096x16x64, .f32⟩
  | 50 => ⟨S_, .f32⟩
  | 51 => ⟨S3x1x4096x16, .f32⟩
  | 52 => ⟨S3x1x4096x16x1, .f32⟩
  | 53 => ⟨S1x1x4096x16x64, .f32⟩
  | 54 => ⟨S1x4096x16x64, .f32⟩
  | 55 => ⟨S1x1x4096x16x64, .f32⟩
  | 56 => ⟨S1x4096x16x64, .f32⟩
  | 57 => ⟨S1x1x4096x16x64, .f32⟩
  | 58 => ⟨S1x4096x16x64, .f32⟩
  | 59 => ⟨S_, .f32⟩
  | 60 => ⟨S3x4096x16, .f32⟩
  | 61 => ⟨S3x1x4096x16, .f32⟩
  | 62 => ⟨S3x1x4096x16, .f32⟩
  | 63 => ⟨S3x1x4096x16, .f32⟩
  | 64 => ⟨S3x1x4096x16, .f32⟩
  | 65 => ⟨S_, .f32⟩
  | 66 => ⟨S1x4096x16, .f32⟩
  | 67 => ⟨S1x1x4096x16, .f32⟩
  | 68 => ⟨S1x1x4096x16, .f32⟩
  | 69 => ⟨S3x1x4096x16, .f32⟩
  | 70 => ⟨S3x1x4096x16, .f32⟩
  | 71 => ⟨S_, .f32⟩
  | 72 => ⟨S4096x16, .f32⟩
  | 73 => ⟨S1x4096x16, .f32⟩
  | 74 => ⟨S3x1x4096x16, .f32⟩
  | 75 => ⟨S3x1x4096x16, .f32⟩
  | 76 => ⟨S3x1x4096x16, .f32⟩
  | 77 => ⟨S1x1x4096x16, .f32⟩
  | 78 => ⟨S1x4096x16, .f32⟩
  | 79 => ⟨S1x1x4096x16, .f32⟩
  | 80 => ⟨S1x4096x16, .f32⟩
  | 81 => ⟨S1x1x4096x16, .f32⟩
  | 82 => ⟨S1x4096x16, .f32⟩
  | 83 => ⟨S1x64x64x16, .f32⟩
  | 84 => ⟨S1x64x64x16x64, .f32⟩
  | 85 => ⟨S1x64x16x64, .f32⟩
  | 86 => ⟨S1x64x16x64, .f32⟩
  | 87 => ⟨S1x64x16x64x1, .f32⟩
  | 88 => ⟨S1x64x64x16x64, .f32⟩
  | 89 => ⟨S1x64x64x16x64, .f32⟩
  | 90 => ⟨S1x64x64x16x64, .f32⟩
  | 91 => ⟨S_, .f32⟩
  | 92 => ⟨S1x64x64x16, .f32⟩
  | 93 => ⟨S1x64x64x16x1, .f32⟩
  | 94 => ⟨S1x64x64x16x1, .f32⟩
  | 95 => ⟨S1x64x64x16x64, .f32⟩
  | 96 => ⟨S1x64x64x16x64, .f32⟩
  | 97 => ⟨S_, .f32⟩
  | 98 => ⟨S64x64x16, .f32⟩
  | 99 => ⟨S1x64x64x16, .f32⟩
  | 100 => ⟨S1x64x16x64, .f32⟩
  | 101 => ⟨S1x64x16x64, .f32⟩
  | 102 => ⟨S1x64x16x64x64, .f32⟩
  | 103 => ⟨S1x64x16x64x192, .f32⟩
  | 104 => ⟨S1x64x16x64x192, .f32⟩
  | 105 => ⟨S1x64x16x64x192, .f32⟩
  | 106 => ⟨S1x64x16x64x192, .f32⟩
  | 107 => ⟨S1x64x16x64x192, .f32⟩
  | 108 => ⟨S_, .f32⟩
  | 109 => ⟨S1x64x16x64, .f32⟩
  | 110 => ⟨S1x64x16x64x1, .f32⟩
  | 111 => ⟨S1x64x16x64x1, .f32⟩
  | 112 => ⟨S_, .f32⟩
  | 113 => ⟨S64x16x64, .f32⟩
  | 114 => ⟨S1x64x16x64, .f32⟩
  | 115 => ⟨S1x64x16x64, .f32⟩
  | 116 => ⟨S1x64x16x64x192, .f32⟩
  | 117 => ⟨S1x64x16x64x192, .f32⟩
  | 118 => ⟨S1x64x16x64x192, .f32⟩
  | 119 => ⟨S_, .f32⟩
  | 120 => ⟨S1x64x16x64x192, .f32⟩
  | 121 => ⟨S1x64x16x64x192, .f32⟩
  | 122 => ⟨S_, .f32⟩
  | 123 => ⟨S1x64x16x64x192, .f32⟩
  | 124 => ⟨S1x64x16x64x192, .f32⟩
  | 125 => ⟨S1x64x16x64x64, .f32⟩
  | 126 => ⟨S1x64x64x16x64, .f32⟩
  | 127 => ⟨S1x4096x16x64, .f32⟩
  | _ => ⟨S1x4096x16x64, .f32⟩

abbrev hbmTy0_2 (i : Nat) : BufTy := match i % 128 with
  | 0 => ⟨S_, .f32⟩
  | 1 => ⟨S1x4096x16x64, .f32⟩
  | 2 => ⟨S1x4096x16x64, .f32⟩
  | 3 => ⟨S4096x1024, .f32⟩
  | 4 => ⟨S4096x1024, .bf16⟩
  | _ => ⟨S1x4096x16x64, .f32⟩

abbrev hbmTy (i : Nat) : BufTy := match i / 128 with
  | 0 => hbmTy0_0 i
  | 1 => hbmTy0_1 i
  | 2 => hbmTy0_2 i
  | _ => ⟨S1x4096x16x64, .f32⟩

abbrev bufTy : (tb : Table) → Fin (tcTables nBuf tb) → BufTy
  | .hbm, ⟨i, _⟩ => hbmTy i
  | _, _ => ⟨S1x4096x16x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_c : Ref sig .tc := ⟨.hbm, 8, rfl⟩
abbrev main_call0_v0 : Ref sig .tc := ⟨.hbm, 9, rfl⟩
abbrev main_v0_0 : Ref sig .tc := ⟨.hbm, 10, rfl⟩
abbrev main_v0_1 : Ref sig .tc := ⟨.hbm, 11, rfl⟩
abbrev main_v1 : Ref sig .tc := ⟨.hbm, 12, rfl⟩
abbrev main_c_0 : Ref sig .tc := ⟨.hbm, 13, rfl⟩
abbrev main_call1_v0 : Ref sig .tc := ⟨.hbm, 14, rfl⟩
abbrev main_v2 : Ref sig .tc := ⟨.hbm, 15, rfl⟩
abbrev main_v3 : Ref sig .tc := ⟨.hbm, 16, rfl⟩
abbrev main_c_1 : Ref sig .tc := ⟨.hbm, 17, rfl⟩
abbrev main_call2_v0 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_cst : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_c_2 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_c_3 : Ref sig .tc := ⟨.hbm, 45, rfl⟩
abbrev main_v28 : Ref sig .tc := ⟨.hbm, 46, rfl⟩
abbrev main_v29 : Ref sig .tc := ⟨.hbm, 47, rfl⟩
abbrev main_c_4 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_c_5 : Ref sig .tc := ⟨.hbm, 62, rfl⟩
abbrev main_v43 : Ref sig .tc := ⟨.hbm, 63, rfl⟩
abbrev main_v44 : Ref sig .tc := ⟨.hbm, 64, rfl⟩
abbrev main_c_6 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_c_7 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_cst_8 : Ref sig .tc := ⟨.hbm, 78, rfl⟩
abbrev main_call3_v0 : Ref sig .tc := ⟨.hbm, 79, rfl⟩
abbrev main_v56_1 : Ref sig .tc := ⟨.hbm, 80, rfl⟩
abbrev main_call3_v2 : Ref sig .tc := ⟨.hbm, 81, rfl⟩
abbrev main_v56_0 : Ref sig .tc := ⟨.hbm, 82, rfl⟩
abbrev main_call3_cst : Ref sig .tc := ⟨.hbm, 83, rfl⟩
abbrev main_v56_2 : Ref sig .tc := ⟨.hbm, 84, rfl⟩
abbrev main_cst_9 : Ref sig .tc := ⟨.hbm, 85, rfl⟩
abbrev main_v57 : Ref sig .tc := ⟨.hbm, 86, rfl⟩
abbrev main_v58 : Ref sig .tc := ⟨.hbm, 87, rfl⟩
abbrev main_v59 : Ref sig .tc := ⟨.hbm, 88, rfl⟩
abbrev main_v60 : Ref sig .tc := ⟨.hbm, 89, rfl⟩
abbrev main_v61 : Ref sig .tc := ⟨.hbm, 90, rfl⟩
abbrev main_cst_10 : Ref sig .tc := ⟨.hbm, 91, rfl⟩
abbrev main_v62 : Ref sig .tc := ⟨.hbm, 92, rfl⟩
abbrev main_v63 : Ref sig .tc := ⟨.hbm, 93, rfl⟩
abbrev main_v64 : Ref sig .tc := ⟨.hbm, 94, rfl⟩
abbrev main_v65 : Ref sig .tc := ⟨.hbm, 95, rfl⟩
abbrev main_v66 : Ref sig .tc := ⟨.hbm, 96, rfl⟩
abbrev main_cst_11 : Ref sig .tc := ⟨.hbm, 97, rfl⟩
abbrev main_v67 : Ref sig .tc := ⟨.hbm, 98, rfl⟩
abbrev main_v68 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_cst_12 : Ref sig .tc := ⟨.hbm, 106, rfl⟩
abbrev main_v75 : Ref sig .tc := ⟨.hbm, 107, rfl⟩
abbrev main_v76 : Ref sig .tc := ⟨.hbm, 108, rfl⟩
abbrev main_v77 : Ref sig .tc := ⟨.hbm, 109, rfl⟩
abbrev main_v78 : Ref sig .tc := ⟨.hbm, 110, rfl⟩
abbrev main_v79 : Ref sig .tc := ⟨.hbm, 111, rfl⟩
abbrev main_v80 : Ref sig .tc := ⟨.hbm, 112, rfl⟩
abbrev main_v81 : Ref sig .tc := ⟨.hbm, 113, rfl⟩
abbrev main_v82 : Ref sig .tc := ⟨.hbm, 114, rfl⟩
abbrev main_v83 : Ref sig .tc := ⟨.hbm, 115, rfl⟩
abbrev main_v84 : Ref sig .tc := ⟨.hbm, 116, rfl⟩
abbrev main_v85 : Ref sig .tc := ⟨.hbm, 117, rfl⟩
abbrev main_v86 : Ref sig .tc := ⟨.hbm, 118, rfl⟩
abbrev main_cst_13 : Ref sig .tc := ⟨.hbm, 119, rfl⟩
abbrev main_v87 : Ref sig .tc := ⟨.hbm, 120, rfl⟩
abbrev main_cst_14 : Ref sig .tc := ⟨.hbm, 121, rfl⟩
abbrev main_v88 : Ref sig .tc := ⟨.hbm, 122, rfl⟩
abbrev main_cst_15 : Ref sig .tc := ⟨.hbm, 123, rfl⟩
abbrev main_v89 : Ref sig .tc := ⟨.hbm, 124, rfl⟩
abbrev main_v90 : Ref sig .tc := ⟨.hbm, 125, rfl⟩
abbrev main_v91 : Ref sig .tc := ⟨.hbm, 126, rfl⟩
abbrev main_v92 : Ref sig .tc := ⟨.hbm, 127, rfl⟩
abbrev main_v93 : Ref sig .tc := ⟨.hbm, 128, rfl⟩
abbrev main_cst_16 : Ref sig .tc := ⟨.hbm, 129, rfl⟩
abbrev main_v94 : Ref sig .tc := ⟨.hbm, 130, rfl⟩
abbrev main_cst_17 : Ref sig .tc := ⟨.hbm, 131, rfl⟩
abbrev main_v95 : Ref sig .tc := ⟨.hbm, 132, rfl⟩
abbrev main_v96 : Ref sig .tc := ⟨.hbm, 133, rfl⟩
abbrev main_cst_18 : Ref sig .tc := ⟨.hbm, 134, rfl⟩
abbrev main_v97 : Ref sig .tc := ⟨.hbm, 135, rfl⟩
abbrev main_v98 : Ref sig .tc := ⟨.hbm, 136, rfl⟩
abbrev main_cst_19 : Ref sig .tc := ⟨.hbm, 137, rfl⟩
abbrev main_v99 : Ref sig .tc := ⟨.hbm, 138, rfl⟩
abbrev main_v100 : Ref sig .tc := ⟨.hbm, 139, rfl⟩
abbrev main_cst_20 : Ref sig .tc := ⟨.hbm, 140, rfl⟩
abbrev main_v101 : Ref sig .tc := ⟨.hbm, 141, rfl⟩
abbrev main_cst_21 : Ref sig .tc := ⟨.hbm, 142, rfl⟩
abbrev main_v102 : Ref sig .tc := ⟨.hbm, 143, rfl⟩
abbrev main_cst_22 : Ref sig .tc := ⟨.hbm, 144, rfl⟩
abbrev main_v103 : Ref sig .tc := ⟨.hbm, 145, rfl⟩
abbrev main_v104 : Ref sig .tc := ⟨.hbm, 146, rfl⟩
abbrev main_v105 : Ref sig .tc := ⟨.hbm, 147, rfl⟩
abbrev main_v106 : Ref sig .tc := ⟨.hbm, 148, rfl⟩
abbrev main_v107 : Ref sig .tc := ⟨.hbm, 149, rfl⟩
abbrev main_v108 : Ref sig .tc := ⟨.hbm, 150, rfl⟩
abbrev main_v109 : Ref sig .tc := ⟨.hbm, 151, rfl⟩
abbrev main_cst_23 : Ref sig .tc := ⟨.hbm, 152, rfl⟩
abbrev main_v110 : Ref sig .tc := ⟨.hbm, 153, rfl⟩
abbrev main_v111 : Ref sig .tc := ⟨.hbm, 154, rfl⟩
abbrev main_v112 : Ref sig .tc := ⟨.hbm, 155, rfl⟩
abbrev main_v113 : Ref sig .tc := ⟨.hbm, 156, rfl⟩
abbrev main_v114 : Ref sig .tc := ⟨.hbm, 157, rfl⟩
abbrev main_cst_24 : Ref sig .tc := ⟨.hbm, 158, rfl⟩
abbrev main_v115 : Ref sig .tc := ⟨.hbm, 159, rfl⟩
abbrev main_v116 : Ref sig .tc := ⟨.hbm, 160, rfl⟩
abbrev main_v117 : Ref sig .tc := ⟨.hbm, 161, rfl⟩
abbrev main_v118 : Ref sig .tc := ⟨.hbm, 162, rfl⟩
abbrev main_v119 : Ref sig .tc := ⟨.hbm, 163, rfl⟩
abbrev main_v120 : Ref sig .tc := ⟨.hbm, 164, rfl⟩
abbrev main_v121 : Ref sig .tc := ⟨.hbm, 165, rfl⟩
abbrev main_cst_25 : Ref sig .tc := ⟨.hbm, 166, rfl⟩
abbrev main_v122 : Ref sig .tc := ⟨.hbm, 167, rfl⟩
abbrev main_cst_26 : Ref sig .tc := ⟨.hbm, 168, rfl⟩
abbrev main_v123 : Ref sig .tc := ⟨.hbm, 169, rfl⟩
abbrev main_v124 : Ref sig .tc := ⟨.hbm, 170, rfl⟩
abbrev main_v125 : Ref sig .tc := ⟨.hbm, 171, rfl⟩
abbrev main_cst_27 : Ref sig .tc := ⟨.hbm, 172, rfl⟩
abbrev main_v126 : Ref sig .tc := ⟨.hbm, 173, rfl⟩
abbrev main_v127 : Ref sig .tc := ⟨.hbm, 174, rfl⟩
abbrev main_v128 : Ref sig .tc := ⟨.hbm, 175, rfl⟩
abbrev main_v129 : Ref sig .tc := ⟨.hbm, 176, rfl⟩
abbrev main_v130 : Ref sig .tc := ⟨.hbm, 177, rfl⟩
abbrev main_cst_28 : Ref sig .tc := ⟨.hbm, 178, rfl⟩
abbrev main_v131 : Ref sig .tc := ⟨.hbm, 179, rfl⟩
abbrev main_v132 : Ref sig .tc := ⟨.hbm, 180, rfl⟩
abbrev main_v133 : Ref sig .tc := ⟨.hbm, 181, rfl⟩
abbrev main_v134 : Ref sig .tc := ⟨.hbm, 182, rfl⟩
abbrev main_v135 : Ref sig .tc := ⟨.hbm, 183, rfl⟩
abbrev main_v136 : Ref sig .tc := ⟨.hbm, 184, rfl⟩
abbrev main_v137 : Ref sig .tc := ⟨.hbm, 185, rfl⟩
abbrev main_v138 : Ref sig .tc := ⟨.hbm, 186, rfl⟩
abbrev main_cst_29 : Ref sig .tc := ⟨.hbm, 187, rfl⟩
abbrev main_v139 : Ref sig .tc := ⟨.hbm, 188, rfl⟩
abbrev main_v140 : Ref sig .tc := ⟨.hbm, 189, rfl⟩
abbrev main_v141 : Ref sig .tc := ⟨.hbm, 190, rfl⟩
abbrev main_v142 : Ref sig .tc := ⟨.hbm, 191, rfl⟩
abbrev main_v143 : Ref sig .tc := ⟨.hbm, 192, rfl⟩
abbrev main_cst_30 : Ref sig .tc := ⟨.hbm, 193, rfl⟩
abbrev main_v144 : Ref sig .tc := ⟨.hbm, 194, rfl⟩
abbrev main_v145 : Ref sig .tc := ⟨.hbm, 195, rfl⟩
abbrev main_v146 : Ref sig .tc := ⟨.hbm, 196, rfl⟩
abbrev main_v147 : Ref sig .tc := ⟨.hbm, 197, rfl⟩
abbrev main_v148 : Ref sig .tc := ⟨.hbm, 198, rfl⟩
abbrev main_cst_31 : Ref sig .tc := ⟨.hbm, 199, rfl⟩
abbrev main_v149 : Ref sig .tc := ⟨.hbm, 200, rfl⟩
abbrev main_v150 : Ref sig .tc := ⟨.hbm, 201, rfl⟩
abbrev main_v151 : Ref sig .tc := ⟨.hbm, 202, rfl⟩
abbrev main_v152 : Ref sig .tc := ⟨.hbm, 203, rfl⟩
abbrev main_v153 : Ref sig .tc := ⟨.hbm, 204, rfl⟩
abbrev main_v154 : Ref sig .tc := ⟨.hbm, 205, rfl⟩
abbrev main_v155 : Ref sig .tc := ⟨.hbm, 206, rfl⟩
abbrev main_v156 : Ref sig .tc := ⟨.hbm, 207, rfl⟩
abbrev main_v157 : Ref sig .tc := ⟨.hbm, 208, rfl⟩
abbrev main_v158 : Ref sig .tc := ⟨.hbm, 209, rfl⟩
abbrev main_v159 : Ref sig .tc := ⟨.hbm, 210, rfl⟩
abbrev main_v160 : Ref sig .tc := ⟨.hbm, 211, rfl⟩
abbrev main_v161 : Ref sig .tc := ⟨.hbm, 212, rfl⟩
abbrev main_v162 : Ref sig .tc := ⟨.hbm, 213, rfl⟩
abbrev main_v163 : Ref sig .tc := ⟨.hbm, 214, rfl⟩
abbrev main_v164 : Ref sig .tc := ⟨.hbm, 215, rfl⟩
abbrev main_v165 : Ref sig .tc := ⟨.hbm, 216, rfl⟩
abbrev main_v166 : Ref sig .tc := ⟨.hbm, 217, rfl⟩
abbrev main_v167 : Ref sig .tc := ⟨.hbm, 218, rfl⟩
abbrev main_cst_32 : Ref sig .tc := ⟨.hbm, 219, rfl⟩
abbrev main_v168 : Ref sig .tc := ⟨.hbm, 220, rfl⟩
abbrev main_v169 : Ref sig .tc := ⟨.hbm, 221, rfl⟩
abbrev main_v170 : Ref sig .tc := ⟨.hbm, 222, rfl⟩
abbrev main_v171 : Ref sig .tc := ⟨.hbm, 223, rfl⟩
abbrev main_v172 : Ref sig .tc := ⟨.hbm, 224, rfl⟩
abbrev main_cst_33 : Ref sig .tc := ⟨.hbm, 225, rfl⟩
abbrev main_v173 : Ref sig .tc := ⟨.hbm, 226, rfl⟩
abbrev main_v174 : Ref sig .tc := ⟨.hbm, 227, rfl⟩
abbrev main_v175 : Ref sig .tc := ⟨.hbm, 228, rfl⟩
abbrev main_v176 : Ref sig .tc := ⟨.hbm, 229, rfl⟩
abbrev main_v177 : Ref sig .tc := ⟨.hbm, 230, rfl⟩
abbrev main_v178 : Ref sig .tc := ⟨.hbm, 231, rfl⟩
abbrev main_v179 : Ref sig .tc := ⟨.hbm, 232, rfl⟩
abbrev main_v180 : Ref sig .tc := ⟨.hbm, 233, rfl⟩
abbrev main_v181 : Ref sig .tc := ⟨.hbm, 234, rfl⟩
abbrev main_v182 : Ref sig .tc := ⟨.hbm, 235, rfl⟩
abbrev main_cst_34 : Ref sig .tc := ⟨.hbm, 236, rfl⟩
abbrev main_v183 : Ref sig .tc := ⟨.hbm, 237, rfl⟩
abbrev main_v184 : Ref sig .tc := ⟨.hbm, 238, rfl⟩
abbrev main_v185 : Ref sig .tc := ⟨.hbm, 239, rfl⟩
abbrev main_cst_35 : Ref sig .tc := ⟨.hbm, 240, rfl⟩
abbrev main_v186 : Ref sig .tc := ⟨.hbm, 241, rfl⟩
abbrev main_v187 : Ref sig .tc := ⟨.hbm, 242, rfl⟩
abbrev main_v188 : Ref sig .tc := ⟨.hbm, 243, rfl⟩
abbrev main_v189 : Ref sig .tc := ⟨.hbm, 244, rfl⟩
abbrev main_v190 : Ref sig .tc := ⟨.hbm, 245, rfl⟩
abbrev main_v191 : Ref sig .tc := ⟨.hbm, 246, rfl⟩
abbrev main_call4_cst : Ref sig .tc := ⟨.hbm, 247, rfl⟩
abbrev main_call4_v0 : Ref sig .tc := ⟨.hbm, 248, rfl⟩
abbrev main_v192 : Ref sig .tc := ⟨.hbm, 249, rfl⟩
abbrev main_cst_36 : Ref sig .tc := ⟨.hbm, 250, rfl⟩
abbrev main_v193 : Ref sig .tc := ⟨.hbm, 251, rfl⟩
abbrev main_v194 : Ref sig .tc := ⟨.hbm, 252, rfl⟩
abbrev main_v195 : Ref sig .tc := ⟨.hbm, 253, rfl⟩
abbrev main_v196 : Ref sig .tc := ⟨.hbm, 254, rfl⟩
abbrev main_v197 : Ref sig .tc := ⟨.hbm, 255, rfl⟩
abbrev main_call5_cst : Ref sig .tc := ⟨.hbm, 256, rfl⟩
abbrev main_call5_v0 : Ref sig .tc := ⟨.hbm, 257, rfl⟩
abbrev main_v198 : Ref sig .tc := ⟨.hbm, 258, rfl⟩
abbrev main_v199 : Ref sig .tc := ⟨.hbm, 259, rfl⟩
abbrev main_v200 : Ref sig .tc := ⟨.hbm, 260, rfl⟩

abbrev nD : Nat := 1
abbrev τ : Topo := Topo.v7x

variable {F : FTy → Type} [FloatOps F]
-- ==== DwIn.lean ====
abbrev S1x4096x1024 : Shape := ⟨3, ![1, 4096, 1024]⟩
abbrev S1x4096x6144 : Shape := ⟨3, ![1, 4096, 6144]⟩
abbrev S4096x1024 : Shape := ⟨2, ![4096, 1024]⟩
abbrev S1024x4096 : Shape := ⟨2, ![1024, 4096]⟩
abbrev S4096x6144 : Shape := ⟨2, ![4096, 6144]⟩
abbrev S1024x6144 : Shape := ⟨2, ![1024, 6144]⟩
abbrev S1024x2048 : Shape := ⟨2, ![1024, 2048]⟩
abbrev S2048x1024 : Shape := ⟨2, ![2048, 1024]⟩
abbrev S1024x1024 : Shape := ⟨2, ![1024, 1024]⟩

abbrev nBuf : Space → Nat
  | .hbm => 8
  | .vmem => 7
  | .smem => 0
  | _ => 0

abbrev bufTy : (tb : Table) → Fin (tcTables nBuf tb) → BufTy
  | .hbm, ⟨0, _⟩ => ⟨S1x4096x1024, .f32⟩
  | .hbm, ⟨1, _⟩ => ⟨S1x4096x6144, .f32⟩
  | .hbm, ⟨2, _⟩ => ⟨S4096x1024, .f32⟩
  | .hbm, ⟨3, _⟩ => ⟨S1024x4096, .f32⟩
  | .hbm, ⟨4, _⟩ => ⟨S1024x4096, .bf16⟩
  | .hbm, ⟨5, _⟩ => ⟨S4096x6144, .f32⟩
  | .hbm, ⟨6, _⟩ => ⟨S4096x6144, .bf16⟩
  | .hbm, ⟨7, _⟩ => ⟨S1024x6144, .bf16⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S1x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 6, 2], ![false, false, false]⟩

def k0_cond2 (i : grid0.Coords) : BitVec 1 :=
  let arg2 : BitVec 32 := BitVec.ofNat 32 (i 2).val
  let c1_i32 : BitVec 32 := 1#32
  let v13 : BitVec 1 := Scalar.cmpi .eq arg2 c1_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DwInRefIdeal.lean ====
abbrev S1x4096x1024 : Shape := ⟨3, ![1, 4096, 1024]⟩
abbrev S1x4096x6144 : Shape := ⟨3, ![1, 4096, 6144]⟩
abbrev S_ : Shape := ⟨0, ![]⟩
abbrev S1024x6144 : Shape := ⟨2, ![1024, 6144]⟩
abbrev S6144x1024 : Shape := ⟨2, ![6144, 1024]⟩

abbrev nBuf : Space → Nat
  | .hbm => 8
  | .vmem => 0
  | .smem => 0
  | _ => 0

abbrev bufTy : (tb : Table) → Fin (tcTables nBuf tb) → BufTy
  | .hbm, ⟨0, _⟩ => ⟨S1x4096x1024, .f32⟩
  | .hbm, ⟨1, _⟩ => ⟨S1x4096x6144, .f32⟩
  | .hbm, ⟨2, _⟩ => ⟨S_, .f32⟩
  | .hbm, ⟨3, _⟩ => ⟨S1024x6144, .f32⟩
  | .hbm, ⟨4, _⟩ => ⟨S1x4096x6144, .f32⟩
  | .hbm, ⟨5, _⟩ => ⟨S6144x1024, .f32⟩
  | .hbm, ⟨6, _⟩ => ⟨S1024x6144, .f32⟩
  | .hbm, ⟨7, _⟩ => ⟨S1024x6144, .bf16⟩
  | _, _ => ⟨S1x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== DwUp.lean ====
abbrev S1x4096x1024 : Shape := ⟨3, ![1, 4096, 1024]⟩
abbrev S1x4096x5632 : Shape := ⟨3, ![1, 4096, 5632]⟩
abbrev S4096x1024 : Shape := ⟨2, ![4096, 1024]⟩
abbrev S1024x4096 : Shape := ⟨2, ![1024, 4096]⟩
abbrev S4096x5632 : Shape := ⟨2, ![4096, 5632]⟩
abbrev S1024x5632 : Shape := ⟨2, ![1024, 5632]⟩
abbrev S1024x2048 : Shape := ⟨2, ![1024, 2048]⟩
abbrev S2048x1408 : Shape := ⟨2, ![2048, 1408]⟩
abbrev S1024x1408 : Shape := ⟨2, ![1024, 1408]⟩

abbrev nBuf : Space → Nat
  | .hbm => 8
  | .vmem => 7
  | .smem => 0
  | _ => 0

abbrev bufTy : (tb : Table) → Fin (tcTables nBuf tb) → BufTy
  | .hbm, ⟨0, _⟩ => ⟨S1x4096x1024, .f32⟩
  | .hbm, ⟨1, _⟩ => ⟨S1x4096x5632, .f32⟩
  | .hbm, ⟨2, _⟩ => ⟨S4096x1024, .f32⟩
  | .hbm, ⟨3, _⟩ => ⟨S1024x4096, .f32⟩
  | .hbm, ⟨4, _⟩ => ⟨S1024x4096, .bf16⟩
  | .hbm, ⟨5, _⟩ => ⟨S4096x5632, .f32⟩
  | .hbm, ⟨6, _⟩ => ⟨S4096x5632, .bf16⟩
  | .hbm, ⟨7, _⟩ => ⟨S1024x5632, .bf16⟩
  | .local _ .vmem, ⟨0, _⟩ => ⟨S1024x2048, .bf16⟩
  | .local _ .vmem, ⟨1, _⟩ => ⟨S1024x2048, .bf16⟩
  | .local _ .vmem, ⟨2, _⟩ => ⟨S2048x1408, .bf16⟩
  | .local _ .vmem, ⟨3, _⟩ => ⟨S2048x1408, .bf16⟩
  | .local _ .vmem, ⟨4, _⟩ => ⟨S1024x1408, .bf16⟩
  | .local _ .vmem, ⟨5, _⟩ => ⟨S1024x1408, .bf16⟩
  | .local _ .vmem, ⟨6, _⟩ => ⟨S1024x1408, .f32⟩
  | _, _ => ⟨S1x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 4, 2], ![false, false, false]⟩

def k0_cond2 (i : grid0.Coords) : BitVec 1 :=
  let arg2 : BitVec 32 := BitVec.ofNat 32 (i 2).val
  let c1_i32 : BitVec 32 := 1#32
  let v13 : BitVec 1 := Scalar.cmpi .eq arg2 c1_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DwUpRefIdeal.lean ====
abbrev S1x4096x1024 : Shape := ⟨3, ![1, 4096, 1024]⟩
abbrev S1x4096x5632 : Shape := ⟨3, ![1, 4096, 5632]⟩
abbrev S_ : Shape := ⟨0, ![]⟩
abbrev S1024x5632 : Shape := ⟨2, ![1024, 5632]⟩
abbrev S5632x1024 : Shape := ⟨2, ![5632, 1024]⟩

abbrev nBuf : Space → Nat
  | .hbm => 8
  | .vmem => 0
  | .smem => 0
  | _ => 0

abbrev bufTy : (tb : Table) → Fin (tcTables nBuf tb) → BufTy
  | .hbm, ⟨0, _⟩ => ⟨S1x4096x1024, .f32⟩
  | .hbm, ⟨1, _⟩ => ⟨S1x4096x5632, .f32⟩
  | .hbm, ⟨2, _⟩ => ⟨S_, .f32⟩
  | .hbm, ⟨3, _⟩ => ⟨S1024x5632, .f32⟩
  | .hbm, ⟨4, _⟩ => ⟨S1x4096x5632, .f32⟩
  | .hbm, ⟨5, _⟩ => ⟨S5632x1024, .f32⟩
  | .hbm, ⟨6, _⟩ => ⟨S1024x5632, .f32⟩
  | .hbm, ⟨7, _⟩ => ⟨S1024x5632, .bf16⟩
  | _, _ => ⟨S1x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== DwDown.lean ====
abbrev S1x4096x2816 : Shape := ⟨3, ![1, 4096, 2816]⟩
abbrev S1x4096x1024 : Shape := ⟨3, ![1, 4096, 1024]⟩
abbrev S4096x2816 : Shape := ⟨2, ![4096, 2816]⟩
abbrev S2816x4096 : Shape := ⟨2, ![2816, 4096]⟩
abbrev S4096x1024 : Shape := ⟨2, ![4096, 1024]⟩
abbrev S2816x1024 : Shape := ⟨2, ![2816, 1024]⟩
abbrev S1408x2048 : Shape := ⟨2, ![1408, 2048]⟩
abbrev S2048x1024 : Shape := ⟨2, ![2048, 1024]⟩
abbrev S1408x1024 : Shape := ⟨2, ![1408, 1024]⟩

abbrev nBuf : Space → Nat
  | .hbm => 8
  | .vmem => 7
  | .smem => 0
  | _ => 0

abbrev bufTy : (tb : Table) → Fin (tcTables nBuf tb) → BufTy
  | .hbm, ⟨0, _⟩ => ⟨S1x4096x2816, .f32⟩
  | .hbm, ⟨1, _⟩ => ⟨S1x4096x1024, .f32⟩
  | .hbm, ⟨2, _⟩ => ⟨S4096x2816, .f32⟩
  | .hbm, ⟨3, _⟩ => ⟨S2816x4096, .f32⟩
  | .hbm, ⟨4, _⟩ => ⟨S2816x4096, .bf16⟩
  | .hbm, ⟨5, _⟩ => ⟨S4096x1024, .f32⟩
  | .hbm, ⟨6, _⟩ => ⟨S4096x1024, .bf16⟩
  | .hbm, ⟨7, _⟩ => ⟨S2816x1024, .bf16⟩
  | .local _ .vmem, ⟨0, _⟩ => ⟨S1408x2048, .bf16⟩
  | .local _ .vmem, ⟨1, _⟩ => ⟨S1408x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1408x1024, .bf16⟩
  | .local _ .vmem, ⟨5, _⟩ => ⟨S1408x1024, .bf16⟩
  | .local _ .vmem, ⟨6, _⟩ => ⟨S1408x1024, .f32⟩
  | _, _ => ⟨S1x4096x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 2], ![false, false, false]⟩

def k0_cond2 (i : grid0.Coords) : BitVec 1 :=
  let arg2 : BitVec 32 := BitVec.ofNat 32 (i 2).val
  let c1_i32 : BitVec 32 := 1#32
  let v13 : BitVec 1 := Scalar.cmpi .eq arg2 c1_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1408x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1408x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DwDownRefIdeal.lean ====
abbrev S1x4096x2816 : Shape := ⟨3, ![1, 4096, 2816]⟩
abbrev S1x4096x1024 : Shape := ⟨3, ![1, 4096, 1024]⟩
abbrev S_ : Shape := ⟨0, ![]⟩
abbrev S2816x1024 : Shape := ⟨2, ![2816, 1024]⟩
abbrev S1024x2816 : Shape := ⟨2, ![1024, 2816]⟩

abbrev nBuf : Space → Nat
  | .hbm => 8
  | .vmem => 0
  | .smem => 0
  | _ => 0

abbrev bufTy : (tb : Table) → Fin (tcTables nBuf tb) → BufTy
  | .hbm, ⟨0, _⟩ => ⟨S1x4096x2816, .f32⟩
  | .hbm, ⟨1, _⟩ => ⟨S1x4096x1024, .f32⟩
  | .hbm, ⟨2, _⟩ => ⟨S_, .f32⟩
  | .hbm, ⟨3, _⟩ => ⟨S2816x1024, .f32⟩
  | .hbm, ⟨4, _⟩ => ⟨S1x4096x1024, .f32⟩
  | .hbm, ⟨5, _⟩ => ⟨S1024x2816, .f32⟩
  | .hbm, ⟨6, _⟩ => ⟨S2816x1024, .f32⟩
  | .hbm, ⟨7, _⟩ => ⟨S2816x1024, .bf16⟩
  | _, _ => ⟨S1x4096x2816, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== DwOut.lean ====
abbrev S1x4096x2048 : Shape := ⟨3, ![1, 4096, 2048]⟩
abbrev S1x4096x1024 : Shape := ⟨3, ![1, 4096, 1024]⟩
abbrev S4096x2048 : Shape := ⟨2, ![4096, 2048]⟩
abbrev S2048x4096 : Shape := ⟨2, ![2048, 4096]⟩
abbrev S4096x1024 : Shape := ⟨2, ![4096, 1024]⟩
abbrev S2048x1024 : Shape := ⟨2, ![2048, 1024]⟩
abbrev S1024x2048 : Shape := ⟨2, ![1024, 2048]⟩
abbrev S1024x1024 : Shape := ⟨2, ![1024, 1024]⟩

abbrev nBuf : Space → Nat
  | .hbm => 8
  | .vmem => 7
  | .smem => 0
  | _ => 0

abbrev bufTy : (tb : Table) → Fin (tcTables nBuf tb) → BufTy
  | .hbm, ⟨0, _⟩ => ⟨S1x4096x2048, .f32⟩
  | .hbm, ⟨1, _⟩ => ⟨S1x4096x1024, .f32⟩
  | .hbm, ⟨2, _⟩ => ⟨S4096x2048, .f32⟩
  | .hbm, ⟨3, _⟩ => ⟨S2048x4096, .f32⟩
  | .hbm, ⟨4, _⟩ => ⟨S2048x4096, .bf16⟩
  | .hbm, ⟨5, _⟩ => ⟨S4096x1024, .f32⟩
  | .hbm, ⟨6, _⟩ => ⟨S4096x1024, .bf16⟩
  | .hbm, ⟨7, _⟩ => ⟨S2048x1024, .bf16⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S1x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 2], ![false, false, false]⟩

def k0_cond2 (i : grid0.Coords) : BitVec 1 :=
  let arg2 : BitVec 32 := BitVec.ofNat 32 (i 2).val
  let c1_i32 : BitVec 32 := 1#32
  let v13 : BitVec 1 := Scalar.cmpi .eq arg2 c1_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DwOutRefIdeal.lean ====
abbrev S1x4096x2048 : Shape := ⟨3, ![1, 4096, 2048]⟩
abbrev S1x4096x1024 : Shape := ⟨3, ![1, 4096, 1024]⟩
abbrev S_ : Shape := ⟨0, ![]⟩
abbrev S2048x1024 : Shape := ⟨2, ![2048, 1024]⟩
abbrev S1024x2048 : Shape := ⟨2, ![1024, 2048]⟩

abbrev nBuf : Space → Nat
  | .hbm => 8
  | .vmem => 0
  | .smem => 0
  | _ => 0

abbrev bufTy : (tb : Table) → Fin (tcTables nBuf tb) → BufTy
  | .hbm, ⟨0, _⟩ => ⟨S1x4096x2048, .f32⟩
  | .hbm, ⟨1, _⟩ => ⟨S1x4096x1024, .f32⟩
  | .hbm, ⟨2, _⟩ => ⟨S_, .f32⟩
  | .hbm, ⟨3, _⟩ => ⟨S2048x1024, .f32⟩
  | .hbm, ⟨4, _⟩ => ⟨S1x4096x1024, .f32⟩
  | .hbm, ⟨5, _⟩ => ⟨S1024x2048, .f32⟩
  | .hbm, ⟨6, _⟩ => ⟨S2048x1024, .f32⟩
  | .hbm, ⟨7, _⟩ => ⟨S2048x1024, .bf16⟩
  | _, _ => ⟨S1x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== DAct.lean ====
abbrev S2816x1024 : Shape := ⟨2, ![2816, 1024]⟩
abbrev S1x4096x1024 : Shape := ⟨3, ![1, 4096, 1024]⟩
abbrev S4096x1024 : Shape := ⟨2, ![4096, 1024]⟩
abbrev S4096x2816 : Shape := ⟨2, ![4096, 2816]⟩
abbrev S2048x1024 : Shape := ⟨2, ![2048, 1024]⟩
abbrev S256x1024 : Shape := ⟨2, ![256, 1024]⟩
abbrev S2048x256 : Shape := ⟨2, ![2048, 256]⟩

abbrev nBuf : Space → Nat
  | .hbm => 6
  | .vmem => 7
  | .smem => 0
  | _ => 0

abbrev bufTy : (tb : Table) → Fin (tcTables nBuf tb) → BufTy
  | .hbm, ⟨0, _⟩ => ⟨S2816x1024, .f32⟩
  | .hbm, ⟨1, _⟩ => ⟨S1x4096x1024, .f32⟩
  | .hbm, ⟨2, _⟩ => ⟨S4096x1024, .f32⟩
  | .hbm, ⟨3, _⟩ => ⟨S4096x1024, .bf16⟩
  | .hbm, ⟨4, _⟩ => ⟨S2816x1024, .bf16⟩
  | .hbm, ⟨5, _⟩ => ⟨S4096x2816, .bf16⟩
  | .local _ .vmem, ⟨0, _⟩ => ⟨S2048x1024, .bf16⟩
  | .local _ .vmem, ⟨1, _⟩ => ⟨S2048x1024, .bf16⟩
  | .local _ .vmem, ⟨2, _⟩ => ⟨S256x1024, .bf16⟩
  | .local _ .vmem, ⟨3, _⟩ => ⟨S256x1024, .bf16⟩
  | .local _ .vmem, ⟨4, _⟩ => ⟨S2048x256, .bf16⟩
  | .local _ .vmem, ⟨5, _⟩ => ⟨S2048x256, .bf16⟩
  | .local _ .vmem, ⟨6, _⟩ => ⟨S2048x256, .f32⟩
  | _, _ => ⟨S2816x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 11, 1], ![false, false, false]⟩

def k0_cond2 (i : grid0.Coords) : BitVec 1 :=
  let arg2 : BitVec 32 := BitVec.ofNat 32 (i 2).val
  let c0_i32_8 : BitVec 32 := 0#32
  let v13 : BitVec 1 := Scalar.cmpi .eq arg2 c0_i32_8
  let v14 : BitVec 32 := Scalar.extui v13
  let c0_i32_9 : BitVec 32 := 0#32
  let v15 : BitVec 1 := Scalar.cmpi .ne v14 c0_i32_9
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DActRefIdeal.lean ====
abbrev S2816x1024 : Shape := ⟨2, ![2816, 1024]⟩
abbrev S1x4096x1024 : Shape := ⟨3, ![1, 4096, 1024]⟩
abbrev S_ : Shape := ⟨0, ![]⟩
abbrev S1x4096x2816 : Shape := ⟨3, ![1, 4096, 2816]⟩
abbrev S4096x2816 : Shape := ⟨2, ![4096, 2816]⟩

abbrev nBuf : Space → Nat
  | .hbm => 8
  | .vmem => 0
  | .smem => 0
  | _ => 0

abbrev bufTy : (tb : Table) → Fin (tcTables nBuf tb) → BufTy
  | .hbm, ⟨0, _⟩ => ⟨S2816x1024, .f32⟩
  | .hbm, ⟨1, _⟩ => ⟨S1x4096x1024, .f32⟩
  | .hbm, ⟨2, _⟩ => ⟨S_, .f32⟩
  | .hbm, ⟨3, _⟩ => ⟨S1x4096x2816, .f32⟩
  | .hbm, ⟨4, _⟩ => ⟨S1x4096x1024, .f32⟩
  | .hbm, ⟨5, _⟩ => ⟨S1x4096x2816, .f32⟩
  | .hbm, ⟨6, _⟩ => ⟨S4096x2816, .f32⟩
  | .hbm, ⟨7, _⟩ => ⟨S4096x2816, .bf16⟩
  | _, _ => ⟨S2816x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== DMix.lean ====
abbrev S2048x1024 : Shape := ⟨2, ![2048, 1024]⟩
abbrev S1x4096x1024 : Shape := ⟨3, ![1, 4096, 1024]⟩
abbrev S4096x1024 : Shape := ⟨2, ![4096, 1024]⟩
abbrev S4096x2048 : Shape := ⟨2, ![4096, 2048]⟩
abbrev S512x1024 : Shape := ⟨2, ![512, 1024]⟩
abbrev S2048x512 : Shape := ⟨2, ![2048, 512]⟩

abbrev nBuf : Space → Nat
  | .hbm => 6
  | .vmem => 7
  | .smem => 0
  | _ => 0

abbrev bufTy : (tb : Table) → Fin (tcTables nBuf tb) → BufTy
  | .hbm, ⟨0, _⟩ => ⟨S2048x1024, .f32⟩
  | .hbm, ⟨1, _⟩ => ⟨S1x4096x1024, .f32⟩
  | .hbm, ⟨2, _⟩ => ⟨S4096x1024, .f32⟩
  | .hbm, ⟨3, _⟩ => ⟨S4096x1024, .bf16⟩
  | .hbm, ⟨4, _⟩ => ⟨S2048x1024, .bf16⟩
  | .hbm, ⟨5, _⟩ => ⟨S4096x2048, .bf16⟩
  | .local _ .vmem, ⟨0, _⟩ => ⟨S2048x1024, .bf16⟩
  | .local _ .vmem, ⟨1, _⟩ => ⟨S2048x1024, .bf16⟩
  | .local _ .vmem, ⟨2, _⟩ => ⟨S512x1024, .bf16⟩
  | .local _ .vmem, ⟨3, _⟩ => ⟨S512x1024, .bf16⟩
  | .local _ .vmem, ⟨4, _⟩ => ⟨S2048x512, .bf16⟩
  | .local _ .vmem, ⟨5, _⟩ => ⟨S2048x512, .bf16⟩
  | .local _ .vmem, ⟨6, _⟩ => ⟨S2048x512, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 4, 1], ![false, false, false]⟩

def k0_cond2 (i : grid0.Coords) : BitVec 1 :=
  let arg2 : BitVec 32 := BitVec.ofNat 32 (i 2).val
  let c0_i32_8 : BitVec 32 := 0#32
  let v13 : BitVec 1 := Scalar.cmpi .eq arg2 c0_i32_8
  let v14 : BitVec 32 := Scalar.extui v13
  let c0_i32_9 : BitVec 32 := 0#32
  let v15 : BitVec 1 := Scalar.cmpi .ne v14 c0_i32_9
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DMixRefIdeal.lean ====
abbrev S2048x1024 : Shape := ⟨2, ![2048, 1024]⟩
abbrev S1x4096x1024 : Shape := ⟨3, ![1, 4096, 1024]⟩
abbrev S_ : Shape := ⟨0, ![]⟩
abbrev S1x4096x2048 : Shape := ⟨3, ![1, 4096, 2048]⟩
abbrev S4096x2048 : Shape := ⟨2, ![4096, 2048]⟩

abbrev nBuf : Space → Nat
  | .hbm => 8
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S1x4096x1024, .f32⟩
  | .hbm, ⟨2, _⟩ => ⟨S_, .f32⟩
  | .hbm, ⟨3, _⟩ => ⟨S1x4096x2048, .f32⟩
  | .hbm, ⟨4, _⟩ => ⟨S1x4096x1024, .f32⟩
  | .hbm, ⟨5, _⟩ => ⟨S1x4096x2048, .f32⟩
  | .hbm, ⟨6, _⟩ => ⟨S4096x2048, .f32⟩
  | .hbm, ⟨7, _⟩ => ⟨S4096x2048, .bf16⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== InProj.lean ====
abbrev S1x4096x1024 : Shape := ⟨3, ![1, 4096, 1024]⟩
abbrev S1024x6144 : Shape := ⟨2, ![1024, 6144]⟩
abbrev S4096x1024 : Shape := ⟨2, ![4096, 1024]⟩
abbrev S4096x6144 : Shape := ⟨2, ![4096, 6144]⟩
abbrev S2048x1024 : Shape := ⟨2, ![2048, 1024]⟩
abbrev S1024x512 : Shape := ⟨2, ![1024, 512]⟩
abbrev S2048x512 : Shape := ⟨2, ![2048, 512]⟩

abbrev nBuf : Space → Nat
  | .hbm => 6
  | .vmem => 7
  | .smem => 0
  | _ => 0

abbrev bufTy : (tb : Table) → Fin (tcTables nBuf tb) → BufTy
  | .hbm, ⟨0, _⟩ => ⟨S1x4096x1024, .f32⟩
  | .hbm, ⟨1, _⟩ => ⟨S1024x6144, .f32⟩
  | .hbm, ⟨2, _⟩ => ⟨S4096x1024, .f32⟩
  | .hbm, ⟨3, _⟩ => ⟨S4096x1024, .bf16⟩
  | .hbm, ⟨4, _⟩ => ⟨S1024x6144, .bf16⟩
  | .hbm, ⟨5, _⟩ => ⟨S4096x6144, .bf16⟩
  | .local _ .vmem, ⟨0, _⟩ => ⟨S2048x1024, .bf16⟩
  | .local _ .vmem, ⟨1, _⟩ => ⟨S2048x1024, .bf16⟩
  | .local _ .vmem, ⟨2, _⟩ => ⟨S1024x512, .bf16⟩
  | .local _ .vmem, ⟨3, _⟩ => ⟨S1024x512, .bf16⟩
  | .local _ .vmem, ⟨4, _⟩ => ⟨S2048x512, .bf16⟩
  | .local _ .vmem, ⟨5, _⟩ => ⟨S2048x512, .bf16⟩
  | .local _ .vmem, ⟨6, _⟩ => ⟨S2048x512, .f32⟩
  | _, _ => ⟨S1x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 12, 1], ![false, false, false]⟩

def k0_cond2 (i : grid0.Coords) : BitVec 1 :=
  let arg2 : BitVec 32 := BitVec.ofNat 32 (i 2).val
  let c0_i32_8 : BitVec 32 := 0#32
  let v13 : BitVec 1 := Scalar.cmpi .eq arg2 c0_i32_8
  let v14 : BitVec 32 := Scalar.extui v13
  let c0_i32_9 : BitVec 32 := 0#32
  let v15 : BitVec 1 := Scalar.cmpi .ne v14 c0_i32_9
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== InProjRefIdeal.lean ====
abbrev S1x4096x1024 : Shape := ⟨3, ![1, 4096, 1024]⟩
abbrev S1024x6144 : Shape := ⟨2, ![1024, 6144]⟩
abbrev S1x4096x6144 : Shape := ⟨3, ![1, 4096, 6144]⟩
abbrev S4096x6144 : Shape := ⟨2, ![4096, 6144]⟩

abbrev nBuf : Space → Nat
  | .hbm => 5
  | .vmem => 0
  | .smem => 0
  | _ => 0

abbrev bufTy : (tb : Table) → Fin (tcTables nBuf tb) → BufTy
  | .hbm, ⟨0, _⟩ => ⟨S1x4096x1024, .f32⟩
  | .hbm, ⟨1, _⟩ => ⟨S1024x6144, .f32⟩
  | .hbm, ⟨2, _⟩ => ⟨S1x4096x6144, .f32⟩
  | .hbm, ⟨3, _⟩ => ⟨S4096x6144, .f32⟩
  | .hbm, ⟨4, _⟩ => ⟨S4096x6144, .bf16⟩
  | _, _ => ⟨S1x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== FfnUp.lean ====
abbrev S1x4096x1024 : Shape := ⟨3, ![1, 4096, 1024]⟩
abbrev S1024x5632 : Shape := ⟨2, ![1024, 5632]⟩
abbrev S4096x1024 : Shape := ⟨2, ![4096, 1024]⟩
abbrev S4096x5632 : Shape := ⟨2, ![4096, 5632]⟩
abbrev S2048x1024 : Shape := ⟨2, ![2048, 1024]⟩
abbrev S1024x512 : Shape := ⟨2, ![1024, 512]⟩
abbrev S2048x512 : Shape := ⟨2, ![2048, 512]⟩

abbrev nBuf : Space → Nat
  | .hbm => 6
  | .vmem => 7
  | .smem => 0
  | _ => 0

abbrev bufTy : (tb : Table) → Fin (tcTables nBuf tb) → BufTy
  | .hbm, ⟨0, _⟩ => ⟨S1x4096x1024, .f32⟩
  | .hbm, ⟨1, _⟩ => ⟨S1024x5632, .f32⟩
  | .hbm, ⟨2, _⟩ => ⟨S4096x1024, .f32⟩
  | .hbm, ⟨3, _⟩ => ⟨S4096x1024, .bf16⟩
  | .hbm, ⟨4, _⟩ => ⟨S1024x5632, .bf16⟩
  | .hbm, ⟨5, _⟩ => ⟨S4096x5632, .bf16⟩
  | .local _ .vmem, ⟨0, _⟩ => ⟨S2048x1024, .bf16⟩
  | .local _ .vmem, ⟨1, _⟩ => ⟨S2048x1024, .bf16⟩
  | .local _ .vmem, ⟨2, _⟩ => ⟨S1024x512, .bf16⟩
  | .local _ .vmem, ⟨3, _⟩ => ⟨S1024x512, .bf16⟩
  | .local _ .vmem, ⟨4, _⟩ => ⟨S2048x512, .bf16⟩
  | .local _ .vmem, ⟨5, _⟩ => ⟨S2048x512, .bf16⟩
  | .local _ .vmem, ⟨6, _⟩ => ⟨S2048x512, .f32⟩
  | _, _ => ⟨S1x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 11, 1], ![false, false, false]⟩

def k0_cond2 (i : grid0.Coords) : BitVec 1 :=
  let arg2 : BitVec 32 := BitVec.ofNat 32 (i 2).val
  let c0_i32_8 : BitVec 32 := 0#32
  let v13 : BitVec 1 := Scalar.cmpi .eq arg2 c0_i32_8
  let v14 : BitVec 32 := Scalar.extui v13
  let c0_i32_9 : BitVec 32 := 0#32
  let v15 : BitVec 1 := Scalar.cmpi .ne v14 c0_i32_9
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== FfnUpRefIdeal.lean ====
abbrev S1x4096x1024 : Shape := ⟨3, ![1, 4096, 1024]⟩
abbrev S1024x5632 : Shape := ⟨2, ![1024, 5632]⟩
abbrev S1x4096x5632 : Shape := ⟨3, ![1, 4096, 5632]⟩
abbrev S4096x5632 : Shape := ⟨2, ![4096, 5632]⟩

abbrev nBuf : Space → Nat
  | .hbm => 5
  | .vmem => 0
  | .smem => 0
  | _ => 0

abbrev bufTy : (tb : Table) → Fin (tcTables nBuf tb) → BufTy
  | .hbm, ⟨0, _⟩ => ⟨S1x4096x1024, .f32⟩
  | .hbm, ⟨1, _⟩ => ⟨S1024x5632, .f32⟩
  | .hbm, ⟨2, _⟩ => ⟨S1x4096x5632, .f32⟩
  | .hbm, ⟨3, _⟩ => ⟨S4096x5632, .f32⟩
  | .hbm, ⟨4, _⟩ => ⟨S4096x5632, .bf16⟩
  | _, _ => ⟨S1x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== OutProj.lean ====
abbrev S1x4096x2048 : Shape := ⟨3, ![1, 4096, 2048]⟩
abbrev S2048x1024 : Shape := ⟨2, ![2048, 1024]⟩
abbrev S1x4096x1024 : Shape := ⟨3, ![1, 4096, 1024]⟩
abbrev S4096x2048 : Shape := ⟨2, ![4096, 2048]⟩
abbrev S4096x1024 : Shape := ⟨2, ![4096, 1024]⟩
abbrev S2048x2048 : Shape := ⟨2, ![2048, 2048]⟩
abbrev S2048x512 : Shape := ⟨2, ![2048, 512]⟩

abbrev nBuf : Space → Nat
  | .hbm => 8
  | .vmem => 9
  | .smem => 0
  | _ => 0

abbrev bufTy : (tb : Table) → Fin (tcTables nBuf tb) → BufTy
  | .hbm, ⟨0, _⟩ => ⟨S1x4096x2048, .f32⟩
  | .hbm, ⟨1, _⟩ => ⟨S2048x1024, .f32⟩
  | .hbm, ⟨2, _⟩ => ⟨S1x4096x1024, .f32⟩
  | .hbm, ⟨3, _⟩ => ⟨S4096x2048, .f32⟩
  | .hbm, ⟨4, _⟩ => ⟨S4096x2048, .bf16⟩
  | .hbm, ⟨5, _⟩ => ⟨S2048x1024, .bf16⟩
  | .hbm, ⟨6, _⟩ => ⟨S4096x1024, .f32⟩
  | .hbm, ⟨7, _⟩ => ⟨S4096x1024, .f32⟩
  | .local _ .vmem, ⟨0, _⟩ => ⟨S2048x2048, .bf16⟩
  | .local _ .vmem, ⟨1, _⟩ => ⟨S2048x2048, .bf16⟩
  | .local _ .vmem, ⟨2, _⟩ => ⟨S2048x512, .bf16⟩
  | .local _ .vmem, ⟨3, _⟩ => ⟨S2048x512, .bf16⟩
  | .local _ .vmem, ⟨4, _⟩ => ⟨S2048x512, .f32⟩
  | .local _ .vmem, ⟨5, _⟩ => ⟨S2048x512, .f32⟩
  | .local _ .vmem, ⟨6, _⟩ => ⟨S2048x512, .f32⟩
  | .local _ .vmem, ⟨7, _⟩ => ⟨S2048x512, .f32⟩
  | .local _ .vmem, ⟨8, _⟩ => ⟨S2048x512, .f32⟩
  | _, _ => ⟨S1x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![2, 2, 1], ![false, false, false]⟩

def k0_cond2 (i : grid0.Coords) : BitVec 1 :=
  let arg2 : BitVec 32 := BitVec.ofNat 32 (i 2).val
  let c0_i32_8 : BitVec 32 := 0#32
  let v13 : BitVec 1 := Scalar.cmpi .eq arg2 c0_i32_8
  let v14 : BitVec 32 := Scalar.extui v13
  let c0_i32_9 : BitVec 32 := 0#32
  let v15 : BitVec 1 := Scalar.cmpi .ne v14 c0_i32_9
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S2048x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== OutProjRefIdeal.lean ====
abbrev S1x4096x2048 : Shape := ⟨3, ![1, 4096, 2048]⟩
abbrev S2048x1024 : Shape := ⟨2, ![2048, 1024]⟩
abbrev S1x4096x1024 : Shape := ⟨3, ![1, 4096, 1024]⟩
abbrev S4096x1024 : Shape := ⟨2, ![4096, 1024]⟩

abbrev nBuf : Space → Nat
  | .hbm => 6
  | .vmem => 0
  | .smem => 0
  | _ => 0

abbrev bufTy : (tb : Table) → Fin (tcTables nBuf tb) → BufTy
  | .hbm, ⟨0, _⟩ => ⟨S1x4096x2048, .f32⟩
  | .hbm, ⟨1, _⟩ => ⟨S2048x1024, .f32⟩
  | .hbm, ⟨2, _⟩ => ⟨S1x4096x1024, .f32⟩
  | .hbm, ⟨3, _⟩ => ⟨S1x4096x1024, .f32⟩
  | .hbm, ⟨4, _⟩ => ⟨S1x4096x1024, .f32⟩
  | .hbm, ⟨5, _⟩ => ⟨S4096x1024, .f32⟩
  | _, _ => ⟨S1x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== FfnDown.lean ====
abbrev S1x4096x2816 : Shape := ⟨3, ![1, 4096, 2816]⟩
abbrev S2816x1024 : Shape := ⟨2, ![2816, 1024]⟩
abbrev S1x4096x1024 : Shape := ⟨3, ![1, 4096, 1024]⟩
abbrev S4096x2816 : Shape := ⟨2, ![4096, 2816]⟩
abbrev S4096x1024 : Shape := ⟨2, ![4096, 1024]⟩
abbrev S1024x1408 : Shape := ⟨2, ![1024, 1408]⟩
abbrev S1408x1024 : Shape := ⟨2, ![1408, 1024]⟩
abbrev S1024x1024 : Shape := ⟨2, ![1024, 1024]⟩

abbrev nBuf : Space → Nat
  | .hbm => 8
  | .vmem => 9
  | .smem => 0
  | _ => 0

abbrev bufTy : (tb : Table) → Fin (tcTables nBuf tb) → BufTy
  | .hbm, ⟨0, _⟩ => ⟨S1x4096x2816, .f32⟩
  | .hbm, ⟨1, _⟩ => ⟨S2816x1024, .f32⟩
  | .hbm, ⟨2, _⟩ => ⟨S1x4096x1024, .f32⟩
  | .hbm, ⟨3, _⟩ => ⟨S4096x2816, .f32⟩
  | .hbm, ⟨4, _⟩ => ⟨S4096x2816, .bf16⟩
  | .hbm, ⟨5, _⟩ => ⟨S2816x1024, .bf16⟩
  | .hbm, ⟨6, _⟩ => ⟨S4096x1024, .f32⟩
  | .hbm, ⟨7, _⟩ => ⟨S4096x1024, .f32⟩
  | .local _ .vmem, ⟨0, _⟩ => ⟨S1024x1408, .bf16⟩
  | .local _ .vmem, ⟨1, _⟩ => ⟨S1024x1408, .bf16⟩
  | .local _ .vmem, ⟨2, _⟩ => ⟨S1408x1024, .bf16⟩
  | .local _ .vmem, ⟨3, _⟩ => ⟨S1408x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | _, _ => ⟨S1x4096x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 1, 2], ![false, false, false]⟩

def k0_cond2 (i : grid0.Coords) : BitVec 1 :=
  let arg2 : BitVec 32 := BitVec.ofNat 32 (i 2).val
  let c1_i32 : BitVec 32 := 1#32
  let v13 : BitVec 1 := Scalar.cmpi .eq arg2 c1_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== FfnDownRefIdeal.lean ====
abbrev S1x4096x2816 : Shape := ⟨3, ![1, 4096, 2816]⟩
abbrev S2816x1024 : Shape := ⟨2, ![2816, 1024]⟩
abbrev S1x4096x1024 : Shape := ⟨3, ![1, 4096, 1024]⟩
abbrev S4096x1024 : Shape := ⟨2, ![4096, 1024]⟩

abbrev nBuf : Space → Nat
  | .hbm => 6
  | .vmem => 0
  | .smem => 0
  | _ => 0

abbrev bufTy : (tb : Table) → Fin (tcTables nBuf tb) → BufTy
  | .hbm, ⟨0, _⟩ => ⟨S1x4096x2816, .f32⟩
  | .hbm, ⟨1, _⟩ => ⟨S2816x1024, .f32⟩
  | .hbm, ⟨2, _⟩ => ⟨S1x4096x1024, .f32⟩
  | .hbm, ⟨3, _⟩ => ⟨S1x4096x1024, .f32⟩
  | .hbm, ⟨4, _⟩ => ⟨S1x4096x1024, .f32⟩
  | .hbm, ⟨5, _⟩ => ⟨S4096x1024, .f32⟩
  | _, _ => ⟨S1x4096x2816, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== UpdateOut.lean ====
abbrev S8x256x1024 : Shape := ⟨3, ![8, 256, 1024]⟩
abbrev S1x256x1024 : Shape := ⟨3, ![1, 256, 1024]⟩
abbrev S256x1024 : Shape := ⟨2, ![256, 1024]⟩

abbrev nBuf : Space → Nat
  | .hbm => 11
  | .vmem => 8
  | .smem => 0
  | _ => 0

abbrev bufTy : (tb : Table) → Fin (tcTables nBuf tb) → BufTy
  | .hbm, ⟨0, _⟩ => ⟨S8x256x1024, .bf16⟩
  | .hbm, ⟨1, _⟩ => ⟨S1x256x1024, .f32⟩
  | .hbm, ⟨2, _⟩ => ⟨S1x256x1024, .f32⟩
  | .hbm, ⟨3, _⟩ => ⟨S1x256x1024, .f32⟩
  | .hbm, ⟨4, _⟩ => ⟨S256x1024, .f32⟩
  | .hbm, ⟨5, _⟩ => ⟨S256x1024, .f32⟩
  | .hbm, ⟨6, _⟩ => ⟨S256x1024, .f32⟩
  | .hbm, ⟨7, _⟩ => ⟨S256x1024, .f32⟩
  | .hbm, ⟨8, _⟩ => ⟨S256x1024, .f32⟩
  | .hbm, ⟨9, _⟩ => ⟨S256x1024, .f32⟩
  | .hbm, ⟨10, _⟩ => ⟨S256x1024, .f32⟩
  | .local _ .vmem, ⟨0, _⟩ => ⟨S8x256x1024, .bf16⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | _, _ => ⟨S8x256x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3_0 : Ref sig .tc := ⟨.hbm, 7, rfl⟩
abbrev main_v3_1 : Ref sig .tc := ⟨.hbm, 8, rfl⟩
abbrev main_v3_2 : Ref sig .tc := ⟨.hbm, 9, rfl⟩
abbrev main_v3_3 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S8x256x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S256x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S256x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S256x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S256x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S256x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S256x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S256x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== UpdateOutIdeal.lean ====
abbrev S8x256x1024 : Shape := ⟨3, ![8, 256, 1024]⟩
abbrev S1x256x1024 : Shape := ⟨3, ![1, 256, 1024]⟩
abbrev S256x1024 : Shape := ⟨2, ![256, 1024]⟩

abbrev nBuf : Space → Nat
  | .hbm => 11
  | .vmem => 8
  | .smem => 0
  | _ => 0

abbrev bufTy : (tb : Table) → Fin (tcTables nBuf tb) → BufTy
  | .hbm, ⟨0, _⟩ => ⟨S8x256x1024, .bf16⟩
  | .hbm, ⟨1, _⟩ => ⟨S1x256x1024, .f32⟩
  | .hbm, ⟨2, _⟩ => ⟨S1x256x1024, .f32⟩
  | .hbm, ⟨3, _⟩ => ⟨S1x256x1024, .f32⟩
  | .hbm, ⟨4, _⟩ => ⟨S256x1024, .f32⟩
  | .hbm, ⟨5, _⟩ => ⟨S256x1024, .f32⟩
  | .hbm, ⟨6, _⟩ => ⟨S256x1024, .f32⟩
  | .hbm, ⟨7, _⟩ => ⟨S256x1024, .f32⟩
  | .hbm, ⟨8, _⟩ => ⟨S256x1024, .f32⟩
  | .hbm, ⟨9, _⟩ => ⟨S256x1024, .f32⟩
  | .hbm, ⟨10, _⟩ => ⟨S256x1024, .f32⟩
  | .local _ .vmem, ⟨0, _⟩ => ⟨S8x256x1024, .bf16⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | _, _ => ⟨S8x256x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3_0 : Ref sig .tc := ⟨.hbm, 7, rfl⟩
abbrev main_v3_1 : Ref sig .tc := ⟨.hbm, 8, rfl⟩
abbrev main_v3_2 : Ref sig .tc := ⟨.hbm, 9, rfl⟩
abbrev main_v3_3 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S8x256x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S256x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S256x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S256x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S256x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S256x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S256x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S256x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== UpdateOutRefIdeal.lean ====
abbrev S8x256x1024 : Shape := ⟨3, ![8, 256, 1024]⟩
abbrev S1x256x1024 : Shape := ⟨3, ![1, 256, 1024]⟩
abbrev S_ : Shape := ⟨0, ![]⟩
abbrev S256x1024 : Shape := ⟨2, ![256, 1024]⟩

abbrev nBuf : Space → Nat
  | .hbm => 45
  | .vmem => 0
  | .smem => 0
  | _ => 0

abbrev bufTy : (tb : Table) → Fin (tcTables nBuf tb) → BufTy
  | .hbm, ⟨0, _⟩ => ⟨S8x256x1024, .bf16⟩
  | .hbm, ⟨1, _⟩ => ⟨S1x256x1024, .f32⟩
  | .hbm, ⟨2, _⟩ => ⟨S1x256x1024, .f32⟩
  | .hbm, ⟨3, _⟩ => ⟨S1x256x1024, .f32⟩
  | .hbm, ⟨4, _⟩ => ⟨S8x256x1024, .f32⟩
  | .hbm, ⟨5, _⟩ => ⟨S_, .f32⟩
  | .hbm, ⟨6, _⟩ => ⟨S256x1024, .f32⟩
  | .hbm, ⟨7, _⟩ => ⟨S1x256x1024, .f32⟩
  | .hbm, ⟨8, _⟩ => ⟨S_, .f32⟩
  | .hbm, ⟨9, _⟩ => ⟨S1x256x1024, .f32⟩
  | .hbm, ⟨10, _⟩ => ⟨S1x256x1024, .f32⟩
  | .hbm, ⟨11, _⟩ => ⟨S_, .f32⟩
  | .hbm, ⟨12, _⟩ => ⟨S1x256x1024, .f32⟩
  | .hbm, ⟨13, _⟩ => ⟨S1x256x1024, .f32⟩
  | .hbm, ⟨14, _⟩ => ⟨S1x256x1024, .f32⟩
  | .hbm, ⟨15, _⟩ => ⟨S_, .f32⟩
  | .hbm, ⟨16, _⟩ => ⟨S1x256x1024, .f32⟩
  | .hbm, ⟨17, _⟩ => ⟨S1x256x1024, .f32⟩
  | .hbm, ⟨18, _⟩ => ⟨S1x256x1024, .f32⟩
  | .hbm, ⟨19, _⟩ => ⟨S_, .f32⟩
  | .hbm, ⟨20, _⟩ => ⟨S1x256x1024, .f32⟩
  | .hbm, ⟨21, _⟩ => ⟨S1x256x1024, .f32⟩
  | .hbm, ⟨22, _⟩ => ⟨S1x256x1024, .f32⟩
  | .hbm, ⟨23, _⟩ => ⟨S_, .f32⟩
  | .hbm, ⟨24, _⟩ => ⟨S1x256x1024, .f32⟩
  | .hbm, ⟨25, _⟩ => ⟨S1x256x1024, .f32⟩
  | .hbm, ⟨26, _⟩ => ⟨S_, .f32⟩
  | .hbm, ⟨27, _⟩ => ⟨S1x256x1024, .f32⟩
  | .hbm, ⟨28, _⟩ => ⟨S1x256x1024, .f32⟩
  | .hbm, ⟨29, _⟩ => ⟨S1x256x1024, .f32⟩
  | .hbm, ⟨30, _⟩ => ⟨S_, .f32⟩
  | .hbm, ⟨31, _⟩ => ⟨S1x256x1024, .f32⟩
  | .hbm, ⟨32, _⟩ => ⟨S1x256x1024, .f32⟩
  | .hbm, ⟨33, _⟩ => ⟨S1x256x1024, .f32⟩
  | .hbm, ⟨34, _⟩ => ⟨S_, .f32⟩
  | .hbm, ⟨35, _⟩ => ⟨S1x256x1024, .f32⟩
  | .hbm, ⟨36, _⟩ => ⟨S1x256x1024, .f32⟩
  | .hbm, ⟨37, _⟩ => ⟨S1x256x1024, .f32⟩
  | .hbm, ⟨38, _⟩ => ⟨S_, .f32⟩
  | .hbm, ⟨39, _⟩ => ⟨S1x256x1024, .f32⟩
  | .hbm, ⟨40, _⟩ => ⟨S1x256x1024, .f32⟩
  | .hbm, ⟨41, _⟩ => ⟨S256x1024, .f32⟩
  | .hbm, ⟨42, _⟩ => ⟨S256x1024, .f32⟩
  | .hbm, ⟨43, _⟩ => ⟨S256x1024, .f32⟩
  | .hbm, ⟨44, _⟩ => ⟨S256x1024, .f32⟩
  | _, _ => ⟨S8x256x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_4 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_cst_8 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩

abbrev nD : Nat := 1
abbrev τ : Topo := Topo.v7x

variable {F : FTy → Type} [FloatOps F]
-- ==== UpdateUp.lean ====
abbrev S8x1024x704 : Shape := ⟨3, ![8, 1024, 704]⟩
abbrev S1x1024x704 : Shape := ⟨3, ![1, 1024, 704]⟩
abbrev S1024x704 : Shape := ⟨2, ![1024, 704]⟩
abbrev S8x256x704 : Shape := ⟨3, ![8, 256, 704]⟩
abbrev S256x704 : Shape := ⟨2, ![256, 704]⟩
abbrev S1x256x704 : Shape := ⟨3, ![1, 256, 704]⟩

abbrev nBuf : Space → Nat
  | .hbm => 11
  | .vmem => 16
  | .smem => 0
  | _ => 0

abbrev bufTy : (tb : Table) → Fin (tcTables nBuf tb) → BufTy
  | .hbm, ⟨0, _⟩ => ⟨S8x1024x704, .bf16⟩
  | .hbm, ⟨1, _⟩ => ⟨S1x1024x704, .f32⟩
  | .hbm, ⟨2, _⟩ => ⟨S1x1024x704, .f32⟩
  | .hbm, ⟨3, _⟩ => ⟨S1x1024x704, .f32⟩
  | .hbm, ⟨4, _⟩ => ⟨S1024x704, .f32⟩
  | .hbm, ⟨5, _⟩ => ⟨S1024x704, .f32⟩
  | .hbm, ⟨6, _⟩ => ⟨S1024x704, .f32⟩
  | .hbm, ⟨7, _⟩ => ⟨S1024x704, .f32⟩
  | .hbm, ⟨8, _⟩ => ⟨S1024x704, .f32⟩
  | .hbm, ⟨9, _⟩ => ⟨S1024x704, .f32⟩
  | .hbm, ⟨10, _⟩ => ⟨S1024x704, .f32⟩
  | .local _ .vmem, ⟨0, _⟩ => ⟨S8x256x704, .bf16⟩
  | .local _ .vmem, ⟨1, _⟩ => ⟨S8x256x704, .bf16⟩
  | .local _ .vmem, ⟨2, _⟩ => ⟨S256x704, .f32⟩
  | .local _ .vmem, ⟨3, _⟩ => ⟨S256x704, .f32⟩
  | .local _ .vmem, ⟨4, _⟩ => ⟨S256x704, .f32⟩
  | .local _ .vmem, ⟨5, _⟩ => ⟨S256x704, .f32⟩
  | .local _ .vmem, ⟨6, _⟩ => ⟨S256x704, .f32⟩
  | .local _ .vmem, ⟨7, _⟩ => ⟨S256x704, .f32⟩
  | .local _ .vmem, ⟨8, _⟩ => ⟨S256x704, .f32⟩
  | .local _ .vmem, ⟨9, _⟩ => ⟨S256x704, .f32⟩
  | .local _ .vmem, ⟨10, _⟩ => ⟨S256x704, .f32⟩
  | .local _ .vmem, ⟨11, _⟩ => ⟨S256x704, .f32⟩
  | .local _ .vmem, ⟨12, _⟩ => ⟨S256x704, .f32⟩
  | .local _ .vmem, ⟨13, _⟩ => ⟨S256x704, .f32⟩
  | .local _ .vmem, ⟨14, _⟩ => ⟨S256x704, .f32⟩
  | .local _ .vmem, ⟨15, _⟩ => ⟨S256x704, .f32⟩
  | _, _ => ⟨S8x1024x704, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3_0 : Ref sig .tc := ⟨.hbm, 7, rfl⟩
abbrev main_v3_1 : Ref sig .tc := ⟨.hbm, 8, rfl⟩
abbrev main_v3_2 : Ref sig .tc := ⟨.hbm, 9, rfl⟩
abbrev main_v3_3 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x256x704 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x704 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x704 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x704 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x704 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x704 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x704 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x704 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== UpdateUpIdeal.lean ====
abbrev S8x1024x704 : Shape := ⟨3, ![8, 1024, 704]⟩
abbrev S1x1024x704 : Shape := ⟨3, ![1, 1024, 704]⟩
abbrev S1024x704 : Shape := ⟨2, ![1024, 704]⟩
abbrev S8x256x704 : Shape := ⟨3, ![8, 256, 704]⟩
abbrev S256x704 : Shape := ⟨2, ![256, 704]⟩
abbrev S1x256x704 : Shape := ⟨3, ![1, 256, 704]⟩

abbrev nBuf : Space → Nat
  | .hbm => 11
  | .vmem => 16
  | .smem => 0
  | _ => 0

abbrev bufTy : (tb : Table) → Fin (tcTables nBuf tb) → BufTy
  | .hbm, ⟨0, _⟩ => ⟨S8x1024x704, .bf16⟩
  | .hbm, ⟨1, _⟩ => ⟨S1x1024x704, .f32⟩
  | .hbm, ⟨2, _⟩ => ⟨S1x1024x704, .f32⟩
  | .hbm, ⟨3, _⟩ => ⟨S1x1024x704, .f32⟩
  | .hbm, ⟨4, _⟩ => ⟨S1024x704, .f32⟩
  | .hbm, ⟨5, _⟩ => ⟨S1024x704, .f32⟩
  | .hbm, ⟨6, _⟩ => ⟨S1024x704, .f32⟩
  | .hbm, ⟨7, _⟩ => ⟨S1024x704, .f32⟩
  | .hbm, ⟨8, _⟩ => ⟨S1024x704, .f32⟩
  | .hbm, ⟨9, _⟩ => ⟨S1024x704, .f32⟩
  | .hbm, ⟨10, _⟩ => ⟨S1024x704, .f32⟩
  | .local _ .vmem, ⟨0, _⟩ => ⟨S8x256x704, .bf16⟩
  | .local _ .vmem, ⟨1, _⟩ => ⟨S8x256x704, .bf16⟩
  | .local _ .vmem, ⟨2, _⟩ => ⟨S256x704, .f32⟩
  | .local _ .vmem, ⟨3, _⟩ => ⟨S256x704, .f32⟩
  | .local _ .vmem, ⟨4, _⟩ => ⟨S256x704, .f32⟩
  | .local _ .vmem, ⟨5, _⟩ => ⟨S256x704, .f32⟩
  | .local _ .vmem, ⟨6, _⟩ => ⟨S256x704, .f32⟩
  | .local _ .vmem, ⟨7, _⟩ => ⟨S256x704, .f32⟩
  | .local _ .vmem, ⟨8, _⟩ => ⟨S256x704, .f32⟩
  | .local _ .vmem, ⟨9, _⟩ => ⟨S256x704, .f32⟩
  | .local _ .vmem, ⟨10, _⟩ => ⟨S256x704, .f32⟩
  | .local _ .vmem, ⟨11, _⟩ => ⟨S256x704, .f32⟩
  | .local _ .vmem, ⟨12, _⟩ => ⟨S256x704, .f32⟩
  | .local _ .vmem, ⟨13, _⟩ => ⟨S256x704, .f32⟩
  | .local _ .vmem, ⟨14, _⟩ => ⟨S256x704, .f32⟩
  | .local _ .vmem, ⟨15, _⟩ => ⟨S256x704, .f32⟩
  | _, _ => ⟨S8x1024x704, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3_0 : Ref sig .tc := ⟨.hbm, 7, rfl⟩
abbrev main_v3_1 : Ref sig .tc := ⟨.hbm, 8, rfl⟩
abbrev main_v3_2 : Ref sig .tc := ⟨.hbm, 9, rfl⟩
abbrev main_v3_3 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x256x704 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x704 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x704 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x704 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x704 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x704 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x704 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x704 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== UpdateUpRefIdeal.lean ====
abbrev S8x1024x704 : Shape := ⟨3, ![8, 1024, 704]⟩
abbrev S1x1024x704 : Shape := ⟨3, ![1, 1024, 704]⟩
abbrev S_ : Shape := ⟨0, ![]⟩
abbrev S1024x704 : Shape := ⟨2, ![1024, 704]⟩

abbrev nBuf : Space → Nat
  | .hbm => 45
  | .vmem => 0
  | .smem => 0
  | _ => 0

abbrev bufTy : (tb : Table) → Fin (tcTables nBuf tb) → BufTy
  | .hbm, ⟨0, _⟩ => ⟨S8x1024x704, .bf16⟩
  | .hbm, ⟨1, _⟩ => ⟨S1x1024x704, .f32⟩
  | .hbm, ⟨2, _⟩ => ⟨S1x1024x704, .f32⟩
  | .hbm, ⟨3, _⟩ => ⟨S1x1024x704, .f32⟩
  | .hbm, ⟨4, _⟩ => ⟨S8x1024x704, .f32⟩
  | .hbm, ⟨5, _⟩ => ⟨S_, .f32⟩
  | .hbm, ⟨6, _⟩ => ⟨S1024x704, .f32⟩
  | .hbm, ⟨7, _⟩ => ⟨S1x1024x704, .f32⟩
  | .hbm, ⟨8, _⟩ => ⟨S_, .f32⟩
  | .hbm, ⟨9, _⟩ => ⟨S1x1024x704, .f32⟩
  | .hbm, ⟨10, _⟩ => ⟨S1x1024x704, .f32⟩
  | .hbm, ⟨11, _⟩ => ⟨S_, .f32⟩
  | .hbm, ⟨12, _⟩ => ⟨S1x1024x704, .f32⟩
  | .hbm, ⟨13, _⟩ => ⟨S1x1024x704, .f32⟩
  | .hbm, ⟨14, _⟩ => ⟨S1x1024x704, .f32⟩
  | .hbm, ⟨15, _⟩ => ⟨S_, .f32⟩
  | .hbm, ⟨16, _⟩ => ⟨S1x1024x704, .f32⟩
  | .hbm, ⟨17, _⟩ => ⟨S1x1024x704, .f32⟩
  | .hbm, ⟨18, _⟩ => ⟨S1x1024x704, .f32⟩
  | .hbm, ⟨19, _⟩ => ⟨S_, .f32⟩
  | .hbm, ⟨20, _⟩ => ⟨S1x1024x704, .f32⟩
  | .hbm, ⟨21, _⟩ => ⟨S1x1024x704, .f32⟩
  | .hbm, ⟨22, _⟩ => ⟨S1x1024x704, .f32⟩
  | .hbm, ⟨23, _⟩ => ⟨S_, .f32⟩
  | .hbm, ⟨24, _⟩ => ⟨S1x1024x704, .f32⟩
  | .hbm, ⟨25, _⟩ => ⟨S1x1024x704, .f32⟩
  | .hbm, ⟨26, _⟩ => ⟨S_, .f32⟩
  | .hbm, ⟨27, _⟩ => ⟨S1x1024x704, .f32⟩
  | .hbm, ⟨28, _⟩ => ⟨S1x1024x704, .f32⟩
  | .hbm, ⟨29, _⟩ => ⟨S1x1024x704, .f32⟩
  | .hbm, ⟨30, _⟩ => ⟨S_, .f32⟩
  | .hbm, ⟨31, _⟩ => ⟨S1x1024x704, .f32⟩
  | .hbm, ⟨32, _⟩ => ⟨S1x1024x704, .f32⟩
  | .hbm, ⟨33, _⟩ => ⟨S1x1024x704, .f32⟩
  | .hbm, ⟨34, _⟩ => ⟨S_, .f32⟩
  | .hbm, ⟨35, _⟩ => ⟨S1x1024x704, .f32⟩
  | .hbm, ⟨36, _⟩ => ⟨S1x1024x704, .f32⟩
  | .hbm, ⟨37, _⟩ => ⟨S1x1024x704, .f32⟩
  | .hbm, ⟨38, _⟩ => ⟨S_, .f32⟩
  | .hbm, ⟨39, _⟩ => ⟨S1x1024x704, .f32⟩
  | .hbm, ⟨40, _⟩ => ⟨S1x1024x704, .f32⟩
  | .hbm, ⟨41, _⟩ => ⟨S1024x704, .f32⟩
  | .hbm, ⟨42, _⟩ => ⟨S1024x704, .f32⟩
  | .hbm, ⟨43, _⟩ => ⟨S1024x704, .f32⟩
  | .hbm, ⟨44, _⟩ => ⟨S1024x704, .f32⟩
  | _, _ => ⟨S8x1024x704, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_4 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_cst_8 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩

abbrev nD : Nat := 1
abbrev τ : Topo := Topo.v7x

variable {F : FTy → Type} [FloatOps F]
-- ==== UpdateDown.lean ====
abbrev S8x352x1024 : Shape := ⟨3, ![8, 352, 1024]⟩
abbrev S1x352x1024 : Shape := ⟨3, ![1, 352, 1024]⟩
abbrev S352x1024 : Shape := ⟨2, ![352, 1024]⟩

abbrev nBuf : Space → Nat
  | .hbm => 11
  | .vmem => 8
  | .smem => 0
  | _ => 0

abbrev bufTy : (tb : Table) → Fin (tcTables nBuf tb) → BufTy
  | .hbm, ⟨0, _⟩ => ⟨S8x352x1024, .bf16⟩
  | .hbm, ⟨1, _⟩ => ⟨S1x352x1024, .f32⟩
  | .hbm, ⟨2, _⟩ => ⟨S1x352x1024, .f32⟩
  | .hbm, ⟨3, _⟩ => ⟨S1x352x1024, .f32⟩
  | .hbm, ⟨4, _⟩ => ⟨S352x1024, .f32⟩
  | .hbm, ⟨5, _⟩ => ⟨S352x1024, .f32⟩
  | .hbm, ⟨6, _⟩ => ⟨S352x1024, .f32⟩
  | .hbm, ⟨7, _⟩ => ⟨S352x1024, .f32⟩
  | .hbm, ⟨8, _⟩ => ⟨S352x1024, .f32⟩
  | .hbm, ⟨9, _⟩ => ⟨S352x1024, .f32⟩
  | .hbm, ⟨10, _⟩ => ⟨S352x1024, .f32⟩
  | .local _ .vmem, ⟨0, _⟩ => ⟨S8x352x1024, .bf16⟩
  | .local _ .vmem, ⟨1, _⟩ => ⟨S352x1024, .f32⟩
  | .local _ .vmem, ⟨2, _⟩ => ⟨S352x1024, .f32⟩
  | .local _ .vmem, ⟨3, _⟩ => ⟨S352x1024, .f32⟩
  | .local _ .vmem, ⟨4, _⟩ => ⟨S352x1024, .f32⟩
  | .local _ .vmem, ⟨5, _⟩ => ⟨S352x1024, .f32⟩
  | .local _ .vmem, ⟨6, _⟩ => ⟨S352x1024, .f32⟩
  | .local _ .vmem, ⟨7, _⟩ => ⟨S352x1024, .f32⟩
  | _, _ => ⟨S8x352x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3_0 : Ref sig .tc := ⟨.hbm, 7, rfl⟩
abbrev main_v3_1 : Ref sig .tc := ⟨.hbm, 8, rfl⟩
abbrev main_v3_2 : Ref sig .tc := ⟨.hbm, 9, rfl⟩
abbrev main_v3_3 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S8x352x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S352x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S352x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S352x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S352x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S352x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S352x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S352x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== UpdateDownRefIdeal.lean ====
abbrev S8x352x1024 : Shape := ⟨3, ![8, 352, 1024]⟩
abbrev S1x352x1024 : Shape := ⟨3, ![1, 352, 1024]⟩
abbrev S_ : Shape := ⟨0, ![]⟩
abbrev S352x1024 : Shape := ⟨2, ![352, 1024]⟩

abbrev nBuf : Space → Nat
  | .hbm => 45
  | .vmem => 0
  | .smem => 0
  | _ => 0

abbrev bufTy : (tb : Table) → Fin (tcTables nBuf tb) → BufTy
  | .hbm, ⟨0, _⟩ => ⟨S8x352x1024, .bf16⟩
  | .hbm, ⟨1, _⟩ => ⟨S1x352x1024, .f32⟩
  | .hbm, ⟨2, _⟩ => ⟨S1x352x1024, .f32⟩
  | .hbm, ⟨3, _⟩ => ⟨S1x352x1024, .f32⟩
  | .hbm, ⟨4, _⟩ => ⟨S8x352x1024, .f32⟩
  | .hbm, ⟨5, _⟩ => ⟨S_, .f32⟩
  | .hbm, ⟨6, _⟩ => ⟨S352x1024, .f32⟩
  | .hbm, ⟨7, _⟩ => ⟨S1x352x1024, .f32⟩
  | .hbm, ⟨8, _⟩ => ⟨S_, .f32⟩
  | .hbm, ⟨9, _⟩ => ⟨S1x352x1024, .f32⟩
  | .hbm, ⟨10, _⟩ => ⟨S1x352x1024, .f32⟩
  | .hbm, ⟨11, _⟩ => ⟨S_, .f32⟩
  | .hbm, ⟨12, _⟩ => ⟨S1x352x1024, .f32⟩
  | .hbm, ⟨13, _⟩ => ⟨S1x352x1024, .f32⟩
  | .hbm, ⟨14, _⟩ => ⟨S1x352x1024, .f32⟩
  | .hbm, ⟨15, _⟩ => ⟨S_, .f32⟩
  | .hbm, ⟨16, _⟩ => ⟨S1x352x1024, .f32⟩
  | .hbm, ⟨17, _⟩ => ⟨S1x352x1024, .f32⟩
  | .hbm, ⟨18, _⟩ => ⟨S1x352x1024, .f32⟩
  | .hbm, ⟨19, _⟩ => ⟨S_, .f32⟩
  | .hbm, ⟨20, _⟩ => ⟨S1x352x1024, .f32⟩
  | .hbm, ⟨21, _⟩ => ⟨S1x352x1024, .f32⟩
  | .hbm, ⟨22, _⟩ => ⟨S1x352x1024, .f32⟩
  | .hbm, ⟨23, _⟩ => ⟨S_, .f32⟩
  | .hbm, ⟨24, _⟩ => ⟨S1x352x1024, .f32⟩
  | .hbm, ⟨25, _⟩ => ⟨S1x352x1024, .f32⟩
  | .hbm, ⟨26, _⟩ => ⟨S_, .f32⟩
  | .hbm, ⟨27, _⟩ => ⟨S1x352x1024, .f32⟩
  | .hbm, ⟨28, _⟩ => ⟨S1x352x1024, .f32⟩
  | .hbm, ⟨29, _⟩ => ⟨S1x352x1024, .f32⟩
  | .hbm, ⟨30, _⟩ => ⟨S_, .f32⟩
  | .hbm, ⟨31, _⟩ => ⟨S1x352x1024, .f32⟩
  | .hbm, ⟨32, _⟩ => ⟨S1x352x1024, .f32⟩
  | .hbm, ⟨33, _⟩ => ⟨S1x352x1024, .f32⟩
  | .hbm, ⟨34, _⟩ => ⟨S_, .f32⟩
  | .hbm, ⟨35, _⟩ => ⟨S1x352x1024, .f32⟩
  | .hbm, ⟨36, _⟩ => ⟨S1x352x1024, .f32⟩
  | .hbm, ⟨37, _⟩ => ⟨S1x352x1024, .f32⟩
  | .hbm, ⟨38, _⟩ => ⟨S_, .f32⟩
  | .hbm, ⟨39, _⟩ => ⟨S1x352x1024, .f32⟩
  | .hbm, ⟨40, _⟩ => ⟨S1x352x1024, .f32⟩
  | .hbm, ⟨41, _⟩ => ⟨S352x1024, .f32⟩
  | .hbm, ⟨42, _⟩ => ⟨S352x1024, .f32⟩
  | .hbm, ⟨43, _⟩ => ⟨S352x1024, .f32⟩
  | .hbm, ⟨44, _⟩ => ⟨S352x1024, .f32⟩
  | _, _ => ⟨S8x352x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_4 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_cst_8 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩

abbrev nD : Nat := 1
abbrev τ : Topo := Topo.v7x

variable {F : FTy → Type} [FloatOps F]
-- ==== Proof.Band.lean ====
/- The real mathematics of the query gradient of banded attention in a mixture of three patterns. -/
module

public import Idealize.ShloMosaic.PureOps.Ideal.Laws
public import Idealize.ShloMosaic.Lib.ValueIdx
public import Mathlib.Tactic.FieldSimp
public import Mathlib.Tactic.Ring
public import Mathlib.Tactic.Positivity
public import Mathlib.Tactic.Linarith

@[expose] public section

noncomputable section

namespace Cert.Band

open Idealize.ShloMosaic Idealize.ShloMosaic.ValueIdx

/-- The index type of an array of one sequence, 4096 rows, 16 heads and 64 lanes. -/
abbrev I4 : Type := (⟨4, ![1, 4096, 16, 64]⟩ : Shape).Idx
/-- The index type of one number per row and head. -/
abbrev I3 : Type := (⟨3, ![1, 4096, 16]⟩ : Shape).Idx

/-- Row `n` of an array, zero past the last row. -/
def row (x : I4 → ℝ) (n : ℕ) (h : Fin 16) (d : Fin 64) : ℝ := if hn : n < 4096 then x (ix4 0 ⟨n, hn⟩ h d) else 0
/-- Row `n` of an array of one number per row and head, zero past the last row. -/
def row3 (x : I3 → ℝ) (n : ℕ) (h : Fin 16) : ℝ := if hn : n < 4096 then x (ix3 0 ⟨n, hn⟩ h) else 0
/-- Row `j` of the array with 64 rows of zeros put in front (and zeros behind). -/
def pad (x : I4 → ℝ) (j : ℕ) (h : Fin 16) (d : Fin 64) : ℝ := if 64 ≤ j then row x (j - 64) h d else 0

/-- Key `j` (counted with the 64 zero rows in front) is a real key within 64 of query `n`. -/
abbrev InBand (n j : ℕ) : Prop := n ≤ j ∧ j ≤ n + 128 ∧ 64 ≤ j ∧ j < 4160

/-- The sum of `f` over the keys that query `n` attends. -/
def band (n : ℕ) (f : ℕ → ℝ) : ℝ := ∑ j ∈ Finset.Ico n (n + 129), if InBand n j then f j else 0

/-- A sum over a window of `W` keys that starts at `w` and holds the whole band is the sum over the band. -/
theorem window_sum (W w n : ℕ) (h1 : w ≤ n) (h2 : n + 129 ≤ w + W) (f : ℕ → ℝ) :
    (∑ c : Fin W, if InBand n (w + c.val) then f (w + c.val) else 0) = band n f := by
  rw [Fin.sum_univ_eq_sum_range (fun c => if InBand n (w + c) then f (w + c) else 0) W]
  have h := Finset.sum_Ico_eq_sum_range (fun j => if InBand n j then f j else 0) w (w + W)
  rw [Nat.add_sub_cancel_left] at h
  rw [← h]
  symm
  apply Finset.sum_subset
  · intro j hj
    simp only [Finset.mem_Ico] at hj ⊢
    omega
  · intro j _ hj
    simp only [Finset.mem_Ico] at hj
    rw [if_neg]
    rintro ⟨a, b, _, _⟩
    omega

theorem band_add (n : ℕ) (f g : ℕ → ℝ) : band n (fun j => f j + g j) = band n f + band n g := by
  unfold band
  rw [← Finset.sum_add_distrib]
  exact Finset.sum_congr rfl fun j _ => by split_ifs <;> simp
theorem band_mul (n : ℕ) (a : ℝ) (f : ℕ → ℝ) : band n (fun j => a * f j) = a * band n f := by
  unfold band
  rw [Finset.mul_sum]
  exact Finset.sum_congr rfl fun j _ => by split_ifs <;> simp
theorem band_sum (n : ℕ) (f : Fin 64 → ℕ → ℝ) : band n (fun j => ∑ d, f d j) = ∑ d, band n (f d) := by
  unfold band
  rw [Finset.sum_comm]
  exact Finset.sum_congr rfl fun j _ => by split_ifs <;> simp
/-- Two functions with equal values at the keys attended have equal sums. -/
theorem band_congr (n : ℕ) (f g : ℕ → ℝ) (h : ∀ j, InBand n j → f j = g j) : band n f = band n g := by
  unfold band
  refine Finset.sum_congr rfl fun j _ => ?_
  split_ifs with hj
  · exact h j hj
  · rfl
/-- A positive function has a positive sum: the query attends its own key. -/
theorem band_pos (n : ℕ) (hn : n < 4096) (f : ℕ → ℝ) (hf : ∀ j, 0 < f j) : 0 < band n f := by
  unfold band
  apply Finset.sum_pos'
  · intro j _; split_ifs <;> [exact (hf j).le; exact le_refl _]
  · exact ⟨n + 64, by simp, by rw [if_pos (by refine ⟨?_, ?_, ?_, ?_⟩ <;> omega)]; exact hf _⟩

variable (q k v o2 o3 ct : I4 → ℝ) (l2 l3 : I3 → ℝ) (m M : ℕ → Fin 16 → ℝ)

/-- The scaled score of query `n` and key `j`. -/
def score (n j : ℕ) (h : Fin 16) : ℝ := (∑ d : Fin 64, row q n h d * pad k j h d) * (1 / 8)
/-- The exponential of a score less the row's shift `m`. -/
def ex (n j : ℕ) (h : Fin 16) : ℝ := Real.exp (score q k n j h - m n h)
/-- The denominator of the row's softmax. -/
def den (n : ℕ) (h : Fin 16) : ℝ := band n fun j => ex q k m n j h
/-- The numerator of the row's output. -/
def num (n : ℕ) (h : Fin 16) (d : Fin 64) : ℝ := band n fun j => pad v j h d * ex q k m n j h
/-- The pattern's output. -/
def out1 (n : ℕ) (h : Fin 16) (d : Fin 64) : ℝ := num q k v m n h d / den q k m n h
/-- The pattern's log-denominator. -/
def lse1 (n : ℕ) (h : Fin 16) : ℝ := m n h + Real.log (den q k m n h)
/-- The three patterns' unnormalised weights. -/
def w1 (n : ℕ) (h : Fin 16) : ℝ := Real.exp (lse1 q k m n h - M n h)
def w2 (n : ℕ) (h : Fin 16) : ℝ := Real.exp (row3 l2 n h - M n h)
def w3 (n : ℕ) (h : Fin 16) : ℝ := Real.exp (row3 l3 n h - M n h)
/-- Their sum. -/
def tot (n : ℕ) (h : Fin 16) : ℝ := w1 q k m M n h + w2 l2 M n h + w3 l3 M n h
/-- The row's sum of the cotangent times a pattern's output. -/
def prod1 (n : ℕ) (h : Fin 16) : ℝ := ∑ d : Fin 64, row ct n h d * out1 q k v m n h d
def prodr (o : I4 → ℝ) (n : ℕ) (h : Fin 16) : ℝ := ∑ d : Fin 64, row ct n h d * row o n h d
/-- The cotangent of the pattern's output. -/
def g (n : ℕ) (h : Fin 16) (d : Fin 64) : ℝ := w1 q k m M n h / tot q k l2 l3 m M n h * row ct n h d
/-- The cotangent of the pattern's log-denominator. -/
def dl (n : ℕ) (h : Fin 16) : ℝ :=
  (prod1 q k v ct m n h / tot q k l2 l3 m M n h
    + -(prod1 q k v ct m n h * (1 / (tot q k l2 l3 m M n h * tot q k l2 l3 m M n h)) * w1 q k m M n h
      + prodr ct o2 n h * (1 / (tot q k l2 l3 m M n h * tot q k l2 l3 m M n h)) * w2 l2 M n h
      + prodr ct o3 n h * (1 / (tot q k l2 l3 m M n h * tot q k l2 l3 m M n h)) * w3 l3 M n h)) * w1 q k m M n h
/-- The cotangent of the softmax's denominator. -/
def back (n : ℕ) (h : Fin 16) : ℝ :=
  dl q k v o2 o3 ct l2 l3 m M n h / den q k m n h
    + -(∑ d : Fin 64, g q k ct l2 l3 m M n h d * (1 / (den q k m n h * den q k m n h)) * num q k v m n h d)
/-- The cotangent of one exponential. -/
def coef (n j : ℕ) (h : Fin 16) : ℝ :=
  (∑ d : Fin 64, g q k ct l2 l3 m M n h d / den q k m n h * pad v j h d) + back q k v o2 o3 ct l2 l3 m M n h
/-- The whole log-denominator of a row. -/
def lse (n : ℕ) (h : Fin 16) : ℝ := M n h + Real.log (tot q k l2 l3 m M n h)
/-- The row's sum of the cotangent times the mixture's output. -/
def delta (n : ℕ) (h : Fin 16) : ℝ := ∑ d : Fin 64, row ct n h d *
  (w1 q k m M n h / tot q k l2 l3 m M n h * out1 q k v m n h d + w2 l2 M n h / tot q k l2 l3 m M n h * row o2 n h d
    + w3 l3 M n h / tot q k l2 l3 m M n h * row o3 n h d)
/-- The cotangent of a score as the flash-style backward pass computes it. -/
def ds (n j : ℕ) (h : Fin 16) : ℝ := Real.exp (score q k n j h - lse q k l2 l3 m M n h)
  * ((∑ d : Fin 64, row ct n h d * pad v j h d) - delta q k v o2 o3 ct l2 l3 m M n h)

theorem ex_pos (n j : ℕ) (h : Fin 16) : 0 < ex q k m n j h := Real.exp_pos _
theorem den_pos (n : ℕ) (hn : n < 4096) (h : Fin 16) : 0 < den q k m n h := band_pos n hn _ fun j => ex_pos q k m n j h
theorem w1_pos (n : ℕ) (h : Fin 16) : 0 < w1 q k m M n h := Real.exp_pos _
theorem tot_pos (n : ℕ) (h : Fin 16) : 0 < tot q k l2 l3 m M n h := by
  have h1 := w1_pos q k m M n h
  have h2 : 0 < w2 l2 M n h := Real.exp_pos _
  have h3 : 0 < w3 l3 M n h := Real.exp_pos _
  unfold tot; positivity

/-- The sum of the cotangents of the exponentials, each times its exponential, is the cotangent of the
    log-denominator: the shift of the softmax has gradient zero. -/
theorem sum_coef (n : ℕ) (hn : n < 4096) (h : Fin 16) :
    band n (fun j => coef q k v o2 o3 ct l2 l3 m M n j h * ex q k m n j h) = dl q k v o2 o3 ct l2 l3 m M n h := by
  have hd := (den_pos q k m n hn h).ne'
  have e : (fun j => coef q k v o2 o3 ct l2 l3 m M n j h * ex q k m n j h)
      = fun j => (∑ d : Fin 64, g q k ct l2 l3 m M n h d / den q k m n h * (pad v j h d * ex q k m n j h))
        + back q k v o2 o3 ct l2 l3 m M n h * ex q k m n j h := by
    funext j
    unfold coef
    rw [add_mul, Finset.sum_mul]
    congr 1
    exact Finset.sum_congr rfl fun d _ => by ring
  rw [e, band_add, band_mul, band_sum]
  have e2 : ∀ d : Fin 64, band n (fun j => g q k ct l2 l3 m M n h d / den q k m n h * (pad v j h d * ex q k m n j h))
      = g q k ct l2 l3 m M n h d / den q k m n h * num q k v m n h d := fun d => by rw [band_mul]; rfl
  rw [Finset.sum_congr rfl fun d _ => e2 d]
  have e3 : band n (fun j => ex q k m n j h) = den q k m n h := rfl
  rw [e3]
  unfold back
  have e4 : (∑ d : Fin 64, g q k ct l2 l3 m M n h d * (1 / (den q k m n h * den q k m n h)) * num q k v m n h d)
      = (∑ d : Fin 64, g q k ct l2 l3 m M n h d / den q k m n h * num q k v m n h d) / den q k m n h := by
    rw [Finset.sum_div]
    exact Finset.sum_congr rfl fun d _ => by field_simp
  rw [e4]
  field_simp
  ring

/-- One score's cotangent: the exponential times its cotangent is the flash-style product, whatever shift `M'` the
    saved log-denominator was computed with. -/
theorem coef_ex (M' : ℕ → Fin 16 → ℝ) (n : ℕ) (hn : n < 4096) (j : ℕ) (h : Fin 16) :
    coef q k v o2 o3 ct l2 l3 m M n j h * ex q k m n j h = ds q k v o2 o3 ct l2 l3 m M' n j h := by
  have hd := den_pos q k m n hn h
  -- the weights with the shifts taken out
  have sh : ∀ N : ℕ → Fin 16 → ℝ, w1 q k m N n h = Real.exp (m n h) * den q k m n h * Real.exp (-(N n h)) := by
    intro N
    unfold w1 lse1
    rw [sub_eq_add_neg, Real.exp_add, Real.exp_add, Real.exp_log hd]
  have s2 : ∀ N : ℕ → Fin 16 → ℝ, w2 l2 N n h = Real.exp (row3 l2 n h) * Real.exp (-(N n h)) := by
    intro N; unfold w2; rw [sub_eq_add_neg, Real.exp_add]
  have s3 : ∀ N : ℕ → Fin 16 → ℝ, w3 l3 N n h = Real.exp (row3 l3 n h) * Real.exp (-(N n h)) := by
    intro N; unfold w3; rw [sub_eq_add_neg, Real.exp_add]
  have st : ∀ N : ℕ → Fin 16 → ℝ, tot q k l2 l3 m N n h
      = (Real.exp (m n h) * den q k m n h + Real.exp (row3 l2 n h) + Real.exp (row3 l3 n h)) * Real.exp (-(N n h)) := by
    intro N; unfold tot; rw [sh, s2, s3]; ring
  -- the ratios do not depend on the shift
  have r : ∀ (N : ℕ → Fin 16 → ℝ), w1 q k m N n h / tot q k l2 l3 m N n h = w1 q k m M n h / tot q k l2 l3 m M n h := by
    intro N; rw [sh, sh, st, st, mul_div_mul_right _ _ (Real.exp_pos _).ne', mul_div_mul_right _ _ (Real.exp_pos _).ne']
  have r2 : ∀ (N : ℕ → Fin 16 → ℝ), w2 l2 N n h / tot q k l2 l3 m N n h = w2 l2 M n h / tot q k l2 l3 m M n h := by
    intro N; rw [s2, s2, st, st, mul_div_mul_right _ _ (Real.exp_pos _).ne', mul_div_mul_right _ _ (Real.exp_pos _).ne']
  have r3 : ∀ (N : ℕ → Fin 16 → ℝ), w3 l3 N n h / tot q k l2 l3 m N n h = w3 l3 M n h / tot q k l2 l3 m M n h := by
    intro N; rw [s3, s3, st, st, mul_div_mul_right _ _ (Real.exp_pos _).ne', mul_div_mul_right _ _ (Real.exp_pos _).ne']
  -- the probability
  have hp : Real.exp (score q k n j h - lse q k l2 l3 m M' n h)
      = w1 q k m M n h / tot q k l2 l3 m M n h / den q k m n h * ex q k m n j h := by
    rw [← r M']
    have ht := tot_pos q k l2 l3 m M' n h
    unfold lse ex
    rw [show score q k n j h - (M' n h + Real.log (tot q k l2 l3 m M' n h))
      = score q k n j h + -(M' n h) - Real.log (tot q k l2 l3 m M' n h) by ring, Real.exp_sub, Real.exp_add, Real.exp_log ht,
      Real.exp_sub, sh M']
    field_simp
  have hdelta : delta q k v o2 o3 ct l2 l3 m M' n h
      = w1 q k m M n h / tot q k l2 l3 m M n h * prod1 q k v ct m n h + w2 l2 M n h / tot q k l2 l3 m M n h * prodr ct o2 n h
        + w3 l3 M n h / tot q k l2 l3 m M n h * prodr ct o3 n h := by
    unfold delta prod1 prodr
    rw [r, r2, r3, Finset.mul_sum, Finset.mul_sum, Finset.mul_sum, ← Finset.sum_add_distrib, ← Finset.sum_add_distrib]
    exact Finset.sum_congr rfl fun d _ => by ring
  unfold ds
  rw [hp, hdelta]
  unfold coef back
  have c1 : (∑ d : Fin 64, g q k ct l2 l3 m M n h d / den q k m n h * pad v j h d)
      = w1 q k m M n h / tot q k l2 l3 m M n h / den q k m n h * ∑ d : Fin 64, row ct n h d * pad v j h d := by
    rw [Finset.mul_sum]
    exact Finset.sum_congr rfl fun d _ => by unfold g; ring
  have c2 : (∑ d : Fin 64, g q k ct l2 l3 m M n h d * (1 / (den q k m n h * den q k m n h)) * num q k v m n h d)
      = w1 q k m M n h / tot q k l2 l3 m M n h / den q k m n h * prod1 q k v ct m n h := by
    unfold prod1
    rw [Finset.mul_sum]
    exact Finset.sum_congr rfl fun d _ => by unfold g out1; field_simp
  rw [c1, c2]
  unfold dl
  have ht := (tot_pos q k l2 l3 m M n h).ne'
  have hd' := hd.ne'
  field_simp
  ring

end Cert.Band

end
-- ==== Proof.Coe.lean ====
/- Real numbers among the ideal values: sums, quotients, exponentials and the constants the programs print. -/
module

public import Idealize.ShloMosaic.PureOps.Ideal.Laws
public import Idealize.ShloMosaic.Lib.ValueIdx
public import Idealize.ShloMosaic.Lib.IdealHost

@[expose] public section

noncomputable section

namespace Cert.Coe

open Idealize.ShloMosaic Idealize.ShloMosaic.ValueIdx

/-- A finite sum of real numbers is the sum of them as ideal values. -/
theorem sum {ι : Type} (s : Finset ι) (f : ι → ℝ) : (∑ i ∈ s, ((f i : ℝ) : EReal)) = ((∑ i ∈ s, f i : ℝ) : EReal) := by
  classical
  induction s using Finset.induction_on with
  | empty => simp
  | insert a s ha ih => rw [Finset.sum_insert ha, Finset.sum_insert ha, ih, EReal.coe_add]

/-- A quotient of real numbers with a divisor other than zero. -/
theorem div (x y : ℝ) (hy : y ≠ 0) : Ideal.div (x : EReal) (y : EReal) = ((x / y : ℝ) : EReal) := by
  unfold Ideal.div
  rw [if_neg (by exact_mod_cast hy), div_eq_mul_inv, EReal.coe_mul, EReal.coe_inv]

/-- The exponential of a real number. -/
theorem exp (x : ℝ) : FloatOps.exp (F := Ideal) (φ := .f32) (x : EReal) = ((Real.exp x : ℝ) : EReal) := rfl
/-- The exponential of minus infinity is zero. -/
theorem exp_bot : FloatOps.exp (F := Ideal) (φ := .f32) (⊥ : EReal) = (0 : EReal) := rfl
/-- The host's exponential of a real number. -/
theorem hexp (x : ℝ) : FloatOps.hostUnary (F := Ideal) (φ := .f32) .exp (x : EReal) = ((Real.exp x : ℝ) : EReal) := rfl
theorem hexp_bot : FloatOps.hostUnary (F := Ideal) (φ := .f32) .exp (⊥ : EReal) = (0 : EReal) := rfl
/-- The host's logarithm of a positive real number. -/
theorem hlog (x : ℝ) (hx : 0 < x) : FloatOps.hostUnary (F := Ideal) (φ := .f32) .log (x : EReal) = ((Real.log x : ℝ) : EReal) := by
  show (if x ≤ 0 then (⊥ : EReal) else (Real.log x : EReal)) = _
  rw [if_neg (not_le.2 hx)]

theorem bits_eighth : FloatOps.ofBits (F := Ideal) .f32 0x3E000000#32 = (((1 / 8 : ℝ)) : EReal) := by
  show Ideal.ofBits .f32 _ = _
  simp [Ideal.ofBits, Ideal.ieee, -EReal.coe_mul]
  norm_num
theorem bits_neg_inf : FloatOps.ofBits (F := Ideal) .f32 0xFF800000#32 = (⊥ : EReal) := by
  show Ideal.ofBits .f32 _ = _
  simp [Ideal.ofBits, Ideal.ieee]
theorem bits_zero : FloatOps.ofBits (F := Ideal) .f32 0x00000000#32 = (0 : EReal) := by
  show Ideal.ofBits .f32 _ = _
  simp
theorem bits_one : FloatOps.ofBits (F := Ideal) .f32 0x3F800000#32 = (1 : EReal) := by
  show Ideal.ofBits .f32 _ = _
  simp

/-- The word of an integer, compared and combined: a number small enough is what its word reads as. -/
theorem word_toInt (z : ℤ) (h1 : -2147483648 ≤ z) (h2 : z < 2147483648) : (BitVec.ofInt 32 z).toInt = z := by
  rw [BitVec.toInt_ofInt, Int.bmod_def]
  norm_num
  split_ifs <;> omega
/-- The word of a difference. -/
theorem word_sub (x y : ℤ) : BitVec.ofInt 32 (x - y) = BitVec.ofInt 32 x - BitVec.ofInt 32 y := by
  rw [Int.sub_eq_add_neg, BitVec.ofInt_add, BitVec.ofInt_neg, BitVec.sub_eq_add_neg]
/-- The absolute value of such a number's word is the word of its absolute value. -/
theorem word_abs (z : ℤ) (h1 : -2147483648 < z) (h2 : z < 2147483648) :
    IntOp.absi (BitVec.ofInt 32 z) = BitVec.ofInt 32 (max z (-z)) := by
  unfold IntOp.absi
  rw [BitVec.msb_eq_toInt, word_toInt z h1.le h2]
  by_cases hz : z < 0
  · rw [if_pos (by simpa using hz), max_eq_right (by omega), BitVec.ofInt_neg]
  · rw [if_neg (by simpa using hz), max_eq_left (by omega)]
theorem word_sle (x y : ℤ) (h1 : -2147483648 ≤ x) (h2 : x < 2147483648) (h3 : -2147483648 ≤ y) (h4 : y < 2147483648) :
    IntOp.cmpi .sle (BitVec.ofInt 32 x) (BitVec.ofInt 32 y) = BitVec.ofBool (decide (x ≤ y)) := by
  show BitVec.ofBool (BitVec.sle _ _) = _
  rw [BitVec.sle_eq_decide, word_toInt x h1 h2, word_toInt y h3 h4]
theorem word_sge (x y : ℤ) (h1 : -2147483648 ≤ x) (h2 : x < 2147483648) (h3 : -2147483648 ≤ y) (h4 : y < 2147483648) :
    IntOp.cmpi .sge (BitVec.ofInt 32 x) (BitVec.ofInt 32 y) = BitVec.ofBool (decide (y ≤ x)) := by
  show BitVec.ofBool (BitVec.sle _ _) = _
  rw [BitVec.sle_eq_decide, word_toInt x h1 h2, word_toInt y h3 h4]
theorem word_slt (x y : ℤ) (h1 : -2147483648 ≤ x) (h2 : x < 2147483648) (h3 : -2147483648 ≤ y) (h4 : y < 2147483648) :
    IntOp.cmpi .slt (BitVec.ofInt 32 x) (BitVec.ofInt 32 y) = BitVec.ofBool (decide (x < y)) := by
  show BitVec.ofBool (BitVec.slt _ _) = _
  rw [BitVec.slt_eq_decide, word_toInt x h1 h2, word_toInt y h3 h4]
theorem and_bool (a b : Bool) : IntOp.andi (BitVec.ofBool a) (BitVec.ofBool b) = BitVec.ofBool (a && b) := by
  cases a <;> cases b <;> rfl

end Cert.Coe
end
-- ==== Proof.RefScores.lean ====
/- The reference's forward pass up to the masked scores: the padded windows, the band's mask and the scores read at an index. -/
module

public import proofs.«01_k».proof.Proof.Gen.ReferenceIdeal.Read
public import proofs.«01_k».proof.Proof.Band
public import proofs.«01_k».proof.Proof.Coe
public import Idealize.ShloMosaic.Lib.KernelVsHost

@[expose] public section

noncomputable section

namespace Cert.RefScores

open Idealize.ShloMosaic Idealize.ShloMosaic.ValueIdx Idealize.ShloMosaic.StableHlo
open Cert.ReferenceIdeal Cert.ReferenceIdeal.Read Cert.Band

/-- The array of a real-valued function, as ideal values. -/
abbrev up (x : I4 → ℝ) : (⟨S1x4096x16x64, .f32⟩ : BufTy).Contents (Elt Ideal) := fun i => ((x i : ℝ) : EReal)
/-- The same for one number per row and head. -/
abbrev up3 (x : I3 → ℝ) : (⟨S1x4096x16, .f32⟩ : BufTy).Contents (Elt Ideal) := fun i => ((x i : ℝ) : EReal)

/-- Row `n` in bounds is the array there. -/
theorem row_at (x : I4 → ℝ) (n : ℕ) (hn : n < 4096) (h : Fin 16) (d : Fin 64) : row x n h d = x (ix4 0 ⟨n, hn⟩ h d) := dif_pos hn

/-- The blocked queries. -/
theorem v1_at (q : I4 → ℝ) (b r : Fin 64) (h : Fin 16) (d : Fin 64) :
    val_main_v1 (F := Ideal) (up q) (ix5 0 b r h d) = ((row q (64 * b.val + r.val) h d : ℝ) : EReal) := by
  rw [val_main_v1_apply, row_at q _ (by omega)]
  unfold val_main_v0_0
  exact pad_apply_of_inside _ _ _ _ _ _ _ _ (ix4 0 ⟨64 * b.val + r.val, by omega⟩ h d) (fun a => match a with
    | ⟨0, _⟩ => rfl
    | ⟨1, _⟩ => by show ((((0 * 64 + b.val) * 64 + r.val) * 16 + h.val) * 64 + d.val) / 1024 % 4096 = 0 + (64 * b.val + r.val) * (0 + 1); omega
    | ⟨2, _⟩ => by show ((((0 * 64 + b.val) * 64 + r.val) * 16 + h.val) * 64 + d.val) / 64 % 16 = 0 + h.val * (0 + 1); omega
    | ⟨3, _⟩ => by show ((((0 * 64 + b.val) * 64 + r.val) * 16 + h.val) * 64 + d.val) % 64 = 0 + d.val * (0 + 1); omega)

/-- The keys padded by a block of zeros before and after, at a row. -/
theorem pad_at (k : I4 → ℝ) (z : S_.Idx → EReal) (hz : ∀ i, z i = 0) (j : Fin 4224) (h : Fin 16) (d : Fin 64) :
    Idealize.ShloMosaic.pad S1x4224x16x64 ![0, 64, 0, 0] ![0, 64, 0, 0] ![0, 0, 0, 0] (up k) z
      Gen.pads_S1x4096x16x64_S1x4224x16x64_000_64640_000_000 Gen.h_S_ (ix4 0 j h d) = ((Band.pad k j.val h d : ℝ) : EReal) := by
  unfold Band.pad
  by_cases h1 : 64 ≤ j.val
  · rw [if_pos h1]
    by_cases h2 : j.val - 64 < 4096
    · rw [row_at k _ h2]
      exact pad_apply_of_inside _ _ _ _ _ _ _ _ (ix4 0 ⟨j.val - 64, h2⟩ h d) (fun a => match a with
        | ⟨0, _⟩ => rfl
        | ⟨1, _⟩ => by show j.val = 64 + (j.val - 64) * (0 + 1); omega
        | ⟨2, _⟩ => by show h.val = 0 + h.val * (0 + 1); omega
        | ⟨3, _⟩ => by show d.val = 0 + d.val * (0 + 1); omega)
    · rw [pad_apply_of_not_inside _ _ _ _ _ _ _ _ 1 (by
        show ¬(64 ≤ j.val ∧ (j.val - 64) % (0 + 1) = 0 ∧ (j.val - 64) / (0 + 1) < 4096); omega), hz]
      unfold row
      rw [dif_neg h2, EReal.coe_zero]
  · rw [if_neg h1, pad_apply_of_not_inside _ _ _ _ _ _ _ _ 1 (by
        show ¬(64 ≤ j.val ∧ (j.val - 64) % (0 + 1) = 0 ∧ (j.val - 64) / (0 + 1) < 4096); omega), hz, EReal.coe_zero]

/-- An integer zero converted to a number is zero. -/
theorem zero_conv : FloatOps.sitofp (F := Ideal) .f32 (0#32) = (0 : EReal) := by
  show ((((0#32 : BitVec 32).toInt : ℤ) : ℝ) : EReal) = 0
  simp

/-- The padded keys in blocks. -/
theorem v3_at (k : I4 → ℝ) (b : Fin 66) (r : Fin 64) (h : Fin 16) (d : Fin 64) :
    val_main_v3 (F := Ideal) (up k) (ix5 0 b r h d) = ((Band.pad k (64 * b.val + r.val) h d : ℝ) : EReal) := by
  rw [val_main_v3_apply]
  have e : idx_main_v3 (ix5 0 b r h d) = ix4 0 ⟨64 * b.val + r.val, by omega⟩ h d := funext fun a => Fin.ext (match a with
    | ⟨0, _⟩ => rfl
    | ⟨1, _⟩ => by show ((((0 * 66 + b.val) * 64 + r.val) * 16 + h.val) * 64 + d.val) / 1024 % 4224 = 64 * b.val + r.val; omega
    | ⟨2, _⟩ => by show ((((0 * 66 + b.val) * 64 + r.val) * 16 + h.val) * 64 + d.val) / 64 % 16 = h.val; omega
    | ⟨3, _⟩ => by show ((((0 * 66 + b.val) * 64 + r.val) * 16 + h.val) * 64 + d.val) % 64 = d.val; omega)
  rw [e]
  exact pad_at k _ (fun _ => zero_conv) ⟨64 * b.val + r.val, by omega⟩ h d
/-- The values' padding is the keys'. -/
theorem v5_eq (v : I4 → ℝ) : val_main_v5 (F := Ideal) (up v) = val_main_v3 (F := Ideal) (up v) := rfl

/-- The window of keys of a block: three blocks of the padded keys. -/
theorem v9_at (k : I4 → ℝ) (b : Fin 64) (c : Fin 192) (h : Fin 16) (d : Fin 64) :
    val_main_v9 (F := Ideal) (up k) (ix5 0 b c h d) = ((Band.pad k (64 * b.val + c.val) h d : ℝ) : EReal) := by
  unfold val_main_v9
  by_cases h1 : c.val < 64
  · refine Eq.trans (concatenate_apply_piece (t := S1x64x192x16x64) 2 _ _ _ 0 (by show 0 < 3; omega) S1x64x64x16x64 (val_main_v6 (F := Ideal) (up k)) rfl rfl 0 rfl
      (ix5 0 b ⟨c.val, h1⟩ h d) (fun b hb => match b, hb with | ⟨0, _⟩, _ => rfl | ⟨1, _⟩, _ => rfl | ⟨2, _⟩, hh => absurd rfl hh | ⟨3, _⟩, _ => rfl | ⟨4, _⟩, _ => rfl)
      (Nat.zero_add _)) ?_
    rw [val_main_v6_apply]
    refine Eq.trans (congrArg _ ?_) ((v3_at k ⟨b.val, by omega⟩ ⟨c.val, h1⟩ h d))
    exact funext fun a => Fin.ext (match a with | ⟨0, _⟩ => rfl | ⟨1, _⟩ => rfl | ⟨2, _⟩ => rfl | ⟨3, _⟩ => rfl | ⟨4, _⟩ => rfl)
  · by_cases h2 : c.val < 128
    · refine Eq.trans (concatenate_apply_piece (t := S1x64x192x16x64) 2 _ _ _ 1 (by show 1 < 3; omega) S1x64x64x16x64 (val_main_v7 (F := Ideal) (up k)) rfl rfl 64 rfl
        (ix5 0 b ⟨c.val - 64, by omega⟩ h d) (fun b hb => match b, hb with | ⟨0, _⟩, _ => rfl | ⟨1, _⟩, _ => rfl | ⟨2, _⟩, hh => absurd rfl hh | ⟨3, _⟩, _ => rfl | ⟨4, _⟩, _ => rfl)
        (Nat.add_sub_cancel' (by omega : 64 ≤ c.val))) ?_
      rw [val_main_v7_apply]
      refine Eq.trans (congrArg _ ?_) ((v3_at k ⟨1 + b.val, by omega⟩ ⟨c.val - 64, by omega⟩ h d).trans ?_)
      · exact funext fun a => Fin.ext (match a with | ⟨0, _⟩ => rfl | ⟨1, _⟩ => rfl | ⟨2, _⟩ => rfl | ⟨3, _⟩ => rfl | ⟨4, _⟩ => rfl)
      · rw [show 64 * (1 + b.val) + (c.val - 64) = 64 * b.val + c.val by omega]
    · refine Eq.trans (concatenate_apply_piece (t := S1x64x192x16x64) 2 _ _ _ 2 (by show 2 < 3; omega) S1x64x64x16x64 (val_main_v8 (F := Ideal) (up k)) rfl rfl 128 rfl
        (ix5 0 b ⟨c.val - 128, by omega⟩ h d) (fun b hb => match b, hb with | ⟨0, _⟩, _ => rfl | ⟨1, _⟩, _ => rfl | ⟨2, _⟩, hh => absurd rfl hh | ⟨3, _⟩, _ => rfl | ⟨4, _⟩, _ => rfl)
        (Nat.add_sub_cancel' (by omega : 128 ≤ c.val))) ?_
      rw [val_main_v8_apply]
      refine Eq.trans (congrArg _ ?_) ((v3_at k ⟨2 + b.val, by omega⟩ ⟨c.val - 128, by omega⟩ h d).trans ?_)
      · exact funext fun a => Fin.ext (match a with | ⟨0, _⟩ => rfl | ⟨1, _⟩ => rfl | ⟨2, _⟩ => rfl | ⟨3, _⟩ => rfl | ⟨4, _⟩ => rfl)
      · rw [show 64 * (2 + b.val) + (c.val - 128) = 64 * b.val + c.val by omega]
/-- The window of values is read as the window of keys. -/
theorem v13_at (v : I4 → ℝ) (b : Fin 64) (c : Fin 192) (h : Fin 16) (d : Fin 64) :
    val_main_v13 (F := Ideal) (up v) (ix5 0 b c h d) = ((Band.pad v (64 * b.val + c.val) h d : ℝ) : EReal) := v9_at v b c h d

/-- The scaled scores. -/
theorem v16_at (q k : I4 → ℝ) (b : Fin 64) (h : Fin 16) (r : Fin 64) (c : Fin 192) :
    val_main_v16 (F := Ideal) (up q) (up k) (ix5 0 b h r c) = ((score q k (64 * b.val + r.val) (64 * b.val + c.val) h : ℝ) : EReal) := by
  rw [val_main_v16_apply, val_main_v14_apply, val_main_v15_apply]
  have e : ∀ d : Fin 64, val_main_v1 (F := Ideal) (up q) (lidx_main_v14 (ix5 0 b h r c) d) * val_main_v9 (F := Ideal) (up k) (ridx_main_v14 (ix5 0 b h r c) d)
      = ((row q (64 * b.val + r.val) h d * Band.pad k (64 * b.val + c.val) h d : ℝ) : EReal) := fun d => by
    rw [EReal.coe_mul, ← v1_at, ← v9_at]
    congr 2
    · exact funext fun a => Fin.ext (match a with | ⟨0, _⟩ => rfl | ⟨1, _⟩ => rfl | ⟨2, _⟩ => rfl | ⟨3, _⟩ => rfl | ⟨4, _⟩ => rfl)
    · exact funext fun a => Fin.ext (match a with | ⟨0, _⟩ => rfl | ⟨1, _⟩ => rfl | ⟨2, _⟩ => rfl | ⟨3, _⟩ => rfl | ⟨4, _⟩ => rfl)
  rw [Finset.sum_congr rfl fun d _ => e d, Coe.sum]
  unfold score
  rw [EReal.coe_mul]
  exact congrArg (_ * ·) Coe.bits_eighth

/-- The band's mask at a block, a query of the block and a key of the window. -/
theorem v55_at (b r : Fin 64) (c : Fin 192) :
    val_main_v55 (F := Ideal) (ix5 0 b 0 r c) = BitVec.ofBool (decide (InBand (64 * b.val + r.val) (64 * b.val + c.val))) := by
  simp only [val_main_v55_apply, val_main_v54_apply, val_main_v53_apply, val_main_v52_apply, val_main_v51_apply, val_main_v50_apply,
    val_main_v49_apply, val_main_v48_apply, val_main_v47_apply, val_main_v46_apply, val_main_v45_apply, val_main_v44_apply,
    val_main_v43_apply, val_main_v42_apply, val_main_v41_apply, val_main_v40_apply, val_main_v39_apply, val_main_v38_apply,
    val_main_v37_apply, val_main_v36_apply, val_main_v35_apply, val_main_v34_apply, val_main_v33_apply, val_main_v32_apply,
    val_main_v31_apply, val_main_v30_apply, val_main_v29_apply, val_main_v28_apply, val_main_v27_apply, val_main_v26_apply,
    val_main_v25_apply, val_main_v24_apply, val_main_v23_apply, val_main_v22_apply, val_main_v21_apply, val_main_v20_apply,
    val_main_v19_apply, val_main_v18_apply, val_main_v17_apply, val_main_c_2_apply, val_main_c_3_apply, val_main_c_4_apply,
    val_main_c_5_apply, val_main_c_6_apply, val_main_c_7_apply]
  show IntOp.andi (IntOp.andi (IntOp.cmpi .sle (IntOp.absi ((BitVec.ofNat 32 b.val * 64#32 - 64#32 + BitVec.ofNat 32 c.val)
      - (BitVec.ofNat 32 b.val * 64#32 + BitVec.ofNat 32 r.val))) 64#32)
    (IntOp.cmpi .sge (BitVec.ofNat 32 b.val * 64#32 - 64#32 + BitVec.ofNat 32 c.val) 0#32))
    (IntOp.cmpi .slt (BitVec.ofNat 32 b.val * 64#32 - 64#32 + BitVec.ofNat 32 c.val) 4096#32) = _
  have e1 : BitVec.ofNat 32 b.val * 64#32 - 64#32 + BitVec.ofNat 32 c.val = BitVec.ofInt 32 ((b.val : ℤ) * 64 - 64 + c.val) := by
    simp only [BitVec.ofInt_add, BitVec.ofInt_mul, Coe.word_sub, BitVec.ofInt_natCast]
    rfl
  have e2 : BitVec.ofNat 32 b.val * 64#32 + BitVec.ofNat 32 r.val = BitVec.ofInt 32 ((b.val : ℤ) * 64 + r.val) := by
    simp only [BitVec.ofInt_add, BitVec.ofInt_mul, BitVec.ofInt_natCast]
    rfl
  have hb := b.isLt
  have hr := r.isLt
  have hc := c.isLt
  rw [e1, e2, ← Coe.word_sub, Coe.word_abs _ (by omega) (by omega), show (64#32 : BitVec 32) = BitVec.ofInt 32 64 from rfl,
    show (0#32 : BitVec 32) = BitVec.ofInt 32 0 from rfl, show (4096#32 : BitVec 32) = BitVec.ofInt 32 4096 from rfl,
    Coe.word_sle _ _ (by omega) (by omega) (by omega) (by omega), Coe.word_sge _ _ (by omega) (by omega) (by omega) (by omega),
    Coe.word_slt _ _ (by omega) (by omega) (by omega) (by omega), Coe.and_bool, Coe.and_bool]
  congr 1
  simp only [← Bool.decide_and, decide_eq_decide]
  unfold InBand
  omega

/-- The masked scores: minus infinity off the band. -/
theorem v56_at (q k : I4 → ℝ) (b : Fin 64) (h : Fin 16) (r : Fin 64) (c : Fin 192) :
    val_main_v56_0 (F := Ideal) (up q) (up k) (ix5 0 b h r c)
      = if InBand (64 * b.val + r.val) (64 * b.val + c.val) then ((score q k (64 * b.val + r.val) (64 * b.val + c.val) h : ℝ) : EReal) else ⊥ := by
  rw [val_main_v56_0_apply, v16_at, val_main_v56_1_apply]
  have e : idx_main_v56_1 (ix5 0 b h r c) = ix5 0 b 0 r c :=
    funext fun a => Fin.ext (match a with | ⟨0, _⟩ => rfl | ⟨1, _⟩ => rfl | ⟨2, _⟩ => rfl | ⟨3, _⟩ => rfl | ⟨4, _⟩ => rfl)
  rw [e, v55_at]
  by_cases hb : InBand (64 * b.val + r.val) (64 * b.val + c.val)
  · rw [if_pos hb, decide_eq_true hb]; rfl
  · rw [if_neg hb, decide_eq_false hb]; exact Coe.bits_neg_inf

end Cert.RefScores
end
-- ==== Proof.RefForward.lean ====
/- The reference's forward pass from the masked scores to the pattern's output and log-denominator, read at an index. -/
module

public import proofs.«01_k».proof.Proof.RefScores
public import Idealize.ShloMosaic.PureOps.Reduce

@[expose] public section

noncomputable section

namespace Cert.RefForward

open Idealize.ShloMosaic Idealize.ShloMosaic.ValueIdx Idealize.ShloMosaic.StableHlo
open Cert.ReferenceIdeal Cert.ReferenceIdeal.Read Cert.Band Cert.RefScores

variable (q k v : I4 → ℝ)

/-- The row's largest score, the shift of its softmax. -/
def mx (n : ℕ) (h : Fin 16) : ℝ :=
  EReal.toReal (val_main_v57 (F := Ideal) (up q) (up k) (ix4 0 ⟨n / 64 % 64, Nat.mod_lt _ (by omega)⟩ h ⟨n % 64, Nat.mod_lt _ (by omega)⟩))

/-- The largest score is a real number: the query attends its own key, and no score is plus infinity. -/
theorem v57_at (b : Fin 64) (h : Fin 16) (r : Fin 64) :
    val_main_v57 (F := Ideal) (up q) (up k) (ix4 0 b h r) = ((mx q k (64 * b.val + r.val) h : ℝ) : EReal) := by
  have e1 : (⟨(64 * b.val + r.val) / 64 % 64, Nat.mod_lt _ (by omega)⟩ : Fin 64) = b := Fin.ext (by show (64 * b.val + r.val) / 64 % 64 = b.val; omega)
  have e2 : (⟨(64 * b.val + r.val) % 64, Nat.mod_lt _ (by omega)⟩ : Fin 64) = r := Fin.ext (by show (64 * b.val + r.val) % 64 = r.val; omega)
  unfold mx
  rw [e1, e2]
  symm
  apply EReal.coe_toReal
  · apply ne_of_lt
    unfold val_main_v57
    rw [Host.reduce_eq_fold]
    refine (Finset.fold_max_lt (β := EReal) ⊤).2 ⟨?_, fun i _ => ?_⟩
    · show FloatOps.ofBits (F := Ideal) .f32 0xFF800000#32 < (⊤ : EReal)
      rw [Coe.bits_neg_inf]; exact bot_lt_top
    · obtain ⟨z, b', h', r', c', rfl⟩ : ∃ (z : Fin 1) (b' : Fin 64) (h' : Fin 16) (r' : Fin 64) (c' : Fin 192), i = ix5 z b' h' r' c' := ⟨_, _, _, _, _, eq_ix5 i⟩
      rw [Subsingleton.elim z 0, v56_at]
      split_ifs
      · exact EReal.coe_lt_top _
      · exact bot_lt_top
  · apply ne_of_gt
    unfold val_main_v57
    rw [Host.reduce_eq_fold]
    refine lt_of_lt_of_le (EReal.bot_lt_coe (score q k (64 * b.val + r.val) (64 * b.val + (r.val + 64)) h)) ?_
    refine (Finset.le_fold_max (β := EReal) _).2 (Or.inr ⟨ix5 0 b h r ⟨r.val + 64, by omega⟩, ?_, ?_⟩)
    · rw [Finset.mem_filter]
      exact ⟨Finset.mem_univ _, funext fun a => Fin.ext (match a with | ⟨0, _⟩ => rfl | ⟨1, _⟩ => rfl | ⟨2, _⟩ => rfl | ⟨3, _⟩ => rfl)⟩
    · rw [v56_at, if_pos]
      have := b.isLt
      have := r.isLt
      show InBand (64 * b.val + r.val) (64 * b.val + (r.val + 64))
      unfold InBand
      omega

/-- The shifted exponentials: zero off the band. -/
theorem v66_at (b : Fin 64) (h : Fin 16) (r : Fin 64) (c : Fin 192) :
    val_main_v66 (F := Ideal) (up q) (up k) (ix5 0 b h r c)
      = ((if InBand (64 * b.val + r.val) (64 * b.val + c.val) then ex q k (mx q k) (64 * b.val + r.val) (64 * b.val + c.val) h else 0 : ℝ) : EReal) := by
  rw [val_main_v66_apply, val_main_v65_apply, v56_at, val_main_v64_apply, val_main_v63_apply]
  have e : idx_main_v63 (idx_main_v64 (ix5 0 b h r c)) = ix4 0 b h r :=
    funext fun a => Fin.ext (match a with | ⟨0, _⟩ => rfl | ⟨1, _⟩ => rfl | ⟨2, _⟩ => rfl | ⟨3, _⟩ => rfl)
  rw [e, v57_at]
  split_ifs with hb
  · show FloatOps.hostUnary (F := Ideal) (φ := .f32) .exp ((_ : EReal) - _) = _
    rw [← EReal.coe_sub, Coe.hexp]
    rfl
  · show FloatOps.hostUnary (F := Ideal) (φ := .f32) .exp ((⊥ : EReal) - _) = _
    rw [EReal.bot_sub, Coe.hexp_bot, EReal.coe_zero]

/-- The denominators. -/
theorem v67_at (b : Fin 64) (h : Fin 16) (r : Fin 64) :
    val_main_v67 (F := Ideal) (up q) (up k) (ix4 0 b h r) = ((den q k (mx q k) (64 * b.val + r.val) h : ℝ) : EReal) := by
  rw [val_main_v67_apply]
  have e : ∀ c : Fin 192, val_main_v66 (F := Ideal) (up q) (up k) (idx_main_v67 (ix4 0 b h r) c) = _ := fun c =>
    (congrArg _ (funext fun a => Fin.ext (match a with | ⟨0, _⟩ => rfl | ⟨1, _⟩ => rfl | ⟨2, _⟩ => rfl | ⟨3, _⟩ => rfl | ⟨4, _⟩ => rfl))).trans (v66_at q k b h r c)
  rw [Finset.sum_congr rfl fun c _ => e c, Coe.sum, val_main_cst_11_apply, Coe.bits_zero, zero_add,
    window_sum 192 (64 * b.val) (64 * b.val + r.val) (by omega) (by omega)
      (fun j => ex q k (mx q k) (64 * b.val + r.val) j h)]
  rfl

/-- The numerators. -/
theorem v68_at (b : Fin 64) (h : Fin 16) (d r : Fin 64) :
    val_main_v68 (F := Ideal) (up q) (up k) (up v) (ix5 0 b h d r) = ((num q k v (mx q k) (64 * b.val + r.val) h d : ℝ) : EReal) := by
  rw [val_main_v68_apply]
  have e : ∀ c : Fin 192, val_main_v13 (F := Ideal) (up v) (lidx_main_v68 (ix5 0 b h d r) c) * val_main_v66 (F := Ideal) (up q) (up k) (ridx_main_v68 (ix5 0 b h d r) c)
      = ((if InBand (64 * b.val + r.val) (64 * b.val + c.val) then Band.pad v (64 * b.val + c.val) h d * ex q k (mx q k) (64 * b.val + r.val) (64 * b.val + c.val) h else 0 : ℝ) : EReal) := fun c => by
    have e1 : lidx_main_v68 (ix5 0 b h d r) c = ix5 0 b c h d :=
      funext fun a => Fin.ext (match a with | ⟨0, _⟩ => rfl | ⟨1, _⟩ => rfl | ⟨2, _⟩ => rfl | ⟨3, _⟩ => rfl | ⟨4, _⟩ => rfl)
    have e2 : ridx_main_v68 (ix5 0 b h d r) c = ix5 0 b h r c :=
      funext fun a => Fin.ext (match a with | ⟨0, _⟩ => rfl | ⟨1, _⟩ => rfl | ⟨2, _⟩ => rfl | ⟨3, _⟩ => rfl | ⟨4, _⟩ => rfl)
    rw [e1, e2, v13_at, v66_at, ← EReal.coe_mul, mul_ite, mul_zero]
  rw [Finset.sum_congr rfl fun c _ => e c, Coe.sum,
    window_sum 192 (64 * b.val) (64 * b.val + r.val) (by omega) (by omega)
      (fun j => Band.pad v j h d * ex q k (mx q k) (64 * b.val + r.val) j h)]
  rfl

/-- The denominators with the heads last. -/
theorem v71_at (b r : Fin 64) (h : Fin 16) :
    val_main_v71 (F := Ideal) (up q) (up k) (ix5 0 b r h 0) = ((den q k (mx q k) (64 * b.val + r.val) h : ℝ) : EReal) := by
  rw [val_main_v71_apply, val_main_v70_apply, ← v67_at]
  exact congrArg _ (funext fun a => Fin.ext (match a with | ⟨0, _⟩ => rfl | ⟨1, _⟩ => rfl | ⟨2, _⟩ => rfl | ⟨3, _⟩ => rfl))

/-- The numerators with the lanes last. -/
theorem v69_at (b r : Fin 64) (h : Fin 16) (d : Fin 64) :
    val_main_v69 (F := Ideal) (up q) (up k) (up v) (ix5 0 b r h d) = ((num q k v (mx q k) (64 * b.val + r.val) h d : ℝ) : EReal) := by
  rw [val_main_v69_apply, ← v68_at]
  exact congrArg _ (funext fun a => Fin.ext (match a with | ⟨0, _⟩ => rfl | ⟨1, _⟩ => rfl | ⟨2, _⟩ => rfl | ⟨3, _⟩ => rfl | ⟨4, _⟩ => rfl))

/-- The denominator of a row is not zero. -/
theorem den_ne (b r : Fin 64) (h : Fin 16) : den q k (mx q k) (64 * b.val + r.val) h ≠ 0 :=
  (den_pos q k (mx q k) _ (by omega) h).ne'

/-- The pattern's output. -/
theorem v81_at (n : Fin 4096) (h : Fin 16) (d : Fin 64) :
    val_main_v81 (F := Ideal) (up q) (up k) (up v) (ix4 0 n h d) = ((out1 q k v (mx q k) n.val h d : ℝ) : EReal) := by
  rw [val_main_v81_apply]
  have e : idx_main_v81 (ix4 0 n h d) = ix5 0 ⟨n.val / 64, by omega⟩ ⟨n.val % 64, by omega⟩ h d := funext fun a => Fin.ext (match a with
    | ⟨0, _⟩ => rfl
    | ⟨1, _⟩ => by show (((0 * 4096 + n.val) * 16 + h.val) * 64 + d.val) / 65536 % 64 = n.val / 64; omega
    | ⟨2, _⟩ => by show (((0 * 4096 + n.val) * 16 + h.val) * 64 + d.val) / 1024 % 64 = n.val % 64; omega
    | ⟨3, _⟩ => by show (((0 * 4096 + n.val) * 16 + h.val) * 64 + d.val) / 64 % 16 = h.val; omega
    | ⟨4, _⟩ => by show (((0 * 4096 + n.val) * 16 + h.val) * 64 + d.val) % 64 = d.val; omega)
  rw [e, val_main_v73_apply, v69_at, val_main_v72_apply]
  have e2 : idx_main_v72 (ix5 0 ⟨n.val / 64, by omega⟩ ⟨n.val % 64, by omega⟩ h d) = ix5 0 ⟨n.val / 64, by omega⟩ ⟨n.val % 64, by omega⟩ h 0 :=
    funext fun a => Fin.ext (match a with | ⟨0, _⟩ => rfl | ⟨1, _⟩ => rfl | ⟨2, _⟩ => rfl | ⟨3, _⟩ => rfl | ⟨4, _⟩ => rfl)
  rw [e2, v71_at]
  refine (Coe.div _ _ (den_ne q k ⟨n.val / 64, by omega⟩ ⟨n.val % 64, by omega⟩ h)).trans ?_
  have e3 : 64 * (n.val / 64) + n.val % 64 = n.val := by omega
  show ((num q k v (mx q k) (64 * (n.val / 64) + n.val % 64) h d / den q k (mx q k) (64 * (n.val / 64) + n.val % 64) h : ℝ) : EReal) = _
  rw [e3]
  rfl

/-- The pattern's log-denominator. -/
theorem v82_at (n : Fin 4096) (h : Fin 16) :
    val_main_v82 (F := Ideal) (up q) (up k) (ix3 0 n h) = ((lse1 q k (mx q k) n.val h : ℝ) : EReal) := by
  rw [val_main_v82_apply]
  have e : idx_main_v82 (ix3 0 n h) = ix4 0 ⟨n.val / 64, by omega⟩ ⟨n.val % 64, by omega⟩ h := funext fun a => Fin.ext (match a with
    | ⟨0, _⟩ => rfl
    | ⟨1, _⟩ => by show ((0 * 4096 + n.val) * 16 + h.val) / 1024 % 64 = n.val / 64; omega
    | ⟨2, _⟩ => by show ((0 * 4096 + n.val) * 16 + h.val) / 16 % 64 = n.val % 64; omega
    | ⟨3, _⟩ => by show ((0 * 4096 + n.val) * 16 + h.val) % 16 = h.val; omega)
  rw [e, val_main_v80_apply]
  have e2 : idx_main_v80 (ix4 0 ⟨n.val / 64, by omega⟩ ⟨n.val % 64, by omega⟩ h) = ix4 0 ⟨n.val / 64, by omega⟩ h ⟨n.val % 64, by omega⟩ :=
    funext fun a => Fin.ext (match a with | ⟨0, _⟩ => rfl | ⟨1, _⟩ => rfl | ⟨2, _⟩ => rfl | ⟨3, _⟩ => rfl)
  rw [e2, val_main_v79_apply, val_main_v78_apply, v67_at, val_main_v77_apply, val_main_v63_apply]
  have e3 : idx_main_v63 (idx_main_v77 (ix4 0 ⟨n.val / 64, by omega⟩ h ⟨n.val % 64, by omega⟩)) = ix4 0 ⟨n.val / 64, by omega⟩ h ⟨n.val % 64, by omega⟩ :=
    funext fun a => Fin.ext (match a with
    | ⟨0, _⟩ => rfl
    | ⟨1, _⟩ => by show (((0 * 64 + n.val / 64) * 16 + h.val) * 64 + n.val % 64) / 1024 % 64 = n.val / 64; omega
    | ⟨2, _⟩ => by show (((0 * 64 + n.val / 64) * 16 + h.val) * 64 + n.val % 64) / 64 % 16 = h.val; omega
    | ⟨3, _⟩ => by show (((0 * 64 + n.val / 64) * 16 + h.val) * 64 + n.val % 64) / 1 % 64 = n.val % 64; omega)
  rw [e3, v57_at, Coe.hlog _ (den_pos q k (mx q k) _ (by omega) h)]
  have e4 : 64 * (n.val / 64) + n.val % 64 = n.val := by omega
  show ((mx q k (64 * (n.val / 64) + n.val % 64) h : ℝ) : EReal) + ((Real.log (den q k (mx q k) (64 * (n.val / 64) + n.val % 64) h) : ℝ) : EReal) = _
  rw [e4, ← EReal.coe_add]
  rfl

end Cert.RefForward
end
-- ==== Proof.RefMix.lean ====
/- The reference's mixture of the three patterns and the cotangents it sends to the first pattern's output and log-denominator. -/
module

public import proofs.«01_k».proof.Proof.RefForward

@[expose] public section

noncomputable section

namespace Cert.RefMix

open Idealize.ShloMosaic Idealize.ShloMosaic.ValueIdx Idealize.ShloMosaic.StableHlo
open Cert.ReferenceIdeal Cert.ReferenceIdeal.Read Cert.Band Cert.RefScores Cert.RefForward

/-- A host sum over axes of size one is the one element it sums. -/
theorem sum_unit {s t : Shape} {axes : List (Fin s.rank)} (h : s.ReducesTo axes t) (x : s.Idx → EReal) (j : t.Idx) (i0 : s.Idx)
    (h0 : h.drop i0 = j) (hu : ∀ i, h.drop i = j → i = i0) (z : EReal) (hz : z = 0) : Ideal.hostReduceAdd h x z j = x i0 := by
  unfold Ideal.hostReduceAdd
  rw [hz, zero_add, Finset.sum_eq_single_of_mem i0 (by rw [Finset.mem_filter]; exact ⟨Finset.mem_univ _, h0⟩)]
  intro i hi hne
  exact absurd (hu i (Finset.mem_filter.1 hi).2) hne

variable (q k v o2 o3 ct : I4 → ℝ) (l2 l3 : I3 → ℝ)

/-- The three patterns' log-denominators, outputs and weights. -/
def ls (p : Fin 3) (n : ℕ) (h : Fin 16) : ℝ := ![lse1 q k (mx q k) n h, row3 l2 n h, row3 l3 n h] p
def os (p : Fin 3) (n : ℕ) (h : Fin 16) (d : Fin 64) : ℝ := ![out1 q k v (mx q k) n h d, row o2 n h d, row o3 n h d] p
/-- The largest of the three log-denominators of a row. -/
def Mx (n : ℕ) (h : Fin 16) : ℝ :=
  EReal.toReal (val_main_v96 (F := Ideal) (up q) (up k) (up3 l2) (up3 l3) (ix3 0 ⟨n % 4096, Nat.mod_lt _ (by omega)⟩ h))
def ws (p : Fin 3) (n : ℕ) (h : Fin 16) : ℝ := Real.exp (ls q k l2 l3 p n h - Mx q k l2 l3 n h)
def ps (p : Fin 3) (n : ℕ) (h : Fin 16) : ℝ := ∑ d : Fin 64, row ct n h d * os q k v o2 o3 p n h d

theorem row3_at (x : I3 → ℝ) (n : Fin 4096) (h : Fin 16) : row3 x n.val h = x (ix3 0 n h) := dif_pos n.isLt
theorem row_at' (x : I4 → ℝ) (n : Fin 4096) (h : Fin 16) (d : Fin 64) : row x n.val h d = x (ix4 0 n h d) := dif_pos n.isLt

/-- The stacked log-denominators. -/
theorem v86_at (p : Fin 3) (n : Fin 4096) (h : Fin 16) :
    val_main_v86 (F := Ideal) (up q) (up k) (up3 l2) (up3 l3) (ix4 p 0 n h) = ((ls q k l2 l3 p n.val h : ℝ) : EReal) := by
  unfold val_main_v86
  match p with
  | ⟨0, _⟩ =>
    refine Eq.trans (concatenate_apply_piece (t := S3x1x4096x16) 0 _ _ _ 0 (by show 0 < 3; omega) S1x1x4096x16 (val_main_v83 (F := Ideal) (up q) (up k)) rfl rfl 0 rfl
      (ix4 0 0 n h) (fun b hb => match b, hb with | ⟨0, _⟩, hh => absurd rfl hh | ⟨1, _⟩, _ => rfl | ⟨2, _⟩, _ => rfl | ⟨3, _⟩, _ => rfl) rfl) ?_
    rw [val_main_v83_apply]
    exact (congrArg (val_main_v82 (F := Ideal) (up q) (up k)) (funext fun a => Fin.ext (match a with | ⟨0, _⟩ => rfl | ⟨1, _⟩ => rfl | ⟨2, _⟩ => rfl))).trans (v82_at q k n h)
  | ⟨1, _⟩ =>
    refine Eq.trans (concatenate_apply_piece (t := S3x1x4096x16) 0 _ _ _ 1 (by show 1 < 3; omega) S1x1x4096x16 (val_main_v84 (F := Ideal) (up3 l2)) rfl rfl 1 rfl
      (ix4 0 0 n h) (fun b hb => match b, hb with | ⟨0, _⟩, hh => absurd rfl hh | ⟨1, _⟩, _ => rfl | ⟨2, _⟩, _ => rfl | ⟨3, _⟩, _ => rfl) rfl) ?_
    rw [val_main_v84_apply]
    exact congrArg Real.toEReal (Eq.trans (b := l2 (ix3 0 n h)) (congrArg l2 (funext fun a => Fin.ext (match a with | ⟨0, _⟩ => rfl | ⟨1, _⟩ => rfl | ⟨2, _⟩ => rfl))) (row3_at l2 n h).symm)
  | ⟨2, _⟩ =>
    refine Eq.trans (concatenate_apply_piece (t := S3x1x4096x16) 0 _ _ _ 2 (by show 2 < 3; omega) S1x1x4096x16 (val_main_v85 (F := Ideal) (up3 l3)) rfl rfl 2 rfl
      (ix4 0 0 n h) (fun b hb => match b, hb with | ⟨0, _⟩, hh => absurd rfl hh | ⟨1, _⟩, _ => rfl | ⟨2, _⟩, _ => rfl | ⟨3, _⟩, _ => rfl) rfl) ?_
    rw [val_main_v85_apply]
    exact congrArg Real.toEReal (Eq.trans (b := l3 (ix3 0 n h)) (congrArg l3 (funext fun a => Fin.ext (match a with | ⟨0, _⟩ => rfl | ⟨1, _⟩ => rfl | ⟨2, _⟩ => rfl))) (row3_at l3 n h).symm)

/-- The shift is a real number. -/
theorem v96_at (n : Fin 4096) (h : Fin 16) :
    val_main_v96 (F := Ideal) (up q) (up k) (up3 l2) (up3 l3) (ix3 0 n h) = ((Mx q k l2 l3 n.val h : ℝ) : EReal) := by
  have e : (⟨n.val % 4096, Nat.mod_lt _ (by omega)⟩ : Fin 4096) = n := Fin.ext (Nat.mod_eq_of_lt n.isLt)
  unfold Mx
  rw [e]
  symm
  rw [val_main_v96_apply, val_main_v95_apply, val_main_cst_17_apply, Coe.bits_neg_inf]
  show Real.toEReal (EReal.toReal (max ⊥ (val_main_v89 (F := Ideal) (up q) (up k) (up3 l2) (up3 l3) (ix3 0 n h)))) = max ⊥ _
  rw [max_eq_right bot_le]
  apply EReal.coe_toReal
  · apply ne_of_lt
    unfold val_main_v89
    rw [Host.reduce_eq_fold]
    refine (Finset.fold_max_lt (β := EReal) ⊤).2 ⟨?_, fun i _ => ?_⟩
    · show FloatOps.ofBits (F := Ideal) .f32 0xFF800000#32 < (⊤ : EReal)
      rw [Coe.bits_neg_inf]; exact bot_lt_top
    · obtain ⟨p, z, n', h', rfl⟩ : ∃ (p : Fin 3) (z : Fin 1) (n' : Fin 4096) (h' : Fin 16), i = ix4 p z n' h' := ⟨_, _, _, _, eq_ix4 i⟩
      rw [Subsingleton.elim z 0, v86_at]
      exact EReal.coe_lt_top _
  · apply ne_of_gt
    unfold val_main_v89
    rw [Host.reduce_eq_fold]
    refine lt_of_lt_of_le (EReal.bot_lt_coe (ls q k l2 l3 0 n.val h)) ?_
    refine (Finset.le_fold_max (β := EReal) _).2 (Or.inr ⟨ix4 0 0 n h, ?_, ?_⟩)
    · rw [Finset.mem_filter]
      exact ⟨Finset.mem_univ _, (funext fun a => Fin.ext (match a with | ⟨0, _⟩ => rfl | ⟨1, _⟩ => rfl | ⟨2, _⟩ => rfl))⟩
    · rw [v86_at]

/-- The unnormalised weights. -/
theorem v109_at (p : Fin 3) (n : Fin 4096) (h : Fin 16) :
    val_main_v109 (F := Ideal) (up q) (up k) (up3 l2) (up3 l3) (ix4 p 0 n h) = ((ws q k l2 l3 p n.val h : ℝ) : EReal) := by
  rw [val_main_v109_apply, val_main_v108_apply, v86_at, val_main_v107_apply, val_main_v106_apply]
  have e : idx_main_v106 (idx_main_v107 (ix4 p 0 n h)) = ix3 0 n h := (funext fun a => Fin.ext (match a with | ⟨0, _⟩ => rfl | ⟨1, _⟩ => rfl | ⟨2, _⟩ => rfl))
  rw [e, v96_at]
  show FloatOps.hostUnary (F := Ideal) (φ := .f32) .exp ((_ : EReal) - _) = _
  rw [← EReal.coe_sub, Coe.hexp]
  rfl

/-- The weights' sum. -/
theorem v110_at (n : Fin 4096) (h : Fin 16) :
    val_main_v110 (F := Ideal) (up q) (up k) (up3 l2) (up3 l3) (ix3 0 n h) = ((tot q k l2 l3 (mx q k) (Mx q k l2 l3) n.val h : ℝ) : EReal) := by
  rw [val_main_v110_apply]
  have e : ∀ p : Fin 3, val_main_v109 (F := Ideal) (up q) (up k) (up3 l2) (up3 l3) (idx_main_v110 (ix3 0 n h) p) = _ := fun p =>
    (congrArg _ (funext fun a => Fin.ext (match a with | ⟨0, _⟩ => rfl | ⟨1, _⟩ => rfl | ⟨2, _⟩ => rfl | ⟨3, _⟩ => rfl))).trans (v109_at q k l2 l3 p n h)
  rw [Finset.sum_congr rfl fun p _ => e p, Coe.sum, val_main_cst_23_apply, Coe.bits_zero, zero_add, Fin.sum_univ_three]
  rfl
theorem v111_at (n : Fin 4096) (h : Fin 16) :
    val_main_v111 (F := Ideal) (up q) (up k) (up3 l2) (up3 l3) (ix4 0 0 n h) = ((tot q k l2 l3 (mx q k) (Mx q k l2 l3) n.val h : ℝ) : EReal) := by
  rw [val_main_v111_apply, ← v110_at]
  exact congrArg _ (funext fun a => Fin.ext (match a with | ⟨0, _⟩ => rfl | ⟨1, _⟩ => rfl | ⟨2, _⟩ => rfl))

theorem tot_ne (n : ℕ) (h : Fin 16) : tot q k l2 l3 (mx q k) (Mx q k l2 l3) n h ≠ 0 := (tot_pos q k l2 l3 (mx q k) (Mx q k l2 l3) n h).ne'

/-- The normalised weights. -/
theorem v113_at (p : Fin 3) (n : Fin 4096) (h : Fin 16) :
    val_main_v113 (F := Ideal) (up q) (up k) (up3 l2) (up3 l3) (ix4 p 0 n h)
      = ((ws q k l2 l3 p n.val h / tot q k l2 l3 (mx q k) (Mx q k l2 l3) n.val h : ℝ) : EReal) := by
  rw [val_main_v113_apply, v109_at, val_main_v112_apply]
  have e : idx_main_v112 (ix4 p 0 n h) = ix4 0 0 n h := (funext fun a => Fin.ext (match a with | ⟨0, _⟩ => rfl | ⟨1, _⟩ => rfl | ⟨2, _⟩ => rfl | ⟨3, _⟩ => rfl))
  rw [e, v111_at]
  exact Coe.div _ _ (tot_ne q k l2 l3 _ _)

/-- One over the square of the weights' sum. -/
theorem v116_at (n : Fin 4096) (h : Fin 16) :
    val_main_v116 (F := Ideal) (up q) (up k) (up3 l2) (up3 l3) (ix4 0 0 n h)
      = ((1 / (tot q k l2 l3 (mx q k) (Mx q k l2 l3) n.val h * tot q k l2 l3 (mx q k) (Mx q k l2 l3) n.val h) : ℝ) : EReal) := by
  rw [val_main_v116_apply, val_main_v114_apply, v111_at, val_main_v115_apply, val_main_cst_24_apply, Coe.bits_one]
  show Ideal.div 1 ((_ : EReal) * _) = _
  rw [← EReal.coe_mul]
  exact Coe.div 1 _ (mul_ne_zero (tot_ne q k l2 l3 _ _) (tot_ne q k l2 l3 _ _))

/-- The stacked outputs. -/
theorem v121_at (p : Fin 3) (n : Fin 4096) (h : Fin 16) (d : Fin 64) :
    val_main_v121 (F := Ideal) (up q) (up k) (up v) (up o2) (up o3) (ix5 p 0 n h d) = ((os q k v o2 o3 p n.val h d : ℝ) : EReal) := by
  unfold val_main_v121
  match p with
  | ⟨0, _⟩ =>
    refine Eq.trans (concatenate_apply_piece (t := S3x1x4096x16x64) 0 _ _ _ 0 (by show 0 < 3; omega) S1x1x4096x16x64 (val_main_v118 (F := Ideal) (up q) (up k) (up v)) rfl rfl 0 rfl
      (ix5 0 0 n h d) (fun b hb => match b, hb with | ⟨0, _⟩, hh => absurd rfl hh | ⟨1, _⟩, _ => rfl | ⟨2, _⟩, _ => rfl | ⟨3, _⟩, _ => rfl | ⟨4, _⟩, _ => rfl) rfl) ?_
    rw [val_main_v118_apply]
    exact (congrArg (val_main_v81 (F := Ideal) (up q) (up k) (up v)) (funext fun a => Fin.ext (match a with | ⟨0, _⟩ => rfl | ⟨1, _⟩ => rfl | ⟨2, _⟩ => rfl | ⟨3, _⟩ => rfl))).trans (v81_at q k v n h d)
  | ⟨1, _⟩ =>
    refine Eq.trans (concatenate_apply_piece (t := S3x1x4096x16x64) 0 _ _ _ 1 (by show 1 < 3; omega) S1x1x4096x16x64 (val_main_v119 (F := Ideal) (up o2)) rfl rfl 1 rfl
      (ix5 0 0 n h d) (fun b hb => match b, hb with | ⟨0, _⟩, hh => absurd rfl hh | ⟨1, _⟩, _ => rfl | ⟨2, _⟩, _ => rfl | ⟨3, _⟩, _ => rfl | ⟨4, _⟩, _ => rfl) rfl) ?_
    rw [val_main_v119_apply]
    exact congrArg Real.toEReal (Eq.trans (b := o2 (ix4 0 n h d)) (congrArg o2 (funext fun a => Fin.ext (match a with | ⟨0, _⟩ => rfl | ⟨1, _⟩ => rfl | ⟨2, _⟩ => rfl | ⟨3, _⟩ => rfl))) (row_at' o2 n h d).symm)
  | ⟨2, _⟩ =>
    refine Eq.trans (concatenate_apply_piece (t := S3x1x4096x16x64) 0 _ _ _ 2 (by show 2 < 3; omega) S1x1x4096x16x64 (val_main_v120 (F := Ideal) (up o3)) rfl rfl 2 rfl
      (ix5 0 0 n h d) (fun b hb => match b, hb with | ⟨0, _⟩, hh => absurd rfl hh | ⟨1, _⟩, _ => rfl | ⟨2, _⟩, _ => rfl | ⟨3, _⟩, _ => rfl | ⟨4, _⟩, _ => rfl) rfl) ?_
    rw [val_main_v120_apply]
    exact congrArg Real.toEReal (Eq.trans (b := o3 (ix4 0 n h d)) (congrArg o3 (funext fun a => Fin.ext (match a with | ⟨0, _⟩ => rfl | ⟨1, _⟩ => rfl | ⟨2, _⟩ => rfl | ⟨3, _⟩ => rfl))) (row_at' o3 n h d).symm)

theorem v127_at (p : Fin 3) (n : Fin 4096) (h : Fin 16) (d : Fin 64) :
    val_main_v127 (F := Ideal) (up ct) (ix5 p 0 n h d) = ((row ct n.val h d : ℝ) : EReal) := by
  rw [val_main_v127_apply, row_at']
  exact congrArg (up ct) (funext fun a => Fin.ext (match a with | ⟨0, _⟩ => rfl | ⟨1, _⟩ => rfl | ⟨2, _⟩ => rfl | ⟨3, _⟩ => rfl))

/-- The cotangents of the weighted outputs. -/
theorem v129_at (p : Fin 3) (n : Fin 4096) (h : Fin 16) (d : Fin 64) :
    val_main_v129 (F := Ideal) (up q) (up k) (up3 l2) (up3 l3) (up ct) (ix5 p 0 n h d)
      = ((ws q k l2 l3 p n.val h / tot q k l2 l3 (mx q k) (Mx q k l2 l3) n.val h * row ct n.val h d : ℝ) : EReal) := by
  rw [val_main_v129_apply, v127_at, val_main_v128_apply, val_main_v117_apply]
  have e : idx_main_v117 (idx_main_v128 (ix5 p 0 n h d)) = ix4 p 0 n h := (funext fun a => Fin.ext (match a with | ⟨0, _⟩ => rfl | ⟨1, _⟩ => rfl | ⟨2, _⟩ => rfl | ⟨3, _⟩ => rfl))
  rw [e, v113_at, EReal.coe_mul]
  rfl

/-- The cotangent of the first pattern's output. -/
theorem v134_at (n : Fin 4096) (h : Fin 16) (d : Fin 64) :
    val_main_v134 (F := Ideal) (up q) (up k) (up3 l2) (up3 l3) (up ct) (ix4 0 n h d) = ((g q k ct l2 l3 (mx q k) (Mx q k l2 l3) n.val h d : ℝ) : EReal) := by
  rw [val_main_v134_apply]
  have e : idx_main_v134 (ix4 0 n h d) = ix5 0 0 n h d := (funext fun a => Fin.ext (match a with | ⟨0, _⟩ => rfl | ⟨1, _⟩ => rfl | ⟨2, _⟩ => by show (((0 * 4096 + n.val) * 16 + h.val) * 64 + d.val) / 1024 % 4096 = n.val; omega | ⟨3, _⟩ => by show (((0 * 4096 + n.val) * 16 + h.val) * 64 + d.val) / 64 % 16 = h.val; omega | ⟨4, _⟩ => by show (((0 * 4096 + n.val) * 16 + h.val) * 64 + d.val) % 64 = d.val; omega))
  rw [e, val_main_v133_apply]
  have e2 : idx_main_v133 (ix5 0 0 n h d) = ix5 0 0 n h d := (funext fun a => Fin.ext (match a with | ⟨0, _⟩ => rfl | ⟨1, _⟩ => rfl | ⟨2, _⟩ => rfl | ⟨3, _⟩ => rfl | ⟨4, _⟩ => rfl))
  rw [e2, v129_at]
  rfl

/-- The row sums of the cotangent times an output. -/
theorem v131_at (p : Fin 3) (n : Fin 4096) (h : Fin 16) :
    val_main_v131 (F := Ideal) (up q) (up k) (up v) (up o2) (up o3) (up ct) (ix4 p 0 n h) = ((ps q k v o2 o3 ct p n.val h : ℝ) : EReal) := by
  rw [val_main_v131_apply]
  have e : ∀ d : Fin 64, val_main_v130 (F := Ideal) (up q) (up k) (up v) (up o2) (up o3) (up ct) (idx_main_v131 (ix4 p 0 n h) d)
      = ((row ct n.val h d * os q k v o2 o3 p n.val h d : ℝ) : EReal) := fun d => by
    have e1 : idx_main_v131 (ix4 p 0 n h) d = ix5 p 0 n h d := (funext fun a => Fin.ext (match a with | ⟨0, _⟩ => rfl | ⟨1, _⟩ => rfl | ⟨2, _⟩ => rfl | ⟨3, _⟩ => rfl | ⟨4, _⟩ => rfl))
    rw [e1, val_main_v130_apply, v127_at, v121_at, EReal.coe_mul]
    rfl
  rw [Finset.sum_congr rfl fun d _ => e d, Coe.sum, val_main_cst_28_apply, Coe.bits_zero, zero_add]
  rfl
theorem v140_at (p : Fin 3) (n : Fin 4096) (h : Fin 16) :
    val_main_v140 (F := Ideal) (up q) (up k) (up v) (up o2) (up o3) (up ct) (ix4 p 0 n h) = ((ps q k v o2 o3 ct p n.val h : ℝ) : EReal) := by
  rw [val_main_v140_apply]
  have e : idx_main_v140 (ix4 p 0 n h) = ix3 p n h := (funext fun a => Fin.ext (match a with | ⟨0, _⟩ => rfl | ⟨1, _⟩ => rfl | ⟨2, _⟩ => rfl))
  rw [e]
  refine (sum_unit Gen.reducesTo_S3x1x4096x16x1_S3x4096x16_d1_4 (val_main_v132 (F := Ideal) (up q) (up k) (up v) (up o2) (up o3) (up ct)) (ix3 p n h) (ix5 p 0 n h 0)
    (funext fun a => Fin.ext (match a with | ⟨0, _⟩ => rfl | ⟨1, _⟩ => rfl | ⟨2, _⟩ => rfl)) (fun i hi => ?_) _ Coe.bits_zero).trans ?_
  · obtain ⟨p', z, n', h', z', rfl⟩ : ∃ (p' : Fin 3) (z : Fin 1) (n' : Fin 4096) (h' : Fin 16) (z' : Fin 1), i = ix5 p' z n' h' z' := ⟨_, _, _, _, _, eq_ix5 i⟩
    have a0 : p' = p := congrFun hi 0
    have a1 : n' = n := congrFun hi 1
    have a2 : h' = h := congrFun hi 2
    rw [a0, a1, a2, Subsingleton.elim z 0, Subsingleton.elim z' 0]
  · rw [val_main_v132_apply, ← v131_at]
    exact congrArg _ (funext fun a => Fin.ext (match a with | ⟨0, _⟩ => by show ((((p.val * 1 + 0) * 4096 + n.val) * 16 + h.val) * 1 + 0) / 65536 = p.val; omega | ⟨1, _⟩ => rfl | ⟨2, _⟩ => by show ((((p.val * 1 + 0) * 4096 + n.val) * 16 + h.val) * 1 + 0) / 16 % 4096 = n.val; omega | ⟨3, _⟩ => by show ((((p.val * 1 + 0) * 4096 + n.val) * 16 + h.val) * 1 + 0) % 16 = h.val; omega))

/-- The term of the weights' normalisation. -/
theorem v144_at (n : Fin 4096) (h : Fin 16) :
    val_main_v144 (F := Ideal) (up q) (up k) (up v) (up o2) (up o3) (up3 l2) (up3 l3) (up ct) (ix3 0 n h)
      = ((∑ p : Fin 3, ps q k v o2 o3 ct p n.val h
          * (1 / (tot q k l2 l3 (mx q k) (Mx q k l2 l3) n.val h * tot q k l2 l3 (mx q k) (Mx q k l2 l3) n.val h)) * ws q k l2 l3 p n.val h : ℝ) : EReal) := by
  rw [val_main_v144_apply]
  have e : ∀ p : Fin 3, val_main_v143 (F := Ideal) (up q) (up k) (up v) (up o2) (up o3) (up3 l2) (up3 l3) (up ct) (idx_main_v144 (ix3 0 n h) p)
      = ((ps q k v o2 o3 ct p n.val h * (1 / (tot q k l2 l3 (mx q k) (Mx q k l2 l3) n.val h * tot q k l2 l3 (mx q k) (Mx q k l2 l3) n.val h))
          * ws q k l2 l3 p n.val h : ℝ) : EReal) := fun p => by
    have e1 : idx_main_v144 (ix3 0 n h) p = ix4 p 0 n h := (funext fun a => Fin.ext (match a with | ⟨0, _⟩ => rfl | ⟨1, _⟩ => rfl | ⟨2, _⟩ => rfl | ⟨3, _⟩ => rfl))
    have e2 : idx_main_v141 (ix4 p 0 n h) = ix4 0 0 n h := (funext fun a => Fin.ext (match a with | ⟨0, _⟩ => rfl | ⟨1, _⟩ => rfl | ⟨2, _⟩ => rfl | ⟨3, _⟩ => rfl))
    rw [e1, val_main_v143_apply, val_main_v142_apply, v140_at, v109_at, val_main_v141_apply, e2, v116_at, EReal.coe_mul, EReal.coe_mul]
    rfl
  rw [Finset.sum_congr rfl fun p _ => e p, Coe.sum, val_main_cst_30_apply, Coe.bits_zero, zero_add]

/-- The cotangent of the first pattern's log-denominator. -/
theorem v155_at (n : Fin 4096) (h : Fin 16) :
    val_main_v155 (F := Ideal) (up q) (up k) (up v) (up o2) (up o3) (up3 l2) (up3 l3) (up ct) (ix3 0 n h)
      = ((dl q k v o2 o3 ct l2 l3 (mx q k) (Mx q k l2 l3) n.val h : ℝ) : EReal) := by
  rw [val_main_v155_apply]
  have e : idx_main_v155 (ix3 0 n h) = ix4 0 0 n h := (funext fun a => Fin.ext (match a with | ⟨0, _⟩ => rfl | ⟨1, _⟩ => rfl | ⟨2, _⟩ => by show ((0 * 4096 + n.val) * 16 + h.val) / 16 % 4096 = n.val; omega | ⟨3, _⟩ => by show ((0 * 4096 + n.val) * 16 + h.val) % 16 = h.val; omega))
  rw [e, val_main_v154_apply]
  have e2 : idx_main_v154 (ix4 0 0 n h) = ix4 0 0 n h := (funext fun a => Fin.ext (match a with | ⟨0, _⟩ => rfl | ⟨1, _⟩ => rfl | ⟨2, _⟩ => rfl | ⟨3, _⟩ => rfl))
  rw [e2, val_main_v153_apply, v109_at, val_main_v152_apply, val_main_v148_apply, v140_at, val_main_v147_apply]
  have e3 : idx_main_v147 (ix4 0 0 n h) = ix4 0 0 n h := (funext fun a => Fin.ext (match a with | ⟨0, _⟩ => rfl | ⟨1, _⟩ => rfl | ⟨2, _⟩ => rfl | ⟨3, _⟩ => rfl))
  rw [e3, v111_at, val_main_v151_apply, val_main_v150_apply]
  have e4 : idx_main_v150 (idx_main_v151 (ix4 0 0 n h)) = ix2 n h := (funext fun a => Fin.ext (match a with | ⟨0, _⟩ => rfl | ⟨1, _⟩ => rfl))
  have e5 : val_main_v149 (F := Ideal) (up q) (up k) (up v) (up o2) (up o3) (up3 l2) (up3 l3) (up ct) (ix2 n h)
      = ((-(∑ p : Fin 3, ps q k v o2 o3 ct p n.val h
          * (1 / (tot q k l2 l3 (mx q k) (Mx q k l2 l3) n.val h * tot q k l2 l3 (mx q k) (Mx q k l2 l3) n.val h)) * ws q k l2 l3 p n.val h) : ℝ) : EReal) := by
    refine (sum_unit Gen.reducesTo_S1x1x4096x16_S4096x16_d0_1 (val_main_v146 (F := Ideal) (up q) (up k) (up v) (up o2) (up o3) (up3 l2) (up3 l3) (up ct)) (ix2 n h) (ix4 0 0 n h)
      (funext fun a => Fin.ext (match a with | ⟨0, _⟩ => rfl | ⟨1, _⟩ => rfl)) (fun i hi => ?_) _ Coe.bits_zero).trans ?_
    · obtain ⟨z, z', n', h', rfl⟩ : ∃ (z : Fin 1) (z' : Fin 1) (n' : Fin 4096) (h' : Fin 16), i = ix4 z z' n' h' := ⟨_, _, _, _, eq_ix4 i⟩
      have a1 : n' = n := congrFun hi 0
      have a2 : h' = h := congrFun hi 1
      rw [a1, a2, Subsingleton.elim z 0, Subsingleton.elim z' 0]
    · rw [val_main_v146_apply, val_main_v145_apply]
      have e6 : idx_main_v145 (ix4 0 0 n h) = ix3 0 n h := (funext fun a => Fin.ext (match a with | ⟨0, _⟩ => rfl | ⟨1, _⟩ => by show (((0 * 1 + 0) * 4096 + n.val) * 16 + h.val) / 16 % 4096 = n.val; omega | ⟨2, _⟩ => by show (((0 * 1 + 0) * 4096 + n.val) * 16 + h.val) % 16 = h.val; omega))
      rw [e6, v144_at]
      show -((_ : ℝ) : EReal) = _
      rw [← EReal.coe_neg]
  rw [e4, e5]
  show ((Ideal.div ((_ : ℝ) : EReal) _) + _) * _ = _
  rw [Coe.div _ _ (tot_ne q k l2 l3 _ _), ← EReal.coe_add, ← EReal.coe_mul, Fin.sum_univ_three]
  rfl

end Cert.RefMix
end
-- ==== Proof.RefBackward.lean ====
/- The reference's backward pass from the first pattern's two cotangents to the cotangents of its scores and to the query gradient. -/
module

public import proofs.«01_k».proof.Proof.RefMix

@[expose] public section

noncomputable section

namespace Cert.RefBackward

open Idealize.ShloMosaic Idealize.ShloMosaic.ValueIdx Idealize.ShloMosaic.StableHlo
open Cert.ReferenceIdeal Cert.ReferenceIdeal.Read Cert.Band Cert.RefScores Cert.RefForward Cert.RefMix

variable (q k v o2 o3 ct : I4 → ℝ) (l2 l3 : I3 → ℝ)

/-- The log-denominator's cotangent in blocks, heads before rows. -/
theorem v162_at (b : Fin 64) (h : Fin 16) (r : Fin 64) :
    val_main_v162 (F := Ideal) (up q) (up k) (up v) (up o2) (up o3) (up3 l2) (up3 l3) (up ct) (ix4 0 b h r) = ((dl q k v o2 o3 ct l2 l3 (mx q k) (Mx q k l2 l3) (64 * b.val + r.val) h : ℝ) : EReal) := by
  rw [val_main_v162_apply]
  have e : idx_main_v162 (ix4 0 b h r) = ix4 0 b r h := (funext fun a => Fin.ext (match a with | ⟨0, _⟩ => rfl | ⟨1, _⟩ => rfl | ⟨2, _⟩ => rfl | ⟨3, _⟩ => rfl))
  rw [e, val_main_v160_apply]
  have e2 : idx_main_v160 (ix4 0 b r h) = ix3 0 ⟨64 * b.val + r.val, by omega⟩ h := (funext fun a => Fin.ext (match a with | ⟨0, _⟩ => rfl | ⟨1, _⟩ => by show (((0 * 64 + b.val) * 64 + r.val) * 16 + h.val) / 16 % 4096 = 64 * b.val + r.val; omega | ⟨2, _⟩ => by show (((0 * 64 + b.val) * 64 + r.val) * 16 + h.val) % 16 = h.val; omega))
  rw [e2, v155_at]

/-- The output's cotangent in blocks. -/
theorem v161_at (b r : Fin 64) (h : Fin 16) (d : Fin 64) :
    val_main_v161 (F := Ideal) (up q) (up k) (up3 l2) (up3 l3) (up ct) (ix5 0 b r h d) = ((g q k ct l2 l3 (mx q k) (Mx q k l2 l3) (64 * b.val + r.val) h d : ℝ) : EReal) := by
  rw [val_main_v161_apply]
  have e : idx_main_v161 (ix5 0 b r h d) = ix4 0 ⟨64 * b.val + r.val, by omega⟩ h d := (funext fun a => Fin.ext (match a with | ⟨0, _⟩ => rfl | ⟨1, _⟩ => by show ((((0 * 64 + b.val) * 64 + r.val) * 16 + h.val) * 64 + d.val) / 1024 % 4096 = 64 * b.val + r.val; omega | ⟨2, _⟩ => by show ((((0 * 64 + b.val) * 64 + r.val) * 16 + h.val) * 64 + d.val) / 64 % 16 = h.val; omega | ⟨3, _⟩ => by show ((((0 * 64 + b.val) * 64 + r.val) * 16 + h.val) * 64 + d.val) % 64 = d.val; omega))
  rw [e, v134_at]

/-- One over the square of the denominator. -/
theorem v76_at (b r : Fin 64) (h : Fin 16) :
    val_main_v76 (F := Ideal) (up q) (up k) (ix5 0 b r h 0) = ((1 / (den q k (mx q k) (64 * b.val + r.val) h * den q k (mx q k) (64 * b.val + r.val) h) : ℝ) : EReal) := by
  rw [val_main_v76_apply, val_main_v74_apply, v71_at, val_main_v75_apply, val_main_cst_12_apply, Coe.bits_one]
  show Ideal.div 1 ((_ : EReal) * _) = _
  rw [← EReal.coe_mul]
  exact Coe.div 1 _ (mul_ne_zero (den_ne q k b r h) (den_ne q k b r h))

/-- The denominator's cotangent. -/
theorem v176_at (b : Fin 64) (h : Fin 16) (r : Fin 64) :
    val_main_v176 (F := Ideal) (up q) (up k) (up v) (up o2) (up o3) (up3 l2) (up3 l3) (up ct) (ix4 0 b h r) = ((back q k v o2 o3 ct l2 l3 (mx q k) (Mx q k l2 l3) (64 * b.val + r.val) h : ℝ) : EReal) := by
  have e168 : val_main_v168 (F := Ideal) (up q) (up k) (up v) (up3 l2) (up3 l3) (up ct) (ix4 0 b r h)
      = ((∑ d : Fin 64, g q k ct l2 l3 (mx q k) (Mx q k l2 l3) (64 * b.val + r.val) h d * (1 / (den q k (mx q k) (64 * b.val + r.val) h * den q k (mx q k) (64 * b.val + r.val) h)) * num q k v (mx q k) (64 * b.val + r.val) h d : ℝ) : EReal) := by
    rw [val_main_v168_apply]
    have e : ∀ d : Fin 64, val_main_v167 (F := Ideal) (up q) (up k) (up v) (up3 l2) (up3 l3) (up ct) (idx_main_v168 (ix4 0 b r h) d)
        = ((g q k ct l2 l3 (mx q k) (Mx q k l2 l3) (64 * b.val + r.val) h d * (1 / (den q k (mx q k) (64 * b.val + r.val) h * den q k (mx q k) (64 * b.val + r.val) h)) * num q k v (mx q k) (64 * b.val + r.val) h d : ℝ) : EReal) := fun d => by
      have e1 : idx_main_v168 (ix4 0 b r h) d = ix5 0 b r h d := (funext fun a => Fin.ext (match a with | ⟨0, _⟩ => rfl | ⟨1, _⟩ => rfl | ⟨2, _⟩ => rfl | ⟨3, _⟩ => rfl | ⟨4, _⟩ => rfl))
      have e2 : idx_main_v165 (ix5 0 b r h d) = ix5 0 b r h 0 := (funext fun a => Fin.ext (match a with | ⟨0, _⟩ => rfl | ⟨1, _⟩ => rfl | ⟨2, _⟩ => rfl | ⟨3, _⟩ => rfl | ⟨4, _⟩ => rfl))
      rw [e1, val_main_v167_apply, val_main_v166_apply, v161_at, val_main_v165_apply, e2, v76_at, v69_at, EReal.coe_mul, EReal.coe_mul]
      rfl
    rw [Finset.sum_congr rfl fun d _ => e d, Coe.sum, val_main_cst_32_apply, Coe.bits_zero, zero_add]
  have e173 : val_main_v173 (F := Ideal) (up q) (up k) (up v) (up3 l2) (up3 l3) (up ct) (ix3 b r h)
      = ((-(∑ d : Fin 64, g q k ct l2 l3 (mx q k) (Mx q k l2 l3) (64 * b.val + r.val) h d * (1 / (den q k (mx q k) (64 * b.val + r.val) h * den q k (mx q k) (64 * b.val + r.val) h)) * num q k v (mx q k) (64 * b.val + r.val) h d) : ℝ) : EReal) := by
    refine (sum_unit Gen.reducesTo_S1x64x64x16x1_S64x64x16_d0_4 (val_main_v170 (F := Ideal) (up q) (up k) (up v) (up3 l2) (up3 l3) (up ct)) (ix3 b r h) (ix5 0 b r h 0)
      (funext fun a => Fin.ext (match a with | ⟨0, _⟩ => rfl | ⟨1, _⟩ => rfl | ⟨2, _⟩ => rfl)) (fun i hi => ?_) _ Coe.bits_zero).trans ?_
    · obtain ⟨z, b', r', h', z', rfl⟩ : ∃ (z : Fin 1) (b' : Fin 64) (r' : Fin 64) (h' : Fin 16) (z' : Fin 1), i = ix5 z b' r' h' z' := ⟨_, _, _, _, _, eq_ix5 i⟩
      have a0 : b' = b := congrFun hi 0
      have a1 : r' = r := congrFun hi 1
      have a2 : h' = h := congrFun hi 2
      rw [a0, a1, a2, Subsingleton.elim z 0, Subsingleton.elim z' 0]
    · rw [val_main_v170_apply, val_main_v169_apply]
      have e6 : idx_main_v169 (ix5 0 b r h 0) = ix4 0 b r h := (funext fun a => Fin.ext (match a with | ⟨0, _⟩ => rfl | ⟨1, _⟩ => by show ((((0 * 64 + b.val) * 64 + r.val) * 16 + h.val) * 1 + 0) / 1024 % 64 = b.val; omega | ⟨2, _⟩ => by show ((((0 * 64 + b.val) * 64 + r.val) * 16 + h.val) * 1 + 0) / 16 % 64 = r.val; omega | ⟨3, _⟩ => by show ((((0 * 64 + b.val) * 64 + r.val) * 16 + h.val) * 1 + 0) % 16 = h.val; omega))
      rw [e6, e168]
      show -((_ : ℝ) : EReal) = _
      rw [← EReal.coe_neg]
  rw [val_main_v176_apply, val_main_v163_apply, v162_at, v67_at, val_main_v175_apply, val_main_v174_apply]
  have e7 : idx_main_v174 (idx_main_v175 (ix4 0 b h r)) = ix3 b r h := (funext fun a => Fin.ext (match a with | ⟨0, _⟩ => rfl | ⟨1, _⟩ => rfl | ⟨2, _⟩ => rfl))
  rw [e7, e173]
  show (Ideal.div ((_ : ℝ) : EReal) _) + _ = _
  rw [Coe.div _ _ (den_ne q k b r h), ← EReal.coe_add]
  rfl

/-- The cotangent of an exponential. -/
theorem v180_at (b : Fin 64) (h : Fin 16) (r : Fin 64) (c : Fin 192) :
    val_main_v180 (F := Ideal) (up q) (up k) (up v) (up o2) (up o3) (up3 l2) (up3 l3) (up ct) (ix5 0 b h r c) = ((coef q k v o2 o3 ct l2 l3 (mx q k) (Mx q k l2 l3) (64 * b.val + r.val) (64 * b.val + c.val) h : ℝ) : EReal) := by
  have e178 : val_main_v178 (F := Ideal) (up q) (up k) (up v) (up3 l2) (up3 l3) (up ct) (ix5 0 b h r c)
      = ((∑ d : Fin 64, g q k ct l2 l3 (mx q k) (Mx q k l2 l3) (64 * b.val + r.val) h d / den q k (mx q k) (64 * b.val + r.val) h * Band.pad v (64 * b.val + c.val) h d : ℝ) : EReal) := by
    rw [val_main_v178_apply]
    have e : ∀ d : Fin 64, val_main_v177 (F := Ideal) (up q) (up k) (up3 l2) (up3 l3) (up ct) (lidx_main_v178 (ix5 0 b h r c) d) * val_main_v13 (F := Ideal) (up v) (ridx_main_v178 (ix5 0 b h r c) d)
        = ((g q k ct l2 l3 (mx q k) (Mx q k l2 l3) (64 * b.val + r.val) h d / den q k (mx q k) (64 * b.val + r.val) h * Band.pad v (64 * b.val + c.val) h d : ℝ) : EReal) := fun d => by
      have e1 : ridx_main_v178 (ix5 0 b h r c) d = ix5 0 b c h d := (funext fun a => Fin.ext (match a with | ⟨0, _⟩ => rfl | ⟨1, _⟩ => rfl | ⟨2, _⟩ => rfl | ⟨3, _⟩ => rfl | ⟨4, _⟩ => rfl))
      have e2 : idx_main_v177 (lidx_main_v178 (ix5 0 b h r c) d) = ix5 0 b r h d := (funext fun a => Fin.ext (match a with | ⟨0, _⟩ => rfl | ⟨1, _⟩ => rfl | ⟨2, _⟩ => rfl | ⟨3, _⟩ => rfl | ⟨4, _⟩ => rfl))
      have e3 : idx_main_v171 (ix5 0 b r h d) = ix5 0 b r h 0 := (funext fun a => Fin.ext (match a with | ⟨0, _⟩ => rfl | ⟨1, _⟩ => rfl | ⟨2, _⟩ => rfl | ⟨3, _⟩ => rfl | ⟨4, _⟩ => rfl))
      rw [e1, v13_at, val_main_v177_apply, e2, val_main_v172_apply, v161_at, val_main_v171_apply, e3, v71_at, EReal.coe_mul]
      exact congrArg (· * _) (Coe.div _ _ (den_ne q k b r h))
    rw [Finset.sum_congr rfl fun d _ => e d, Coe.sum]
  rw [val_main_v180_apply, e178, val_main_v179_apply]
  have e1 : idx_main_v179 (ix5 0 b h r c) = ix4 0 b h r := (funext fun a => Fin.ext (match a with | ⟨0, _⟩ => rfl | ⟨1, _⟩ => rfl | ⟨2, _⟩ => rfl | ⟨3, _⟩ => rfl))
  rw [e1, v176_at]
  show ((_ : ℝ) : EReal) + _ = _
  rw [← EReal.coe_add]
  rfl

/-- The cotangent of an exponential times the exponential. -/
theorem v181_at (b : Fin 64) (h : Fin 16) (r : Fin 64) (c : Fin 192) :
    val_main_v181 (F := Ideal) (up q) (up k) (up v) (up o2) (up o3) (up3 l2) (up3 l3) (up ct) (ix5 0 b h r c)
      = ((if InBand (64 * b.val + r.val) (64 * b.val + c.val) then coef q k v o2 o3 ct l2 l3 (mx q k) (Mx q k l2 l3) (64 * b.val + r.val) (64 * b.val + c.val) h * ex q k (mx q k) (64 * b.val + r.val) (64 * b.val + c.val) h else 0 : ℝ) : EReal) := by
  rw [val_main_v181_apply, v180_at, v66_at]
  show ((_ : ℝ) : EReal) * _ = _
  rw [← EReal.coe_mul, mul_ite, mul_zero]

/-- What reaches the row's largest score cancels: the softmax does not depend on its shift. -/
theorem v185_at (b : Fin 64) (h : Fin 16) (r : Fin 64) :
    val_main_v185 (F := Ideal) (up q) (up k) (up v) (up o2) (up o3) (up3 l2) (up3 l3) (up ct) (ix5 0 b h r 0) = 0 := by
  have e183 : val_main_v183 (F := Ideal) (up q) (up k) (up v) (up o2) (up o3) (up3 l2) (up3 l3) (up ct) (ix4 0 b h r) = ((-dl q k v o2 o3 ct l2 l3 (mx q k) (Mx q k l2 l3) (64 * b.val + r.val) h : ℝ) : EReal) := by
    rw [val_main_v183_apply]
    have e : ∀ c : Fin 192, val_main_v182 (F := Ideal) (up q) (up k) (up v) (up o2) (up o3) (up3 l2) (up3 l3) (up ct) (idx_main_v183 (ix4 0 b h r) c)
        = ((-(if InBand (64 * b.val + r.val) (64 * b.val + c.val) then coef q k v o2 o3 ct l2 l3 (mx q k) (Mx q k l2 l3) (64 * b.val + r.val) (64 * b.val + c.val) h * ex q k (mx q k) (64 * b.val + r.val) (64 * b.val + c.val) h else 0) : ℝ) : EReal) := fun c => by
      have e1 : idx_main_v183 (ix4 0 b h r) c = ix5 0 b h r c := (funext fun a => Fin.ext (match a with | ⟨0, _⟩ => rfl | ⟨1, _⟩ => rfl | ⟨2, _⟩ => rfl | ⟨3, _⟩ => rfl | ⟨4, _⟩ => rfl))
      rw [e1, val_main_v182_apply, v181_at, EReal.coe_neg]
      rfl
    rw [Finset.sum_congr rfl fun c _ => e c, Coe.sum, val_main_cst_34_apply, Coe.bits_zero, zero_add, Finset.sum_neg_distrib,
      window_sum 192 (64 * b.val) (64 * b.val + r.val) (by omega) (by omega)
        (fun j => coef q k v o2 o3 ct l2 l3 (mx q k) (Mx q k l2 l3) (64 * b.val + r.val) j h * ex q k (mx q k) (64 * b.val + r.val) j h),
      sum_coef q k v o2 o3 ct l2 l3 (mx q k) (Mx q k l2 l3) _ (by omega) h]
  rw [val_main_v185_apply, val_main_v164_apply, val_main_v184_apply]
  have e1 : idx_main_v164 (ix5 0 b h r 0) = ix4 0 b h r := (funext fun a => Fin.ext (match a with | ⟨0, _⟩ => rfl | ⟨1, _⟩ => rfl | ⟨2, _⟩ => rfl | ⟨3, _⟩ => rfl))
  have e2 : idx_main_v184 (ix5 0 b h r 0) = ix4 0 b h r := (funext fun a => Fin.ext (match a with | ⟨0, _⟩ => rfl | ⟨1, _⟩ => by show ((((0 * 64 + b.val) * 16 + h.val) * 64 + r.val) * 1 + 0) / 1024 % 64 = b.val; omega | ⟨2, _⟩ => by show ((((0 * 64 + b.val) * 16 + h.val) * 64 + r.val) * 1 + 0) / 64 % 16 = h.val; omega | ⟨3, _⟩ => by show ((((0 * 64 + b.val) * 16 + h.val) * 64 + r.val) * 1 + 0) % 64 = r.val; omega))
  rw [e1, e2, v162_at, e183]
  show ((_ : ℝ) : EReal) + _ = _
  rw [← EReal.coe_add, add_neg_cancel, EReal.coe_zero]
theorem v187_at (b : Fin 64) (h : Fin 16) (r : Fin 64) :
    val_main_v187 (F := Ideal) (up q) (up k) (up v) (up o2) (up o3) (up3 l2) (up3 l3) (up ct) (ix4 0 b h r) = 0 := by
  rw [val_main_v187_apply]
  have e7 : idx_main_v187 (ix4 0 b h r) = ix3 b h r := (funext fun a => Fin.ext (match a with | ⟨0, _⟩ => rfl | ⟨1, _⟩ => rfl | ⟨2, _⟩ => rfl))
  rw [e7]
  refine (sum_unit Gen.reducesTo_S1x64x16x64x1_S64x16x64_d0_4 (val_main_v185 (F := Ideal) (up q) (up k) (up v) (up o2) (up o3) (up3 l2) (up3 l3) (up ct)) (ix3 b h r) (ix5 0 b h r 0)
    (funext fun a => Fin.ext (match a with | ⟨0, _⟩ => rfl | ⟨1, _⟩ => rfl | ⟨2, _⟩ => rfl)) (fun i hi => ?_) _ Coe.bits_zero).trans (v185_at q k v o2 o3 ct l2 l3 b h r)
  obtain ⟨z, b', h', r', z', rfl⟩ : ∃ (z : Fin 1) (b' : Fin 64) (h' : Fin 16) (r' : Fin 64) (z' : Fin 1), i = ix5 z b' h' r' z' := ⟨_, _, _, _, _, eq_ix5 i⟩
  have a0 : b' = b := congrFun hi 0
  have a1 : h' = h := congrFun hi 1
  have a2 : r' = r := congrFun hi 2
  rw [a0, a1, a2, Subsingleton.elim z 0, Subsingleton.elim z' 0]

/-- The indicator of the row's largest score is a real number that is not negative. -/
theorem v61_real (i : S1x64x16x64x192.Idx) : ∃ u : ℝ, 0 ≤ u ∧ val_main_v61 (F := Ideal) (up q) (up k) i = (u : EReal) := by
  rw [val_main_v61_apply]
  exact ⟨((val_main_v60 (F := Ideal) (up q) (up k) i).toNat : ℝ), Nat.cast_nonneg _, rfl⟩

/-- The share of the largest score's cotangent is zero. -/
theorem v190_at (b : Fin 64) (h : Fin 16) (r : Fin 64) (c : Fin 192) :
    val_main_v190 (F := Ideal) (up q) (up k) (up v) (up o2) (up o3) (up3 l2) (up3 l3) (up ct) (ix5 0 b h r c) = 0 := by
  rw [val_main_v190_apply, val_main_v189_apply]
  have e1 : idx_main_v189 (ix5 0 b h r c) = ix4 0 b h r := (funext fun a => Fin.ext (match a with | ⟨0, _⟩ => rfl | ⟨1, _⟩ => rfl | ⟨2, _⟩ => rfl | ⟨3, _⟩ => rfl))
  rw [e1, val_main_v188_apply, v187_at]
  choose u hu hv using v61_real q k
  have e2 : val_main_v62 (F := Ideal) (up q) (up k) (ix4 0 b h r) = ((∑ c : Fin 192, u (ix5 0 b h r c) : ℝ) : EReal) := by
    rw [val_main_v62_apply]
    have e : ∀ c : Fin 192, val_main_v61 (F := Ideal) (up q) (up k) (idx_main_v62 (ix4 0 b h r) c) = ((u (ix5 0 b h r c) : ℝ) : EReal) := fun c => by
      have e1 : idx_main_v62 (ix4 0 b h r) c = ix5 0 b h r c := (funext fun a => Fin.ext (match a with | ⟨0, _⟩ => rfl | ⟨1, _⟩ => rfl | ⟨2, _⟩ => rfl | ⟨3, _⟩ => rfl | ⟨4, _⟩ => rfl))
      rw [e1, hv]
    rw [Finset.sum_congr rfl fun c _ => e c, Coe.sum, val_main_cst_10_apply, Coe.bits_zero, zero_add]
  rw [e2, hv]
  show Ideal.div 0 ((_ : ℝ) : EReal) * ((_ : ℝ) : EReal) = 0
  by_cases hz : (∑ c : Fin 192, u (ix5 0 b h r c)) = 0
  · rw [(Finset.sum_eq_zero_iff_of_nonneg fun c _ => hu _).1 hz c (Finset.mem_univ _), EReal.coe_zero, mul_zero]
  · rw [← EReal.coe_zero, Coe.div _ _ hz, zero_div, EReal.coe_zero, zero_mul]

/-- The cotangent of a product of a query and a key. -/
theorem v194_at (b : Fin 64) (h : Fin 16) (r : Fin 64) (c : Fin 192) :
    val_main_v194 (F := Ideal) (up q) (up k) (up v) (up o2) (up o3) (up3 l2) (up3 l3) (up ct) (ix5 0 b h r c)
      = ((if InBand (64 * b.val + r.val) (64 * b.val + c.val) then coef q k v o2 o3 ct l2 l3 (mx q k) (Mx q k l2 l3) (64 * b.val + r.val) (64 * b.val + c.val) h * ex q k (mx q k) (64 * b.val + r.val) (64 * b.val + c.val) h * (1 / 8) else 0 : ℝ) : EReal) := by
  rw [val_main_v194_apply, val_main_v192_apply, val_main_v56_1_apply, val_main_v191_apply, v190_at, v181_at, val_main_v193_apply, val_main_cst_36_apply,
    Coe.bits_eighth, val_main_call4_v0_apply, val_main_call4_cst_apply, Coe.bits_zero]
  have e1 : idx_main_v56_1 (ix5 0 b h r c) = ix5 0 b 0 r c := (funext fun a => Fin.ext (match a with | ⟨0, _⟩ => rfl | ⟨1, _⟩ => rfl | ⟨2, _⟩ => rfl | ⟨3, _⟩ => rfl | ⟨4, _⟩ => rfl))
  rw [e1, v55_at]
  by_cases hb : InBand (64 * b.val + r.val) (64 * b.val + c.val)
  · rw [if_pos hb, if_pos hb, decide_eq_true hb, EReal.coe_mul (_ * _) (1 / 8)]
    show (((_ : ℝ) : EReal) + 0) * _ = _
    rw [add_zero]
  · rw [if_neg hb, if_neg hb, decide_eq_false hb, EReal.coe_zero]
    show (0 : EReal) * _ = 0
    rw [zero_mul]

/-- The query gradient. -/
theorem result_at (n : Fin 4096) (j : Fin 1024) :
    val_main_v200 (F := Ideal) (up q) (up k) (up v) (up o2) (up o3) (up3 l2) (up3 l3) (up ct) (ix2 n j)
      = ((band n.val (fun i => coef q k v o2 o3 ct l2 l3 (mx q k) (Mx q k l2 l3) n.val i ⟨j.val / 64, by omega⟩ * ex q k (mx q k) n.val i ⟨j.val / 64, by omega⟩ * (1 / 8)
          * Band.pad k i ⟨j.val / 64, by omega⟩ ⟨j.val % 64, by omega⟩) : ℝ) : EReal) := by
  have e195 : ∀ (b : Fin 64) (h : Fin 16) (r : Fin 64) (d : Fin 64), val_main_v195 (F := Ideal) (up q) (up k) (up v) (up o2) (up o3) (up3 l2) (up3 l3) (up ct) (ix5 0 b h r d)
      = ((band (64 * b.val + r.val) (fun i => coef q k v o2 o3 ct l2 l3 (mx q k) (Mx q k l2 l3) (64 * b.val + r.val) i h * ex q k (mx q k) (64 * b.val + r.val) i h * (1 / 8) * Band.pad k i h d) : ℝ) : EReal) := fun b h r d => by
    rw [val_main_v195_apply]
    have e : ∀ c : Fin 192, val_main_v194 (F := Ideal) (up q) (up k) (up v) (up o2) (up o3) (up3 l2) (up3 l3) (up ct) (lidx_main_v195 (ix5 0 b h r d) c) * val_main_v9 (F := Ideal) (up k) (ridx_main_v195 (ix5 0 b h r d) c)
        = ((if InBand (64 * b.val + r.val) (64 * b.val + c.val) then coef q k v o2 o3 ct l2 l3 (mx q k) (Mx q k l2 l3) (64 * b.val + r.val) (64 * b.val + c.val) h * ex q k (mx q k) (64 * b.val + r.val) (64 * b.val + c.val) h * (1 / 8) * Band.pad k (64 * b.val + c.val) h d else 0 : ℝ) : EReal) := fun c => by
      have e1 : lidx_main_v195 (ix5 0 b h r d) c = ix5 0 b h r c := (funext fun a => Fin.ext (match a with | ⟨0, _⟩ => rfl | ⟨1, _⟩ => rfl | ⟨2, _⟩ => rfl | ⟨3, _⟩ => rfl | ⟨4, _⟩ => rfl))
      have e2 : ridx_main_v195 (ix5 0 b h r d) c = ix5 0 b c h d := (funext fun a => Fin.ext (match a with | ⟨0, _⟩ => rfl | ⟨1, _⟩ => rfl | ⟨2, _⟩ => rfl | ⟨3, _⟩ => rfl | ⟨4, _⟩ => rfl))
      rw [e1, e2, v194_at, v9_at, ← EReal.coe_mul, ite_mul, zero_mul]
    rw [Finset.sum_congr rfl fun c _ => e c, Coe.sum,
      window_sum 192 (64 * b.val) (64 * b.val + r.val) (by omega) (by omega)
        (fun i => coef q k v o2 o3 ct l2 l3 (mx q k) (Mx q k l2 l3) (64 * b.val + r.val) i h * ex q k (mx q k) (64 * b.val + r.val) i h * (1 / 8) * Band.pad k i h d)]
  show val_main_v199 (F := Ideal) (up q) (up k) (up v) (up o2) (up o3) (up3 l2) (up3 l3) (up ct) (ix2 n j) = _
  rw [val_main_v199_apply]
  have e1 : idx_main_v199 (ix2 n j) = ix4 0 n ⟨j.val / 64, by omega⟩ ⟨j.val % 64, by omega⟩ := (funext fun a => Fin.ext (match a with | ⟨0, _⟩ => rfl | ⟨1, _⟩ => by show (n.val * 1024 + j.val) / 1024 % 4096 = n.val; omega | ⟨2, _⟩ => by show (n.val * 1024 + j.val) / 64 % 16 = j.val / 64; omega | ⟨3, _⟩ => by show (n.val * 1024 + j.val) % 64 = j.val % 64; omega))
  have e2 : idx_main_v198 (ix4 0 n ⟨j.val / 64, by omega⟩ ⟨j.val % 64, by omega⟩) = ix4 0 n ⟨j.val / 64, by omega⟩ ⟨j.val % 64, by omega⟩ := (funext fun a => Fin.ext (match a with | ⟨0, _⟩ => rfl | ⟨1, _⟩ => rfl | ⟨2, _⟩ => rfl | ⟨3, _⟩ => rfl))
  rw [e1, val_main_v198_apply, e2]
  unfold val_main_call5_v0
  refine (pad_apply_of_inside _ _ _ _ _ _ _ _ (ix4 0 n ⟨j.val / 64, by omega⟩ ⟨j.val % 64, by omega⟩) (fun a => match a with
    | ⟨0, _⟩ => rfl
    | ⟨1, _⟩ => by show n.val = 0 + n.val * (0 + 1); omega
    | ⟨2, _⟩ => by show j.val / 64 = 0 + j.val / 64 * (0 + 1); omega
    | ⟨3, _⟩ => by show j.val % 64 = 0 + j.val % 64 * (0 + 1); omega)).trans ?_
  rw [val_main_v197_apply]
  have e3 : idx_main_v197 (ix4 0 n ⟨j.val / 64, by omega⟩ ⟨j.val % 64, by omega⟩) = ix5 0 ⟨n.val / 64, by omega⟩ ⟨n.val % 64, by omega⟩ ⟨j.val / 64, by omega⟩ ⟨j.val % 64, by omega⟩ :=
    (funext fun a => Fin.ext (match a with | ⟨0, _⟩ => rfl | ⟨1, _⟩ => by show (((0 * 4096 + n.val) * 16 + (j.val / 64)) * 64 + (j.val % 64)) / 65536 % 64 = n.val / 64; omega | ⟨2, _⟩ => by show (((0 * 4096 + n.val) * 16 + (j.val / 64)) * 64 + (j.val % 64)) / 1024 % 64 = n.val % 64; omega | ⟨3, _⟩ => by show (((0 * 4096 + n.val) * 16 + (j.val / 64)) * 64 + (j.val % 64)) / 64 % 16 = j.val / 64; omega | ⟨4, _⟩ => by show (((0 * 4096 + n.val) * 16 + (j.val / 64)) * 64 + (j.val % 64)) % 64 = j.val % 64; omega))
  rw [e3, val_main_v196_apply]
  have e4 : idx_main_v196 (ix5 0 ⟨n.val / 64, by omega⟩ ⟨n.val % 64, by omega⟩ ⟨j.val / 64, by omega⟩ ⟨j.val % 64, by omega⟩)
      = ix5 0 ⟨n.val / 64, by omega⟩ ⟨j.val / 64, by omega⟩ ⟨n.val % 64, by omega⟩ ⟨j.val % 64, by omega⟩ := (funext fun a => Fin.ext (match a with | ⟨0, _⟩ => rfl | ⟨1, _⟩ => rfl | ⟨2, _⟩ => rfl | ⟨3, _⟩ => rfl | ⟨4, _⟩ => rfl))
  rw [e4, e195]
  have e5 : 64 * (n.val / 64) + n.val % 64 = n.val := by omega
  simp only [e5]

end Cert.RefBackward
end
-- ==== Proof.KernelBlock.lean ====
/- What one point of the query-gradient call writes: eight pairs of heads side by side, each from the blocks' lanes. -/
module

public import proofs.«01_k».proof.Proof.Gen.KernelIdeal.Frame

@[expose] public section

noncomputable section

namespace Cert.KernelBlock

open Idealize.ShloMosaic Idealize.ShloMosaic.TcCoe
open Cert.KernelIdeal Cert.KernelIdeal.Gen

variable {F : FTy → Type} [FloatOps F] [Named F]

/-- One head's lanes of a block of 128 rows, the other head's lanes set to zero. -/
def lanes (keep : IVec S1x128 1) (x : FVec F S128x128 .bf16) : FVec F S128x128 .bf16 :=
  select (broadcastTo S128x128 (shapeCast S1x128 keep shapeCasts_S1x128_S1x128) broadcasts_S1x128_S128x128)
    (shapeCast S128x128 x shapeCasts_S128x128_S128x128) (broadcast S128x128 (Scalar.ofBits .bf16 0x0000#16))

/-- The 256 rows that a point attends: half a block, a block, half a block. -/
def rows (a : FVec F S64x128 .bf16) (b : FVec F S128x128 .bf16) (c : FVec F S64x128 .bf16) : FVec F S256x128 .bf16 :=
  concatenate S256x128 0 [⟨S64x128, shapeCast S64x128 a shapeCasts_S64x128_S64x128⟩, ⟨S128x128, shapeCast S128x128 b shapeCasts_S128x128_S128x128⟩,
    ⟨S64x128, shapeCast S64x128 c shapeCasts_S64x128_S64x128⟩] concatenates_S64x128_S128x128_S64x128_S256x128_d0

/-- The scores' cotangents of one head. -/
def scores (valid : IVec S128x256 1) (keep : IVec S1x128 1) (L D : FVec F S128x1 .f32) (q ct : FVec F S128x128 .bf16) (k v : FVec F S256x128 .bf16) : FVec F S128x256 .f32 :=
  mulf (exp (select valid (subf (matmul dot_S128x128_S256x128_S128x256_1_1_0_0_n_n none (lanes keep q) k (constant S128x256 .f32 0x00000000#32))
      (broadcastTo S128x256 L broadcasts_S128x1_S128x256)) (broadcast S128x256 (Named.named κ "mask" 0xF149F2CA#32))))
    (subf (matmul dot_S128x128_S256x128_S128x256_1_1_0_0_n_n none (lanes keep ct) v (constant S128x256 .f32 0x00000000#32))
      (broadcastTo S128x256 D broadcasts_S128x1_S128x256))

/-- One head's gradient, in all 128 lanes. -/
def half (valid : IVec S128x256 1) (keep : IVec S1x128 1) (L D : FVec F S128x1 .f32) (q ct : FVec F S128x128 .bf16) (k v : FVec F S256x128 .bf16) : FVec F S128x128 .f32 :=
  matmul dot_S128x256_S256x128_S128x128_1_0_0_1_n_n none (truncf .bf16 (scores valid keep L D q ct k v) bitsLt_bf16_f32) k (constant S128x128 .f32 0x00000000#32)

/-- The lanes of the second head of a pair. -/
def second : IVec S1x128 1 := xori k0_pay4 (constantI S1x128 1 1#1)

/-- Two heads' gradients, each in its lanes, times 1/8. -/
def pair (valid : IVec S128x256 1) (L0 L1 D0 D1 : FVec F S128x1 .f32) (q ct : FVec F S128x128 .bf16)
    (k0 : FVec F S64x128 .bf16) (k1 : FVec F S128x128 .bf16) (k2 : FVec F S64x128 .bf16)
    (v0 : FVec F S64x128 .bf16) (v1 : FVec F S128x128 .bf16) (v2 : FVec F S64x128 .bf16) : FVec F S128x128 .f32 :=
  mulf (select (broadcastTo S128x128 (shapeCast S1x128 k0_pay4 shapeCasts_S1x128_S1x128) broadcasts_S1x128_S128x128)
    (half valid k0_pay4 L0 D0 q ct (rows k0 k1 k2) (rows v0 v1 v2))
    (half valid second L1 D1 q ct (rows k0 k1 k2) (rows v0 v1 v2))) (broadcast S128x128 (Scalar.ofBits .f32 0x3E000000#32))

/-- A column of a block of statistics fits. -/
theorem fits_column : ∀ h : Fin 16, S128x16.Slices ![0, h.val] S128x1 := by decide
/-- A pair's 128 lanes of a block. -/
theorem fits_block : ∀ p : Fin 8, ∀ a : Fin 2, (![0, 128 * p.val] : Fin 2 → ℕ) a + S128x128.size a ≤ S128x1024.size a := by decide
/-- A pair's 128 lanes of a block's first 64 rows. -/
theorem fits_top : ∀ p : Fin 8, ∀ a : Fin 2, (![0, 128 * p.val] : Fin 2 → ℕ) a + S64x128.size a ≤ S128x1024.size a := by decide
/-- A pair's 128 lanes of a block's last 64 rows. -/
theorem fits_bottom : ∀ p : Fin 8, ∀ a : Fin 2, (![64, 128 * p.val] : Fin 2 → ℕ) a + S64x128.size a ≤ S128x1024.size a := by decide

/-- Column `h` of a block of statistics. -/
def column (x : Vec F S128x16 .f32) (h : Fin 16) : FVec F S128x1 .f32 :=
  extractStridedSlice S128x1 ![0, h.val] (shapeCast S128x16 (View.ld x r0_0) shapeCasts_S128x16_S128x16) (fits_column h)
/-- The lanes of pair `p`: of a whole block, of its first 64 rows, of its last 64 rows. -/
def block (x : Vec F S128x1024 .bf16) (p : Fin 8) : FVec F S128x128 .bf16 := View.ld x (Rect.unit (s := S128x1024) ![0, 128 * p.val] S128x128.size (fits_block p))
def top (x : Vec F S128x1024 .bf16) (p : Fin 8) : FVec F S64x128 .bf16 := View.ld x (Rect.unit (s := S128x1024) ![0, 128 * p.val] S64x128.size (fits_top p))
def bottom (x : Vec F S128x1024 .bf16) (p : Fin 8) : FVec F S64x128 .bf16 := View.ld x (Rect.unit (s := S128x1024) ![64, 128 * p.val] S64x128.size (fits_bottom p))

/-- Heads `2p` and `2p + 1` of a point. -/
def heads (i : grid0.Coords) (x0 x1 x2 x3 x4 x5 x6 x7 : Vec F S128x1024 .bf16) (x8 x9 : Vec F S128x16 .f32) (p : Fin 8) : FVec F S128x128 .f32 :=
  pair (k0_pay1 i) (column x8 ⟨2 * p.val, by omega⟩) (column x8 ⟨2 * p.val + 1, by omega⟩) (column x9 ⟨2 * p.val, by omega⟩) (column x9 ⟨2 * p.val + 1, by omega⟩)
    (block x0 p) (block x7 p) (bottom x1 p) (block x2 p) (top x3 p) (bottom x4 p) (block x5 p) (top x6 p)

set_option maxRecDepth 8192 in
/-- Eight pairs fill 1024 lanes. -/
theorem fills : Shape.Concatenates ((List.ofFn fun _ : Fin 8 => (S128x128 : Shape))) S128x1024 1 := concatenates_S128x128_S128x128_S128x128_S128x128_S128x128_S128x128_S128x128_S128x128_S128x1024_d1

/-- What a point writes is the eight pairs side by side. -/
theorem out_eq (i : grid0.Coords) (x0 x1 x2 x3 x4 x5 x6 x7 : Vec F S128x1024 .bf16) (x8 x9 : Vec F S128x16 .f32) :
    out0_10 i x0 x1 x2 x3 x4 x5 x6 x7 x8 x9 = View.canon [⟨r0_25, truncf .bf16 (concatenate (α := F .f32) S128x1024 1 (List.ofFn fun p : Fin 8 => (⟨S128x128, heads i x0 x1 x2 x3 x4 x5 x6 x7 x8 x9 p⟩ : (s : Shape) × (s.Idx → F .f32)))
      fills) bitsLt_bf16_f32⟩] := rfl

end Cert.KernelBlock

end
-- ==== Proof.KernelPair.lean ====
/- A pair of heads of the query-gradient call at an index, over real blocks. -/
module

public import proofs.«01_k».proof.Proof.KernelBlock
public import proofs.«01_k».proof.Proof.Coe
public import Idealize.ShloMosaic.Lib.Pipeline.Value

@[expose] public section

noncomputable section

namespace Cert.KernelPair

open Idealize.ShloMosaic Idealize.ShloMosaic.ValueIdx Idealize.ShloMosaic.TcCoe
open Cert.KernelIdeal Cert.KernelIdeal.Gen Cert.KernelBlock

/-- The word a named mask stands for is minus infinity. -/
theorem mask_bot : Named.named (F := Ideal) (φ := .f32) κ "mask" 0xF149F2CA#32 = (⊥ : EReal) := IdealRules.named_const.ideal_named_scalar _ _ _ _ rfl
/-- The 16-bit zero word is zero. -/
theorem bits_zero16 : Scalar.ofBits (F := Ideal) .bf16 0x0000#16 = (0 : EReal) := by
  show Ideal.ofBits .bf16 _ = _
  simp [Ideal.ofBits, Ideal.ieee]

/-- A sum over 128 lanes in which only one head's lanes count is a sum over that head's 64 lanes. -/
theorem sum_lanes (s : Fin 2) (f : Fin 128 → ℝ) :
    (∑ e : Fin 128, if e.val / 64 = s.val then f e else 0) = ∑ d : Fin 64, f ⟨64 * s.val + d.val, by omega⟩ := by
  rw [show (∑ e : Fin 128, if e.val / 64 = s.val then f e else 0) = ∑ e : Fin (64 + 64), (if e.val / 64 = s.val then f e else 0) from rfl, Fin.sum_univ_add]
  have ha : ∀ d : Fin 64, (Fin.castAdd 64 d).val / 64 = 0 := fun d => by simp
  have hb : ∀ d : Fin 64, (Fin.natAdd 64 d).val / 64 = 1 := fun d => by rw [Fin.val_natAdd]; omega
  simp only [ha, hb]
  match s with
  | ⟨0, _⟩ =>
    simp only [if_true, if_neg (by decide : ¬ (1 : ℕ) = 0), Finset.sum_const_zero, add_zero]
    exact Finset.sum_congr rfl fun d _ => congrArg f (Fin.ext (by simp))
  | ⟨1, _⟩ =>
    simp only [if_true, if_neg (by decide : ¬ (0 : ℕ) = 1), Finset.sum_const_zero, zero_add]
    exact Finset.sum_congr rfl fun d _ => congrArg f (Fin.ext (by rw [Fin.val_natAdd]))

/-- The product of a block's rows with the window's rows, at an index. -/
theorem dot_rows (a : FVec Ideal S128x128 .bf16) (b : FVec Ideal S256x128 .bf16) (r : Fin 128) (c : Fin 256) :
    matmul (F := Ideal) dot_S128x128_S256x128_S128x256_1_1_0_0_n_n none a b (constant S128x256 .f32 0x00000000#32) (ix2 r c)
      = ∑ e : Fin 128, a (ix2 r e) * b (ix2 c e) := by
  refine (Ideal.matmul_constant_zero_apply dot_S128x128_S256x128_S128x256_1_1_0_0_n_n none a b (ix2 r c)).trans ?_
  refine (Equiv.sum_comp (contrEquiv1 dot_S128x128_S256x128_S128x256_1_1_0_0_n_n 128 rfl rfl).symm _).symm.trans ?_
  refine Finset.sum_congr rfl fun e _ => congrArg₂ (fun x y : EReal => x * y) (congrArg a ?_) (congrArg b ?_)
  · funext x; apply Fin.ext; match x with
    | ⟨0, _⟩ => rfl
    | ⟨1, _⟩ => rfl
  · funext x; apply Fin.ext; match x with
    | ⟨0, _⟩ => rfl
    | ⟨1, _⟩ => rfl

/-- The product of a block of cotangents with the window's rows, at an index. -/
theorem dot_window (a : FVec Ideal S128x256 .bf16) (b : FVec Ideal S256x128 .bf16) (r l : Fin 128) :
    matmul (F := Ideal) dot_S128x256_S256x128_S128x128_1_0_0_1_n_n none a b (constant S128x128 .f32 0x00000000#32) (ix2 r l)
      = ∑ c : Fin 256, a (ix2 r c) * b (ix2 c l) := by
  refine (Ideal.matmul_constant_zero_apply dot_S128x256_S256x128_S128x128_1_0_0_1_n_n none a b (ix2 r l)).trans ?_
  refine (Equiv.sum_comp (contrEquiv1 dot_S128x256_S256x128_S128x128_1_0_0_1_n_n 256 rfl rfl).symm _).symm.trans ?_
  refine Finset.sum_congr rfl fun e _ => congrArg₂ (fun x y : EReal => x * y) (congrArg a ?_) (congrArg b ?_)
  · funext x; apply Fin.ext; match x with
    | ⟨0, _⟩ => rfl
    | ⟨1, _⟩ => rfl
  · funext x; apply Fin.ext; match x with
    | ⟨0, _⟩ => rfl
    | ⟨1, _⟩ => rfl

/-- A row of lane marks repeated for every row. -/
theorem marks_at (keep : IVec S1x128 1) (r e : Fin 128) :
    broadcastTo S128x128 (shapeCast S1x128 keep shapeCasts_S1x128_S1x128) broadcasts_S1x128_S128x128 (ix2 r e) = keep (ix2 0 e) := by
  rw [shapeCast_self]
  exact broadcastTo_apply keep broadcasts_S1x128_S128x128 (ix2 r e) (ix2 0 e) (fun a => match a with
    | ⟨0, _⟩ => rfl
    | ⟨1, _⟩ => rfl)

/-- A column repeated for every lane. -/
theorem column_at (x : FVec Ideal S128x1 .f32) (r : Fin 128) (c : Fin 256) :
    broadcastTo S128x256 x broadcasts_S128x1_S128x256 (ix2 r c) = x (ix2 r 0) :=
  broadcastTo_apply x broadcasts_S128x1_S128x256 (ix2 r c) (ix2 r 0) (fun a => match a with
    | ⟨0, _⟩ => rfl
    | ⟨1, _⟩ => rfl)

/-- The marks of head `s` of a pair. -/
def Marks (keep : IVec S1x128 1) (s : Fin 2) : Prop := ∀ e : Fin 128, keep (ix2 0 e) = BitVec.ofBool (decide (e.val / 64 = s.val))

theorem marks_first : Marks k0_pay4 0 := by
  unfold Marks k0_pay4
  decide +kernel
theorem marks_second : Marks second 1 := by
  unfold Marks second k0_pay4
  decide +kernel

theorem lanes_at (keep : IVec S1x128 1) (s : Fin 2) (h : Marks keep s) (x : FVec Ideal S128x128 .bf16) (r e : Fin 128) (y : ℝ) (hy : x (ix2 r e) = (y : EReal)) :
    lanes keep x (ix2 r e) = ((if e.val / 64 = s.val then y else 0 : ℝ) : EReal) := by
  unfold lanes
  rw [select_apply, marks_at, shapeCast_self, h e, hy, broadcast_apply, bits_zero16]
  unfold Scalar.select
  by_cases hs : e.val / 64 = s.val
  · rw [if_pos hs, if_pos (by simp [hs])]
  · rw [if_neg hs, if_neg (by simp [hs])]; rfl

variable (valid : IVec S128x256 1) (keep : IVec S1x128 1) (L D : FVec Ideal S128x1 .f32) (q ct : FVec Ideal S128x128 .bf16) (k v : FVec Ideal S256x128 .bf16)

/-- The product of one head's lanes, over real blocks. -/
theorem head_dot (s : Fin 2) (h : Marks keep s) (a : FVec Ideal S128x128 .bf16) (b : FVec Ideal S256x128 .bf16) (ar : Fin 128 → Fin 128 → ℝ) (br : Fin 256 → Fin 128 → ℝ)
    (ha : ∀ r e, a (ix2 r e) = (ar r e : EReal)) (hb : ∀ c e, b (ix2 c e) = (br c e : EReal)) (r : Fin 128) (c : Fin 256) :
    matmul (F := Ideal) dot_S128x128_S256x128_S128x256_1_1_0_0_n_n none (lanes keep a) b (constant S128x256 .f32 0x00000000#32) (ix2 r c)
      = ((∑ d : Fin 64, ar r ⟨64 * s.val + d.val, by omega⟩ * br c ⟨64 * s.val + d.val, by omega⟩ : ℝ) : EReal) := by
  rw [dot_rows, ← sum_lanes s (fun e => ar r e * br c e), ← Coe.sum]
  refine Finset.sum_congr rfl fun e _ => ?_
  rw [lanes_at keep s h a r e _ (ha r e), hb, ← EReal.coe_mul, ite_mul, zero_mul]

/-- A masked score's exponential times the cotangent less the row's sum, for abstract scores. -/
theorem masked_apply (x y z w : FVec Ideal S128x256 .f32) (i : S128x256.Idx) :
    mulf (F := Ideal) (exp (select valid (subf x y) (broadcast S128x256 (Named.named κ "mask" 0xF149F2CA#32)))) (subf z w) i
      = FloatOps.exp (F := Ideal) (φ := .f32) (if valid i = 1 then ((x i : EReal) - y i : EReal) else Named.named (F := Ideal) (φ := .f32) κ "mask" 0xF149F2CA#32) * ((z i : EReal) - w i : EReal) := rfl

variable (ok : Fin 128 → Fin 256 → Prop) [∀ r c, Decidable (ok r c)] (hok : ∀ r c, valid (ix2 r c) = BitVec.ofBool (decide (ok r c)))
variable (s : Fin 2) (hs : Marks keep s) (Lr Dr : Fin 128 → ℝ) (qr cr : Fin 128 → Fin 128 → ℝ) (kr vr : Fin 256 → Fin 128 → ℝ)
variable (hL : ∀ r, L (ix2 r 0) = (Lr r : EReal)) (hD : ∀ r, D (ix2 r 0) = (Dr r : EReal))
variable (hq : ∀ r e, q (ix2 r e) = (qr r e : EReal)) (hct : ∀ r e, ct (ix2 r e) = (cr r e : EReal))
variable (hk : ∀ c e, k (ix2 c e) = (kr c e : EReal)) (hv : ∀ c e, v (ix2 c e) = (vr c e : EReal))

/-- A score's cotangent. -/
def cot (s : Fin 2) (Lr Dr : Fin 128 → ℝ) (qr cr : Fin 128 → Fin 128 → ℝ) (kr vr : Fin 256 → Fin 128 → ℝ) (r : Fin 128) (c : Fin 256) : ℝ :=
  Real.exp ((∑ d : Fin 64, qr r ⟨64 * s.val + d.val, by omega⟩ * kr c ⟨64 * s.val + d.val, by omega⟩) - Lr r)
    * ((∑ d : Fin 64, cr r ⟨64 * s.val + d.val, by omega⟩ * vr c ⟨64 * s.val + d.val, by omega⟩) - Dr r)

include hok hs hL hD hq hct hk hv in
theorem scores_at (r : Fin 128) (c : Fin 256) :
    scores valid keep L D q ct k v (ix2 r c) = ((if ok r c then cot s Lr Dr qr cr kr vr r c else 0 : ℝ) : EReal) := by
  unfold scores
  rw [masked_apply, head_dot keep s hs q k qr kr hq hk, head_dot keep s hs ct v cr vr hct hv, column_at, column_at, hL, hD, hok, mask_bot,
    ← EReal.coe_sub, ← EReal.coe_sub]
  by_cases h : ok r c
  · rw [if_pos (by simp [h]), if_pos h, Coe.exp, ← EReal.coe_mul]
    rfl
  · rw [if_neg (by simp [h]), if_neg h, Coe.exp_bot, zero_mul]
    rfl

include hok hs hL hD hq hct hk hv in
theorem half_at (r l : Fin 128) :
    half valid keep L D q ct k v (ix2 r l) = ((∑ c : Fin 256, (if ok r c then cot s Lr Dr qr cr kr vr r c else 0) * kr c l : ℝ) : EReal) := by
  unfold half
  rw [dot_window, ← Coe.sum]
  refine Finset.sum_congr rfl fun c _ => ?_
  rw [hk, EReal.coe_mul]
  exact congrArg (· * _) (scores_at valid keep L D q ct k v ok hok s hs Lr Dr qr cr kr vr hL hD hq hct hk hv r c)

end Cert.KernelPair

end
-- ==== Proof.KernelPoint.lean ====
/- What one point of the query-gradient call writes, over real blocks: a sum over each query's band. -/
module

public import proofs.«01_k».proof.Proof.KernelPair
public import proofs.«01_k».proof.Proof.Band
public import Idealize.ShloMosaic.Lib.Pipeline.ValueKit.Tiles

@[expose] public section

noncomputable section

namespace Cert.KernelPoint

open Idealize.ShloMosaic Idealize.ShloMosaic.ValueIdx Idealize.ShloMosaic.TcCoe
open Cert.KernelIdeal Cert.KernelIdeal.Gen Cert.KernelBlock Cert.KernelPair Cert.Band

/-- An arithmetic shift of a small number's word by twelve divides by 4096, rounding down. -/
theorem word_shift (z : ℤ) (h1 : -2147483648 ≤ z) (h2 : z < 2147483648) : IntOp.shrsi .vector (BitVec.ofInt 32 z) 12#32 = BitVec.ofInt 32 (z / 4096) := by
  unfold IntOp.shrsi
  rw [if_pos (by decide)]
  apply BitVec.eq_of_toInt_eq
  rw [Coe.word_toInt _ (by omega) (by omega)]
  show ((BitVec.ofInt 32 z).sshiftRight 12).toInt = _
  rw [BitVec.toInt_sshiftRight, Coe.word_toInt z h1 h2, Int.shiftRight_eq_div_pow]
  rfl
/-- Two small numbers' words are equal when the numbers are. -/
theorem word_eq (x y : ℤ) (h1 : -2147483648 ≤ x) (h2 : x < 2147483648) (h3 : -2147483648 ≤ y) (h4 : y < 2147483648) :
    IntOp.cmpi .eq (BitVec.ofInt 32 x) (BitVec.ofInt 32 y) = BitVec.ofBool (decide (x = y)) := by
  show BitVec.ofBool (BitVec.ofInt 32 x == BitVec.ofInt 32 y) = _
  congr 1
  by_cases h : x = y
  · subst h; simp
  · rw [decide_eq_false h, beq_eq_false_iff_ne]
    intro e
    exact h (by rw [← Coe.word_toInt x h1 h2, ← Coe.word_toInt y h3 h4, e])

/-- The mask's word for two numbers: same sequence of 4096 and at most 64 apart. -/
theorem mask_word (x y : ℤ) (h1 : -1000000 ≤ x) (h2 : x < 1000000) (h3 : -1000000 ≤ y) (h4 : y < 1000000) :
    IntOp.andi (IntOp.cmpi .eq (IntOp.shrsi .vector (BitVec.ofInt 32 x) 12#32) (IntOp.shrsi .vector (BitVec.ofInt 32 y) 12#32))
      (IntOp.cmpi .sle (IntOp.absi (BitVec.ofInt 32 y - BitVec.ofInt 32 x)) 64#32)
      = BitVec.ofBool (decide (x / 4096 = y / 4096) && decide (max (y - x) (-(y - x)) ≤ 64)) := by
  rw [word_shift x (by omega) (by omega), word_shift y (by omega) (by omega), word_eq _ _ (by omega) (by omega) (by omega) (by omega),
    ← Coe.word_sub, Coe.word_abs _ (by omega) (by omega), show (64#32) = BitVec.ofInt 32 64 from rfl,
    Coe.word_sle _ _ (by omega) (by omega) (by omega) (by omega), Coe.and_bool]

/-- The mask at an index: the key is in the query's band. -/
theorem mask_at (i : grid0.Coords) (t : ℕ) (ht : t < 32) (hi : (i 0).val = t) (r : Fin 128) (c : Fin 256) :
    k0_pay1 i (ix2 r c) = BitVec.ofBool (decide (InBand (128 * t + r.val) (128 * t + c.val))) := by
  have e : k0_pay1 i (ix2 r c) = IntOp.andi (IntOp.cmpi .eq
        (IntOp.shrsi .vector (BitVec.ofNat 32 (i 0).val * 128#32 + 0#32 + BitVec.ofNat 32 r.val) 12#32)
        (IntOp.shrsi .vector (BitVec.ofNat 32 (i 0).val * 128#32 + 4294967232#32 + BitVec.ofNat 32 c.val) 12#32))
      (IntOp.cmpi .sle (IntOp.absi ((BitVec.ofNat 32 (i 0).val * 128#32 + 4294967232#32 + BitVec.ofNat 32 c.val) - (BitVec.ofNat 32 (i 0).val * 128#32 + 0#32 + BitVec.ofNat 32 r.val))) 64#32) := by
    unfold k0_pay1
    simp [andi, cmpi, shrsi, addi, subi, absi, broadcast, iota, Scalar.muli, Scalar.addi, IntOp.muli, IntOp.addi, IntOp.subi]
  have ex : BitVec.ofNat 32 (i 0).val * 128#32 + 0#32 + BitVec.ofNat 32 r.val = BitVec.ofInt 32 ((128 * t + r.val : ℕ) : ℤ) := by
    rw [hi, BitVec.ofInt_natCast, BitVec.ofNat_add, BitVec.ofNat_mul, BitVec.add_zero, BitVec.mul_comm]
  have ey : BitVec.ofNat 32 (i 0).val * 128#32 + 4294967232#32 + BitVec.ofNat 32 c.val = BitVec.ofInt 32 (((128 * t + c.val : ℕ) : ℤ) - 64) := by
    rw [hi, Coe.word_sub, BitVec.ofInt_natCast, BitVec.ofNat_add, BitVec.ofNat_mul, BitVec.mul_comm (BitVec.ofNat 32 t),
      show (4294967232#32) = -(64#32) from rfl, show BitVec.ofInt 32 64 = 64#32 from rfl]
    rw [BitVec.sub_eq_add_neg, BitVec.add_assoc, BitVec.add_assoc, BitVec.add_comm (-64#32)]
  have hr := r.isLt
  have hc := c.isLt
  rw [e, ex, ey, mask_word _ _ (by omega) (by omega) (by omega) (by omega)]
  congr 1
  rw [← Bool.decide_and]
  congr 1
  apply propext
  constructor
  · rintro ⟨a, b⟩
    rw [max_le_iff] at b
    obtain ⟨b1, b2⟩ := b
    refine ⟨?_, ?_, ?_, ?_⟩ <;> omega
  · rintro ⟨a, b, c1, d⟩
    refine ⟨by omega, max_le (by omega) (by omega)⟩

/-- The window's rows at an index, over real parts. -/
theorem rows_at (a : FVec Ideal S64x128 .bf16) (b : FVec Ideal S128x128 .bf16) (c : FVec Ideal S64x128 .bf16) (kr : Fin 256 → Fin 128 → ℝ)
    (ha : ∀ (j : Fin 64) e, a (ix2 j e) = (kr ⟨j.val, by omega⟩ e : EReal)) (hb : ∀ (j : Fin 128) e, b (ix2 j e) = (kr ⟨64 + j.val, by omega⟩ e : EReal))
    (hc : ∀ (j : Fin 64) e, c (ix2 j e) = (kr ⟨192 + j.val, by omega⟩ e : EReal)) (j : Fin 256) (e : Fin 128) : rows a b c (ix2 j e) = (kr j e : EReal) := by
  unfold rows
  rw [shapeCast_self, shapeCast_self, shapeCast_self]
  by_cases h1 : j.val < 64
  · refine (concatenate_apply_piece (t := S256x128) 0 [⟨S64x128, a⟩, ⟨S128x128, b⟩, ⟨S64x128, c⟩] concatenates_S64x128_S128x128_S64x128_S256x128_d0 (ix2 j e) 0 (by show 0 < 3; decide) S64x128 a rfl rfl 0 rfl (ix2 ⟨j.val, h1⟩ e)
      (fun b hb => match b with | ⟨0, _⟩ => absurd rfl hb | ⟨1, _⟩ => rfl) (Nat.zero_add _)).trans (ha ⟨j.val, h1⟩ e)
  · by_cases h2 : j.val < 192
    · refine (concatenate_apply_piece (t := S256x128) 0 [⟨S64x128, a⟩, ⟨S128x128, b⟩, ⟨S64x128, c⟩] concatenates_S64x128_S128x128_S64x128_S256x128_d0 (ix2 j e) 1 (by show 1 < 3; decide) S128x128 b rfl rfl 64 rfl (ix2 ⟨j.val - 64, by omega⟩ e)
        (fun b hb => match b with | ⟨0, _⟩ => absurd rfl hb | ⟨1, _⟩ => rfl) (Nat.add_sub_cancel' (by omega))).trans ((hb ⟨j.val - 64, by omega⟩ e).trans ?_)
      exact congrArg (fun x => ((kr x e : ℝ) : EReal)) (Fin.ext (Nat.add_sub_cancel' (by omega)))
    · refine (concatenate_apply_piece (t := S256x128) 0 [⟨S64x128, a⟩, ⟨S128x128, b⟩, ⟨S64x128, c⟩] concatenates_S64x128_S128x128_S64x128_S256x128_d0 (ix2 j e) 2 (by show 2 < 3; decide) S64x128 c rfl rfl 192 rfl (ix2 ⟨j.val - 192, by omega⟩ e)
        (fun b hb => match b with | ⟨0, _⟩ => absurd rfl hb | ⟨1, _⟩ => rfl) (Nat.add_sub_cancel' (by omega))).trans ((hc ⟨j.val - 192, by omega⟩ e).trans ?_)
      exact congrArg (fun x => ((kr x e : ℝ) : EReal)) (Fin.ext (Nat.add_sub_cancel' (by omega)))

/-- A selection between two products, times a constant, for abstract products. -/
theorem chosen_apply (keep : IVec S128x128 1) (x y : FVec Ideal S128x128 .f32) (w : BitVec 32) (i : S128x128.Idx) :
    mulf (F := Ideal) (select keep x y) (broadcast S128x128 (Scalar.ofBits .f32 w)) i
      = (if keep i = 1 then (x i : EReal) else y i) * (FloatOps.ofBits (F := Ideal) .f32 w : EReal) := rfl

/-- A pair of heads at an index: the lane's own head. -/
theorem pair_at (valid : IVec S128x256 1) (ok : Fin 128 → Fin 256 → Prop) [∀ r c, Decidable (ok r c)] (hok : ∀ r c, valid (ix2 r c) = BitVec.ofBool (decide (ok r c)))
    (L0 L1 D0 D1 : FVec Ideal S128x1 .f32) (q ct : FVec Ideal S128x128 .bf16) (k0 : FVec Ideal S64x128 .bf16) (k1 : FVec Ideal S128x128 .bf16) (k2 : FVec Ideal S64x128 .bf16)
    (v0 : FVec Ideal S64x128 .bf16) (v1 : FVec Ideal S128x128 .bf16) (v2 : FVec Ideal S64x128 .bf16)
    (Lr Dr : Fin 2 → Fin 128 → ℝ) (qr cr : Fin 128 → Fin 128 → ℝ) (kr vr : Fin 256 → Fin 128 → ℝ)
    (hL0 : ∀ r, L0 (ix2 r 0) = (Lr 0 r : EReal)) (hL1 : ∀ r, L1 (ix2 r 0) = (Lr 1 r : EReal))
    (hD0 : ∀ r, D0 (ix2 r 0) = (Dr 0 r : EReal)) (hD1 : ∀ r, D1 (ix2 r 0) = (Dr 1 r : EReal))
    (hq : ∀ r e, q (ix2 r e) = (qr r e : EReal)) (hct : ∀ r e, ct (ix2 r e) = (cr r e : EReal))
    (hk : ∀ c e, rows k0 k1 k2 (ix2 c e) = (kr c e : EReal)) (hv : ∀ c e, rows v0 v1 v2 (ix2 c e) = (vr c e : EReal)) (r l : Fin 128) (s : Fin 2) (hs : l.val / 64 = s.val) :
    pair valid L0 L1 D0 D1 q ct k0 k1 k2 v0 v1 v2 (ix2 r l)
      = (((∑ c : Fin 256, (if ok r c then cot s (Lr s) (Dr s) qr cr kr vr r c else 0) * kr c l) * (1 / 8) : ℝ) : EReal) := by
  unfold pair
  rw [chosen_apply, marks_at, marks_first l, Coe.bits_eighth, hs]
  rcases (by decide : ∀ s : Fin 2, s = 0 ∨ s = 1) s with rfl | rfl
  · rw [if_pos (by decide), half_at valid k0_pay4 L0 D0 q ct (rows k0 k1 k2) (rows v0 v1 v2) ok hok 0 marks_first (Lr 0) (Dr 0) qr cr kr vr hL0 hD0 hq hct hk hv, ← EReal.coe_mul]
  · rw [if_neg (by decide), half_at valid second L1 D1 q ct (rows k0 k1 k2) (rows v0 v1 v2) ok hok 1 marks_second (Lr 1) (Dr 1) qr cr kr vr hL1 hD1 hq hct hk hv, ← EReal.coe_mul]

/-- The head of lane `e` of pair `p`, and its lane of 64. -/
def head (p : Fin 8) (e : Fin 128) : Fin 16 := ⟨(128 * p.val + e.val) / 64, by omega⟩
def lane (p : Fin 8) (e : Fin 128) : Fin 64 := ⟨(128 * p.val + e.val) % 64, by omega⟩

/-- Row `c` of point `t`'s window of an array. -/
def win (x : I4 → ℝ) (t : ℕ) (p : Fin 8) (c : Fin 256) (e : Fin 128) : ℝ :=
  if c.val < 64 then row x (128 * (t - 1) + (64 + c.val)) (head p e) (lane p e)
  else if c.val < 192 then row x (128 * t + (c.val - 64)) (head p e) (lane p e)
  else row x (128 * min (t + 1) 31 + (c.val - 192)) (head p e) (lane p e)

/-- At a key in a query's band the window's row is the padded array's. -/
theorem win_eq (x : I4 → ℝ) (t : ℕ) (ht : t < 32) (p : Fin 8) (c : Fin 256) (e : Fin 128) (n : ℕ) (h : InBand n (128 * t + c.val)) :
    win x t p c e = pad x (128 * t + c.val) (head p e) (lane p e) := by
  obtain ⟨h1, h2, h3, h4⟩ := h
  unfold win Band.pad
  rw [if_pos h3]
  split_ifs with a b
  · congr 1; omega
  · congr 1; omega
  · congr 1; omega

theorem head_eq (p : Fin 8) (s : Fin 2) (d : Fin 64) (j : ℕ) (l : Fin 128) (hs : l.val / 64 = s.val) : head p ⟨64 * s.val + d.val, by omega⟩ = head p l := by
  apply Fin.ext; unfold head; simp only; omega
theorem lane_eq (p : Fin 8) (s : Fin 2) (d : Fin 64) : lane p ⟨64 * s.val + d.val, by omega⟩ = d := by
  apply Fin.ext; unfold lane; simp only; omega

/-- A score's cotangent from the saved log-denominator and row sum. -/
def grad (q k v ct : I4 → ℝ) (Lf Df : ℕ → Fin 16 → ℝ) (n j : ℕ) (h : Fin 16) : ℝ :=
  Real.exp (score q k n j h - Lf n h) * ((∑ d : Fin 64, row ct n h d * pad v j h d) - Df n h)

theorem cot_eq (q k v ct : I4 → ℝ) (Lf Df : ℕ → Fin 16 → ℝ) (t : ℕ) (ht : t < 32) (p : Fin 8) (s : Fin 2) (l : Fin 128) (hs : l.val / 64 = s.val) (r : Fin 128) (c : Fin 256)
    (h : InBand (128 * t + r.val) (128 * t + c.val)) :
    cot s (fun r => Lf (128 * t + r.val) (head p l)) (fun r => Df (128 * t + r.val) (head p l))
      (fun r e => row q (128 * t + r.val) (head p e) (lane p e) * (1 / 8)) (fun r e => row ct (128 * t + r.val) (head p e) (lane p e)) (win k t p) (win v t p) r c
      = grad q k v ct Lf Df (128 * t + r.val) (128 * t + c.val) (head p l) := by
  unfold cot grad score
  simp only [win_eq k t ht p c _ _ h, win_eq v t ht p c _ _ h, head_eq p s _ 0 l hs, lane_eq]
  rw [Finset.sum_mul]
  congr 3
  exact Finset.sum_congr rfl fun d _ => by ring

/-- The block loads at an index. -/
theorem block_at (x : Vec Ideal S128x1024 .bf16) (p : Fin 8) (r e : Fin 128) : block x p (ix2 r e) = x (ix2 r ⟨128 * p.val + e.val, by omega⟩) :=
  View.ld_unit_apply_of x _ _ (fits_block p) (ix2 r e) _ (fun a => match a with
    | ⟨0, _⟩ => (Nat.zero_add _).symm
    | ⟨1, _⟩ => rfl)
theorem top_at (x : Vec Ideal S128x1024 .bf16) (p : Fin 8) (r : Fin 64) (e : Fin 128) : top x p (ix2 r e) = x (ix2 ⟨r.val, by omega⟩ ⟨128 * p.val + e.val, by omega⟩) :=
  View.ld_unit_apply_of x _ _ (fits_top p) (ix2 r e) _ (fun a => match a with
    | ⟨0, _⟩ => (Nat.zero_add _).symm
    | ⟨1, _⟩ => rfl)
theorem bottom_at (x : Vec Ideal S128x1024 .bf16) (p : Fin 8) (r : Fin 64) (e : Fin 128) : bottom x p (ix2 r e) = x (ix2 ⟨64 + r.val, by omega⟩ ⟨128 * p.val + e.val, by omega⟩) :=
  View.ld_unit_apply_of x _ _ (fits_bottom p) (ix2 r e) _ (fun a => match a with
    | ⟨0, _⟩ => rfl
    | ⟨1, _⟩ => rfl)
theorem column_at (x : Vec Ideal S128x16 .f32) (h : Fin 16) (r : Fin 128) : column x h (ix2 r 0) = x (ix2 r h) := by
  unfold column
  rw [View.ld_unit_zero (by funext a; match a with
    | ⟨0, _⟩ => rfl
    | ⟨1, _⟩ => rfl), (shapeCast_self x _ : shapeCast S128x16 x shapeCasts_S128x16_S128x16 = x)]
  exact extractStridedSlice_apply _ x (fits_column h) (ix2 r 0) (ix2 r h) (fun a => match a with
    | ⟨0, _⟩ => (Nat.zero_add _).symm
    | ⟨1, _⟩ => rfl)

/-- What a point writes, at an index. -/
theorem out_at (q k v ct : I4 → ℝ) (Lf Df : ℕ → Fin 16 → ℝ) (i : grid0.Coords) (t : ℕ) (ht : t < 32) (hi : (i 0).val = t)
    (x0 x1 x2 x3 x4 x5 x6 x7 : Vec Ideal S128x1024 .bf16) (x8 x9 : Vec Ideal S128x16 .f32)
    (h0 : ∀ (r : Fin 128) (j : Fin 1024), x0 (ix2 r j) = ((row q (128 * t + r.val) ⟨j.val / 64, by omega⟩ ⟨j.val % 64, by omega⟩ * (1 / 8) : ℝ) : EReal))
    (h1 : ∀ (r : Fin 128) (j : Fin 1024), x1 (ix2 r j) = ((row k (128 * (t - 1) + r.val) ⟨j.val / 64, by omega⟩ ⟨j.val % 64, by omega⟩ : ℝ) : EReal))
    (h2 : ∀ (r : Fin 128) (j : Fin 1024), x2 (ix2 r j) = ((row k (128 * t + r.val) ⟨j.val / 64, by omega⟩ ⟨j.val % 64, by omega⟩ : ℝ) : EReal))
    (h3 : ∀ (r : Fin 128) (j : Fin 1024), x3 (ix2 r j) = ((row k (128 * min (t + 1) 31 + r.val) ⟨j.val / 64, by omega⟩ ⟨j.val % 64, by omega⟩ : ℝ) : EReal))
    (h4 : ∀ (r : Fin 128) (j : Fin 1024), x4 (ix2 r j) = ((row v (128 * (t - 1) + r.val) ⟨j.val / 64, by omega⟩ ⟨j.val % 64, by omega⟩ : ℝ) : EReal))
    (h5 : ∀ (r : Fin 128) (j : Fin 1024), x5 (ix2 r j) = ((row v (128 * t + r.val) ⟨j.val / 64, by omega⟩ ⟨j.val % 64, by omega⟩ : ℝ) : EReal))
    (h6 : ∀ (r : Fin 128) (j : Fin 1024), x6 (ix2 r j) = ((row v (128 * min (t + 1) 31 + r.val) ⟨j.val / 64, by omega⟩ ⟨j.val % 64, by omega⟩ : ℝ) : EReal))
    (h7 : ∀ (r : Fin 128) (j : Fin 1024), x7 (ix2 r j) = ((row ct (128 * t + r.val) ⟨j.val / 64, by omega⟩ ⟨j.val % 64, by omega⟩ : ℝ) : EReal))
    (h8 : ∀ (r : Fin 128) (h : Fin 16), x8 (ix2 r h) = ((Lf (128 * t + r.val) h : ℝ) : EReal))
    (h9 : ∀ (r : Fin 128) (h : Fin 16), x9 (ix2 r h) = ((Df (128 * t + r.val) h : ℝ) : EReal)) (r : Fin 128) (j : Fin 1024) :
    out0_10 i x0 x1 x2 x3 x4 x5 x6 x7 x8 x9 (ix2 r j)
      = ((band (128 * t + r.val) (fun b => grad q k v ct Lf Df (128 * t + r.val) b ⟨j.val / 64, by omega⟩ * pad k b ⟨j.val / 64, by omega⟩ ⟨j.val % 64, by omega⟩) * (1 / 8) : ℝ) : EReal) := by
  rw [out_eq, View.canon_unit_zero (by funext a; match a with
    | ⟨0, _⟩ => rfl
    | ⟨1, _⟩ => rfl)]
  refine (concatenate_ofFn_apply (t := S128x1024) (s₁ := S128x128) 1 (fun p => heads i x0 x1 x2 x3 x4 x5 x6 x7 x8 x9 p) fills rfl 128 rfl (ix2 r j) ⟨j.val / 128, by omega⟩ rfl
    (ix2 r ⟨j.val % 128, by omega⟩) rfl (fun b hb => match b with
      | ⟨0, _⟩ => rfl
      | ⟨1, _⟩ => absurd rfl hb)).trans ?_
  generalize hp : (⟨j.val / 128, by omega⟩ : Fin 8) = p
  generalize hl : (⟨j.val % 128, by omega⟩ : Fin 128) = l
  have ep : p.val = j.val / 128 := by rw [← hp]
  have el : l.val = j.val % 128 := by rw [← hl]
  have ehd : (⟨j.val / 64, by omega⟩ : Fin 16) = head p l := by apply Fin.ext; unfold head; simp only; omega
  have eln : (⟨j.val % 64, by omega⟩ : Fin 64) = lane p l := by apply Fin.ext; unfold lane; simp only; omega
  rw [ehd, eln]
  unfold heads
  have hh : ∀ s : Fin 2, ∀ l' : Fin 128, l'.val / 64 = s.val → head p l' = ⟨2 * p.val + s.val, by omega⟩ := fun s l' h => by apply Fin.ext; unfold head; simp only; omega
  rw [pair_at (k0_pay1 i) (fun r c => InBand (128 * t + r.val) (128 * t + c.val)) (mask_at i t ht hi) _ _ _ _ _ _ _ _ _ _ _ _
    (fun s r => Lf (128 * t + r.val) ⟨2 * p.val + s.val, by omega⟩) (fun s r => Df (128 * t + r.val) ⟨2 * p.val + s.val, by omega⟩)
    (fun r e => row q (128 * t + r.val) (head p e) (lane p e) * (1 / 8)) (fun r e => row ct (128 * t + r.val) (head p e) (lane p e)) (win k t p) (win v t p)
    (fun r => (column_at x8 _ r).trans (h8 r _)) (fun r => (column_at x8 _ r).trans (h8 r _)) (fun r => (column_at x9 _ r).trans (h9 r _)) (fun r => (column_at x9 _ r).trans (h9 r _))
    (fun r e => (block_at x0 p r e).trans (h0 r _)) (fun r e => (block_at x7 p r e).trans (h7 r _))
    (rows_at _ _ _ _ (fun j e => (bottom_at x1 p j e).trans ((h1 _ _).trans ?_)) (fun j e => (block_at x2 p j e).trans ((h2 _ _).trans ?_)) (fun j e => (top_at x3 p j e).trans ((h3 _ _).trans ?_)))
    (rows_at _ _ _ _ (fun j e => (bottom_at x4 p j e).trans ((h4 _ _).trans ?_)) (fun j e => (block_at x5 p j e).trans ((h5 _ _).trans ?_)) (fun j e => (top_at x6 p j e).trans ((h6 _ _).trans ?_)))
    r l ⟨l.val / 64, by omega⟩ rfl]
  · refine congrArg (fun x : ℝ => ((x * (1 / 8) : ℝ) : EReal)) ?_
    rw [← window_sum 256 (128 * t) (128 * t + r.val) (by omega) (by omega)]
    refine Finset.sum_congr rfl fun c _ => ?_
    by_cases hb : InBand (128 * t + r.val) (128 * t + c.val)
    · rw [if_pos hb, if_pos hb, win_eq k t ht p c l _ hb, ← cot_eq q k v ct Lf Df t ht p ⟨l.val / 64, by omega⟩ l rfl r c hb, hh ⟨l.val / 64, by omega⟩ l rfl]
    · rw [if_neg hb, if_neg hb, zero_mul]
  all_goals
    refine congrArg (fun x : ℝ => (x : EReal)) ?_
    unfold win
    have := j.isLt
    first
    | rw [if_pos (by show j.val < 64; omega)]; rfl
    | rw [if_neg (by show ¬ 64 + j.val < 64; omega), if_pos (by show 64 + j.val < 192; omega)]; exact congrArg (fun n => row _ n _ _) (by simp)
    | rw [if_neg (by show ¬ 192 + j.val < 64; omega), if_neg (by show ¬ 192 + j.val < 192; omega)]; exact congrArg (fun n => row _ n _ _) (by simp)

end Cert.KernelPoint

end
-- ==== Proof.KernelHost.lean ====
/- What the host lines before the query-gradient call leave: the keys' and values' windows, the scores, the first pattern's output and log-denominator. -/
module

public import proofs.«01_k».proof.Proof.Gen.KernelIdeal.Frame
public import proofs.«01_k».proof.Proof.Gen.ReferenceIdeal.Read
public import Idealize.ShloMosaic.Lib.StableHlo.RunRead

@[expose] public section

noncomputable section

namespace Cert.KernelHost

open Idealize.ShloMosaic Idealize.ShloMosaic.ValueIdx Idealize.ShloMosaic.StableHlo Idealize.ShloMosaic.TcCoe
open Cert.KernelIdeal Cert.KernelIdeal.Gen

variable {F : FTy → Type} [FloatOps F] [Named F]

/-- Joining three pieces depends on the pieces only. -/
theorem join3 {α : Type} {S T : Shape} (ax : Fin S.rank) {x y z x' y' z' : T.Idx → α} {h : Shape.Concatenates [T, T, T] S ax}
    (hx : x = x') (hy : y = y') (hz : z = z') :
    concatenate S ax [⟨T, x⟩, ⟨T, y⟩, ⟨T, z⟩] h = concatenate S ax [⟨T, x'⟩, ⟨T, y'⟩, ⟨T, z'⟩] h := by
  subst hx hy hz
  rfl

variable (m : (ℓ : Loc nD τ sig) → Buf (Elt F) ℓ) (c : Dev nD)

/-- The buffers once the padded arguments are computed. -/
def U1 : Valuation τ sig (Elt F) := after (List.flatten [hostOps0, hostOps0_1, hostOps0_2, hostOps0_3, hostOps0_4, hostOps0_5]) (fun b => m (c, b))

/-- The buffers once the windows of keys and values are computed. -/
def U2 : Valuation τ sig (Elt F) := after ((hostOps0_6.take 9)) (U1 m c)

/-- The buffers once the scores and the band are computed. -/
def U3 : Valuation τ sig (Elt F) := after ((hostOps0_6.drop 9)) (U2 m c)

/-- The buffers once the banded scores are computed. -/
def U4 : Valuation τ sig (Elt F) := after (hostOps0_7) (U3 m c)

/-- The buffers once the first pattern's results are computed. -/
def U5 : Valuation τ sig (Elt F) := after ((hostOps0_8.take 20)) (U4 m c)

/-- The buffers the lines of the padded arguments write. -/
def W1 : List (Ref sig .tc) := [main_v0, main_cst, main_v1, main_v2, main_v3, main_v4, main_v5, main_v6, main_v7, main_c, main_call0_v0, main_v8, main_v9, main_c_0, main_call1_v0, main_v10, main_v11, main_c_1, main_call2_v0, main_v12]

/-- The buffers the lines of the windows write. -/
def W2 : List (Ref sig .tc) := [main_v13, main_v14, main_v15, main_v16, main_v17, main_v18, main_v19, main_v20, main_v21]

/-- The buffers the lines of the scores write. -/
def W3 : List (Ref sig .tc) := [main_v22, main_cst_2, main_v23, main_v24, main_v25, main_v26, main_c_3, main_v27, main_v28, main_v29, main_v30, main_v31, main_v32, main_v33, main_v34, main_v35, main_c_4, main_v36, main_v37, main_c_5, main_v38, main_v39, main_v40, main_v41, main_v42, main_v43, main_v44, main_v45, main_v46, main_v47, main_v48, main_v49, main_v50, main_c_6, main_v51, main_v52, main_c_7, main_v53, main_v54, main_v55, main_v56, main_v57, main_c_8, main_v58, main_v59, main_v60, main_v61, main_v62, main_v63, main_cst_9]

/-- The buffers the lines of the banded scores write. -/
def W4 : List (Ref sig .tc) := [main_call3_v0, main_call3_v1, main_call3_v2, main_v64]

/-- The buffers the lines of the first results write. -/
def W5 : List (Ref sig .tc) := [main_cst_10, main_v65, main_v66, main_v67, main_v68, main_v69, main_cst_11, main_v70, main_v71, main_v72, main_v73, main_v74, main_v75, main_v76, main_v77, main_v78, main_v79, main_v80, main_v81, main_v82]

/-- The lines of the padded arguments leave every other buffer alone. -/
theorem kept1 (r : Ref sig .tc) (h : r ∉ W1) : U1 m c (Proc.devRef .tc r) = m (c, Proc.devRef .tc r) :=
  after_unwritten W1 rfl h _

/-- The lines of the windows leave every other buffer alone. -/
theorem kept2 (r : Ref sig .tc) (h : r ∉ W2) : U2 m c (Proc.devRef .tc r) = U1 m c (Proc.devRef .tc r) :=
  after_unwritten W2 rfl h _

/-- The lines of the scores leave every other buffer alone. -/
theorem kept3 (r : Ref sig .tc) (h : r ∉ W3) : U3 m c (Proc.devRef .tc r) = U2 m c (Proc.devRef .tc r) :=
  after_unwritten W3 rfl h _

/-- The lines of the banded scores leave every other buffer alone. -/
theorem kept4 (r : Ref sig .tc) (h : r ∉ W4) : U4 m c (Proc.devRef .tc r) = U3 m c (Proc.devRef .tc r) :=
  after_unwritten W4 rfl h _

/-- The lines of the first results leave every other buffer alone. -/
theorem kept5 (r : Ref sig .tc) (h : r ∉ W5) : U5 m c (Proc.devRef .tc r) = U4 m c (Proc.devRef .tc r) :=
  after_unwritten W5 rfl h _

/-- What stands after the first lines and is not written again stands at the end. -/
theorem kept (r : Ref sig .tc) (h2 : r ∉ W2) (h3 : r ∉ W3) (h4 : r ∉ W4) (h5 : r ∉ W5) : U5 m c (Proc.devRef .tc r) = U1 m c (Proc.devRef .tc r) := by
  rw [kept5 m c r h5, kept4 m c r h4, kept3 m c r h3, kept2 m c r h2]

/-- An argument stands at the end as it was given. -/
theorem given (r : Ref sig .tc) (h1 : r ∉ W1) (h2 : r ∉ W2) (h3 : r ∉ W3) (h4 : r ∉ W4) (h5 : r ∉ W5) : U5 m c (Proc.devRef .tc r) = m ((c : Thread nD τ).loc r) :=
  (kept m c r h2 h3 h4 h5).trans (kept1 m c r h1)

/-- The queries in blocks. -/
theorem U1_main_v9 : U1 m c (Proc.devRef .tc main_v9) = ReferenceIdeal.Read.val_main_v1 (F := F) (m ((c : Thread nD τ).loc main_arg0)) := by
  unfold U1
  simp only [List.flatten_cons, List.flatten_nil, List.append_nil, List.cons_append, List.nil_append, hostOps0, hostOps0_1, hostOps0_2, hostOps0_3, hostOps0_4, hostOps0_5, TRef.ternary, TRef.binary, TRef.unary, TRef.toBuf, TRef.ofBuf, cast_eq]
  after_reads_simp
  rfl

/-- The padded keys in blocks. -/
theorem U1_main_v11 : U1 m c (Proc.devRef .tc main_v11) = ReferenceIdeal.Read.val_main_v3 (F := F) (m ((c : Thread nD τ).loc main_arg1)) := by
  unfold U1
  simp only [List.flatten_cons, List.flatten_nil, List.append_nil, List.cons_append, List.nil_append, hostOps0, hostOps0_1, hostOps0_2, hostOps0_3, hostOps0_4, hostOps0_5, TRef.ternary, TRef.binary, TRef.unary, TRef.toBuf, TRef.ofBuf, cast_eq]
  after_reads_simp
  rfl

/-- The padded values. -/
theorem U1_main_v12 : U1 m c (Proc.devRef .tc main_v12) = ReferenceIdeal.Read.val_main_v4 (F := F) (m ((c : Thread nD τ).loc main_arg2)) := by
  unfold U1
  simp only [List.flatten_cons, List.flatten_nil, List.append_nil, List.cons_append, List.nil_append, hostOps0, hostOps0_1, hostOps0_2, hostOps0_3, hostOps0_4, hostOps0_5, TRef.ternary, TRef.binary, TRef.unary, TRef.toBuf, TRef.ofBuf, cast_eq]
  after_reads_simp
  rfl

/-- The line leaves this buffer alone. -/
theorem U2_main_v9 : U2 m c (Proc.devRef .tc main_v9) = ReferenceIdeal.Read.val_main_v1 (F := F) (m ((c : Thread nD τ).loc main_arg0)) := by
  unfold U2
  simp only [hostOps0_6, hostOps0_8, List.take_succ_cons, List.take_zero, List.drop_succ_cons, List.drop_zero]
  after_reads_simp
  exact U1_main_v9 m c

/-- The windows of keys. -/
theorem U2_main_v17 : U2 m c (Proc.devRef .tc main_v17) = ReferenceIdeal.Read.val_main_v9 (F := F) (m ((c : Thread nD τ).loc main_arg1)) := by
  unfold U2
  simp only [hostOps0_6, hostOps0_8, List.take_succ_cons, List.take_zero, List.drop_succ_cons, List.drop_zero]
  after_reads_simp
  refine join3 (S := S1x64x192x16x64) (T := S1x64x64x16x64) 2 ?_ ?_ ?_
  · show upto _ _ _ (Proc.devRef .tc main_v14) = _
    after_reads_simp
    rw [U1_main_v11]
    rfl
  · show upto _ _ _ (Proc.devRef .tc main_v15) = _
    after_reads_simp
    rw [U1_main_v11]
    rfl
  · show upto _ _ _ (Proc.devRef .tc main_v16) = _
    after_reads_simp
    rw [U1_main_v11]
    rfl

/-- The windows of values. -/
theorem U2_main_v21 : U2 m c (Proc.devRef .tc main_v21) = ReferenceIdeal.Read.val_main_v13 (F := F) (m ((c : Thread nD τ).loc main_arg2)) := by
  unfold U2
  simp only [hostOps0_6, hostOps0_8, List.take_succ_cons, List.take_zero, List.drop_succ_cons, List.drop_zero]
  after_reads_simp
  refine join3 (S := S1x64x192x16x64) (T := S1x64x64x16x64) 2 ?_ ?_ ?_
  · show upto _ _ _ (Proc.devRef .tc main_v18) = _
    after_reads_simp
    rw [U1_main_v12]
    rfl
  · show upto _ _ _ (Proc.devRef .tc main_v19) = _
    after_reads_simp
    rw [U1_main_v12]
    rfl
  · show upto _ _ _ (Proc.devRef .tc main_v20) = _
    after_reads_simp
    rw [U1_main_v12]
    rfl

/-- The scaled scores. -/
theorem U3_main_v24 : U3 m c (Proc.devRef .tc main_v24) = ReferenceIdeal.Read.val_main_v16 (F := F) (m ((c : Thread nD τ).loc main_arg0)) (m ((c : Thread nD τ).loc main_arg1)) := by
  unfold U3
  simp only [hostOps0_6, hostOps0_8, List.take_succ_cons, List.take_zero, List.drop_succ_cons, List.drop_zero]
  after_reads_simp
  rw [U2_main_v9, U2_main_v17]
  rfl

/-- The band. -/
theorem U3_main_v63 : U3 m c (Proc.devRef .tc main_v63) = ReferenceIdeal.Read.val_main_v55 (F := F) := by
  unfold U3
  simp only [hostOps0_6, hostOps0_8, List.take_succ_cons, List.take_zero, List.drop_succ_cons, List.drop_zero]
  after_reads_simp
  rfl

/-- The value outside the band. -/
theorem U3_main_cst_9 : U3 m c (Proc.devRef .tc main_cst_9) = constant S_ .f32 0xFF800000#32 := by
  unfold U3
  simp only [hostOps0_6, hostOps0_8, List.take_succ_cons, List.take_zero, List.drop_succ_cons, List.drop_zero]
  after_reads_simp

/-- The line leaves this buffer alone. -/
theorem U3_main_v21 : U3 m c (Proc.devRef .tc main_v21) = ReferenceIdeal.Read.val_main_v13 (F := F) (m ((c : Thread nD τ).loc main_arg2)) := by
  unfold U3
  simp only [hostOps0_6, hostOps0_8, List.take_succ_cons, List.take_zero, List.drop_succ_cons, List.drop_zero]
  after_reads_simp
  exact U2_main_v21 m c

/-- The banded scores. -/
theorem U4_main_v64 : U4 m c (Proc.devRef .tc main_v64) = ReferenceIdeal.Read.val_main_v56_0 (F := F) (m ((c : Thread nD τ).loc main_arg0)) (m ((c : Thread nD τ).loc main_arg1)) := by
  unfold U4
  simp only [hostOps0_7, TRef.ternary, TRef.binary, TRef.unary, TRef.toBuf, TRef.ofBuf, cast_eq]
  after_reads_simp
  rw [U3_main_v24, U3_main_v63, U3_main_cst_9]
  rfl

/-- The line leaves this buffer alone. -/
theorem U4_main_v21 : U4 m c (Proc.devRef .tc main_v21) = ReferenceIdeal.Read.val_main_v13 (F := F) (m ((c : Thread nD τ).loc main_arg2)) := by
  unfold U4
  simp only [hostOps0_7, TRef.ternary, TRef.binary, TRef.unary, TRef.toBuf, TRef.ofBuf, cast_eq]
  after_reads_simp
  exact U3_main_v21 m c

/-- The first pattern's output. -/
theorem U5_main_v81 : U5 m c (Proc.devRef .tc main_v81) = ReferenceIdeal.Read.val_main_v81 (F := F) (m ((c : Thread nD τ).loc main_arg0)) (m ((c : Thread nD τ).loc main_arg1)) (m ((c : Thread nD τ).loc main_arg2)) := by
  unfold U5
  simp only [hostOps0_6, hostOps0_8, List.take_succ_cons, List.take_zero, List.drop_succ_cons, List.drop_zero]
  after_reads_simp
  rw [U4_main_v64, U4_main_v21]
  rfl

/-- The first pattern's log-denominator. -/
theorem U5_main_v82 : U5 m c (Proc.devRef .tc main_v82) = ReferenceIdeal.Read.val_main_v82 (F := F) (m ((c : Thread nD τ).loc main_arg0)) (m ((c : Thread nD τ).loc main_arg1)) := by
  unfold U5
  simp only [hostOps0_6, hostOps0_8, List.take_succ_cons, List.take_zero, List.drop_succ_cons, List.drop_zero]
  after_reads_simp
  rw [U4_main_v64]
  rfl

/-- The region's entry contents are the last line's. -/
theorem V_split (b : Ref sig .tc) : V m c b = after (hostOps0_8.drop 20) (U5 m c) (Proc.devRef .tc b) := by
  unfold U5 U4 U3 U2 U1
  rw [← after_append, List.take_append_drop, ← after_append (hostOps0_6.take 9), List.take_append_drop, ← after_append, ← after_append, ← after_append]
  rfl

end Cert.KernelHost
end
-- ==== Proof.KernelStats.lean ====
/- The arrays the query-gradient call reads, at an index: the scaled queries, keys and values side by side, the cotangent, the log-denominators and the row sums. -/
module

public import proofs.«01_k».proof.Proof.KernelHost
public import proofs.«01_k».proof.Proof.RefMix

@[expose] public section

noncomputable section

namespace Cert.KernelStats

open Idealize.ShloMosaic Idealize.ShloMosaic.ValueIdx Idealize.ShloMosaic.StableHlo Idealize.ShloMosaic.TcCoe
open Cert.KernelIdeal Cert.KernelIdeal.Gen Cert.KernelHost Cert.Band Cert.RefScores Cert.RefForward Cert.RefMix

/-- A log-denominator array's ideal values. -/
abbrev L3 : Type := S1x4096x16.Idx → EReal

/-- The largest of three log-denominators. -/
def top (L a b : L3) : L3 := maximumf (F := Ideal) (φ := .f32) (maximumf (F := Ideal) (φ := .f32) L a) b
/-- A log-denominator's unnormalised weight. -/
def wgt (x M : L3) : L3 := Host.exp (F := Ideal) (φ := .f32) (subf (F := Ideal) (φ := .f32) x M)
/-- The weights' sum. -/
def sumw (L a b M : L3) : L3 := addf (F := Ideal) (φ := .f32) (addf (F := Ideal) (φ := .f32) (wgt L M) (wgt a M)) (wgt b M)
/-- A normalised weight, repeated along the lanes. -/
def share (w s : L3) : S1x4096x16x64.Idx → EReal := broadcastInDim S1x4096x16x64 ![0, 1, 2, 3] bcast_S1x4096x16x1_S1x4096x16x64_0_1_2_3
  (broadcastInDim S1x4096x16x1 ![0, 1, 2] bcast_S1x4096x16_S1x4096x16x1_0_1_2 (Host.divf (F := Ideal) (φ := .f32) w s))

variable (m : (ℓ : Loc nD τ sig) → Buf (Elt Ideal) ℓ) (c : Dev nD)

/-- The log-denominators as one term. -/
theorem lse_eq : V m c main_v109 = shapeCast S4096x16 (addf (F := Ideal) (φ := .f32)
    (top (ReferenceIdeal.Read.val_main_v82 (F := Ideal) (m ((c : Thread nD τ).loc main_arg0)) (m ((c : Thread nD τ).loc main_arg1))) (m ((c : Thread nD τ).loc main_arg5)) (m ((c : Thread nD τ).loc main_arg6)))
    (Host.log (F := Ideal) (φ := .f32) (sumw (ReferenceIdeal.Read.val_main_v82 (F := Ideal) (m ((c : Thread nD τ).loc main_arg0)) (m ((c : Thread nD τ).loc main_arg1))) (m ((c : Thread nD τ).loc main_arg5)) (m ((c : Thread nD τ).loc main_arg6))
      (top (ReferenceIdeal.Read.val_main_v82 (F := Ideal) (m ((c : Thread nD τ).loc main_arg0)) (m ((c : Thread nD τ).loc main_arg1))) (m ((c : Thread nD τ).loc main_arg5)) (m ((c : Thread nD τ).loc main_arg6)))))) shapeCasts_S1x4096x16_S4096x16 := by
  rw [V_split]
  simp only [hostOps0_8, List.drop_succ_cons, List.drop_zero]
  after_reads_simp
  rw [U5_main_v82, given m c main_arg5 (by decide) (by decide) (by decide) (by decide) (by decide), given m c main_arg6 (by decide) (by decide) (by decide) (by decide) (by decide)]
  rfl

/-- The row sums as one term. -/
theorem delta_eq : V m c main_v112 = shapeCast S4096x16 (Host.reduceAdd (F := Ideal) (φ := .f32) (mulf (F := Ideal) (φ := .f32) (m ((c : Thread nD τ).loc main_arg7))
    (addf (F := Ideal) (φ := .f32) (addf (F := Ideal) (φ := .f32)
      (mulf (F := Ideal) (φ := .f32) (share (wgt (ReferenceIdeal.Read.val_main_v82 (F := Ideal) (m ((c : Thread nD τ).loc main_arg0)) (m ((c : Thread nD τ).loc main_arg1))) (top (ReferenceIdeal.Read.val_main_v82 (F := Ideal) (m ((c : Thread nD τ).loc main_arg0)) (m ((c : Thread nD τ).loc main_arg1))) (m ((c : Thread nD τ).loc main_arg5)) (m ((c : Thread nD τ).loc main_arg6))))
        (sumw (ReferenceIdeal.Read.val_main_v82 (F := Ideal) (m ((c : Thread nD τ).loc main_arg0)) (m ((c : Thread nD τ).loc main_arg1))) (m ((c : Thread nD τ).loc main_arg5)) (m ((c : Thread nD τ).loc main_arg6)) (top (ReferenceIdeal.Read.val_main_v82 (F := Ideal) (m ((c : Thread nD τ).loc main_arg0)) (m ((c : Thread nD τ).loc main_arg1))) (m ((c : Thread nD τ).loc main_arg5)) (m ((c : Thread nD τ).loc main_arg6)))))
        (ReferenceIdeal.Read.val_main_v81 (F := Ideal) (m ((c : Thread nD τ).loc main_arg0)) (m ((c : Thread nD τ).loc main_arg1)) (m ((c : Thread nD τ).loc main_arg2))))
      (mulf (F := Ideal) (φ := .f32) (share (wgt (m ((c : Thread nD τ).loc main_arg5)) (top (ReferenceIdeal.Read.val_main_v82 (F := Ideal) (m ((c : Thread nD τ).loc main_arg0)) (m ((c : Thread nD τ).loc main_arg1))) (m ((c : Thread nD τ).loc main_arg5)) (m ((c : Thread nD τ).loc main_arg6))))
        (sumw (ReferenceIdeal.Read.val_main_v82 (F := Ideal) (m ((c : Thread nD τ).loc main_arg0)) (m ((c : Thread nD τ).loc main_arg1))) (m ((c : Thread nD τ).loc main_arg5)) (m ((c : Thread nD τ).loc main_arg6)) (top (ReferenceIdeal.Read.val_main_v82 (F := Ideal) (m ((c : Thread nD τ).loc main_arg0)) (m ((c : Thread nD τ).loc main_arg1))) (m ((c : Thread nD τ).loc main_arg5)) (m ((c : Thread nD τ).loc main_arg6)))))
        (m ((c : Thread nD τ).loc main_arg3))))
      (mulf (F := Ideal) (φ := .f32) (share (wgt (m ((c : Thread nD τ).loc main_arg6)) (top (ReferenceIdeal.Read.val_main_v82 (F := Ideal) (m ((c : Thread nD τ).loc main_arg0)) (m ((c : Thread nD τ).loc main_arg1))) (m ((c : Thread nD τ).loc main_arg5)) (m ((c : Thread nD τ).loc main_arg6))))
        (sumw (ReferenceIdeal.Read.val_main_v82 (F := Ideal) (m ((c : Thread nD τ).loc main_arg0)) (m ((c : Thread nD τ).loc main_arg1))) (m ((c : Thread nD τ).loc main_arg5)) (m ((c : Thread nD τ).loc main_arg6)) (top (ReferenceIdeal.Read.val_main_v82 (F := Ideal) (m ((c : Thread nD τ).loc main_arg0)) (m ((c : Thread nD τ).loc main_arg1))) (m ((c : Thread nD τ).loc main_arg5)) (m ((c : Thread nD τ).loc main_arg6)))))
        (m ((c : Thread nD τ).loc main_arg4))))) (constant S_ .f32 0x00000000#32) reducesTo_S1x4096x16x64_S1x4096x16_d3 h_S_) shapeCasts_S1x4096x16_S4096x16 := by
  rw [V_split]
  simp only [hostOps0_8, List.drop_succ_cons, List.drop_zero]
  after_reads_simp
  rw [U5_main_v82, U5_main_v81, given m c main_arg5 (by decide) (by decide) (by decide) (by decide) (by decide), given m c main_arg6 (by decide) (by decide) (by decide) (by decide) (by decide), given m c main_arg3 (by decide) (by decide) (by decide) (by decide) (by decide), given m c main_arg4 (by decide) (by decide) (by decide) (by decide) (by decide), given m c main_arg7 (by decide) (by decide) (by decide) (by decide) (by decide)]
  rfl

/-- The queries, keys and values side by side as one term. -/
theorem qkv_eq : V m c main_v6 = truncf (F := Ideal) .bf16 (concatenate S4096x3072 1
    [⟨S4096x1024, mulf (F := Ideal) (φ := .f32) (shapeCast S4096x1024 (m ((c : Thread nD τ).loc main_arg0)) shapeCasts_S1x4096x16x64_S4096x1024)
        (broadcastInDim S4096x1024 ![] bcast_S_S4096x1024 (constant S_ .f32 0x3E000000#32))⟩,
      ⟨S4096x1024, shapeCast S4096x1024 (m ((c : Thread nD τ).loc main_arg1)) shapeCasts_S1x4096x16x64_S4096x1024⟩,
      ⟨S4096x1024, shapeCast S4096x1024 (m ((c : Thread nD τ).loc main_arg2)) shapeCasts_S1x4096x16x64_S4096x1024⟩]
    concatenates_S4096x1024_S4096x1024_S4096x1024_S4096x3072_d1) bitsLt_bf16_f32 := by
  rw [V_split]
  simp only [hostOps0_8, List.drop_succ_cons, List.drop_zero]
  after_reads_simp
  rw [kept m c main_v6 (by decide) (by decide) (by decide) (by decide)]
  unfold U1
  simp only [List.flatten_cons, List.flatten_nil, List.append_nil, List.cons_append, List.nil_append, hostOps0, hostOps0_1, hostOps0_2, hostOps0_3, hostOps0_4, hostOps0_5, TRef.ternary, TRef.binary, TRef.unary, TRef.toBuf, TRef.ofBuf, cast_eq]
  after_reads_simp
  refine congrArg (truncf (F := Ideal) .bf16 · bitsLt_bf16_f32) ?_
  refine join3 (S := S4096x3072) (T := S4096x1024) 1 ?_ ?_ ?_
  · show upto _ _ _ (Proc.devRef .tc main_v2) = _
    after_reads_simp
    rfl
  · show upto _ _ _ (Proc.devRef .tc main_v3) = _
    after_reads_simp
    rfl
  · show upto _ _ _ (Proc.devRef .tc main_v4) = _
    after_reads_simp
    rfl

/-- The cotangent as one term. -/
theorem do_eq : V m c main_v113 = truncf (F := Ideal) .bf16 (shapeCast S4096x1024 (m ((c : Thread nD τ).loc main_arg7)) shapeCasts_S1x4096x16x64_S4096x1024) bitsLt_bf16_f32 := by
  rw [V_split]
  simp only [hostOps0_8, List.drop_succ_cons, List.drop_zero]
  after_reads_simp
  rw [kept m c main_v7 (by decide) (by decide) (by decide) (by decide)]
  unfold U1
  simp only [List.flatten_cons, List.flatten_nil, List.append_nil, List.cons_append, List.nil_append, hostOps0, hostOps0_1, hostOps0_2, hostOps0_3, hostOps0_4, hostOps0_5, TRef.ternary, TRef.binary, TRef.unary, TRef.toBuf, TRef.ofBuf, cast_eq]
  after_reads_simp
  rfl

/-- A shape cast that joins heads and lanes. -/
theorem flat_at (x : S1x4096x16x64.Idx → EReal) (n : Fin 4096) (j : Fin 1024) :
    shapeCast S4096x1024 x shapeCasts_S1x4096x16x64_S4096x1024 (ix2 n j) = x (ix4 0 n ⟨j.val / 64, by omega⟩ ⟨j.val % 64, by omega⟩) :=
  shapeCast_apply _ _ _ _ (by
    rw [Shape.rowMajor_val_four, Shape.rowMajor_val_two]
    show ((0 * 4096 + n.val) * 16 + j.val / 64) * 64 + j.val % 64 = n.val * 1024 + j.val
    omega)
/-- A shape cast that drops the unit axis. -/
theorem drop_at (x : L3) (n : Fin 4096) (h : Fin 16) : shapeCast S4096x16 x shapeCasts_S1x4096x16_S4096x16 (ix2 n h) = x (ix3 0 n h) :=
  shapeCast_apply _ _ _ _ (by
    rw [Shape.rowMajor_val_three, Shape.rowMajor_val_two]
    show (0 * 4096 + n.val) * 16 + h.val = n.val * 16 + h.val
    omega)
/-- A repeated normalised weight. -/
theorem share_at (w s : L3) (n : Fin 4096) (h : Fin 16) (d : Fin 64) : share w s (ix4 0 n h d) = Ideal.div (w (ix3 0 n h)) (s (ix3 0 n h)) := by
  unfold share
  refine (broadcastInDim_apply _ _ _ _ (ix4 0 n h 0) (fun a => match a with | ⟨0, _⟩ => rfl | ⟨1, _⟩ => rfl | ⟨2, _⟩ => rfl | ⟨3, _⟩ => rfl)).trans ?_
  exact broadcastInDim_apply _ _ _ _ (ix3 0 n h) (fun a => match a with | ⟨0, _⟩ => rfl | ⟨1, _⟩ => rfl | ⟨2, _⟩ => rfl)

/-- The pointwise operations at an index. -/
theorem top_apply (L a b : L3) (i : S1x4096x16.Idx) : top L a b i = max (max (L i) (a i)) (b i) := rfl
theorem wgt_apply (x M : L3) (i : S1x4096x16.Idx) : wgt x M i = FloatOps.hostUnary (F := Ideal) (φ := .f32) .exp (x i - M i : EReal) := rfl
theorem sumw_apply (L a b M : L3) (i : S1x4096x16.Idx) : sumw L a b M i = wgt L M i + wgt a M i + wgt b M i := rfl
theorem logsum_apply (M s : L3) (i : S1x4096x16.Idx) : addf (F := Ideal) (φ := .f32) M (Host.log (F := Ideal) (φ := .f32) s) i
    = M i + FloatOps.hostUnary (F := Ideal) (φ := .f32) .log (s i) := rfl
theorem mix_apply (ct w1 w2 w3 o1 o2 o3 : S1x4096x16x64.Idx → EReal) (i : S1x4096x16x64.Idx) :
    mulf (F := Ideal) (φ := .f32) ct (addf (F := Ideal) (φ := .f32) (addf (F := Ideal) (φ := .f32) (mulf (F := Ideal) (φ := .f32) w1 o1)
      (mulf (F := Ideal) (φ := .f32) w2 o2)) (mulf (F := Ideal) (φ := .f32) w3 o3)) i = ct i * (w1 i * o1 i + w2 i * o2 i + w3 i * o3 i) := rfl
/-- Rounding an ideal value changes nothing. -/
theorem trunc_apply {S : Shape} (x : S.Idx → EReal) (i : S.Idx) : truncf (F := Ideal) (φ := .f32) .bf16 x bitsLt_bf16_f32 i = x i := rfl
/-- The scaling at an index. -/
theorem eighth_apply (x : S4096x1024.Idx → EReal) (i : S4096x1024.Idx) :
    mulf (F := Ideal) (φ := .f32) x (broadcastInDim S4096x1024 ![] bcast_S_S4096x1024 (constant S_ .f32 0x3E000000#32)) i = x i * (((1 / 8 : ℝ)) : EReal) :=
  congrArg (fun z : EReal => x i * z) Coe.bits_eighth
/-- Three arrays side by side, at a column of the first, the second and the third. -/
theorem cat0 (x y z : S4096x1024.Idx → EReal) (n : Fin 4096) (j : Fin 1024) :
    concatenate S4096x3072 1 [⟨S4096x1024, x⟩, ⟨S4096x1024, y⟩, ⟨S4096x1024, z⟩] concatenates_S4096x1024_S4096x1024_S4096x1024_S4096x3072_d1 (ix2 n ⟨j.val, by omega⟩)
      = x (ix2 n j) :=
  concatenate_apply_piece (t := S4096x3072) 1 [⟨S4096x1024, x⟩, ⟨S4096x1024, y⟩, ⟨S4096x1024, z⟩] concatenates_S4096x1024_S4096x1024_S4096x1024_S4096x3072_d1 _
    0 (by show 0 < 3; omega) S4096x1024 x rfl rfl 0 rfl (ix2 n j)
    (fun b hb => match b, hb with | ⟨0, _⟩, _ => rfl | ⟨1, _⟩, hb => absurd rfl hb) (Nat.zero_add _)
theorem cat1 (x y z : S4096x1024.Idx → EReal) (n : Fin 4096) (j : Fin 1024) :
    concatenate S4096x3072 1 [⟨S4096x1024, x⟩, ⟨S4096x1024, y⟩, ⟨S4096x1024, z⟩] concatenates_S4096x1024_S4096x1024_S4096x1024_S4096x3072_d1 (ix2 n ⟨1024 + j.val, by omega⟩)
      = y (ix2 n j) :=
  concatenate_apply_piece (t := S4096x3072) 1 [⟨S4096x1024, x⟩, ⟨S4096x1024, y⟩, ⟨S4096x1024, z⟩] concatenates_S4096x1024_S4096x1024_S4096x1024_S4096x3072_d1 _
    1 (by show 1 < 3; omega) S4096x1024 y rfl rfl 1024 rfl (ix2 n j)
    (fun b hb => match b, hb with | ⟨0, _⟩, _ => rfl | ⟨1, _⟩, hb => absurd rfl hb) rfl
theorem cat2 (x y z : S4096x1024.Idx → EReal) (n : Fin 4096) (j : Fin 1024) :
    concatenate S4096x3072 1 [⟨S4096x1024, x⟩, ⟨S4096x1024, y⟩, ⟨S4096x1024, z⟩] concatenates_S4096x1024_S4096x1024_S4096x1024_S4096x3072_d1 (ix2 n ⟨2048 + j.val, by omega⟩)
      = z (ix2 n j) :=
  concatenate_apply_piece (t := S4096x3072) 1 [⟨S4096x1024, x⟩, ⟨S4096x1024, y⟩, ⟨S4096x1024, z⟩] concatenates_S4096x1024_S4096x1024_S4096x1024_S4096x3072_d1 _
    2 (by show 2 < 3; omega) S4096x1024 z rfl rfl 2048 rfl (ix2 n j)
    (fun b hb => match b, hb with | ⟨0, _⟩, _ => rfl | ⟨1, _⟩, hb => absurd rfl hb) rfl

/-- The launch's arguments are these real arrays. -/
structure Args (q k v o2 o3 ct : I4 → ℝ) (l2 l3 : I3 → ℝ) : Prop where
  h0 : m ((c : Thread nD τ).loc main_arg0) = up q
  h1 : m ((c : Thread nD τ).loc main_arg1) = up k
  h2 : m ((c : Thread nD τ).loc main_arg2) = up v
  h3 : m ((c : Thread nD τ).loc main_arg3) = up o2
  h4 : m ((c : Thread nD τ).loc main_arg4) = up o3
  h5 : m ((c : Thread nD τ).loc main_arg5) = up3 l2
  h6 : m ((c : Thread nD τ).loc main_arg6) = up3 l3
  h7 : m ((c : Thread nD τ).loc main_arg7) = up ct

variable {m c} {q k v o2 o3 ct : I4 → ℝ} {l2 l3 : I3 → ℝ} (H : Args m c q k v o2 o3 ct l2 l3)

/-- The shift the saved statistics use: the largest of the three log-denominators. -/
def Mk (q k : I4 → ℝ) (l2 l3 : I3 → ℝ) (n : ℕ) (h : Fin 16) : ℝ := max (max (lse1 q k (mx q k) n h) (row3 l2 n h)) (row3 l3 n h)

/-- A statistic's entry, as the plain statements read it. -/
theorem up3_at (x : I3 → ℝ) (n : Fin 4096) (h : Fin 16) : up3 x (ix3 0 n h) = ((row3 x n.val h : ℝ) : EReal) := congrArg Real.toEReal (row3_at x n h).symm
/-- An array's entry, as the plain statements read it. -/
theorem up_at (x : I4 → ℝ) (n : Fin 4096) (h : Fin 16) (d : Fin 64) : up x (ix4 0 n h d) = ((row x n.val h d : ℝ) : EReal) := congrArg Real.toEReal (row_at' x n h d).symm

theorem top_at (n : Fin 4096) (h : Fin 16) :
    top (ReferenceIdeal.Read.val_main_v82 (F := Ideal) (up q) (up k)) (up3 l2) (up3 l3) (ix3 0 n h) = ((Mk q k l2 l3 n.val h : ℝ) : EReal) := by
  rw [top_apply, v82_at]
  unfold Mk
  rw [row3_at, row3_at]
  exact ((EReal.coe_strictMono.monotone.map_max).trans (congrArg (max · _) (EReal.coe_strictMono.monotone.map_max))).symm
theorem wgt1_at (n : Fin 4096) (h : Fin 16) :
    wgt (ReferenceIdeal.Read.val_main_v82 (F := Ideal) (up q) (up k)) (top (ReferenceIdeal.Read.val_main_v82 (F := Ideal) (up q) (up k)) (up3 l2) (up3 l3)) (ix3 0 n h) = ((w1 q k (mx q k) (Mk q k l2 l3) n.val h : ℝ) : EReal) := by
  rw [wgt_apply, v82_at, top_at, ← EReal.coe_sub, Coe.hexp]
  rfl
theorem wgt2_at (n : Fin 4096) (h : Fin 16) :
    wgt (up3 l2) (top (ReferenceIdeal.Read.val_main_v82 (F := Ideal) (up q) (up k)) (up3 l2) (up3 l3)) (ix3 0 n h) = ((w2 l2 (Mk q k l2 l3) n.val h : ℝ) : EReal) := by
  rw [wgt_apply, top_at, up3_at, ← EReal.coe_sub, Coe.hexp]
  rfl
theorem wgt3_at (n : Fin 4096) (h : Fin 16) :
    wgt (up3 l3) (top (ReferenceIdeal.Read.val_main_v82 (F := Ideal) (up q) (up k)) (up3 l2) (up3 l3)) (ix3 0 n h) = ((w3 l3 (Mk q k l2 l3) n.val h : ℝ) : EReal) := by
  rw [wgt_apply, top_at, up3_at, ← EReal.coe_sub, Coe.hexp]
  rfl
theorem sumw_at (n : Fin 4096) (h : Fin 16) :
    sumw (ReferenceIdeal.Read.val_main_v82 (F := Ideal) (up q) (up k)) (up3 l2) (up3 l3) (top (ReferenceIdeal.Read.val_main_v82 (F := Ideal) (up q) (up k)) (up3 l2) (up3 l3)) (ix3 0 n h) = ((tot q k l2 l3 (mx q k) (Mk q k l2 l3) n.val h : ℝ) : EReal) := by
  rw [sumw_apply, wgt1_at, wgt2_at, wgt3_at, ← EReal.coe_add, ← EReal.coe_add]
  rfl

include H in
/-- The log-denominator of a row. -/
theorem lse_at (n : Fin 4096) (h : Fin 16) : V m c main_v109 (ix2 n h) = ((lse q k l2 l3 (mx q k) (Mk q k l2 l3) n.val h : ℝ) : EReal) := by
  rw [lse_eq, H.h0, H.h1, H.h5, H.h6, drop_at, logsum_apply, top_at, sumw_at, Coe.hlog _ (tot_pos q k l2 l3 (mx q k) (Mk q k l2 l3) n.val h), ← EReal.coe_add]
  rfl

include H in
/-- The row's sum of the cotangent times the mixture. -/
theorem delta_at (n : Fin 4096) (h : Fin 16) :
    V m c main_v112 (ix2 n h) = ((delta q k v o2 o3 ct l2 l3 (mx q k) (Mk q k l2 l3) n.val h : ℝ) : EReal) := by
  rw [delta_eq, H.h0, H.h1, H.h2, H.h3, H.h4, H.h5, H.h6, H.h7, drop_at]
  have ht := (tot_pos q k l2 l3 (mx q k) (Mk q k l2 l3) n.val h).ne'
  have key : ∀ d : Fin 64, mulf (F := Ideal) (φ := .f32) (up ct) (addf (F := Ideal) (φ := .f32) (addf (F := Ideal) (φ := .f32)
      (mulf (F := Ideal) (φ := .f32) (share (wgt (ReferenceIdeal.Read.val_main_v82 (F := Ideal) (up q) (up k)) (top (ReferenceIdeal.Read.val_main_v82 (F := Ideal) (up q) (up k)) (up3 l2) (up3 l3))) (sumw (ReferenceIdeal.Read.val_main_v82 (F := Ideal) (up q) (up k)) (up3 l2) (up3 l3) (top (ReferenceIdeal.Read.val_main_v82 (F := Ideal) (up q) (up k)) (up3 l2) (up3 l3)))) (ReferenceIdeal.Read.val_main_v81 (F := Ideal) (up q) (up k) (up v)))
      (mulf (F := Ideal) (φ := .f32) (share (wgt (up3 l2) (top (ReferenceIdeal.Read.val_main_v82 (F := Ideal) (up q) (up k)) (up3 l2) (up3 l3))) (sumw (ReferenceIdeal.Read.val_main_v82 (F := Ideal) (up q) (up k)) (up3 l2) (up3 l3) (top (ReferenceIdeal.Read.val_main_v82 (F := Ideal) (up q) (up k)) (up3 l2) (up3 l3)))) (up o2)))
      (mulf (F := Ideal) (φ := .f32) (share (wgt (up3 l3) (top (ReferenceIdeal.Read.val_main_v82 (F := Ideal) (up q) (up k)) (up3 l2) (up3 l3))) (sumw (ReferenceIdeal.Read.val_main_v82 (F := Ideal) (up q) (up k)) (up3 l2) (up3 l3) (top (ReferenceIdeal.Read.val_main_v82 (F := Ideal) (up q) (up k)) (up3 l2) (up3 l3)))) (up o3))) (ix4 0 n h d)
      = ((row ct n.val h d * (w1 q k (mx q k) (Mk q k l2 l3) n.val h / tot q k l2 l3 (mx q k) (Mk q k l2 l3) n.val h * out1 q k v (mx q k) n.val h d
          + w2 l2 (Mk q k l2 l3) n.val h / tot q k l2 l3 (mx q k) (Mk q k l2 l3) n.val h * row o2 n.val h d
          + w3 l3 (Mk q k l2 l3) n.val h / tot q k l2 l3 (mx q k) (Mk q k l2 l3) n.val h * row o3 n.val h d) : ℝ) : EReal) := fun d => by
    rw [mix_apply, share_at, share_at, share_at, v81_at, wgt1_at, wgt2_at, wgt3_at, sumw_at, Coe.div _ _ ht, Coe.div _ _ ht, Coe.div _ _ ht,
      up_at, up_at, up_at, ← EReal.coe_mul, ← EReal.coe_mul, ← EReal.coe_mul, ← EReal.coe_add, ← EReal.coe_add, ← EReal.coe_mul]
  rw [hostReduceAdd_apply, Ideal.hostReduceAdd_single reducesTo_S1x4096x16x64_S1x4096x16_d3 (by decide)]
  refine (congrArg₂ (fun a b : EReal => a + b) Coe.bits_zero (Finset.sum_congr rfl fun d _ => ?_)).trans ((zero_add _).trans (Coe.sum _ _))
  exact (congrArg _ (funext fun a => Fin.ext (by match a with | ⟨0, _⟩ => rfl | ⟨1, _⟩ => rfl | ⟨2, _⟩ => rfl | ⟨3, _⟩ => rfl))).trans (key d)

include H in
/-- The scaled queries. -/
theorem q_at (n : Fin 4096) (j : Fin 1024) :
    V m c main_v6 (ix2 n ⟨j.val, by omega⟩) = ((row q n.val ⟨j.val / 64, by omega⟩ ⟨j.val % 64, by omega⟩ * (1 / 8) : ℝ) : EReal) := by
  rw [qkv_eq, H.h0, H.h1, H.h2]
  rw [trunc_apply, cat0, eighth_apply, flat_at, row_at' q n, EReal.coe_mul (_ : ℝ) (1 / 8)]
include H in
/-- The keys. -/
theorem k_at (n : Fin 4096) (j : Fin 1024) :
    V m c main_v6 (ix2 n ⟨1024 + j.val, by omega⟩) = ((row k n.val ⟨j.val / 64, by omega⟩ ⟨j.val % 64, by omega⟩ : ℝ) : EReal) := by
  rw [qkv_eq, H.h0, H.h1, H.h2]
  rw [trunc_apply, cat1, flat_at, row_at' k n]
include H in
/-- The values. -/
theorem v_at (n : Fin 4096) (j : Fin 1024) :
    V m c main_v6 (ix2 n ⟨2048 + j.val, by omega⟩) = ((row v n.val ⟨j.val / 64, by omega⟩ ⟨j.val % 64, by omega⟩ : ℝ) : EReal) := by
  rw [qkv_eq, H.h0, H.h1, H.h2]
  rw [trunc_apply, cat2, flat_at, row_at' v n]
include H in
/-- The cotangent. -/
theorem ct_at (n : Fin 4096) (j : Fin 1024) :
    V m c main_v113 (ix2 n j) = ((row ct n.val ⟨j.val / 64, by omega⟩ ⟨j.val % 64, by omega⟩ : ℝ) : EReal) := by
  rw [do_eq, H.h7]
  rw [trunc_apply, flat_at, row_at' ct n]

end Cert.KernelStats
end
-- ==== Proof.KernelValue.lean ====
/- The array the query-gradient call leaves, at an index. -/
module

public import proofs.«01_k».proof.Proof.KernelPoint
public import proofs.«01_k».proof.Proof.KernelStats
public import proofs.«01_k».proof.Proof.Gen.KernelIdeal.Value
public import Idealize.ShloMosaic.Lib.Pipeline.ValueKit

@[expose] public section

noncomputable section

namespace Cert.KernelValue

open Idealize.ShloMosaic hiding ix2
open Idealize.ShloMosaic.ValueIdx Idealize.ShloMosaic.TcCoe
open Idealize.ShloMosaic.Pipeline (Dat)
open Cert.KernelIdeal Cert.KernelIdeal.Gen Cert.KernelStats Cert.KernelPoint Cert.Band Cert.RefScores Cert.RefForward Cert.RefMix

/-- Where each window stands at point `t`. -/
theorem places : ∀ t : Fin grid0.N, win0_0.index t = ![t.val, 0]
    ∧ win0_1.index t = ![t.val - 1, 1] ∧ win0_2.index t = ![t.val, 1] ∧ win0_3.index t = ![min (t.val + 1) 31, 1]
    ∧ win0_4.index t = ![t.val - 1, 2] ∧ win0_5.index t = ![t.val, 2] ∧ win0_6.index t = ![min (t.val + 1) 31, 2]
    ∧ win0_7.index t = ![t.val, 0] ∧ win0_8.index t = ![t.val, 0] ∧ win0_9.index t = ![t.val, 0] ∧ win0_10.index t = ![t.val, 0]
    ∧ (grid0.coords t 0).val = t.val := by decide +kernel

variable (m : (ℓ : Loc nD τ sig) → Buf (Elt Ideal) ℓ) (c : Dev nD)

theorem lt32 (t : Fin cfg0.N) : t.val < 32 := by
  have h := t.isLt
  have e : cfg0.N = 32 := N_0
  omega

theorem place0 (t : Fin cfg0.N) (r : Fin 128) (j : Fin 1024) :
    (win0_0.rect t).emb (ix2 r j) = ix2 ⟨128 * t.val + r.val, by have := lt32 t; omega⟩ ⟨j.val, by omega⟩ := by
  have ht := lt32 t
  obtain ⟨h0, h1, h2, h3, h4, h5, h6, h7, h8, h9, h10, hc⟩ := places t
  refine funext fun a => Fin.ext ?_
  match a with
  | ⟨0, _⟩ =>
    refine (win0_0.rect_emb_val t _ _).trans ?_
    rw [h0]
    show (t.val) * 128 + r.val = 128 * (t.val) + r.val
    omega
  | ⟨1, _⟩ =>
    refine (win0_0.rect_emb_val t _ _).trans ?_
    rw [h0]
    show 0 * 1024 + j.val = j.val
    omega

theorem read0 (t : Fin cfg0.N) (r : Fin 128) (j : Fin 1024) (W : (b : Ref sig .tc) → Buf (Elt Ideal) ((c : Thread nD τ).loc b)) :
    ((cfg0.win 0).blk t).view.read (Elt Ideal) (W (Pipeline.arrRef spec0 0)) (ix2 r j) = W main_v6 (ix2 ⟨128 * t.val + r.val, by have := lt32 t; omega⟩ ⟨j.val, by omega⟩) :=
  congrArg (W main_v6) (place0 t r j)

theorem blk0 (t : Fin cfg0.N) (r : Fin 128) (j : Fin 1024) :
    iblk m c 0 t (ix2 r j) = V m c main_v6 (ix2 ⟨128 * t.val + r.val, by have := lt32 t; omega⟩ ⟨j.val, by omega⟩) :=
  read0 c t r j (V m c)

theorem place1 (t : Fin cfg0.N) (r : Fin 128) (j : Fin 1024) :
    (win0_1.rect t).emb (ix2 r j) = ix2 ⟨128 * (t.val - 1) + r.val, by have := lt32 t; omega⟩ ⟨1024 + j.val, by omega⟩ := by
  have ht := lt32 t
  obtain ⟨h0, h1, h2, h3, h4, h5, h6, h7, h8, h9, h10, hc⟩ := places t
  refine funext fun a => Fin.ext ?_
  match a with
  | ⟨0, _⟩ =>
    refine (win0_1.rect_emb_val t _ _).trans ?_
    rw [h1]
    show ((t.val - 1)) * 128 + r.val = 128 * ((t.val - 1)) + r.val
    omega
  | ⟨1, _⟩ =>
    refine (win0_1.rect_emb_val t _ _).trans ?_
    rw [h1]
    show 1 * 1024 + j.val = 1024 + j.val
    omega

theorem read1 (t : Fin cfg0.N) (r : Fin 128) (j : Fin 1024) (W : (b : Ref sig .tc) → Buf (Elt Ideal) ((c : Thread nD τ).loc b)) :
    ((cfg0.win 1).blk t).view.read (Elt Ideal) (W (Pipeline.arrRef spec0 1)) (ix2 r j) = W main_v6 (ix2 ⟨128 * (t.val - 1) + r.val, by have := lt32 t; omega⟩ ⟨1024 + j.val, by omega⟩) :=
  congrArg (W main_v6) (place1 t r j)

theorem blk1 (t : Fin cfg0.N) (r : Fin 128) (j : Fin 1024) :
    iblk m c 1 t (ix2 r j) = V m c main_v6 (ix2 ⟨128 * (t.val - 1) + r.val, by have := lt32 t; omega⟩ ⟨1024 + j.val, by omega⟩) :=
  read1 c t r j (V m c)

theorem place2 (t : Fin cfg0.N) (r : Fin 128) (j : Fin 1024) :
    (win0_2.rect t).emb (ix2 r j) = ix2 ⟨128 * t.val + r.val, by have := lt32 t; omega⟩ ⟨1024 + j.val, by omega⟩ := by
  have ht := lt32 t
  obtain ⟨h0, h1, h2, h3, h4, h5, h6, h7, h8, h9, h10, hc⟩ := places t
  refine funext fun a => Fin.ext ?_
  match a with
  | ⟨0, _⟩ =>
    refine (win0_2.rect_emb_val t _ _).trans ?_
    rw [h2]
    show (t.val) * 128 + r.val = 128 * (t.val) + r.val
    omega
  | ⟨1, _⟩ =>
    refine (win0_2.rect_emb_val t _ _).trans ?_
    rw [h2]
    show 1 * 1024 + j.val = 1024 + j.val
    omega

theorem read2 (t : Fin cfg0.N) (r : Fin 128) (j : Fin 1024) (W : (b : Ref sig .tc) → Buf (Elt Ideal) ((c : Thread nD τ).loc b)) :
    ((cfg0.win 2).blk t).view.read (Elt Ideal) (W (Pipeline.arrRef spec0 2)) (ix2 r j) = W main_v6 (ix2 ⟨128 * t.val + r.val, by have := lt32 t; omega⟩ ⟨1024 + j.val, by omega⟩) :=
  congrArg (W main_v6) (place2 t r j)

theorem blk2 (t : Fin cfg0.N) (r : Fin 128) (j : Fin 1024) :
    iblk m c 2 t (ix2 r j) = V m c main_v6 (ix2 ⟨128 * t.val + r.val, by have := lt32 t; omega⟩ ⟨1024 + j.val, by omega⟩) :=
  read2 c t r j (V m c)

theorem place3 (t : Fin cfg0.N) (r : Fin 128) (j : Fin 1024) :
    (win0_3.rect t).emb (ix2 r j) = ix2 ⟨128 * min (t.val + 1) 31 + r.val, by have := lt32 t; omega⟩ ⟨1024 + j.val, by omega⟩ := by
  have ht := lt32 t
  obtain ⟨h0, h1, h2, h3, h4, h5, h6, h7, h8, h9, h10, hc⟩ := places t
  refine funext fun a => Fin.ext ?_
  match a with
  | ⟨0, _⟩ =>
    refine (win0_3.rect_emb_val t _ _).trans ?_
    rw [h3]
    show (min (t.val + 1) 31) * 128 + r.val = 128 * (min (t.val + 1) 31) + r.val
    omega
  | ⟨1, _⟩ =>
    refine (win0_3.rect_emb_val t _ _).trans ?_
    rw [h3]
    show 1 * 1024 + j.val = 1024 + j.val
    omega

theorem read3 (t : Fin cfg0.N) (r : Fin 128) (j : Fin 1024) (W : (b : Ref sig .tc) → Buf (Elt Ideal) ((c : Thread nD τ).loc b)) :
    ((cfg0.win 3).blk t).view.read (Elt Ideal) (W (Pipeline.arrRef spec0 3)) (ix2 r j) = W main_v6 (ix2 ⟨128 * min (t.val + 1) 31 + r.val, by have := lt32 t; omega⟩ ⟨1024 + j.val, by omega⟩) :=
  congrArg (W main_v6) (place3 t r j)

theorem blk3 (t : Fin cfg0.N) (r : Fin 128) (j : Fin 1024) :
    iblk m c 3 t (ix2 r j) = V m c main_v6 (ix2 ⟨128 * min (t.val + 1) 31 + r.val, by have := lt32 t; omega⟩ ⟨1024 + j.val, by omega⟩) :=
  read3 c t r j (V m c)

theorem place4 (t : Fin cfg0.N) (r : Fin 128) (j : Fin 1024) :
    (win0_4.rect t).emb (ix2 r j) = ix2 ⟨128 * (t.val - 1) + r.val, by have := lt32 t; omega⟩ ⟨2048 + j.val, by omega⟩ := by
  have ht := lt32 t
  obtain ⟨h0, h1, h2, h3, h4, h5, h6, h7, h8, h9, h10, hc⟩ := places t
  refine funext fun a => Fin.ext ?_
  match a with
  | ⟨0, _⟩ =>
    refine (win0_4.rect_emb_val t _ _).trans ?_
    rw [h4]
    show ((t.val - 1)) * 128 + r.val = 128 * ((t.val - 1)) + r.val
    omega
  | ⟨1, _⟩ =>
    refine (win0_4.rect_emb_val t _ _).trans ?_
    rw [h4]
    show 2 * 1024 + j.val = 2048 + j.val
    omega

theorem read4 (t : Fin cfg0.N) (r : Fin 128) (j : Fin 1024) (W : (b : Ref sig .tc) → Buf (Elt Ideal) ((c : Thread nD τ).loc b)) :
    ((cfg0.win 4).blk t).view.read (Elt Ideal) (W (Pipeline.arrRef spec0 4)) (ix2 r j) = W main_v6 (ix2 ⟨128 * (t.val - 1) + r.val, by have := lt32 t; omega⟩ ⟨2048 + j.val, by omega⟩) :=
  congrArg (W main_v6) (place4 t r j)

theorem blk4 (t : Fin cfg0.N) (r : Fin 128) (j : Fin 1024) :
    iblk m c 4 t (ix2 r j) = V m c main_v6 (ix2 ⟨128 * (t.val - 1) + r.val, by have := lt32 t; omega⟩ ⟨2048 + j.val, by omega⟩) :=
  read4 c t r j (V m c)

theorem place5 (t : Fin cfg0.N) (r : Fin 128) (j : Fin 1024) :
    (win0_5.rect t).emb (ix2 r j) = ix2 ⟨128 * t.val + r.val, by have := lt32 t; omega⟩ ⟨2048 + j.val, by omega⟩ := by
  have ht := lt32 t
  obtain ⟨h0, h1, h2, h3, h4, h5, h6, h7, h8, h9, h10, hc⟩ := places t
  refine funext fun a => Fin.ext ?_
  match a with
  | ⟨0, _⟩ =>
    refine (win0_5.rect_emb_val t _ _).trans ?_
    rw [h5]
    show (t.val) * 128 + r.val = 128 * (t.val) + r.val
    omega
  | ⟨1, _⟩ =>
    refine (win0_5.rect_emb_val t _ _).trans ?_
    rw [h5]
    show 2 * 1024 + j.val = 2048 + j.val
    omega

theorem read5 (t : Fin cfg0.N) (r : Fin 128) (j : Fin 1024) (W : (b : Ref sig .tc) → Buf (Elt Ideal) ((c : Thread nD τ).loc b)) :
    ((cfg0.win 5).blk t).view.read (Elt Ideal) (W (Pipeline.arrRef spec0 5)) (ix2 r j) = W main_v6 (ix2 ⟨128 * t.val + r.val, by have := lt32 t; omega⟩ ⟨2048 + j.val, by omega⟩) :=
  congrArg (W main_v6) (place5 t r j)

theorem blk5 (t : Fin cfg0.N) (r : Fin 128) (j : Fin 1024) :
    iblk m c 5 t (ix2 r j) = V m c main_v6 (ix2 ⟨128 * t.val + r.val, by have := lt32 t; omega⟩ ⟨2048 + j.val, by omega⟩) :=
  read5 c t r j (V m c)

theorem place6 (t : Fin cfg0.N) (r : Fin 128) (j : Fin 1024) :
    (win0_6.rect t).emb (ix2 r j) = ix2 ⟨128 * min (t.val + 1) 31 + r.val, by have := lt32 t; omega⟩ ⟨2048 + j.val, by omega⟩ := by
  have ht := lt32 t
  obtain ⟨h0, h1, h2, h3, h4, h5, h6, h7, h8, h9, h10, hc⟩ := places t
  refine funext fun a => Fin.ext ?_
  match a with
  | ⟨0, _⟩ =>
    refine (win0_6.rect_emb_val t _ _).trans ?_
    rw [h6]
    show (min (t.val + 1) 31) * 128 + r.val = 128 * (min (t.val + 1) 31) + r.val
    omega
  | ⟨1, _⟩ =>
    refine (win0_6.rect_emb_val t _ _).trans ?_
    rw [h6]
    show 2 * 1024 + j.val = 2048 + j.val
    omega

theorem read6 (t : Fin cfg0.N) (r : Fin 128) (j : Fin 1024) (W : (b : Ref sig .tc) → Buf (Elt Ideal) ((c : Thread nD τ).loc b)) :
    ((cfg0.win 6).blk t).view.read (Elt Ideal) (W (Pipeline.arrRef spec0 6)) (ix2 r j) = W main_v6 (ix2 ⟨128 * min (t.val + 1) 31 + r.val, by have := lt32 t; omega⟩ ⟨2048 + j.val, by omega⟩) :=
  congrArg (W main_v6) (place6 t r j)

theorem blk6 (t : Fin cfg0.N) (r : Fin 128) (j : Fin 1024) :
    iblk m c 6 t (ix2 r j) = V m c main_v6 (ix2 ⟨128 * min (t.val + 1) 31 + r.val, by have := lt32 t; omega⟩ ⟨2048 + j.val, by omega⟩) :=
  read6 c t r j (V m c)

theorem place7 (t : Fin cfg0.N) (r : Fin 128) (j : Fin 1024) :
    (win0_7.rect t).emb (ix2 r j) = ix2 ⟨128 * t.val + r.val, by have := lt32 t; omega⟩ ⟨j.val, by omega⟩ := by
  have ht := lt32 t
  obtain ⟨h0, h1, h2, h3, h4, h5, h6, h7, h8, h9, h10, hc⟩ := places t
  refine funext fun a => Fin.ext ?_
  match a with
  | ⟨0, _⟩ =>
    refine (win0_7.rect_emb_val t _ _).trans ?_
    rw [h7]
    show (t.val) * 128 + r.val = 128 * (t.val) + r.val
    omega
  | ⟨1, _⟩ =>
    refine (win0_7.rect_emb_val t _ _).trans ?_
    rw [h7]
    show 0 * 1024 + j.val = j.val
    omega

theorem read7 (t : Fin cfg0.N) (r : Fin 128) (j : Fin 1024) (W : (b : Ref sig .tc) → Buf (Elt Ideal) ((c : Thread nD τ).loc b)) :
    ((cfg0.win 7).blk t).view.read (Elt Ideal) (W (Pipeline.arrRef spec0 7)) (ix2 r j) = W main_v113 (ix2 ⟨128 * t.val + r.val, by have := lt32 t; omega⟩ ⟨j.val, by omega⟩) :=
  congrArg (W main_v113) (place7 t r j)

theorem blk7 (t : Fin cfg0.N) (r : Fin 128) (j : Fin 1024) :
    iblk m c 7 t (ix2 r j) = V m c main_v113 (ix2 ⟨128 * t.val + r.val, by have := lt32 t; omega⟩ ⟨j.val, by omega⟩) :=
  read7 c t r j (V m c)

theorem place8 (t : Fin cfg0.N) (r : Fin 128) (j : Fin 16) :
    (win0_8.rect t).emb (ix2 r j) = ix2 ⟨128 * t.val + r.val, by have := lt32 t; omega⟩ j := by
  have ht := lt32 t
  obtain ⟨h0, h1, h2, h3, h4, h5, h6, h7, h8, h9, h10, hc⟩ := places t
  refine funext fun a => Fin.ext ?_
  match a with
  | ⟨0, _⟩ =>
    refine (win0_8.rect_emb_val t _ _).trans ?_
    rw [h8]
    show (t.val) * 128 + r.val = 128 * (t.val) + r.val
    omega
  | ⟨1, _⟩ =>
    refine (win0_8.rect_emb_val t _ _).trans ?_
    rw [h8]
    show 0 * 16 + j.val = j.val
    omega

theorem read8 (t : Fin cfg0.N) (r : Fin 128) (j : Fin 16) (W : (b : Ref sig .tc) → Buf (Elt Ideal) ((c : Thread nD τ).loc b)) :
    ((cfg0.win 8).blk t).view.read (Elt Ideal) (W (Pipeline.arrRef spec0 8)) (ix2 r j) = W main_v109 (ix2 ⟨128 * t.val + r.val, by have := lt32 t; omega⟩ j) :=
  congrArg (W main_v109) (place8 t r j)

theorem blk8 (t : Fin cfg0.N) (r : Fin 128) (j : Fin 16) :
    iblk m c 8 t (ix2 r j) = V m c main_v109 (ix2 ⟨128 * t.val + r.val, by have := lt32 t; omega⟩ j) :=
  read8 c t r j (V m c)

theorem place9 (t : Fin cfg0.N) (r : Fin 128) (j : Fin 16) :
    (win0_9.rect t).emb (ix2 r j) = ix2 ⟨128 * t.val + r.val, by have := lt32 t; omega⟩ j := by
  have ht := lt32 t
  obtain ⟨h0, h1, h2, h3, h4, h5, h6, h7, h8, h9, h10, hc⟩ := places t
  refine funext fun a => Fin.ext ?_
  match a with
  | ⟨0, _⟩ =>
    refine (win0_9.rect_emb_val t _ _).trans ?_
    rw [h9]
    show (t.val) * 128 + r.val = 128 * (t.val) + r.val
    omega
  | ⟨1, _⟩ =>
    refine (win0_9.rect_emb_val t _ _).trans ?_
    rw [h9]
    show 0 * 16 + j.val = j.val
    omega

theorem read9 (t : Fin cfg0.N) (r : Fin 128) (j : Fin 16) (W : (b : Ref sig .tc) → Buf (Elt Ideal) ((c : Thread nD τ).loc b)) :
    ((cfg0.win 9).blk t).view.read (Elt Ideal) (W (Pipeline.arrRef spec0 9)) (ix2 r j) = W main_v112 (ix2 ⟨128 * t.val + r.val, by have := lt32 t; omega⟩ j) :=
  congrArg (W main_v112) (place9 t r j)

theorem blk9 (t : Fin cfg0.N) (r : Fin 128) (j : Fin 16) :
    iblk m c 9 t (ix2 r j) = V m c main_v112 (ix2 ⟨128 * t.val + r.val, by have := lt32 t; omega⟩ j) :=
  read9 c t r j (V m c)

variable {m c} {q k v o2 o3 ct : I4 → ℝ} {l2 l3 : I3 → ℝ} (H : Args m c q k v o2 o3 ct l2 l3)

/-- The gradient of the queries, row by row. -/
def dq (q k v o2 o3 ct : I4 → ℝ) (l2 l3 : I3 → ℝ) (n : ℕ) (h : Fin 16) (d : Fin 64) : ℝ :=
  band n (fun b => ds q k v o2 o3 ct l2 l3 (mx q k) (Mk q k l2 l3) n b h * Band.pad k b h d) * (1 / 8)

/-- The same as the contents of the result array. -/
def result (q k v o2 o3 ct : I4 → ℝ) (l2 l3 : I3 → ℝ) : S4096x1024.Idx → EReal :=
  fun i => ((dq q k v o2 o3 ct l2 l3 (i 0).val ⟨(i 1).val / 64, by have : (i 1).val < 1024 := (i 1).isLt; omega⟩ ⟨(i 1).val % 64, by omega⟩ : ℝ) : EReal)

include H in
/-- What a point's body leaves, at an index. -/
theorem point_at (t : Fin cfg0.N) (r : Fin 128) (j : Fin 1024) :
    out0_10 (grid0.coords t) (iblk m c 0 t) (iblk m c 1 t) (iblk m c 2 t) (iblk m c 3 t) (iblk m c 4 t) (iblk m c 5 t) (iblk m c 6 t) (iblk m c 7 t) (iblk m c 8 t) (iblk m c 9 t) (ix2 r j)
      = ((dq q k v o2 o3 ct l2 l3 (128 * t.val + r.val) ⟨j.val / 64, by omega⟩ ⟨j.val % 64, by omega⟩ : ℝ) : EReal) := by
  have ht := lt32 t
  exact out_at q k v ct (lse q k l2 l3 (mx q k) (Mk q k l2 l3)) (delta q k v o2 o3 ct l2 l3 (mx q k) (Mk q k l2 l3)) (grid0.coords t) t.val ht (places t).2.2.2.2.2.2.2.2.2.2.2 _ _ _ _ _ _ _ _ _ _
    (fun r j => (blk0 m c t r j).trans (q_at H _ _)) (fun r j => (blk1 m c t r j).trans (k_at H _ _)) (fun r j => (blk2 m c t r j).trans (k_at H _ _)) (fun r j => (blk3 m c t r j).trans (k_at H _ _))
    (fun r j => (blk4 m c t r j).trans (v_at H _ _)) (fun r j => (blk5 m c t r j).trans (v_at H _ _)) (fun r j => (blk6 m c t r j).trans (v_at H _ _))
    (fun r j => (blk7 m c t r j).trans (ct_at H _ _)) (fun r h => (blk8 m c t r h).trans (lse_at H _ _)) (fun r h => (blk9 m c t r h).trans (delta_at H _ _)) r j

/-- An index of the result lies in the block that point `t` writes back exactly when its row lies in that block. -/
theorem mem_blk (t : Fin cfg0.N) (i : S4096x1024.Idx) :
    i ∈ ((cfg0.win 10).blk t).view.set ↔ t.val * 128 ≤ (i 0).val ∧ (i 0).val < t.val * 128 + 128 := by
  show i ∈ ((View.whole main_v114).slice (win0_10.rect t)).set ↔ _
  rw [View.set_slice_whole, Rect.mem_set_unit]
  have h1 : (i 1 : Nat) < 1024 := (i 1).isLt
  have e : ∀ t : Fin grid0.N, win0_10.index t 0 * win0_10.size 0 = t.val * 128 ∧ win0_10.xsize (grid0.coords t) 0 = 128
      ∧ win0_10.index t 1 * win0_10.size 1 = 0 ∧ win0_10.xsize (grid0.coords t) 1 = 1024 := by decide +kernel
  replace e := e t
  refine ⟨fun h => ?_, fun h a => ?_⟩
  · have : win0_10.index t 0 * win0_10.size 0 ≤ (i 0 : Nat) ∧ (i 0 : Nat) < win0_10.index t 0 * win0_10.size 0 + win0_10.xsize (grid0.coords t) 0 := h 0
    rw [e.1, e.2.1] at this; exact this
  · match a with
    | ⟨0, _⟩ => show win0_10.index t 0 * win0_10.size 0 ≤ (i 0 : Nat) ∧ (i 0 : Nat) < win0_10.index t 0 * win0_10.size 0 + win0_10.xsize (grid0.coords t) 0
                rw [e.1, e.2.1]; exact h
    | ⟨1, _⟩ => show win0_10.index t 1 * win0_10.size 1 ≤ (i 1 : Nat) ∧ (i 1 : Nat) < win0_10.index t 1 * win0_10.size 1 + win0_10.xsize (grid0.coords t) 1
                rw [e.2.2.1, e.2.2.2]; omega

/-- Every index of the result lies in some point's block. -/
theorem cover (i : S4096x1024.Idx) : ∃ t : Fin cfg0.N, (cfg0.win 10).flush t = true ∧ i ∈ ((cfg0.win 10).blk t).view.set := by
  have h0 : (i 0).val < 4096 := (i 0).isLt
  have e : cfg0.N = 32 := N_0
  refine ⟨⟨(i 0).val / 128, by omega⟩, flush0_10 _, (mem_blk _ _).2 ?_⟩
  show (i 0).val / 128 * 128 ≤ (i 0).val ∧ (i 0).val < (i 0).val / 128 * 128 + 128
  omega

/-- The place in the result of an element of point `t`'s block. -/
theorem place10 (t : Fin cfg0.N) (r : Fin 128) (j : Fin 1024) :
    (win0_10.rect t).emb (ix2 r j) = ix2 ⟨128 * t.val + r.val, by have := lt32 t; omega⟩ ⟨j.val, by omega⟩ := by
  obtain ⟨h0, h1, h2, h3, h4, h5, h6, h7, h8, h9, h10, hc⟩ := places t
  refine funext fun a => Fin.ext ?_
  match a with
  | ⟨0, _⟩ =>
    refine (win0_10.rect_emb_val t _ _).trans ?_
    rw [h10]
    show t.val * 128 + r.val = 128 * t.val + r.val
    omega
  | ⟨1, _⟩ =>
    refine (win0_10.rect_emb_val t _ _).trans ?_
    rw [h10]
    show 0 * 1024 + j.val = j.val
    omega

include H in
/-- The array the call leaves. -/
theorem array_eq : (dats m 0 c).arrAt 10 cfg0.N = result q k v o2 o3 ct l2 l3 := by
  refine (dats m 0 c).arrAt_eq_of_cover 10 _ (fun t _ => ?_) cover
  rw [Value.flushed10]
  funext x
  have ht := lt32 t
  have hx : x = ix2 (⟨(x 0).val, (x 0).isLt⟩ : Fin 128) (⟨(x 1).val, (x 1).isLt⟩ : Fin 1024) := by
    funext a; match a with
    | ⟨0, _⟩ => rfl
    | ⟨1, _⟩ => rfl
  generalize (⟨(x 0).val, (x 0).isLt⟩ : Fin 128) = r at hx
  generalize (⟨(x 1).val, (x 1).isLt⟩ : Fin 1024) = j at hx
  subst hx
  refine (point_at H t r j).trans ?_
  exact (congrArg (result q k v o2 o3 ct l2 l3) (place10 t r j)).symm

end Cert.KernelValue

end
-- ==== Proof.Finite.lean ====
/- What the precondition says: every argument is an array of real numbers. -/
module

public import proofs.«01_k».proof.Pre_finite
public import proofs.«01_k».proof.Proof.Coe
public import Idealize.ShloMosaic.Lib.ReduceAll

@[expose] public section

noncomputable section

namespace Cert.Finite

open Idealize.ShloMosaic Cert.Pre_finite

/-- The side conditions the predicate states. -/
instance facts : Cert.Pre_finite.Facts where
  bcast_S_S1x4096x16x64 := by decide
  reducesTo_S1x4096x16x64_S_d0_1_2_3 := by decide
  h_S_ := by decide
  bcast_S_S1x4096x16 := by decide
  reducesTo_S1x4096x16_S_d0_1_2 := by decide

instance : Subsingleton S_.Idx := ⟨fun a b => funext fun i => i.elim0⟩

/-- The word of plus infinity. -/
theorem bits_inf : FloatOps.ofBits (F := Ideal) .f32 0x7F800000#32 = (⊤ : EReal) := by
  show Ideal.ofBits .f32 _ = _
  simp [Ideal.ofBits, Ideal.ieee]

/-- An ideal value whose absolute value is below infinity is a real number. -/
theorem real_of_abs_lt (x : EReal) (h : max x (-x) < ⊤) : ((x.toReal : ℝ) : EReal) = x := by
  refine EReal.coe_toReal (fun e => ?_) (fun e => ?_)
  · subst e; simp at h
  · subst e; simp at h

/-- An array whose elements all pass the comparison with infinity is an array of real numbers. -/
theorem real_of_all {s : Shape} (d : FVec Ideal S_ .f32) (hd : ∀ i, d i = (⊤ : EReal)) (hb : S_.BroadcastsInDim s (![] : Fin 0 → Fin s.rank))
    {axes : List (Fin s.rank)} (hr : s.ReducesTo axes S_) (hu : 0 < S_.numel) (x : FVec Ideal s .f32) (init : IVec S_ 1) (j : S_.Idx)
    (h : Host.reduce IntOp.andi (cmpf .olt (Host.absf x) (broadcastInDim s ![] hb d)) init hr hu j = 1#1) :
    x = fun i => ((x i).toReal : EReal) := by
  funext i
  have e := Host.reduce_andi_all _ init hr hu j h i
  have e' : FloatOps.cmpf .olt (F := Ideal) (φ := .f32) (max (x i) (-(x i))) (broadcastInDim s ![] hb d i) = 1#1 := e
  have e3 : broadcastInDim s ![] hb d i = (⊤ : EReal) := hd _
  rw [e3] at e'
  refine (real_of_abs_lt (x i) ?_).symm
  by_contra hn
  have : Ideal.cmp .olt (max (x i) (-(x i))) (⊤ : EReal) = 1#1 := e'
  simp [Ideal.cmp, hn] at this

theorem and_one {x y : IVec S_ 1} {j : S_.Idx} (h : andi x y j = 1#1) : x j = 1#1 ∧ y j = 1#1 := IntOp.andi_eq_one.1 h

/-- The predicate at the arguments: each is an array of real numbers. -/
theorem reals (x0 x1 x2 x3 x4 : FVec Ideal S1x4096x16x64 .f32) (x5 x6 : FVec Ideal S1x4096x16 .f32) (x7 : FVec Ideal S1x4096x16x64 .f32)
    (h : fn (F := Ideal) x0 x1 x2 x3 x4 x5 x6 x7 = fun _ => 1#1) :
    (x0 = fun i => ((x0 i).toReal : EReal)) ∧ (x1 = fun i => ((x1 i).toReal : EReal)) ∧ (x2 = fun i => ((x2 i).toReal : EReal))
    ∧ (x3 = fun i => ((x3 i).toReal : EReal)) ∧ (x4 = fun i => ((x4 i).toReal : EReal)) ∧ (x5 = fun i => ((x5 i).toReal : EReal))
    ∧ (x6 = fun i => ((x6 i).toReal : EReal)) ∧ (x7 = fun i => ((x7 i).toReal : EReal)) := by
  have hd : ∀ i, (constant S_ .f32 0x7F800000#32 : FVec Ideal S_ .f32) i = (⊤ : EReal) := fun i => bits_inf
  have e := congrFun h (fun i => i.elim0)
  unfold fn fn_part1 fn_part2 at e
  obtain ⟨e, r7⟩ := and_one e
  obtain ⟨e, r6⟩ := and_one e
  obtain ⟨e, r5⟩ := and_one e
  obtain ⟨e, r4⟩ := and_one e
  obtain ⟨e, r3⟩ := and_one e
  obtain ⟨e, r2⟩ := and_one e
  obtain ⟨r0, r1⟩ := and_one e
  exact ⟨real_of_all _ hd _ _ _ _ _ _ r0, real_of_all _ hd _ _ _ _ _ _ r1, real_of_all _ hd _ _ _ _ _ _ r2, real_of_all _ hd _ _ _ _ _ _ r3,
    real_of_all _ hd _ _ _ _ _ _ r4, real_of_all _ hd _ _ _ _ _ _ r5, real_of_all _ hd _ _ _ _ _ _ r6, real_of_all _ hd _ _ _ _ _ _ r7⟩

end Cert.Finite

end
-- ==== Proof.Claims.lean ====
/- The claims, put together from the two programs' results. -/
module

public import proofs.«01_k».proof.Defs
public import proofs.«01_k».proof.Proof.Gen.Kernel
public import proofs.«01_k».proof.Proof.Gen.Kernel.Frame
public import proofs.«01_k».proof.Proof.Gen.ReferenceIdeal.Run
public import proofs.«01_k».proof.Proof.RefBackward
public import proofs.«01_k».proof.Proof.KernelValue
public import proofs.«01_k».proof.Proof.Finite
public import Idealize.ShloMosaic.Lib.Quiescent

@[expose] public section

noncomputable section

namespace Cert.Claims

open Idealize.ShloMosaic Idealize.ShloMosaic.TcCoe Idealize.SL.Sem
open Cert.Band Cert.RefScores Cert.RefForward Cert.RefMix Cert.KernelStats Cert.KernelValue

/-- The reference's result, read as the plain statement, at every index. -/
theorem reference_eq (q k v o2 o3 ct : I4 → ℝ) (l2 l3 : I3 → ℝ) :
    Cert.ReferenceIdeal.Read.val_main_v200 (F := Ideal) (up q) (up k) (up v) (up o2) (up o3) (up3 l2) (up3 l3) (up ct) = result q k v o2 o3 ct l2 l3 := by
  funext x
  have hx : x = ValueIdx.ix2 (⟨(x 0).val, (x 0).isLt⟩ : Fin 4096) (⟨(x 1).val, (x 1).isLt⟩ : Fin 1024) := by
    funext a; match a with
    | ⟨0, _⟩ => rfl
    | ⟨1, _⟩ => rfl
  generalize (⟨(x 0).val, (x 0).isLt⟩ : Fin 4096) = n at hx
  generalize (⟨(x 1).val, (x 1).isLt⟩ : Fin 1024) = j at hx
  subst hx
  refine (Cert.RefBackward.result_at q k v o2 o3 ct l2 l3 n j).trans (congrArg Real.toEReal ?_)
  refine (band_congr _ _ (fun b => 1 / 8 * (ds q k v o2 o3 ct l2 l3 (mx q k) (Mk q k l2 l3) n.val b ⟨j.val / 64, by omega⟩ * Band.pad k b ⟨j.val / 64, by omega⟩ ⟨j.val % 64, by omega⟩)) (fun b _ => ?_)).trans ?_
  · rw [coef_ex q k v o2 o3 ct l2 l3 (mx q k) (Mx q k l2 l3) (Mk q k l2 l3) n.val n.isLt b]
    ring
  · rw [band_mul]
    show _ = dq q k v o2 o3 ct l2 l3 n.val ⟨j.val / 64, _⟩ ⟨j.val % 64, _⟩
    unfold dq
    ring

/-- The reference's run, its result named. -/
theorem reference_run (m : (ℓ : Loc Cert.ReferenceIdeal.nD Cert.ReferenceIdeal.τ Cert.ReferenceIdeal.sig) → Buf (Elt Ideal) ℓ) (ρ : Dev Cert.ReferenceIdeal.nD → PrngReg) :
    θ_run (Cert.ReferenceIdeal.defs (F := Ideal)) (onTc (τ := Cert.ReferenceIdeal.τ) (Cert.ReferenceIdeal.main (F := Ideal))) ⟨m, fun _ => 0, ρ⟩ (fun r => ∀ c : Dev Cert.ReferenceIdeal.nD,
      r.2.mem ((c.tc : Thread Cert.ReferenceIdeal.nD Cert.ReferenceIdeal.τ).loc Cert.ReferenceIdeal.main_v200)
        = Cert.ReferenceIdeal.Read.val_main_v200 (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))
          (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))
          (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))
          (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))
      ∧ r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)) :=
  (θ_run Cert.ReferenceIdeal.defs _ _).mono (fun _ h c => ⟨(h c).1.trans (Cert.ReferenceIdeal.Read.val_main_v200_eq (F := Ideal) (StableHlo.launchContents m c)), (h c).2⟩)
    (Cert.ReferenceIdeal.Value.run (F := Ideal) m ρ)

/-- The kernel terminates and leaves its arguments and semaphores as they were. -/
theorem frame_kernel : Cert.quiescent_Kernel := fun m ρ _ => Cert.Kernel.Gen.frame m ρ
/-- The same of its ideal form. -/
theorem frame_ideal : Cert.quiescent_KernelIdeal := fun m ρ _ => Cert.KernelIdeal.Gen.frame m ρ
/-- The same under the precondition. -/
theorem frame_ideal_finite : Cert.quiescent_KernelIdeal_pre_finite := fun m ρ _ => Cert.KernelIdeal.Gen.frame m ρ
/-- The reference terminates and leaves its arguments as they were. -/
theorem frame_reference : Cert.quiescent_ReferenceIdeal := fun m ρ _ =>
  (θ_run Cert.ReferenceIdeal.defs _ _).mono (fun r h => ⟨fun c => (h c).2, sem_eq_zero_of_no_sems (by decide) r.2⟩) (reference_run m ρ)
/-- The same under the precondition. -/
theorem frame_reference_finite : Cert.quiescent_ReferenceIdeal_pre_finite := fun m ρ _ => frame_reference m ρ trivial

/-- The only change the ideal form makes: the mask's large negative constant stands for minus infinity. -/
theorem preserves : Cert.preserves_Kernel_KernelIdeal := IdealRules.named_const.statement Cert.KernelIdeal.κ "mask" .f32 0xF149F2CA#32 ⊥ rfl

/-- The real arrays a memory's arguments hold. -/
abbrev real4 (x : FVec Ideal Cert.Pre_finite.S1x4096x16x64 .f32) : I4 → ℝ := fun i => (x i).toReal
abbrev real3 (x : FVec Ideal Cert.Pre_finite.S1x4096x16 .f32) : I3 → ℝ := fun i => (x i).toReal

/-- The reference's result on arrays equal to arrays of real numbers. -/
theorem reference_of (x0 x1 x2 x3 x4 y0 y1 y2 y3 y4 x7 y7 : FVec Ideal Cert.Pre_finite.S1x4096x16x64 .f32) (x5 x6 y5 y6 : FVec Ideal Cert.Pre_finite.S1x4096x16 .f32)
    {q k v o2 o3 ct : I4 → ℝ} {l2 l3 : I3 → ℝ}
    (a0 : x0 = y0) (a1 : x1 = y1) (a2 : x2 = y2) (a3 : x3 = y3) (a4 : x4 = y4) (a5 : x5 = y5) (a6 : x6 = y6) (a7 : x7 = y7)
    (h0 : y0 = up q) (h1 : y1 = up k) (h2 : y2 = up v) (h3 : y3 = up o2) (h4 : y4 = up o3) (h5 : y5 = up3 l2) (h6 : y6 = up3 l3) (h7 : y7 = up ct) :
    Cert.ReferenceIdeal.Read.val_main_v200 (F := Ideal) x0 x1 x2 x3 x4 x5 x6 x7 = result q k v o2 o3 ct l2 l3 := by
  rw [a0, a1, a2, a3, a4, a5, a6, a7, h0, h1, h2, h3, h4, h5, h6, h7]
  exact reference_eq q k v o2 o3 ct l2 l3

/-- The arguments of a memory that meets the precondition are arrays of real numbers. -/
theorem args_of (m : (ℓ : Loc Cert.KernelIdeal.nD Cert.KernelIdeal.τ Cert.KernelIdeal.sig) → Buf (Elt Ideal) ℓ) (hpre : Cert.Pre_KernelIdeal_finite m) (c : Dev Cert.KernelIdeal.nD) :
    ∃ (q k v o2 o3 ct : I4 → ℝ) (l2 l3 : I3 → ℝ), Args m c q k v o2 o3 ct l2 l3 := by
  obtain ⟨r0, r1, r2, r3, r4, r5, r6, r7⟩ := Cert.Finite.reals _ _ _ _ _ _ _ _ (hpre c)
  exact ⟨_, _, _, _, _, _, _, _, r0, r1, r2, r3, r4, r5, r6, r7⟩

set_option maxHeartbeats 0 in
/-- Kernel and reference end with equal results, on arguments of real numbers. -/
theorem algebraic : Cert.algebraic_KernelIdeal_ReferenceIdeal_pre_finite := fun m ρ m' ρ' hpre hagree =>
  ⟨fun c => (Cert.KernelIdeal.Gen.dats m 0 c).arrAt 10 Cert.KernelIdeal.cfg0.N, Cert.KernelIdeal.Value.run_blocks (F := Ideal) m ρ,
    (θ_run Cert.ReferenceIdeal.defs _ _).mono (fun _ h c => ⟨(h c).1.trans (by
      obtain ⟨q, k, v, o2, o3, ct, l2, l3, H⟩ := args_of m hpre c
      exact (reference_of _ _ _ _ _ _ _ _ _ _ _ _ _ _ _ _ (hagree c).1 (hagree c).2.1 (hagree c).2.2.1 (hagree c).2.2.2.1 (hagree c).2.2.2.2.1 (hagree c).2.2.2.2.2.1 (hagree c).2.2.2.2.2.2.1 (hagree c).2.2.2.2.2.2.2
        H.h0 H.h1 H.h2 H.h3 H.h4 H.h5 H.h6 H.h7).trans (array_eq H).symm), (h c).2⟩) (reference_run m' ρ')⟩

end Cert.Claims

end
-- ==== Proof.Product.lean ====
/- Facts about blocked products that every product call uses. -/
module

public import Idealize.ShloMosaic.Lib.MatmulPlain
public import Idealize.ShloMosaic.Lib.ValueIdx
public import Idealize.ShloMosaic.Lib.Pipeline.Value
public import Idealize.ShloMosaic.Lib.Tactic
public import Idealize.ShloMosaic.Lib.StableHlo.RunRead

@[expose] public section

noncomputable section

namespace Cert.Product

open Idealize.ShloMosaic
open Idealize.ShloMosaic.ValueIdx
open scoped BigOperators

/-- No offset, of two axes. -/
theorem zero2 : (![0, 0] : Fin 2 → Nat) = fun _ => 0 := funext fun a => by fin_cases a <;> rfl

/-- A sum over twice as many terms, taken in two halves onto zero. -/
theorem halves (K : ℕ) (f : Fin (K + K) → EReal) :
    (0 + ∑ k : Fin K, f ⟨k.val, by omega⟩) + ∑ k : Fin K, f ⟨K + k.val, by omega⟩ = ∑ k : Fin (K + K), f k := by
  rw [Fin.sum_univ_add, zero_add]
  rfl

/-- The product of two arrays, summed over their rows. -/
def rowsProduct {S K N : ℕ} (A : (⟨3, ![1, S, K]⟩ : Shape).Idx → EReal) (B : (⟨3, ![1, S, N]⟩ : Shape).Idx → EReal) : (⟨2, ![K, N]⟩ : Shape).Idx → EReal := fun x =>
  ∑ s : Fin S, A (ix3 0 s ⟨(x 0).val, (x 0).isLt⟩) * B (ix3 0 s ⟨(x 1).val, (x 1).isLt⟩)

/-- A product added to an accumulator, at an index. -/
theorem step_at {M K N : ℕ} (acc : FVec Ideal ⟨2, ![M, N]⟩ .f32) (a : FVec Ideal ⟨2, ![M, K]⟩ .bf16) (b : FVec Ideal ⟨2, ![K, N]⟩ .bf16) (r : Fin M) (j : Fin N) :
    addf acc (matmul (F := Ideal) (DotDims.plain M K N) none a b (constant ⟨2, ![M, N]⟩ .f32 0x00000000#32)) (ix2 r j)
      = acc (ix2 r j) + ∑ k : Fin K, a (ix2 r k) * b (ix2 k j) := by
  show acc (ix2 r j) + _ = _
  refine congrArg (acc (ix2 r j) + ·) ?_
  refine (Ideal.matmul_plain_apply none a b (constant ⟨2, ![M, N]⟩ .f32 0x00000000#32) r j).trans ?_
  rw [constant_apply, Ideal.ofBits_zero_f32, zero_add]

/-- The same of a right operand whose axes are exchanged. -/
theorem step_turned_at {M K N : ℕ} (acc : FVec Ideal ⟨2, ![M, N]⟩ .f32) (a : FVec Ideal ⟨2, ![M, K]⟩ .bf16) (b : FVec Ideal ⟨2, ![N, K]⟩ .bf16) (r : Fin M) (j : Fin N) :
    addf acc (matmul (F := Ideal) (DotDims.transposedRhs M K N) none a b (constant ⟨2, ![M, N]⟩ .f32 0x00000000#32)) (ix2 r j)
      = acc (ix2 r j) + ∑ k : Fin K, a (ix2 r k) * b (ix2 j k) := by
  show acc (ix2 r j) + _ = _
  refine congrArg (acc (ix2 r j) + ·) ?_
  refine (Ideal.matmul_transposedRhs_apply none a b (constant ⟨2, ![M, N]⟩ .f32 0x00000000#32) r j).trans ?_
  rw [constant_apply, Ideal.ofBits_zero_f32, zero_add]

/-- Two steps onto zero make the whole sum. -/
theorem two_steps (K : ℕ) (z : EReal) (a b : Fin K → EReal) (f : Fin (K + K) → EReal) (hz : z = 0) (ha : ∀ k : Fin K, a k = f ⟨k.val, by omega⟩) (hb : ∀ k : Fin K, b k = f ⟨K + k.val, by omega⟩) :
    (z + ∑ k : Fin K, a k) + ∑ k : Fin K, b k = ∑ k : Fin (K + K), f k := by
  rw [hz, ← halves K f, Finset.sum_congr rfl fun k _ => ha k, Finset.sum_congr rfl fun k _ => hb k]

/-- An index of two axes, from its coordinates. -/
theorem ix2_of {M N : ℕ} (x : (⟨2, ![M, N]⟩ : Shape).Idx) (r : Fin M) (j : Fin N) (h0 : (x 0).val = r.val) (h1 : (x 1).val = j.val) : x = ix2 r j :=
  funext fun a => Fin.ext (match a with
    | ⟨0, _⟩ => h0
    | ⟨1, _⟩ => h1)
/-- Every index of two axes is a pair. -/
theorem ix2_ex {M N : ℕ} (x : (⟨2, ![M, N]⟩ : Shape).Idx) : ∃ (r : Fin M) (j : Fin N), x = ix2 r j :=
  ⟨⟨(x 0).val, (x 0).isLt⟩, ⟨(x 1).val, (x 1).isLt⟩, ix2_of x _ _ rfl rfl⟩

/-- The product of an array with weights. -/
def plainProduct {S K N : ℕ} (A : (⟨3, ![1, S, K]⟩ : Shape).Idx → EReal) (W : (⟨2, ![K, N]⟩ : Shape).Idx → EReal) : (⟨2, ![S, N]⟩ : Shape).Idx → EReal := fun x =>
  ∑ k : Fin K, A (ix3 0 ⟨(x 0).val, (x 0).isLt⟩ k) * W (ix2 k ⟨(x 1).val, (x 1).isLt⟩)
/-- The product of an array with weights whose axes are exchanged. -/
def turnedProduct {S K N : ℕ} (A : (⟨3, ![1, S, K]⟩ : Shape).Idx → EReal) (W : (⟨2, ![N, K]⟩ : Shape).Idx → EReal) : (⟨2, ![S, N]⟩ : Shape).Idx → EReal := fun x =>
  ∑ k : Fin K, A (ix3 0 ⟨(x 0).val, (x 0).isLt⟩ k) * W (ix2 ⟨(x 1).val, (x 1).isLt⟩ k)
/-- The product of an array with weights, added to a third array. -/
def residualProduct {S K N : ℕ} (A : (⟨3, ![1, S, K]⟩ : Shape).Idx → EReal) (W : (⟨2, ![K, N]⟩ : Shape).Idx → EReal) (X : (⟨3, ![1, S, N]⟩ : Shape).Idx → EReal) : (⟨2, ![S, N]⟩ : Shape).Idx → EReal := fun x =>
  X (ix3 0 ⟨(x 0).val, (x 0).isLt⟩ ⟨(x 1).val, (x 1).isLt⟩) + plainProduct A W x

/-- The first axis of one dropped, at an index. -/
theorem drop_at {n k : ℕ} {α : Type} (x : (⟨3, ![1, n, k]⟩ : Shape).Idx → α) (h : (⟨3, ![1, n, k]⟩ : Shape).ShapeCasts ⟨2, ![n, k]⟩) (s : Fin n) (j : Fin k) :
    shapeCast ⟨2, ![n, k]⟩ x h (ix2 s j) = x (ix3 0 s j) :=
  shapeCast_apply _ _ _ _ (by
    rw [Shape.rowMajor_val_three, Shape.rowMajor_val_two]
    show (0 * n + s.val) * k + j.val = s.val * k + j.val
    rw [Nat.zero_mul, Nat.zero_add])

/-- Two axes exchanged, at an index. -/
theorem turn_at {n k : ℕ} {α : Type} (x : (⟨2, ![n, k]⟩ : Shape).Idx → α) (h : (⟨2, ![n, k]⟩ : Shape).Transposes [1, 0] ⟨2, ![k, n]⟩) (s : Fin n) (j : Fin k) :
    transpose ⟨2, ![k, n]⟩ [1, 0] x h (ix2 j s) = x (ix2 s j) :=
  transpose_apply [1, 0] x h (ix2 j s) (ix2 s j) (fun b => match b with
    | ⟨0, _⟩ => rfl
    | ⟨1, _⟩ => rfl)

end Cert.Product

end
-- ==== Proof.Grad.lean ====
/- The reference's gradient of a product's weights, at an index. -/
module

public import proofs.«01_k».proof.Proof.Product
public import Idealize.ShloMosaic.Lib.TwoAxisContraction
public import Idealize.ShloMosaic.PureOps.Ideal.Laws

@[expose] public section

noncomputable section

namespace Cert.Product

open Idealize.ShloMosaic
open Idealize.ShloMosaic.ValueIdx
open scoped BigOperators

/-- A product summed over its two leading axes, the first of length one. -/
theorem rows_at {S K N : ℕ} (d : DotDims ⟨3, ![1, S, N]⟩ ⟨3, ![1, S, K]⟩ ⟨2, ![N, K]⟩)
    (a1 : d.lhsContracting = [0, 1]) (a2 : d.rhsContracting = [0, 1]) (a3 : d.lhsNonContracting = [2]) (a4 : d.rhsNonContracting = [2]) (a5 : d.lhsBatch = []) (a6 : d.rhsBatch = [])
    (x : FVec Ideal ⟨3, ![1, S, N]⟩ .f32) (y : FVec Ideal ⟨3, ![1, S, K]⟩ .f32) (n : Fin N) (k : Fin K) :
    Host.dotGeneral (F := Ideal) d none x y (ix2 n k) = ∑ s : Fin S, x (ix3 0 s n) * y (ix3 0 s k) := by
  obtain ⟨l1, l2, l3, l4, l5, l6, wf⟩ := d
  dsimp only at a1 a2 a3 a4 a5 a6
  subst a1 a2 a3 a4 a5 a6
  simp only [Host.dotGeneral]
  let D : DotDims ⟨3, ![1, S, N]⟩ ⟨3, ![1, S, K]⟩ ⟨2, ![N, K]⟩ := ⟨[0, 1], [0, 1], [2], [2], [], [], wf⟩
  rw [Ideal.dotGeneral_apply, sum_contr2 _ 1 S rfl rfl rfl, Fin.sum_univ_one]
  refine Finset.sum_congr rfl fun s _ => congrArg₂ (· * ·) (congrArg x (funext fun a => Fin.ext ?_)) (congrArg y (funext fun a => Fin.ext ?_))
  · match a with
    | ⟨0, _⟩ => exact Nat.lt_one_iff.mp (Fin.isLt _)
    | ⟨1, _⟩ =>
      unfold DotDims.lhsIdx
      rw [dif_neg (by simp), dif_neg (by simp)]
      exact contrEquiv2_symm_val1 D 1 S rfl rfl rfl (0, s)
    | ⟨2, _⟩ =>
      unfold DotDims.lhsIdx
      rw [dif_neg (by simp), dif_pos (by simp)]
      rfl
  · match a with
    | ⟨0, _⟩ => exact Nat.lt_one_iff.mp (Fin.isLt _)
    | ⟨1, _⟩ =>
      unfold DotDims.rhsIdx
      rw [dif_neg (by simp), dif_neg (by simp)]
      exact contrEquiv2_symm_val1 D 1 S rfl rfl rfl (0, s)
    | ⟨2, _⟩ =>
      unfold DotDims.rhsIdx
      rw [dif_neg (by simp), dif_pos (by simp)]
      rfl

/-- The gradient of a product's weights: the rows' product, its axes exchanged, rounded. -/
theorem grad_at {S K N : ℕ} (d : DotDims ⟨3, ![1, S, N]⟩ ⟨3, ![1, S, K]⟩ ⟨2, ![N, K]⟩)
    (a1 : d.lhsContracting = [0, 1]) (a2 : d.rhsContracting = [0, 1]) (a3 : d.lhsNonContracting = [2]) (a4 : d.rhsNonContracting = [2]) (a5 : d.lhsBatch = []) (a6 : d.rhsBatch = [])
    (x : FVec Ideal ⟨3, ![1, S, N]⟩ .f32) (y : FVec Ideal ⟨3, ![1, S, K]⟩ .f32) (h : (⟨2, ![N, K]⟩ : Shape).Transposes [1, 0] ⟨2, ![K, N]⟩) (hb : FTy.bits .bf16 < FTy.bits .f32) :
    truncf (F := Ideal) .bf16 (transpose ⟨2, ![K, N]⟩ [1, 0] (Host.dotGeneral (F := Ideal) d none x y) h) hb = rowsProduct y x := by
  funext i
  have hx : i = ix2 (⟨(i 0).val, (i 0).isLt⟩ : Fin K) (⟨(i 1).val, (i 1).isLt⟩ : Fin N) := by
    funext a; match a with
    | ⟨0, _⟩ => rfl
    | ⟨1, _⟩ => rfl
  generalize (⟨(i 0).val, (i 0).isLt⟩ : Fin K) = k at hx
  generalize (⟨(i 1).val, (i 1).isLt⟩ : Fin N) = n at hx
  subst hx
  refine (show _ = transpose ⟨2, ![K, N]⟩ [1, 0] (Host.dotGeneral (F := Ideal) d none x y) h (ix2 k n) from rfl).trans ((turn_at _ h n k).trans ?_)
  rw [rows_at d a1 a2 a3 a4 a5 a6]
  exact Finset.sum_congr rfl fun s _ => mul_comm _ _

/-- The same of arrays known under other names. -/
theorem grad_of {S K N : ℕ} (d : DotDims ⟨3, ![1, S, N]⟩ ⟨3, ![1, S, K]⟩ ⟨2, ![N, K]⟩)
    (a1 : d.lhsContracting = [0, 1]) (a2 : d.rhsContracting = [0, 1]) (a3 : d.lhsNonContracting = [2]) (a4 : d.rhsNonContracting = [2]) (a5 : d.lhsBatch = []) (a6 : d.rhsBatch = [])
    {x x' : FVec Ideal ⟨3, ![1, S, N]⟩ .f32} {y y' : FVec Ideal ⟨3, ![1, S, K]⟩ .f32} (h : (⟨2, ![N, K]⟩ : Shape).Transposes [1, 0] ⟨2, ![K, N]⟩) (hb : FTy.bits .bf16 < FTy.bits .f32)
    (ey : y = y') (ex : x = x') :
    truncf (F := Ideal) .bf16 (transpose ⟨2, ![K, N]⟩ [1, 0] (Host.dotGeneral (F := Ideal) d none x y) h) hb = rowsProduct y' x' := by
  subst ex ey
  exact grad_at d a1 a2 a3 a4 a5 a6 x y h hb

/-- A product over the last axis with weights, at an index. -/
theorem plain_at {S K N : ℕ} (d : DotDims ⟨3, ![1, S, K]⟩ ⟨2, ![K, N]⟩ ⟨3, ![1, S, N]⟩)
    (a1 : d.lhsContracting = [2]) (a2 : d.rhsContracting = [0]) (a3 : d.lhsNonContracting = [0, 1]) (a4 : d.rhsNonContracting = [1]) (a5 : d.lhsBatch = []) (a6 : d.rhsBatch = [])
    (x : FVec Ideal ⟨3, ![1, S, K]⟩ .f32) (w : FVec Ideal ⟨2, ![K, N]⟩ .f32) (s : Fin S) (n : Fin N) :
    Host.dotGeneral (F := Ideal) d none x w (ix3 0 s n) = ∑ k : Fin K, x (ix3 0 s k) * w (ix2 k n) := by
  obtain ⟨l1, l2, l3, l4, l5, l6, wf⟩ := d
  dsimp only at a1 a2 a3 a4 a5 a6
  subst a1 a2 a3 a4 a5 a6
  simp only [Host.dotGeneral]
  let D : DotDims ⟨3, ![1, S, K]⟩ ⟨2, ![K, N]⟩ ⟨3, ![1, S, N]⟩ := ⟨[2], [0], [0, 1], [1], [], [], wf⟩
  rw [Ideal.dotGeneral_apply, ← Equiv.sum_comp (contrEquiv1 D K rfl rfl).symm]
  refine Finset.sum_congr rfl fun k _ => ?_
  have hk := contrEquiv1_symm_val D K rfl rfl k
  refine congrArg₂ (· * ·) (congrArg x (funext fun a => Fin.ext ?_)) (congrArg w (funext fun a => Fin.ext ?_))
  · match a with
    | ⟨0, _⟩ => exact Nat.lt_one_iff.mp (Fin.isLt _)
    | ⟨1, _⟩ =>
      unfold DotDims.lhsIdx
      rw [dif_neg (by simp), dif_pos (by simp)]
      rfl
    | ⟨2, _⟩ => exact (D.lhsIdx_val_of_single rfl _ _).trans hk
  · match a with
    | ⟨0, _⟩ => exact (D.rhsIdx_val_of_single rfl _ _).trans hk
    | ⟨1, _⟩ =>
      unfold DotDims.rhsIdx
      rw [dif_neg (by simp), dif_pos (by simp)]
      rfl

/-- A product over the last axis with weights whose axes are exchanged, at an index. -/
theorem turned_at {S K N : ℕ} (d : DotDims ⟨3, ![1, S, K]⟩ ⟨2, ![N, K]⟩ ⟨3, ![1, S, N]⟩)
    (a1 : d.lhsContracting = [2]) (a2 : d.rhsContracting = [1]) (a3 : d.lhsNonContracting = [0, 1]) (a4 : d.rhsNonContracting = [0]) (a5 : d.lhsBatch = []) (a6 : d.rhsBatch = [])
    (x : FVec Ideal ⟨3, ![1, S, K]⟩ .f32) (w : FVec Ideal ⟨2, ![N, K]⟩ .f32) (s : Fin S) (n : Fin N) :
    Host.dotGeneral (F := Ideal) d none x w (ix3 0 s n) = ∑ k : Fin K, x (ix3 0 s k) * w (ix2 n k) := by
  obtain ⟨l1, l2, l3, l4, l5, l6, wf⟩ := d
  dsimp only at a1 a2 a3 a4 a5 a6
  subst a1 a2 a3 a4 a5 a6
  simp only [Host.dotGeneral]
  let D : DotDims ⟨3, ![1, S, K]⟩ ⟨2, ![N, K]⟩ ⟨3, ![1, S, N]⟩ := ⟨[2], [1], [0, 1], [0], [], [], wf⟩
  rw [Ideal.dotGeneral_apply, ← Equiv.sum_comp (contrEquiv1 D K rfl rfl).symm]
  refine Finset.sum_congr rfl fun k _ => ?_
  have hk := contrEquiv1_symm_val D K rfl rfl k
  refine congrArg₂ (· * ·) (congrArg x (funext fun a => Fin.ext ?_)) (congrArg w (funext fun a => Fin.ext ?_))
  · match a with
    | ⟨0, _⟩ => exact Nat.lt_one_iff.mp (Fin.isLt _)
    | ⟨1, _⟩ =>
      unfold DotDims.lhsIdx
      rw [dif_neg (by simp), dif_pos (by simp)]
      rfl
    | ⟨2, _⟩ => exact (D.lhsIdx_val_of_single rfl _ _).trans hk
  · match a with
    | ⟨1, _⟩ => exact (D.rhsIdx_val_of_single rfl _ _).trans hk
    | ⟨0, _⟩ =>
      unfold DotDims.rhsIdx
      rw [dif_neg (by simp), dif_pos (by simp)]
      rfl

/-- A projection, rounded, as a sum. -/
theorem projection_of {S K N : ℕ} (d : DotDims ⟨3, ![1, S, K]⟩ ⟨2, ![K, N]⟩ ⟨3, ![1, S, N]⟩)
    (a1 : d.lhsContracting = [2]) (a2 : d.rhsContracting = [0]) (a3 : d.lhsNonContracting = [0, 1]) (a4 : d.rhsNonContracting = [1]) (a5 : d.lhsBatch = []) (a6 : d.rhsBatch = [])
    {x x' : FVec Ideal ⟨3, ![1, S, K]⟩ .f32} {w w' : FVec Ideal ⟨2, ![K, N]⟩ .f32} (h : (⟨3, ![1, S, N]⟩ : Shape).ShapeCasts ⟨2, ![S, N]⟩) (hb : FTy.bits .bf16 < FTy.bits .f32)
    (ex : x = x') (ew : w = w') :
    truncf (F := Ideal) .bf16 (shapeCast ⟨2, ![S, N]⟩ (Host.dotGeneral (F := Ideal) d none x w) h) hb = plainProduct x' w' := by
  subst ex ew
  funext i
  obtain ⟨s, n, rfl⟩ := ix2_ex i
  refine (show _ = shapeCast ⟨2, ![S, N]⟩ (Host.dotGeneral (F := Ideal) d none x w) h (ix2 s n) from rfl).trans ((drop_at _ h s n).trans ?_)
  exact plain_at d a1 a2 a3 a4 a5 a6 x w s n

/-- The gradient of a projection's input, rounded, as a sum. -/
theorem input_of {S K N : ℕ} (d : DotDims ⟨3, ![1, S, K]⟩ ⟨2, ![N, K]⟩ ⟨3, ![1, S, N]⟩)
    (a1 : d.lhsContracting = [2]) (a2 : d.rhsContracting = [1]) (a3 : d.lhsNonContracting = [0, 1]) (a4 : d.rhsNonContracting = [0]) (a5 : d.lhsBatch = []) (a6 : d.rhsBatch = [])
    {x x' : FVec Ideal ⟨3, ![1, S, K]⟩ .f32} {w w' : FVec Ideal ⟨2, ![N, K]⟩ .f32} (h : (⟨3, ![1, S, N]⟩ : Shape).ShapeCasts ⟨2, ![S, N]⟩) (hb : FTy.bits .bf16 < FTy.bits .f32)
    (ex : x = x') (ew : w = w') :
    truncf (F := Ideal) .bf16 (shapeCast ⟨2, ![S, N]⟩ (Host.dotGeneral (F := Ideal) d none x w) h) hb = turnedProduct x' w' := by
  subst ex ew
  funext i
  obtain ⟨s, n, rfl⟩ := ix2_ex i
  refine (show _ = shapeCast ⟨2, ![S, N]⟩ (Host.dotGeneral (F := Ideal) d none x w) h (ix2 s n) from rfl).trans ((drop_at _ h s n).trans ?_)
  exact turned_at d a1 a2 a3 a4 a5 a6 x w s n

/-- A projection added to a third array, as a sum. -/
theorem residual_of {S K N : ℕ} (d : DotDims ⟨3, ![1, S, K]⟩ ⟨2, ![K, N]⟩ ⟨3, ![1, S, N]⟩)
    (a1 : d.lhsContracting = [2]) (a2 : d.rhsContracting = [0]) (a3 : d.lhsNonContracting = [0, 1]) (a4 : d.rhsNonContracting = [1]) (a5 : d.lhsBatch = []) (a6 : d.rhsBatch = [])
    {x x' : FVec Ideal ⟨3, ![1, S, K]⟩ .f32} {w w' : FVec Ideal ⟨2, ![K, N]⟩ .f32} {y y' : FVec Ideal ⟨3, ![1, S, N]⟩ .f32} (h : (⟨3, ![1, S, N]⟩ : Shape).ShapeCasts ⟨2, ![S, N]⟩)
    (ex : x = x') (ew : w = w') (ey : y = y') :
    shapeCast ⟨2, ![S, N]⟩ (addf y (Host.dotGeneral (F := Ideal) d none x w)) h = residualProduct x' w' y' := by
  subst ex ew ey
  funext i
  obtain ⟨s, n, rfl⟩ := ix2_ex i
  refine (drop_at _ h s n).trans ?_
  exact congrArg (y (ix3 0 s n) + ·) (plain_at d a1 a2 a3 a4 a5 a6 x w s n)

end Cert.Product

end
-- ==== Proof.DwInValue.lean ====
/- The gradient of the input projection's weights: what the call leaves. -/
module

public import proofs.«01_k».proof.Proof.Product
public import proofs.«01_k».proof.Proof.Gen.DwInIdeal.Value

@[expose] public section

noncomputable section

namespace Cert.DwInValue

open Idealize.ShloMosaic
open Idealize.ShloMosaic.ValueIdx Idealize.ShloMosaic.TcCoe Idealize.SL.Sem
open Cert.DwInIdeal Cert.DwInIdeal.Gen Cert.Product

section
variable {F : FTy → Type} [FloatOps F]

/-- After the first half the scratch holds the first product, added to zero. -/
theorem first (c : Dev nD) (i : grid0.Coords) (a0 : Memref sig .tc .vmem S1024x2048 .bf16) (h0 : a0.IsWhole) (a1 : Memref sig .tc .vmem S2048x1024 .bf16) (h1 : a1.IsWhole) (a2 : Memref sig .tc .vmem S1024x1024 .bf16) (h2 : a2.IsWhole)
    (b : Memref sig .tc .vmem S1024x1024 .f32) (hb : b.IsWhole) (hc0 : cond0_0 i) (hc1 : ¬cond0_1 i) (x : Vec F S1024x2048 .bf16) (y : Vec F S2048x1024 .bf16) :
    sout0_A_0 c i a0 h0 a1 h1 a2 h2 b hb hc0 hc1 x y = k0_pay2 k0_pay1 x y := by
  unfold sout0_A_0
  rw [View.read_writes_eq_canon _ _ _ (scover0_A_0 c i a0 h0 a1 h1 a2 h2 b hb hc0 hc1 x y)]
  unfold kernelRun0_A
  dsimp only
  sl_unfold_words
  rw [View.canon_cons_unit_zero (S := S1024x1024) zero2, View.readCov_unit_zero (S := S1024x1024) _ zero2]
  simp only [View.readAt_eq_ld, h0.read_unread, h1.read_unread, View.ld_unit_zero (S := S1024x2048) zero2, View.ld_unit_zero (S := S2048x1024) zero2]

/-- After the second half the block is the scratch plus the second product, rounded. -/
theorem second (c : Dev nD) (i : grid0.Coords) (a0 : Memref sig .tc .vmem S1024x2048 .bf16) (h0 : a0.IsWhole) (a1 : Memref sig .tc .vmem S2048x1024 .bf16) (h1 : a1.IsWhole) (a2 : Memref sig .tc .vmem S1024x1024 .bf16) (h2 : a2.IsWhole)
    (b : Memref sig .tc .vmem S1024x1024 .f32) (hb : b.IsWhole) (hc0 : ¬cond0_0 i) (hc1 : cond0_1 i) (x : Vec F S1024x2048 .bf16) (y : Vec F S2048x1024 .bf16) (s : Vec F S1024x1024 .f32) :
    out0_B_2 c i a0 h0 a1 h1 a2 h2 b hb hc0 hc1 x y s = k0_pay3 (k0_pay2 s x y) := by
  unfold out0_B_2
  rw [View.read_writes_eq_canon _ _ _ (cover0_B_2 c i a0 h0 a1 h1 a2 h2 b hb hc0 hc1 x y s)]
  unfold kernelRun0_B
  dsimp only
  sl_unfold_words
  rw [View.canon_unit_zero (S := S1024x1024) zero2, View.readCov_unit_zero (S := S1024x1024) _ zero2]
  simp only [View.readAt_eq_ld, h0.read_unread, h1.read_unread, hb.read_unread, View.ld_unit_zero (S := S1024x2048) zero2, View.ld_unit_zero (S := S2048x1024) zero2, View.ld_unit_zero (S := S1024x1024) zero2]
end

/-- One step, at an index. -/
theorem pay_at (s : FVec Ideal S1024x1024 .f32) (x : FVec Ideal S1024x2048 .bf16) (y : FVec Ideal S2048x1024 .bf16) (r : Fin 1024) (j : Fin 1024) :
    k0_pay2 (F := Ideal) s x y (ix2 r j) = s (ix2 r j) + ∑ k : Fin 2048, x (ix2 r k) * y (ix2 k j) := by
  unfold k0_pay2
  simp only [shapeCast_self]
  exact step_at s x y r j
/-- The scratch begins at zero. -/
theorem zero_at (i : S1024x1024.Idx) : k0_pay1 (F := Ideal) i = (0 : EReal) := by
  unfold k0_pay1
  simp only [shapeCast_self]
  exact Ideal.ofBits_zero_f32

theorem lt_points (t : Fin cfg0.N) : t.val < 12 := lt_of_lt_of_eq t.isLt N_0
/-- Where each window stands at point `t`. -/
theorem places : ∀ t : Fin grid0.N, win0_0.index t = ![0, t.val % 2] ∧ win0_1.index t = ![t.val % 2, t.val / 2] ∧ win0_2.index t = ![0, t.val / 2] := by decide +kernel
theorem place0 (t : Fin cfg0.N) (r : Fin 1024) (k : Fin 2048) : (win0_0.rect t).emb (ix2 r k) = ix2 r ⟨2048 * (t.val % 2) + k.val, by have := lt_points t; omega⟩ :=
  ix2_of _ _ _ ((win0_0.rect_emb_val t _ _).trans (by rw [(places t).1]; show 0 * 1024 + r.val = r.val; omega))
    ((win0_0.rect_emb_val t _ _).trans (by rw [(places t).1]; show (t.val % 2) * 2048 + k.val = 2048 * (t.val % 2) + k.val; omega))
theorem place1 (t : Fin cfg0.N) (k : Fin 2048) (j : Fin 1024) : (win0_1.rect t).emb (ix2 k j) = ix2 ⟨2048 * (t.val % 2) + k.val, by have := lt_points t; omega⟩ ⟨1024 * (t.val / 2) + j.val, by have := lt_points t; omega⟩ :=
  ix2_of _ _ _ ((win0_1.rect_emb_val t _ _).trans (by rw [(places t).2.1]; show (t.val % 2) * 2048 + k.val = 2048 * (t.val % 2) + k.val; omega))
    ((win0_1.rect_emb_val t _ _).trans (by rw [(places t).2.1]; show (t.val / 2) * 1024 + j.val = 1024 * (t.val / 2) + j.val; omega))
theorem place2 (t : Fin cfg0.N) (r : Fin 1024) (j : Fin 1024) : (win0_2.rect t).emb (ix2 r j) = ix2 r ⟨1024 * (t.val / 2) + j.val, by have := lt_points t; omega⟩ :=
  ix2_of _ _ _ ((win0_2.rect_emb_val t _ _).trans (by rw [(places t).2.2]; show 0 * 1024 + r.val = r.val; omega))
    ((win0_2.rect_emb_val t _ _).trans (by rw [(places t).2.2]; show (t.val / 2) * 1024 + j.val = 1024 * (t.val / 2) + j.val; omega))

variable (m : (ℓ : Loc nD τ sig) → Buf (Elt Ideal) ℓ) (c : Dev nD)

theorem left_at (p : Fin 1024) (q : Fin 4096) : V m c main_v2 (ix2 p q) = m ((c : Thread nD τ).loc main_arg0) (ix3 0 q p) := by
  have e : V m c main_v2 = truncf (F := Ideal) .bf16 (transpose S1024x4096 [1, 0] (shapeCast S4096x1024 (m ((c : Thread nD τ).loc main_arg0)) shapeCasts_S1x4096x1024_S4096x1024) transposes_S4096x1024_S1024x4096_1_0) bitsLt_bf16_f32 := by
    after_reads_simp
    rfl
  rw [e]
  exact (turn_at _ transposes_S4096x1024_S1024x4096_1_0 q p).trans (drop_at _ _ q p)
/-- The left block of point `t`, at an index. -/
theorem left_block (t : Fin cfg0.N) (r : Fin 1024) (k : Fin 2048) :
    iblk m c 0 t (ix2 r k) = m ((c : Thread nD τ).loc main_arg0) (ix3 0 ⟨2048 * (t.val % 2) + k.val, by have := lt_points t; omega⟩ r) :=
  have h : ∀ W : (b : Ref sig .tc) → Buf (Elt Ideal) ((c : Thread nD τ).loc b), ((cfg0.win 0).blk t).view.read (Elt Ideal) (W (Pipeline.arrRef spec0 0)) (ix2 r k) = W main_v2 (ix2 r ⟨2048 * (t.val % 2) + k.val, by have := lt_points t; omega⟩) := fun W => congrArg (W main_v2) (place0 t r k)
  (h (V m c)).trans (left_at m c _ _)
theorem right_at (p : Fin 4096) (q : Fin 6144) : V m c main_v4 (ix2 p q) = m ((c : Thread nD τ).loc main_arg1) (ix3 0 p q) := by
  have e : V m c main_v4 = truncf (F := Ideal) .bf16 (shapeCast S4096x6144 (m ((c : Thread nD τ).loc main_arg1)) shapeCasts_S1x4096x6144_S4096x6144) bitsLt_bf16_f32 := by
    after_reads_simp
    rfl
  rw [e]
  exact drop_at _ _ p q
/-- The right block of point `t`, at an index. -/
theorem right_block (t : Fin cfg0.N) (k : Fin 2048) (j : Fin 1024) :
    iblk m c 1 t (ix2 k j) = m ((c : Thread nD τ).loc main_arg1) (ix3 0 ⟨2048 * (t.val % 2) + k.val, by have := lt_points t; omega⟩ ⟨1024 * (t.val / 2) + j.val, by have := lt_points t; omega⟩) :=
  have h : ∀ W : (b : Ref sig .tc) → Buf (Elt Ideal) ((c : Thread nD τ).loc b), ((cfg0.win 1).blk t).view.read (Elt Ideal) (W (Pipeline.arrRef spec0 1)) (ix2 k j) = W main_v4 (ix2 ⟨2048 * (t.val % 2) + k.val, by have := lt_points t; omega⟩ ⟨1024 * (t.val / 2) + j.val, by have := lt_points t; omega⟩) := fun W => congrArg (W main_v4) (place1 t k j)
  (h (V m c)).trans (right_at m c _ _)

/-- What the last point of a block writes. -/
theorem point_at (t : Fin cfg0.N) (h : t.val % 2 = 1) (r : Fin 1024) (j : Fin 1024) :
    (outsAt0 m c t.val t.isLt).1 (ix2 r j) = rowsProduct (m ((c : Thread nD τ).loc main_arg0)) (m ((c : Thread nD τ).loc main_arg1)) (ix2 r ⟨1024 * (t.val / 2) + j.val, by have := lt_points t; omega⟩) := by
  have ht := lt_points t
  have hb : t.val - 1 < cfg0.N := lt_of_le_of_lt (Nat.sub_le _ _) t.isLt
  rw [outsAt0_B m c t (by omega) h]
  dsimp only
  rw [second]
  show k0_pay2 (F := Ideal) _ _ _ (ix2 r j) = _
  rw [pay_at, show (outsAt0 m c (t.val - 1) hb).2 = k0_pay2 k0_pay1 (iblk m c 0 ⟨t.val - 1, hb⟩) (iblk m c 1 ⟨t.val - 1, hb⟩) from by
    rw [outsAt0_A m c ⟨t.val - 1, hb⟩ (show (t.val - 1) % 2 = 0 by omega) (show ¬(t.val - 1) % 2 = 1 by omega)]
    dsimp only
    rw [first], pay_at]
  refine two_steps 2048 _ _ _ _ (zero_at _) (fun k => ?_) (fun k => ?_)
  · rw [left_block, right_block]
    simp only [show 2048 * ((t.val - 1) % 2) + k.val = k.val by omega, show (t.val - 1) / 2 = t.val / 2 by omega]
  · rw [left_block, right_block]
    simp only [show 2048 * (t.val % 2) + k.val = 2048 + k.val by omega]

/-- The array the call leaves. -/
theorem array_eq : (dats m 0 c).arrAt 2 cfg0.N = rowsProduct (m ((c : Thread nD τ).loc main_arg0)) (m ((c : Thread nD τ).loc main_arg1)) := by
  refine (dats m 0 c).arrAt_eq_of_cover 2 _ (fun t hf => ?_) (fun i => (Value.covered_iff2 i).2 (by
    have h0 : (i 0).val < 1024 := (i 0).isLt; have h1 : (i 1).val < 6144 := (i 1).isLt; omega))
  rw [Value.flushed2]
  funext x
  obtain ⟨r, j, rfl⟩ : ∃ (r : Fin 1024) (j : Fin 1024), x = ix2 r j := ix2_ex x
  exact (point_at m c t ((flush0_2 t).mp hf) r j).trans (congrArg (rowsProduct (m ((c : Thread nD τ).loc main_arg0)) (m ((c : Thread nD τ).loc main_arg1))) (place2 t r j)).symm

end Cert.DwInValue

end
-- ==== Proof.DwUpValue.lean ====
/- The gradient of the wide channel product's weights: what the call leaves. -/
module

public import proofs.«01_k».proof.Proof.Product
public import proofs.«01_k».proof.Proof.Gen.DwUpIdeal.Value

@[expose] public section

noncomputable section

namespace Cert.DwUpValue

open Idealize.ShloMosaic
open Idealize.ShloMosaic.ValueIdx Idealize.ShloMosaic.TcCoe Idealize.SL.Sem
open Cert.DwUpIdeal Cert.DwUpIdeal.Gen Cert.Product

section
variable {F : FTy → Type} [FloatOps F]

/-- After the first half the scratch holds the first product, added to zero. -/
theorem first (c : Dev nD) (i : grid0.Coords) (a0 : Memref sig .tc .vmem S1024x2048 .bf16) (h0 : a0.IsWhole) (a1 : Memref sig .tc .vmem S2048x1408 .bf16) (h1 : a1.IsWhole) (a2 : Memref sig .tc .vmem S1024x1408 .bf16) (h2 : a2.IsWhole)
    (b : Memref sig .tc .vmem S1024x1408 .f32) (hb : b.IsWhole) (hc0 : cond0_0 i) (hc1 : ¬cond0_1 i) (x : Vec F S1024x2048 .bf16) (y : Vec F S2048x1408 .bf16) :
    sout0_A_0 c i a0 h0 a1 h1 a2 h2 b hb hc0 hc1 x y = k0_pay2 k0_pay1 x y := by
  unfold sout0_A_0
  rw [View.read_writes_eq_canon _ _ _ (scover0_A_0 c i a0 h0 a1 h1 a2 h2 b hb hc0 hc1 x y)]
  unfold kernelRun0_A
  dsimp only
  sl_unfold_words
  rw [View.canon_cons_unit_zero (S := S1024x1408) zero2, View.readCov_unit_zero (S := S1024x1408) _ zero2]
  simp only [View.readAt_eq_ld, h0.read_unread, h1.read_unread, View.ld_unit_zero (S := S1024x2048) zero2, View.ld_unit_zero (S := S2048x1408) zero2]

/-- After the second half the block is the scratch plus the second product, rounded. -/
theorem second (c : Dev nD) (i : grid0.Coords) (a0 : Memref sig .tc .vmem S1024x2048 .bf16) (h0 : a0.IsWhole) (a1 : Memref sig .tc .vmem S2048x1408 .bf16) (h1 : a1.IsWhole) (a2 : Memref sig .tc .vmem S1024x1408 .bf16) (h2 : a2.IsWhole)
    (b : Memref sig .tc .vmem S1024x1408 .f32) (hb : b.IsWhole) (hc0 : ¬cond0_0 i) (hc1 : cond0_1 i) (x : Vec F S1024x2048 .bf16) (y : Vec F S2048x1408 .bf16) (s : Vec F S1024x1408 .f32) :
    out0_B_2 c i a0 h0 a1 h1 a2 h2 b hb hc0 hc1 x y s = k0_pay3 (k0_pay2 s x y) := by
  unfold out0_B_2
  rw [View.read_writes_eq_canon _ _ _ (cover0_B_2 c i a0 h0 a1 h1 a2 h2 b hb hc0 hc1 x y s)]
  unfold kernelRun0_B
  dsimp only
  sl_unfold_words
  rw [View.canon_unit_zero (S := S1024x1408) zero2, View.readCov_unit_zero (S := S1024x1408) _ zero2]
  simp only [View.readAt_eq_ld, h0.read_unread, h1.read_unread, hb.read_unread, View.ld_unit_zero (S := S1024x2048) zero2, View.ld_unit_zero (S := S2048x1408) zero2, View.ld_unit_zero (S := S1024x1408) zero2]
end

/-- One step, at an index. -/
theorem pay_at (s : FVec Ideal S1024x1408 .f32) (x : FVec Ideal S1024x2048 .bf16) (y : FVec Ideal S2048x1408 .bf16) (r : Fin 1024) (j : Fin 1408) :
    k0_pay2 (F := Ideal) s x y (ix2 r j) = s (ix2 r j) + ∑ k : Fin 2048, x (ix2 r k) * y (ix2 k j) := by
  unfold k0_pay2
  simp only [shapeCast_self]
  exact step_at s x y r j
/-- The scratch begins at zero. -/
theorem zero_at (i : S1024x1408.Idx) : k0_pay1 (F := Ideal) i = (0 : EReal) := by
  unfold k0_pay1
  simp only [shapeCast_self]
  exact Ideal.ofBits_zero_f32

theorem lt_points (t : Fin cfg0.N) : t.val < 8 := lt_of_lt_of_eq t.isLt N_0
/-- Where each window stands at point `t`. -/
theorem places : ∀ t : Fin grid0.N, win0_0.index t = ![0, t.val % 2] ∧ win0_1.index t = ![t.val % 2, t.val / 2] ∧ win0_2.index t = ![0, t.val / 2] := by decide +kernel
theorem place0 (t : Fin cfg0.N) (r : Fin 1024) (k : Fin 2048) : (win0_0.rect t).emb (ix2 r k) = ix2 r ⟨2048 * (t.val % 2) + k.val, by have := lt_points t; omega⟩ :=
  ix2_of _ _ _ ((win0_0.rect_emb_val t _ _).trans (by rw [(places t).1]; show 0 * 1024 + r.val = r.val; omega))
    ((win0_0.rect_emb_val t _ _).trans (by rw [(places t).1]; show (t.val % 2) * 2048 + k.val = 2048 * (t.val % 2) + k.val; omega))
theorem place1 (t : Fin cfg0.N) (k : Fin 2048) (j : Fin 1408) : (win0_1.rect t).emb (ix2 k j) = ix2 ⟨2048 * (t.val % 2) + k.val, by have := lt_points t; omega⟩ ⟨1408 * (t.val / 2) + j.val, by have := lt_points t; omega⟩ :=
  ix2_of _ _ _ ((win0_1.rect_emb_val t _ _).trans (by rw [(places t).2.1]; show (t.val % 2) * 2048 + k.val = 2048 * (t.val % 2) + k.val; omega))
    ((win0_1.rect_emb_val t _ _).trans (by rw [(places t).2.1]; show (t.val / 2) * 1408 + j.val = 1408 * (t.val / 2) + j.val; omega))
theorem place2 (t : Fin cfg0.N) (r : Fin 1024) (j : Fin 1408) : (win0_2.rect t).emb (ix2 r j) = ix2 r ⟨1408 * (t.val / 2) + j.val, by have := lt_points t; omega⟩ :=
  ix2_of _ _ _ ((win0_2.rect_emb_val t _ _).trans (by rw [(places t).2.2]; show 0 * 1024 + r.val = r.val; omega))
    ((win0_2.rect_emb_val t _ _).trans (by rw [(places t).2.2]; show (t.val / 2) * 1408 + j.val = 1408 * (t.val / 2) + j.val; omega))

variable (m : (ℓ : Loc nD τ sig) → Buf (Elt Ideal) ℓ) (c : Dev nD)

theorem left_at (p : Fin 1024) (q : Fin 4096) : V m c main_v2 (ix2 p q) = m ((c : Thread nD τ).loc main_arg0) (ix3 0 q p) := by
  have e : V m c main_v2 = truncf (F := Ideal) .bf16 (transpose S1024x4096 [1, 0] (shapeCast S4096x1024 (m ((c : Thread nD τ).loc main_arg0)) shapeCasts_S1x4096x1024_S4096x1024) transposes_S4096x1024_S1024x4096_1_0) bitsLt_bf16_f32 := by
    after_reads_simp
    rfl
  rw [e]
  exact (turn_at _ transposes_S4096x1024_S1024x4096_1_0 q p).trans (drop_at _ _ q p)
/-- The left block of point `t`, at an index. -/
theorem left_block (t : Fin cfg0.N) (r : Fin 1024) (k : Fin 2048) :
    iblk m c 0 t (ix2 r k) = m ((c : Thread nD τ).loc main_arg0) (ix3 0 ⟨2048 * (t.val % 2) + k.val, by have := lt_points t; omega⟩ r) :=
  have h : ∀ W : (b : Ref sig .tc) → Buf (Elt Ideal) ((c : Thread nD τ).loc b), ((cfg0.win 0).blk t).view.read (Elt Ideal) (W (Pipeline.arrRef spec0 0)) (ix2 r k) = W main_v2 (ix2 r ⟨2048 * (t.val % 2) + k.val, by have := lt_points t; omega⟩) := fun W => congrArg (W main_v2) (place0 t r k)
  (h (V m c)).trans (left_at m c _ _)
theorem right_at (p : Fin 4096) (q : Fin 5632) : V m c main_v4 (ix2 p q) = m ((c : Thread nD τ).loc main_arg1) (ix3 0 p q) := by
  have e : V m c main_v4 = truncf (F := Ideal) .bf16 (shapeCast S4096x5632 (m ((c : Thread nD τ).loc main_arg1)) shapeCasts_S1x4096x5632_S4096x5632) bitsLt_bf16_f32 := by
    after_reads_simp
    rfl
  rw [e]
  exact drop_at _ _ p q
/-- The right block of point `t`, at an index. -/
theorem right_block (t : Fin cfg0.N) (k : Fin 2048) (j : Fin 1408) :
    iblk m c 1 t (ix2 k j) = m ((c : Thread nD τ).loc main_arg1) (ix3 0 ⟨2048 * (t.val % 2) + k.val, by have := lt_points t; omega⟩ ⟨1408 * (t.val / 2) + j.val, by have := lt_points t; omega⟩) :=
  have h : ∀ W : (b : Ref sig .tc) → Buf (Elt Ideal) ((c : Thread nD τ).loc b), ((cfg0.win 1).blk t).view.read (Elt Ideal) (W (Pipeline.arrRef spec0 1)) (ix2 k j) = W main_v4 (ix2 ⟨2048 * (t.val % 2) + k.val, by have := lt_points t; omega⟩ ⟨1408 * (t.val / 2) + j.val, by have := lt_points t; omega⟩) := fun W => congrArg (W main_v4) (place1 t k j)
  (h (V m c)).trans (right_at m c _ _)

/-- What the last point of a block writes. -/
theorem point_at (t : Fin cfg0.N) (h : t.val % 2 = 1) (r : Fin 1024) (j : Fin 1408) :
    (outsAt0 m c t.val t.isLt).1 (ix2 r j) = rowsProduct (m ((c : Thread nD τ).loc main_arg0)) (m ((c : Thread nD τ).loc main_arg1)) (ix2 r ⟨1408 * (t.val / 2) + j.val, by have := lt_points t; omega⟩) := by
  have ht := lt_points t
  have hb : t.val - 1 < cfg0.N := lt_of_le_of_lt (Nat.sub_le _ _) t.isLt
  rw [outsAt0_B m c t (by omega) h]
  dsimp only
  rw [second]
  show k0_pay2 (F := Ideal) _ _ _ (ix2 r j) = _
  rw [pay_at, show (outsAt0 m c (t.val - 1) hb).2 = k0_pay2 k0_pay1 (iblk m c 0 ⟨t.val - 1, hb⟩) (iblk m c 1 ⟨t.val - 1, hb⟩) from by
    rw [outsAt0_A m c ⟨t.val - 1, hb⟩ (show (t.val - 1) % 2 = 0 by omega) (show ¬(t.val - 1) % 2 = 1 by omega)]
    dsimp only
    rw [first], pay_at]
  refine two_steps 2048 _ _ _ _ (zero_at _) (fun k => ?_) (fun k => ?_)
  · rw [left_block, right_block]
    simp only [show 2048 * ((t.val - 1) % 2) + k.val = k.val by omega, show (t.val - 1) / 2 = t.val / 2 by omega]
  · rw [left_block, right_block]
    simp only [show 2048 * (t.val % 2) + k.val = 2048 + k.val by omega]

/-- The array the call leaves. -/
theorem array_eq : (dats m 0 c).arrAt 2 cfg0.N = rowsProduct (m ((c : Thread nD τ).loc main_arg0)) (m ((c : Thread nD τ).loc main_arg1)) := by
  refine (dats m 0 c).arrAt_eq_of_cover 2 _ (fun t hf => ?_) (fun i => (Value.covered_iff2 i).2 (by
    have h0 : (i 0).val < 1024 := (i 0).isLt; have h1 : (i 1).val < 5632 := (i 1).isLt; omega))
  rw [Value.flushed2]
  funext x
  obtain ⟨r, j, rfl⟩ : ∃ (r : Fin 1024) (j : Fin 1408), x = ix2 r j := ix2_ex x
  exact (point_at m c t ((flush0_2 t).mp hf) r j).trans (congrArg (rowsProduct (m ((c : Thread nD τ).loc main_arg0)) (m ((c : Thread nD τ).loc main_arg1))) (place2 t r j)).symm

end Cert.DwUpValue

end
-- ==== Proof.DwDownValue.lean ====
/- The gradient of the narrow channel product's weights: what the call leaves. -/
module

public import proofs.«01_k».proof.Proof.Product
public import proofs.«01_k».proof.Proof.Gen.DwDownIdeal.Value

@[expose] public section

noncomputable section

namespace Cert.DwDownValue

open Idealize.ShloMosaic
open Idealize.ShloMosaic.ValueIdx Idealize.ShloMosaic.TcCoe Idealize.SL.Sem
open Cert.DwDownIdeal Cert.DwDownIdeal.Gen Cert.Product

section
variable {F : FTy → Type} [FloatOps F]

/-- After the first half the scratch holds the first product, added to zero. -/
theorem first (c : Dev nD) (i : grid0.Coords) (a0 : Memref sig .tc .vmem S1408x2048 .bf16) (h0 : a0.IsWhole) (a1 : Memref sig .tc .vmem S2048x1024 .bf16) (h1 : a1.IsWhole) (a2 : Memref sig .tc .vmem S1408x1024 .bf16) (h2 : a2.IsWhole)
    (b : Memref sig .tc .vmem S1408x1024 .f32) (hb : b.IsWhole) (hc0 : cond0_0 i) (hc1 : ¬cond0_1 i) (x : Vec F S1408x2048 .bf16) (y : Vec F S2048x1024 .bf16) :
    sout0_A_0 c i a0 h0 a1 h1 a2 h2 b hb hc0 hc1 x y = k0_pay2 k0_pay1 x y := by
  unfold sout0_A_0
  rw [View.read_writes_eq_canon _ _ _ (scover0_A_0 c i a0 h0 a1 h1 a2 h2 b hb hc0 hc1 x y)]
  unfold kernelRun0_A
  dsimp only
  sl_unfold_words
  rw [View.canon_cons_unit_zero (S := S1408x1024) zero2, View.readCov_unit_zero (S := S1408x1024) _ zero2]
  simp only [View.readAt_eq_ld, h0.read_unread, h1.read_unread, View.ld_unit_zero (S := S1408x2048) zero2, View.ld_unit_zero (S := S2048x1024) zero2]

/-- After the second half the block is the scratch plus the second product, rounded. -/
theorem second (c : Dev nD) (i : grid0.Coords) (a0 : Memref sig .tc .vmem S1408x2048 .bf16) (h0 : a0.IsWhole) (a1 : Memref sig .tc .vmem S2048x1024 .bf16) (h1 : a1.IsWhole) (a2 : Memref sig .tc .vmem S1408x1024 .bf16) (h2 : a2.IsWhole)
    (b : Memref sig .tc .vmem S1408x1024 .f32) (hb : b.IsWhole) (hc0 : ¬cond0_0 i) (hc1 : cond0_1 i) (x : Vec F S1408x2048 .bf16) (y : Vec F S2048x1024 .bf16) (s : Vec F S1408x1024 .f32) :
    out0_B_2 c i a0 h0 a1 h1 a2 h2 b hb hc0 hc1 x y s = k0_pay3 (k0_pay2 s x y) := by
  unfold out0_B_2
  rw [View.read_writes_eq_canon _ _ _ (cover0_B_2 c i a0 h0 a1 h1 a2 h2 b hb hc0 hc1 x y s)]
  unfold kernelRun0_B
  dsimp only
  sl_unfold_words
  rw [View.canon_unit_zero (S := S1408x1024) zero2, View.readCov_unit_zero (S := S1408x1024) _ zero2]
  simp only [View.readAt_eq_ld, h0.read_unread, h1.read_unread, hb.read_unread, View.ld_unit_zero (S := S1408x2048) zero2, View.ld_unit_zero (S := S2048x1024) zero2, View.ld_unit_zero (S := S1408x1024) zero2]
end

/-- One step, at an index. -/
theorem pay_at (s : FVec Ideal S1408x1024 .f32) (x : FVec Ideal S1408x2048 .bf16) (y : FVec Ideal S2048x1024 .bf16) (r : Fin 1408) (j : Fin 1024) :
    k0_pay2 (F := Ideal) s x y (ix2 r j) = s (ix2 r j) + ∑ k : Fin 2048, x (ix2 r k) * y (ix2 k j) := by
  unfold k0_pay2
  simp only [shapeCast_self]
  exact step_at s x y r j
/-- The scratch begins at zero. -/
theorem zero_at (i : S1408x1024.Idx) : k0_pay1 (F := Ideal) i = (0 : EReal) := by
  unfold k0_pay1
  simp only [shapeCast_self]
  exact Ideal.ofBits_zero_f32

theorem lt_points (t : Fin cfg0.N) : t.val < 4 := lt_of_lt_of_eq t.isLt N_0
/-- Where each window stands at point `t`. -/
theorem places : ∀ t : Fin grid0.N, win0_0.index t = ![t.val / 2, t.val % 2] ∧ win0_1.index t = ![t.val % 2, 0] ∧ win0_2.index t = ![t.val / 2, 0] := by decide +kernel
theorem place0 (t : Fin cfg0.N) (r : Fin 1408) (k : Fin 2048) : (win0_0.rect t).emb (ix2 r k) = ix2 ⟨1408 * (t.val / 2) + r.val, by have := lt_points t; omega⟩ ⟨2048 * (t.val % 2) + k.val, by have := lt_points t; omega⟩ :=
  ix2_of _ _ _ ((win0_0.rect_emb_val t _ _).trans (by rw [(places t).1]; show (t.val / 2) * 1408 + r.val = 1408 * (t.val / 2) + r.val; omega))
    ((win0_0.rect_emb_val t _ _).trans (by rw [(places t).1]; show (t.val % 2) * 2048 + k.val = 2048 * (t.val % 2) + k.val; omega))
theorem place1 (t : Fin cfg0.N) (k : Fin 2048) (j : Fin 1024) : (win0_1.rect t).emb (ix2 k j) = ix2 ⟨2048 * (t.val % 2) + k.val, by have := lt_points t; omega⟩ j :=
  ix2_of _ _ _ ((win0_1.rect_emb_val t _ _).trans (by rw [(places t).2.1]; show (t.val % 2) * 2048 + k.val = 2048 * (t.val % 2) + k.val; omega))
    ((win0_1.rect_emb_val t _ _).trans (by rw [(places t).2.1]; show 0 * 1024 + j.val = j.val; omega))
theorem place2 (t : Fin cfg0.N) (r : Fin 1408) (j : Fin 1024) : (win0_2.rect t).emb (ix2 r j) = ix2 ⟨1408 * (t.val / 2) + r.val, by have := lt_points t; omega⟩ j :=
  ix2_of _ _ _ ((win0_2.rect_emb_val t _ _).trans (by rw [(places t).2.2]; show (t.val / 2) * 1408 + r.val = 1408 * (t.val / 2) + r.val; omega))
    ((win0_2.rect_emb_val t _ _).trans (by rw [(places t).2.2]; show 0 * 1024 + j.val = j.val; omega))

variable (m : (ℓ : Loc nD τ sig) → Buf (Elt Ideal) ℓ) (c : Dev nD)

theorem left_at (p : Fin 2816) (q : Fin 4096) : V m c main_v2 (ix2 p q) = m ((c : Thread nD τ).loc main_arg0) (ix3 0 q p) := by
  have e : V m c main_v2 = truncf (F := Ideal) .bf16 (transpose S2816x4096 [1, 0] (shapeCast S4096x2816 (m ((c : Thread nD τ).loc main_arg0)) shapeCasts_S1x4096x2816_S4096x2816) transposes_S4096x2816_S2816x4096_1_0) bitsLt_bf16_f32 := by
    after_reads_simp
    rfl
  rw [e]
  exact (turn_at _ transposes_S4096x2816_S2816x4096_1_0 q p).trans (drop_at _ _ q p)
/-- The left block of point `t`, at an index. -/
theorem left_block (t : Fin cfg0.N) (r : Fin 1408) (k : Fin 2048) :
    iblk m c 0 t (ix2 r k) = m ((c : Thread nD τ).loc main_arg0) (ix3 0 ⟨2048 * (t.val % 2) + k.val, by have := lt_points t; omega⟩ ⟨1408 * (t.val / 2) + r.val, by have := lt_points t; omega⟩) :=
  have h : ∀ W : (b : Ref sig .tc) → Buf (Elt Ideal) ((c : Thread nD τ).loc b), ((cfg0.win 0).blk t).view.read (Elt Ideal) (W (Pipeline.arrRef spec0 0)) (ix2 r k) = W main_v2 (ix2 ⟨1408 * (t.val / 2) + r.val, by have := lt_points t; omega⟩ ⟨2048 * (t.val % 2) + k.val, by have := lt_points t; omega⟩) := fun W => congrArg (W main_v2) (place0 t r k)
  (h (V m c)).trans (left_at m c _ _)
theorem right_at (p : Fin 4096) (q : Fin 1024) : V m c main_v4 (ix2 p q) = m ((c : Thread nD τ).loc main_arg1) (ix3 0 p q) := by
  have e : V m c main_v4 = truncf (F := Ideal) .bf16 (shapeCast S4096x1024 (m ((c : Thread nD τ).loc main_arg1)) shapeCasts_S1x4096x1024_S4096x1024) bitsLt_bf16_f32 := by
    after_reads_simp
    rfl
  rw [e]
  exact drop_at _ _ p q
/-- The right block of point `t`, at an index. -/
theorem right_block (t : Fin cfg0.N) (k : Fin 2048) (j : Fin 1024) :
    iblk m c 1 t (ix2 k j) = m ((c : Thread nD τ).loc main_arg1) (ix3 0 ⟨2048 * (t.val % 2) + k.val, by have := lt_points t; omega⟩ j) :=
  have h : ∀ W : (b : Ref sig .tc) → Buf (Elt Ideal) ((c : Thread nD τ).loc b), ((cfg0.win 1).blk t).view.read (Elt Ideal) (W (Pipeline.arrRef spec0 1)) (ix2 k j) = W main_v4 (ix2 ⟨2048 * (t.val % 2) + k.val, by have := lt_points t; omega⟩ j) := fun W => congrArg (W main_v4) (place1 t k j)
  (h (V m c)).trans (right_at m c _ _)

/-- What the last point of a block writes. -/
theorem point_at (t : Fin cfg0.N) (h : t.val % 2 = 1) (r : Fin 1408) (j : Fin 1024) :
    (outsAt0 m c t.val t.isLt).1 (ix2 r j) = rowsProduct (m ((c : Thread nD τ).loc main_arg0)) (m ((c : Thread nD τ).loc main_arg1)) (ix2 ⟨1408 * (t.val / 2) + r.val, by have := lt_points t; omega⟩ j) := by
  have ht := lt_points t
  have hb : t.val - 1 < cfg0.N := lt_of_le_of_lt (Nat.sub_le _ _) t.isLt
  rw [outsAt0_B m c t (by omega) h]
  dsimp only
  rw [second]
  show k0_pay2 (F := Ideal) _ _ _ (ix2 r j) = _
  rw [pay_at, show (outsAt0 m c (t.val - 1) hb).2 = k0_pay2 k0_pay1 (iblk m c 0 ⟨t.val - 1, hb⟩) (iblk m c 1 ⟨t.val - 1, hb⟩) from by
    rw [outsAt0_A m c ⟨t.val - 1, hb⟩ (show (t.val - 1) % 2 = 0 by omega) (show ¬(t.val - 1) % 2 = 1 by omega)]
    dsimp only
    rw [first], pay_at]
  refine two_steps 2048 _ _ _ _ (zero_at _) (fun k => ?_) (fun k => ?_)
  · rw [left_block, right_block]
    simp only [show 2048 * ((t.val - 1) % 2) + k.val = k.val by omega, show (t.val - 1) / 2 = t.val / 2 by omega]
  · rw [left_block, right_block]
    simp only [show 2048 * (t.val % 2) + k.val = 2048 + k.val by omega]

/-- The array the call leaves. -/
theorem array_eq : (dats m 0 c).arrAt 2 cfg0.N = rowsProduct (m ((c : Thread nD τ).loc main_arg0)) (m ((c : Thread nD τ).loc main_arg1)) := by
  refine (dats m 0 c).arrAt_eq_of_cover 2 _ (fun t hf => ?_) (fun i => (Value.covered_iff2 i).2 (by
    have h0 : (i 0).val < 2816 := (i 0).isLt; have h1 : (i 1).val < 1024 := (i 1).isLt; omega))
  rw [Value.flushed2]
  funext x
  obtain ⟨r, j, rfl⟩ : ∃ (r : Fin 1408) (j : Fin 1024), x = ix2 r j := ix2_ex x
  exact (point_at m c t ((flush0_2 t).mp hf) r j).trans (congrArg (rowsProduct (m ((c : Thread nD τ).loc main_arg0)) (m ((c : Thread nD τ).loc main_arg1))) (place2 t r j)).symm

end Cert.DwDownValue

end
-- ==== Proof.DwOutValue.lean ====
/- The gradient of the output projection's weights: what the call leaves. -/
module

public import proofs.«01_k».proof.Proof.Product
public import proofs.«01_k».proof.Proof.Gen.DwOutIdeal.Value

@[expose] public section

noncomputable section

namespace Cert.DwOutValue

open Idealize.ShloMosaic
open Idealize.ShloMosaic.ValueIdx Idealize.ShloMosaic.TcCoe Idealize.SL.Sem
open Cert.DwOutIdeal Cert.DwOutIdeal.Gen Cert.Product

section
variable {F : FTy → Type} [FloatOps F]

/-- After the first half the scratch holds the first product, added to zero. -/
theorem first (c : Dev nD) (i : grid0.Coords) (a0 : Memref sig .tc .vmem S1024x2048 .bf16) (h0 : a0.IsWhole) (a1 : Memref sig .tc .vmem S2048x1024 .bf16) (h1 : a1.IsWhole) (a2 : Memref sig .tc .vmem S1024x1024 .bf16) (h2 : a2.IsWhole)
    (b : Memref sig .tc .vmem S1024x1024 .f32) (hb : b.IsWhole) (hc0 : cond0_0 i) (hc1 : ¬cond0_1 i) (x : Vec F S1024x2048 .bf16) (y : Vec F S2048x1024 .bf16) :
    sout0_A_0 c i a0 h0 a1 h1 a2 h2 b hb hc0 hc1 x y = k0_pay2 k0_pay1 x y := by
  unfold sout0_A_0
  rw [View.read_writes_eq_canon _ _ _ (scover0_A_0 c i a0 h0 a1 h1 a2 h2 b hb hc0 hc1 x y)]
  unfold kernelRun0_A
  dsimp only
  sl_unfold_words
  rw [View.canon_cons_unit_zero (S := S1024x1024) zero2, View.readCov_unit_zero (S := S1024x1024) _ zero2]
  simp only [View.readAt_eq_ld, h0.read_unread, h1.read_unread, View.ld_unit_zero (S := S1024x2048) zero2, View.ld_unit_zero (S := S2048x1024) zero2]

/-- After the second half the block is the scratch plus the second product, rounded. -/
theorem second (c : Dev nD) (i : grid0.Coords) (a0 : Memref sig .tc .vmem S1024x2048 .bf16) (h0 : a0.IsWhole) (a1 : Memref sig .tc .vmem S2048x1024 .bf16) (h1 : a1.IsWhole) (a2 : Memref sig .tc .vmem S1024x1024 .bf16) (h2 : a2.IsWhole)
    (b : Memref sig .tc .vmem S1024x1024 .f32) (hb : b.IsWhole) (hc0 : ¬cond0_0 i) (hc1 : cond0_1 i) (x : Vec F S1024x2048 .bf16) (y : Vec F S2048x1024 .bf16) (s : Vec F S1024x1024 .f32) :
    out0_B_2 c i a0 h0 a1 h1 a2 h2 b hb hc0 hc1 x y s = k0_pay3 (k0_pay2 s x y) := by
  unfold out0_B_2
  rw [View.read_writes_eq_canon _ _ _ (cover0_B_2 c i a0 h0 a1 h1 a2 h2 b hb hc0 hc1 x y s)]
  unfold kernelRun0_B
  dsimp only
  sl_unfold_words
  rw [View.canon_unit_zero (S := S1024x1024) zero2, View.readCov_unit_zero (S := S1024x1024) _ zero2]
  simp only [View.readAt_eq_ld, h0.read_unread, h1.read_unread, hb.read_unread, View.ld_unit_zero (S := S1024x2048) zero2, View.ld_unit_zero (S := S2048x1024) zero2, View.ld_unit_zero (S := S1024x1024) zero2]
end

/-- One step, at an index. -/
theorem pay_at (s : FVec Ideal S1024x1024 .f32) (x : FVec Ideal S1024x2048 .bf16) (y : FVec Ideal S2048x1024 .bf16) (r : Fin 1024) (j : Fin 1024) :
    k0_pay2 (F := Ideal) s x y (ix2 r j) = s (ix2 r j) + ∑ k : Fin 2048, x (ix2 r k) * y (ix2 k j) := by
  unfold k0_pay2
  simp only [shapeCast_self]
  exact step_at s x y r j
/-- The scratch begins at zero. -/
theorem zero_at (i : S1024x1024.Idx) : k0_pay1 (F := Ideal) i = (0 : EReal) := by
  unfold k0_pay1
  simp only [shapeCast_self]
  exact Ideal.ofBits_zero_f32

theorem lt_points (t : Fin cfg0.N) : t.val < 4 := lt_of_lt_of_eq t.isLt N_0
/-- Where each window stands at point `t`. -/
theorem places : ∀ t : Fin grid0.N, win0_0.index t = ![t.val / 2, t.val % 2] ∧ win0_1.index t = ![t.val % 2, 0] ∧ win0_2.index t = ![t.val / 2, 0] := by decide +kernel
theorem place0 (t : Fin cfg0.N) (r : Fin 1024) (k : Fin 2048) : (win0_0.rect t).emb (ix2 r k) = ix2 ⟨1024 * (t.val / 2) + r.val, by have := lt_points t; omega⟩ ⟨2048 * (t.val % 2) + k.val, by have := lt_points t; omega⟩ :=
  ix2_of _ _ _ ((win0_0.rect_emb_val t _ _).trans (by rw [(places t).1]; show (t.val / 2) * 1024 + r.val = 1024 * (t.val / 2) + r.val; omega))
    ((win0_0.rect_emb_val t _ _).trans (by rw [(places t).1]; show (t.val % 2) * 2048 + k.val = 2048 * (t.val % 2) + k.val; omega))
theorem place1 (t : Fin cfg0.N) (k : Fin 2048) (j : Fin 1024) : (win0_1.rect t).emb (ix2 k j) = ix2 ⟨2048 * (t.val % 2) + k.val, by have := lt_points t; omega⟩ j :=
  ix2_of _ _ _ ((win0_1.rect_emb_val t _ _).trans (by rw [(places t).2.1]; show (t.val % 2) * 2048 + k.val = 2048 * (t.val % 2) + k.val; omega))
    ((win0_1.rect_emb_val t _ _).trans (by rw [(places t).2.1]; show 0 * 1024 + j.val = j.val; omega))
theorem place2 (t : Fin cfg0.N) (r : Fin 1024) (j : Fin 1024) : (win0_2.rect t).emb (ix2 r j) = ix2 ⟨1024 * (t.val / 2) + r.val, by have := lt_points t; omega⟩ j :=
  ix2_of _ _ _ ((win0_2.rect_emb_val t _ _).trans (by rw [(places t).2.2]; show (t.val / 2) * 1024 + r.val = 1024 * (t.val / 2) + r.val; omega))
    ((win0_2.rect_emb_val t _ _).trans (by rw [(places t).2.2]; show 0 * 1024 + j.val = j.val; omega))

variable (m : (ℓ : Loc nD τ sig) → Buf (Elt Ideal) ℓ) (c : Dev nD)

theorem left_at (p : Fin 2048) (q : Fin 4096) : V m c main_v2 (ix2 p q) = m ((c : Thread nD τ).loc main_arg0) (ix3 0 q p) := by
  have e : V m c main_v2 = truncf (F := Ideal) .bf16 (transpose S2048x4096 [1, 0] (shapeCast S4096x2048 (m ((c : Thread nD τ).loc main_arg0)) shapeCasts_S1x4096x2048_S4096x2048) transposes_S4096x2048_S2048x4096_1_0) bitsLt_bf16_f32 := by
    after_reads_simp
    rfl
  rw [e]
  exact (turn_at _ transposes_S4096x2048_S2048x4096_1_0 q p).trans (drop_at _ _ q p)
/-- The left block of point `t`, at an index. -/
theorem left_block (t : Fin cfg0.N) (r : Fin 1024) (k : Fin 2048) :
    iblk m c 0 t (ix2 r k) = m ((c : Thread nD τ).loc main_arg0) (ix3 0 ⟨2048 * (t.val % 2) + k.val, by have := lt_points t; omega⟩ ⟨1024 * (t.val / 2) + r.val, by have := lt_points t; omega⟩) :=
  have h : ∀ W : (b : Ref sig .tc) → Buf (Elt Ideal) ((c : Thread nD τ).loc b), ((cfg0.win 0).blk t).view.read (Elt Ideal) (W (Pipeline.arrRef spec0 0)) (ix2 r k) = W main_v2 (ix2 ⟨1024 * (t.val / 2) + r.val, by have := lt_points t; omega⟩ ⟨2048 * (t.val % 2) + k.val, by have := lt_points t; omega⟩) := fun W => congrArg (W main_v2) (place0 t r k)
  (h (V m c)).trans (left_at m c _ _)
theorem right_at (p : Fin 4096) (q : Fin 1024) : V m c main_v4 (ix2 p q) = m ((c : Thread nD τ).loc main_arg1) (ix3 0 p q) := by
  have e : V m c main_v4 = truncf (F := Ideal) .bf16 (shapeCast S4096x1024 (m ((c : Thread nD τ).loc main_arg1)) shapeCasts_S1x4096x1024_S4096x1024) bitsLt_bf16_f32 := by
    after_reads_simp
    rfl
  rw [e]
  exact drop_at _ _ p q
/-- The right block of point `t`, at an index. -/
theorem right_block (t : Fin cfg0.N) (k : Fin 2048) (j : Fin 1024) :
    iblk m c 1 t (ix2 k j) = m ((c : Thread nD τ).loc main_arg1) (ix3 0 ⟨2048 * (t.val % 2) + k.val, by have := lt_points t; omega⟩ j) :=
  have h : ∀ W : (b : Ref sig .tc) → Buf (Elt Ideal) ((c : Thread nD τ).loc b), ((cfg0.win 1).blk t).view.read (Elt Ideal) (W (Pipeline.arrRef spec0 1)) (ix2 k j) = W main_v4 (ix2 ⟨2048 * (t.val % 2) + k.val, by have := lt_points t; omega⟩ j) := fun W => congrArg (W main_v4) (place1 t k j)
  (h (V m c)).trans (right_at m c _ _)

/-- What the last point of a block writes. -/
theorem point_at (t : Fin cfg0.N) (h : t.val % 2 = 1) (r : Fin 1024) (j : Fin 1024) :
    (outsAt0 m c t.val t.isLt).1 (ix2 r j) = rowsProduct (m ((c : Thread nD τ).loc main_arg0)) (m ((c : Thread nD τ).loc main_arg1)) (ix2 ⟨1024 * (t.val / 2) + r.val, by have := lt_points t; omega⟩ j) := by
  have ht := lt_points t
  have hb : t.val - 1 < cfg0.N := lt_of_le_of_lt (Nat.sub_le _ _) t.isLt
  rw [outsAt0_B m c t (by omega) h]
  dsimp only
  rw [second]
  show k0_pay2 (F := Ideal) _ _ _ (ix2 r j) = _
  rw [pay_at, show (outsAt0 m c (t.val - 1) hb).2 = k0_pay2 k0_pay1 (iblk m c 0 ⟨t.val - 1, hb⟩) (iblk m c 1 ⟨t.val - 1, hb⟩) from by
    rw [outsAt0_A m c ⟨t.val - 1, hb⟩ (show (t.val - 1) % 2 = 0 by omega) (show ¬(t.val - 1) % 2 = 1 by omega)]
    dsimp only
    rw [first], pay_at]
  refine two_steps 2048 _ _ _ _ (zero_at _) (fun k => ?_) (fun k => ?_)
  · rw [left_block, right_block]
    simp only [show 2048 * ((t.val - 1) % 2) + k.val = k.val by omega, show (t.val - 1) / 2 = t.val / 2 by omega]
  · rw [left_block, right_block]
    simp only [show 2048 * (t.val % 2) + k.val = 2048 + k.val by omega]

/-- The array the call leaves. -/
theorem array_eq : (dats m 0 c).arrAt 2 cfg0.N = rowsProduct (m ((c : Thread nD τ).loc main_arg0)) (m ((c : Thread nD τ).loc main_arg1)) := by
  refine (dats m 0 c).arrAt_eq_of_cover 2 _ (fun t hf => ?_) (fun i => (Value.covered_iff2 i).2 (by
    have h0 : (i 0).val < 2048 := (i 0).isLt; have h1 : (i 1).val < 1024 := (i 1).isLt; omega))
  rw [Value.flushed2]
  funext x
  obtain ⟨r, j, rfl⟩ : ∃ (r : Fin 1024) (j : Fin 1024), x = ix2 r j := ix2_ex x
  exact (point_at m c t ((flush0_2 t).mp hf) r j).trans (congrArg (rowsProduct (m ((c : Thread nD τ).loc main_arg0)) (m ((c : Thread nD τ).loc main_arg1))) (place2 t r j)).symm

end Cert.DwOutValue

end
-- ==== Proof.WeightClaims.lean ====
module

public import proofs.«01_k».proof.Defs
public import proofs.«01_k».proof.Proof.Grad
public import proofs.«01_k».proof.Proof.DwInValue
public import proofs.«01_k».proof.Proof.Gen.DwIn
public import proofs.«01_k».proof.Proof.Gen.DwIn.Frame
public import proofs.«01_k».proof.Proof.Gen.DwInRefIdeal.Run
public import proofs.«01_k».proof.Proof.DwUpValue
public import proofs.«01_k».proof.Proof.Gen.DwUp
public import proofs.«01_k».proof.Proof.Gen.DwUp.Frame
public import proofs.«01_k».proof.Proof.Gen.DwUpRefIdeal.Run
public import proofs.«01_k».proof.Proof.DwDownValue
public import proofs.«01_k».proof.Proof.Gen.DwDown
public import proofs.«01_k».proof.Proof.Gen.DwDown.Frame
public import proofs.«01_k».proof.Proof.Gen.DwDownRefIdeal.Run
public import proofs.«01_k».proof.Proof.DwOutValue
public import proofs.«01_k».proof.Proof.Gen.DwOut
public import proofs.«01_k».proof.Proof.Gen.DwOut.Frame
public import proofs.«01_k».proof.Proof.Gen.DwOutRefIdeal.Run
public import Idealize.ShloMosaic.Lib.Quiescent

/-!
The claims about the four weight gradients.
-/

@[expose] public section

open Idealize.ShloMosaic Idealize.ShloMosaic.TcCoe Idealize.SL.Sem
open Cert.Product

namespace Cert.DwInClaims

/-- The kernel of the weight gradient of the input projection leaves its inputs and its semaphores as it found them. -/
theorem frame_kernel : Cert.quiescent_DwIn := fun m ρ _ => Cert.DwIn.Gen.frame m ρ

/-- So does its rewritten text. -/
theorem frame_ideal : Cert.quiescent_DwInIdeal := fun m ρ _ => Cert.DwInIdeal.Gen.frame m ρ

/-- So does its reference. -/
theorem frame_reference : Cert.quiescent_DwInRefIdeal := fun m ρ _ =>
  (θ_run Cert.DwInRefIdeal.defs _ _).mono (fun r h => ⟨fun c => (h c).2, sem_eq_zero_of_no_sems (by decide) r.2⟩)
    (Cert.DwInRefIdeal.Value.run (F := Ideal) m ρ)

/-- No operation was replaced. -/
theorem preserves : Cert.preserves_DwIn_DwInIdeal := trivial

/-- In exact arithmetic kernel and reference end in the same array for the weight gradient of the input projection. -/
theorem algebraic : Cert.algebraic_DwInIdeal_DwInRefIdeal := fun m ρ m' ρ' _ hagree =>
  ⟨fun c => (Cert.DwInIdeal.Gen.dats m 0 c).arrAt 2 Cert.DwInIdeal.cfg0.N,
    Cert.DwInIdeal.Value.run_blocks (F := Ideal) m ρ,
    (θ_run Cert.DwInRefIdeal.defs _ _).mono (fun _ h c => ⟨(h c).1.trans
      ((grad_of _ rfl rfl rfl rfl rfl rfl _ _ (hagree c).1 (hagree c).2).trans
        (Cert.DwInValue.array_eq m c).symm), (h c).2⟩) (Cert.DwInRefIdeal.Value.run (F := Ideal) m' ρ')⟩

end Cert.DwInClaims

namespace Cert.DwUpClaims

/-- The kernel of the weight gradient of the up projection leaves its inputs and its semaphores as it found them. -/
theorem frame_kernel : Cert.quiescent_DwUp := fun m ρ _ => Cert.DwUp.Gen.frame m ρ

/-- So does its rewritten text. -/
theorem frame_ideal : Cert.quiescent_DwUpIdeal := fun m ρ _ => Cert.DwUpIdeal.Gen.frame m ρ

/-- So does its reference. -/
theorem frame_reference : Cert.quiescent_DwUpRefIdeal := fun m ρ _ =>
  (θ_run Cert.DwUpRefIdeal.defs _ _).mono (fun r h => ⟨fun c => (h c).2, sem_eq_zero_of_no_sems (by decide) r.2⟩)
    (Cert.DwUpRefIdeal.Value.run (F := Ideal) m ρ)

/-- No operation was replaced. -/
theorem preserves : Cert.preserves_DwUp_DwUpIdeal := trivial

/-- In exact arithmetic kernel and reference end in the same array for the weight gradient of the up projection. -/
theorem algebraic : Cert.algebraic_DwUpIdeal_DwUpRefIdeal := fun m ρ m' ρ' _ hagree =>
  ⟨fun c => (Cert.DwUpIdeal.Gen.dats m 0 c).arrAt 2 Cert.DwUpIdeal.cfg0.N,
    Cert.DwUpIdeal.Value.run_blocks (F := Ideal) m ρ,
    (θ_run Cert.DwUpRefIdeal.defs _ _).mono (fun _ h c => ⟨(h c).1.trans
      ((grad_of _ rfl rfl rfl rfl rfl rfl _ _ (hagree c).1 (hagree c).2).trans
        (Cert.DwUpValue.array_eq m c).symm), (h c).2⟩) (Cert.DwUpRefIdeal.Value.run (F := Ideal) m' ρ')⟩

end Cert.DwUpClaims

namespace Cert.DwDownClaims

/-- The kernel of the weight gradient of the down projection leaves its inputs and its semaphores as it found them. -/
theorem frame_kernel : Cert.quiescent_DwDown := fun m ρ _ => Cert.DwDown.Gen.frame m ρ

/-- So does its rewritten text. -/
theorem frame_ideal : Cert.quiescent_DwDownIdeal := fun m ρ _ => Cert.DwDownIdeal.Gen.frame m ρ

/-- So does its reference. -/
theorem frame_reference : Cert.quiescent_DwDownRefIdeal := fun m ρ _ =>
  (θ_run Cert.DwDownRefIdeal.defs _ _).mono (fun r h => ⟨fun c => (h c).2, sem_eq_zero_of_no_sems (by decide) r.2⟩)
    (Cert.DwDownRefIdeal.Value.run (F := Ideal) m ρ)

/-- No operation was replaced. -/
theorem preserves : Cert.preserves_DwDown_DwDownIdeal := trivial

/-- In exact arithmetic kernel and reference end in the same array for the weight gradient of the down projection. -/
theorem algebraic : Cert.algebraic_DwDownIdeal_DwDownRefIdeal := fun m ρ m' ρ' _ hagree =>
  ⟨fun c => (Cert.DwDownIdeal.Gen.dats m 0 c).arrAt 2 Cert.DwDownIdeal.cfg0.N,
    Cert.DwDownIdeal.Value.run_blocks (F := Ideal) m ρ,
    (θ_run Cert.DwDownRefIdeal.defs _ _).mono (fun _ h c => ⟨(h c).1.trans
      ((grad_of _ rfl rfl rfl rfl rfl rfl _ _ (hagree c).1 (hagree c).2).trans
        (Cert.DwDownValue.array_eq m c).symm), (h c).2⟩) (Cert.DwDownRefIdeal.Value.run (F := Ideal) m' ρ')⟩

end Cert.DwDownClaims

namespace Cert.DwOutClaims

/-- The kernel of the weight gradient of the output projection leaves its inputs and its semaphores as it found them. -/
theorem frame_kernel : Cert.quiescent_DwOut := fun m ρ _ => Cert.DwOut.Gen.frame m ρ

/-- So does its rewritten text. -/
theorem frame_ideal : Cert.quiescent_DwOutIdeal := fun m ρ _ => Cert.DwOutIdeal.Gen.frame m ρ

/-- So does its reference. -/
theorem frame_reference : Cert.quiescent_DwOutRefIdeal := fun m ρ _ =>
  (θ_run Cert.DwOutRefIdeal.defs _ _).mono (fun r h => ⟨fun c => (h c).2, sem_eq_zero_of_no_sems (by decide) r.2⟩)
    (Cert.DwOutRefIdeal.Value.run (F := Ideal) m ρ)

/-- No operation was replaced. -/
theorem preserves : Cert.preserves_DwOut_DwOutIdeal := trivial

/-- In exact arithmetic kernel and reference end in the same array for the weight gradient of the output projection. -/
theorem algebraic : Cert.algebraic_DwOutIdeal_DwOutRefIdeal := fun m ρ m' ρ' _ hagree =>
  ⟨fun c => (Cert.DwOutIdeal.Gen.dats m 0 c).arrAt 2 Cert.DwOutIdeal.cfg0.N,
    Cert.DwOutIdeal.Value.run_blocks (F := Ideal) m ρ,
    (θ_run Cert.DwOutRefIdeal.defs _ _).mono (fun _ h c => ⟨(h c).1.trans
      ((grad_of _ rfl rfl rfl rfl rfl rfl _ _ (hagree c).1 (hagree c).2).trans
        (Cert.DwOutValue.array_eq m c).symm), (h c).2⟩) (Cert.DwOutRefIdeal.Value.run (F := Ideal) m' ρ')⟩

end Cert.DwOutClaims
-- ==== Proof.DActValue.lean ====
/- The gradient of the narrow channel product's input: what the call leaves. -/
module

public import proofs.«01_k».proof.Proof.Product
public import proofs.«01_k».proof.Proof.Gen.DActIdeal.Value

@[expose] public section

noncomputable section

namespace Cert.DActValue

open Idealize.ShloMosaic
open Idealize.ShloMosaic.ValueIdx Idealize.ShloMosaic.TcCoe Idealize.SL.Sem
open Cert.DActIdeal Cert.DActIdeal.Gen Cert.Product

section
variable {F : FTy → Type} [FloatOps F]

/-- A point's block is the product, added to zero, rounded. -/
theorem block (c : Dev nD) (i : grid0.Coords) (a0 : Memref sig .tc .vmem S2048x1024 .bf16) (h0 : a0.IsWhole) (a1 : Memref sig .tc .vmem S256x1024 .bf16) (h1 : a1.IsWhole) (a2 : Memref sig .tc .vmem S2048x256 .bf16) (h2 : a2.IsWhole)
    (b : Memref sig .tc .vmem S2048x256 .f32) (hb : b.IsWhole) (hc0 : cond0_0 i) (hc1 : cond0_1 i) (x : Vec F S2048x1024 .bf16) (y : Vec F S256x1024 .bf16) :
    out0_A_2 c i a0 h0 a1 h1 a2 h2 b hb hc0 hc1 x y = k0_pay3 (k0_pay2 k0_pay1 x y) := by
  unfold out0_A_2
  rw [View.read_writes_eq_canon _ _ _ (cover0_A_2 c i a0 h0 a1 h1 a2 h2 b hb hc0 hc1 x y)]
  unfold kernelRun0_A
  dsimp only
  sl_unfold_words
  rw [View.canon_unit_zero (S := S2048x256) zero2, View.readCov_cons_toLoadRect, View.readCov_unit_zero (S := S2048x256) _ zero2]
  simp only [View.readAt_eq_ld, h0.read_unread, h1.read_unread, View.ld_unit_zero (S := S2048x1024) zero2, View.ld_unit_zero (S := S256x1024) zero2]
end

/-- One step, at an index. -/
theorem pay_at (s : FVec Ideal S2048x256 .f32) (x : FVec Ideal S2048x1024 .bf16) (y : FVec Ideal S256x1024 .bf16) (r : Fin 2048) (j : Fin 256) :
    k0_pay2 (F := Ideal) s x y (ix2 r j) = s (ix2 r j) + ∑ k : Fin 1024, x (ix2 r k) * y (ix2 j k) := by
  unfold k0_pay2
  simp only [shapeCast_self]
  exact step_turned_at s x y r j
/-- The scratch begins at zero. -/
theorem zero_at (i : S2048x256.Idx) : k0_pay1 (F := Ideal) i = (0 : EReal) := by
  unfold k0_pay1
  simp only [shapeCast_self]
  exact Ideal.ofBits_zero_f32

theorem lt_points (t : Fin cfg0.N) : t.val < 22 := lt_of_lt_of_eq t.isLt N_0
/-- Where each window stands at point `t`. -/
theorem places : ∀ t : Fin grid0.N, win0_0.index t = ![t.val / 11, 0] ∧ win0_1.index t = ![t.val % 11, 0] ∧ win0_2.index t = ![t.val / 11, t.val % 11] := by decide +kernel
theorem place0 (t : Fin cfg0.N) (r : Fin 2048) (k : Fin 1024) : (win0_0.rect t).emb (ix2 r k) = ix2 ⟨2048 * (t.val / 11) + r.val, by have := lt_points t; omega⟩ k :=
  ix2_of _ _ _ ((win0_0.rect_emb_val t _ _).trans (by rw [(places t).1]; show (t.val / 11) * 2048 + r.val = 2048 * (t.val / 11) + r.val; omega))
    ((win0_0.rect_emb_val t _ _).trans (by rw [(places t).1]; show 0 * 1024 + k.val = k.val; omega))
theorem place1 (t : Fin cfg0.N) (j : Fin 256) (k : Fin 1024) : (win0_1.rect t).emb (ix2 j k) = ix2 ⟨256 * (t.val % 11) + j.val, by have := lt_points t; omega⟩ k :=
  ix2_of _ _ _ ((win0_1.rect_emb_val t _ _).trans (by rw [(places t).2.1]; show (t.val % 11) * 256 + j.val = 256 * (t.val % 11) + j.val; omega))
    ((win0_1.rect_emb_val t _ _).trans (by rw [(places t).2.1]; show 0 * 1024 + k.val = k.val; omega))
theorem place2 (t : Fin cfg0.N) (r : Fin 2048) (j : Fin 256) : (win0_2.rect t).emb (ix2 r j) = ix2 ⟨2048 * (t.val / 11) + r.val, by have := lt_points t; omega⟩ ⟨256 * (t.val % 11) + j.val, by have := lt_points t; omega⟩ :=
  ix2_of _ _ _ ((win0_2.rect_emb_val t _ _).trans (by rw [(places t).2.2]; show (t.val / 11) * 2048 + r.val = 2048 * (t.val / 11) + r.val; omega))
    ((win0_2.rect_emb_val t _ _).trans (by rw [(places t).2.2]; show (t.val % 11) * 256 + j.val = 256 * (t.val % 11) + j.val; omega))

variable (m : (ℓ : Loc nD τ sig) → Buf (Elt Ideal) ℓ) (c : Dev nD)

theorem left_at (p : Fin 4096) (q : Fin 1024) : V m c main_v1 (ix2 p q) = m ((c : Thread nD τ).loc main_arg1) (ix3 0 p q) := by
  have e : V m c main_v1 = truncf (F := Ideal) .bf16 (shapeCast S4096x1024 (m ((c : Thread nD τ).loc main_arg1)) shapeCasts_S1x4096x1024_S4096x1024) bitsLt_bf16_f32 := by
    after_reads_simp
    rfl
  rw [e]
  exact drop_at _ _ p q
/-- The left block of point `t`, at an index. -/
theorem left_block (t : Fin cfg0.N) (r : Fin 2048) (k : Fin 1024) :
    iblk m c 0 t (ix2 r k) = m ((c : Thread nD τ).loc main_arg1) (ix3 0 ⟨2048 * (t.val / 11) + r.val, by have := lt_points t; omega⟩ k) :=
  have h : ∀ W : (b : Ref sig .tc) → Buf (Elt Ideal) ((c : Thread nD τ).loc b), ((cfg0.win 0).blk t).view.read (Elt Ideal) (W (Pipeline.arrRef spec0 0)) (ix2 r k) = W main_v1 (ix2 ⟨2048 * (t.val / 11) + r.val, by have := lt_points t; omega⟩ k) := fun W => congrArg (W main_v1) (place0 t r k)
  (h (V m c)).trans (left_at m c _ _)
theorem right_at (p : Fin 2816) (q : Fin 1024) : V m c main_v2 (ix2 p q) = m ((c : Thread nD τ).loc main_arg0) (ix2 p q) := by
  have e : V m c main_v2 = truncf (F := Ideal) .bf16 (m ((c : Thread nD τ).loc main_arg0)) bitsLt_bf16_f32 := by
    after_reads_simp
  rw [e]
  rfl
/-- The right block of point `t`, at an index. -/
theorem right_block (t : Fin cfg0.N) (j : Fin 256) (k : Fin 1024) :
    iblk m c 1 t (ix2 j k) = m ((c : Thread nD τ).loc main_arg0) (ix2 ⟨256 * (t.val % 11) + j.val, by have := lt_points t; omega⟩ k) :=
  have h : ∀ W : (b : Ref sig .tc) → Buf (Elt Ideal) ((c : Thread nD τ).loc b), ((cfg0.win 1).blk t).view.read (Elt Ideal) (W (Pipeline.arrRef spec0 1)) (ix2 j k) = W main_v2 (ix2 ⟨256 * (t.val % 11) + j.val, by have := lt_points t; omega⟩ k) := fun W => congrArg (W main_v2) (place1 t j k)
  (h (V m c)).trans (right_at m c _ _)

/-- What a point writes. -/
theorem point_at (t : Fin cfg0.N) (r : Fin 2048) (j : Fin 256) : outsAt0 m c t (ix2 r j) = turnedProduct (m ((c : Thread nD τ).loc main_arg1)) (m ((c : Thread nD τ).loc main_arg0)) (ix2 ⟨2048 * (t.val / 11) + r.val, by have := lt_points t; omega⟩ ⟨256 * (t.val % 11) + j.val, by have := lt_points t; omega⟩) := by
  unfold outsAt0
  rw [block]
  show k0_pay2 (F := Ideal) _ _ _ (ix2 r j) = _
  rw [pay_at, zero_at, zero_add]
  exact Finset.sum_congr rfl fun k _ => by rw [left_block, right_block]

/-- Every index of the result lies in some point's block. -/
theorem cover (i : S4096x2816.Idx) : ∃ t : Fin cfg0.N, (cfg0.win 2).flush t = true ∧ i ∈ ((cfg0.win 2).blk t).view.set := by
  have h0 : (i 0).val < 4096 := (i 0).isLt
  have h1 : (i 1).val < 2816 := (i 1).isLt
  have hN : cfg0.N = 22 := N_0
  let t : Fin cfg0.N := ⟨11 * ((i 0).val / 2048) + (i 1).val / 256, by omega⟩
  have ht : t.val = 11 * ((i 0).val / 2048) + (i 1).val / 256 := rfl
  refine ⟨t, flush0_2 t, ?_⟩
  have e : (win0_2.rect t).emb (ix2 (⟨(i 0).val % 2048, by omega⟩ : Fin 2048) (⟨(i 1).val % 256, by omega⟩ : Fin 256)) = i :=
    (place2 t _ _).trans (ix2_of i _ _ (by show (i 0).val = 2048 * (t.val / 11) + (i 0).val % 2048; omega) (by show (i 1).val = 256 * (t.val % 11) + (i 1).val % 256; omega)).symm
  exact e ▸ ((cfg0.win 2).blk t).view.emb_mem_set _

/-- The array the call leaves. -/
theorem array_eq : (dats m 0 c).arrAt 2 cfg0.N = turnedProduct (m ((c : Thread nD τ).loc main_arg1)) (m ((c : Thread nD τ).loc main_arg0)) := by
  refine (dats m 0 c).arrAt_eq_of_cover 2 _ (fun t hf => ?_) (fun i => cover i)
  rw [Value.flushed2]
  funext x
  obtain ⟨r, j, rfl⟩ : ∃ (r : Fin 2048) (j : Fin 256), x = ix2 r j := ix2_ex x
  exact (point_at m c t r j).trans (congrArg (turnedProduct (m ((c : Thread nD τ).loc main_arg1)) (m ((c : Thread nD τ).loc main_arg0))) (place2 t r j)).symm

end Cert.DActValue

end
-- ==== Proof.DMixValue.lean ====
/- The gradient of the output projection's input: what the call leaves. -/
module

public import proofs.«01_k».proof.Proof.Product
public import proofs.«01_k».proof.Proof.Gen.DMixIdeal.Value

@[expose] public section

noncomputable section

namespace Cert.DMixValue

open Idealize.ShloMosaic
open Idealize.ShloMosaic.ValueIdx Idealize.ShloMosaic.TcCoe Idealize.SL.Sem
open Cert.DMixIdeal Cert.DMixIdeal.Gen Cert.Product

section
variable {F : FTy → Type} [FloatOps F]

/-- A point's block is the product, added to zero, rounded. -/
theorem block (c : Dev nD) (i : grid0.Coords) (a0 : Memref sig .tc .vmem S2048x1024 .bf16) (h0 : a0.IsWhole) (a1 : Memref sig .tc .vmem S512x1024 .bf16) (h1 : a1.IsWhole) (a2 : Memref sig .tc .vmem S2048x512 .bf16) (h2 : a2.IsWhole)
    (b : Memref sig .tc .vmem S2048x512 .f32) (hb : b.IsWhole) (hc0 : cond0_0 i) (hc1 : cond0_1 i) (x : Vec F S2048x1024 .bf16) (y : Vec F S512x1024 .bf16) :
    out0_A_2 c i a0 h0 a1 h1 a2 h2 b hb hc0 hc1 x y = k0_pay3 (k0_pay2 k0_pay1 x y) := by
  unfold out0_A_2
  rw [View.read_writes_eq_canon _ _ _ (cover0_A_2 c i a0 h0 a1 h1 a2 h2 b hb hc0 hc1 x y)]
  unfold kernelRun0_A
  dsimp only
  sl_unfold_words
  rw [View.canon_unit_zero (S := S2048x512) zero2, View.readCov_cons_toLoadRect, View.readCov_unit_zero (S := S2048x512) _ zero2]
  simp only [View.readAt_eq_ld, h0.read_unread, h1.read_unread, View.ld_unit_zero (S := S2048x1024) zero2, View.ld_unit_zero (S := S512x1024) zero2]
end

/-- One step, at an index. -/
theorem pay_at (s : FVec Ideal S2048x512 .f32) (x : FVec Ideal S2048x1024 .bf16) (y : FVec Ideal S512x1024 .bf16) (r : Fin 2048) (j : Fin 512) :
    k0_pay2 (F := Ideal) s x y (ix2 r j) = s (ix2 r j) + ∑ k : Fin 1024, x (ix2 r k) * y (ix2 j k) := by
  unfold k0_pay2
  simp only [shapeCast_self]
  exact step_turned_at s x y r j
/-- The scratch begins at zero. -/
theorem zero_at (i : S2048x512.Idx) : k0_pay1 (F := Ideal) i = (0 : EReal) := by
  unfold k0_pay1
  simp only [shapeCast_self]
  exact Ideal.ofBits_zero_f32

theorem lt_points (t : Fin cfg0.N) : t.val < 8 := lt_of_lt_of_eq t.isLt N_0
/-- Where each window stands at point `t`. -/
theorem places : ∀ t : Fin grid0.N, win0_0.index t = ![t.val / 4, 0] ∧ win0_1.index t = ![t.val % 4, 0] ∧ win0_2.index t = ![t.val / 4, t.val % 4] := by decide +kernel
theorem place0 (t : Fin cfg0.N) (r : Fin 2048) (k : Fin 1024) : (win0_0.rect t).emb (ix2 r k) = ix2 ⟨2048 * (t.val / 4) + r.val, by have := lt_points t; omega⟩ k :=
  ix2_of _ _ _ ((win0_0.rect_emb_val t _ _).trans (by rw [(places t).1]; show (t.val / 4) * 2048 + r.val = 2048 * (t.val / 4) + r.val; omega))
    ((win0_0.rect_emb_val t _ _).trans (by rw [(places t).1]; show 0 * 1024 + k.val = k.val; omega))
theorem place1 (t : Fin cfg0.N) (j : Fin 512) (k : Fin 1024) : (win0_1.rect t).emb (ix2 j k) = ix2 ⟨512 * (t.val % 4) + j.val, by have := lt_points t; omega⟩ k :=
  ix2_of _ _ _ ((win0_1.rect_emb_val t _ _).trans (by rw [(places t).2.1]; show (t.val % 4) * 512 + j.val = 512 * (t.val % 4) + j.val; omega))
    ((win0_1.rect_emb_val t _ _).trans (by rw [(places t).2.1]; show 0 * 1024 + k.val = k.val; omega))
theorem place2 (t : Fin cfg0.N) (r : Fin 2048) (j : Fin 512) : (win0_2.rect t).emb (ix2 r j) = ix2 ⟨2048 * (t.val / 4) + r.val, by have := lt_points t; omega⟩ ⟨512 * (t.val % 4) + j.val, by have := lt_points t; omega⟩ :=
  ix2_of _ _ _ ((win0_2.rect_emb_val t _ _).trans (by rw [(places t).2.2]; show (t.val / 4) * 2048 + r.val = 2048 * (t.val / 4) + r.val; omega))
    ((win0_2.rect_emb_val t _ _).trans (by rw [(places t).2.2]; show (t.val % 4) * 512 + j.val = 512 * (t.val % 4) + j.val; omega))

variable (m : (ℓ : Loc nD τ sig) → Buf (Elt Ideal) ℓ) (c : Dev nD)

theorem left_at (p : Fin 4096) (q : Fin 1024) : V m c main_v1 (ix2 p q) = m ((c : Thread nD τ).loc main_arg1) (ix3 0 p q) := by
  have e : V m c main_v1 = truncf (F := Ideal) .bf16 (shapeCast S4096x1024 (m ((c : Thread nD τ).loc main_arg1)) shapeCasts_S1x4096x1024_S4096x1024) bitsLt_bf16_f32 := by
    after_reads_simp
    rfl
  rw [e]
  exact drop_at _ _ p q
/-- The left block of point `t`, at an index. -/
theorem left_block (t : Fin cfg0.N) (r : Fin 2048) (k : Fin 1024) :
    iblk m c 0 t (ix2 r k) = m ((c : Thread nD τ).loc main_arg1) (ix3 0 ⟨2048 * (t.val / 4) + r.val, by have := lt_points t; omega⟩ k) :=
  have h : ∀ W : (b : Ref sig .tc) → Buf (Elt Ideal) ((c : Thread nD τ).loc b), ((cfg0.win 0).blk t).view.read (Elt Ideal) (W (Pipeline.arrRef spec0 0)) (ix2 r k) = W main_v1 (ix2 ⟨2048 * (t.val / 4) + r.val, by have := lt_points t; omega⟩ k) := fun W => congrArg (W main_v1) (place0 t r k)
  (h (V m c)).trans (left_at m c _ _)
theorem right_at (p : Fin 2048) (q : Fin 1024) : V m c main_v2 (ix2 p q) = m ((c : Thread nD τ).loc main_arg0) (ix2 p q) := by
  have e : V m c main_v2 = truncf (F := Ideal) .bf16 (m ((c : Thread nD τ).loc main_arg0)) bitsLt_bf16_f32 := by
    after_reads_simp
  rw [e]
  rfl
/-- The right block of point `t`, at an index. -/
theorem right_block (t : Fin cfg0.N) (j : Fin 512) (k : Fin 1024) :
    iblk m c 1 t (ix2 j k) = m ((c : Thread nD τ).loc main_arg0) (ix2 ⟨512 * (t.val % 4) + j.val, by have := lt_points t; omega⟩ k) :=
  have h : ∀ W : (b : Ref sig .tc) → Buf (Elt Ideal) ((c : Thread nD τ).loc b), ((cfg0.win 1).blk t).view.read (Elt Ideal) (W (Pipeline.arrRef spec0 1)) (ix2 j k) = W main_v2 (ix2 ⟨512 * (t.val % 4) + j.val, by have := lt_points t; omega⟩ k) := fun W => congrArg (W main_v2) (place1 t j k)
  (h (V m c)).trans (right_at m c _ _)

/-- What a point writes. -/
theorem point_at (t : Fin cfg0.N) (r : Fin 2048) (j : Fin 512) : outsAt0 m c t (ix2 r j) = turnedProduct (m ((c : Thread nD τ).loc main_arg1)) (m ((c : Thread nD τ).loc main_arg0)) (ix2 ⟨2048 * (t.val / 4) + r.val, by have := lt_points t; omega⟩ ⟨512 * (t.val % 4) + j.val, by have := lt_points t; omega⟩) := by
  unfold outsAt0
  rw [block]
  show k0_pay2 (F := Ideal) _ _ _ (ix2 r j) = _
  rw [pay_at, zero_at, zero_add]
  exact Finset.sum_congr rfl fun k _ => by rw [left_block, right_block]

/-- Every index of the result lies in some point's block. -/
theorem cover (i : S4096x2048.Idx) : ∃ t : Fin cfg0.N, (cfg0.win 2).flush t = true ∧ i ∈ ((cfg0.win 2).blk t).view.set := by
  have h0 : (i 0).val < 4096 := (i 0).isLt
  have h1 : (i 1).val < 2048 := (i 1).isLt
  have hN : cfg0.N = 8 := N_0
  let t : Fin cfg0.N := ⟨4 * ((i 0).val / 2048) + (i 1).val / 512, by omega⟩
  have ht : t.val = 4 * ((i 0).val / 2048) + (i 1).val / 512 := rfl
  refine ⟨t, flush0_2 t, ?_⟩
  have e : (win0_2.rect t).emb (ix2 (⟨(i 0).val % 2048, by omega⟩ : Fin 2048) (⟨(i 1).val % 512, by omega⟩ : Fin 512)) = i :=
    (place2 t _ _).trans (ix2_of i _ _ (by show (i 0).val = 2048 * (t.val / 4) + (i 0).val % 2048; omega) (by show (i 1).val = 512 * (t.val % 4) + (i 1).val % 512; omega)).symm
  exact e ▸ ((cfg0.win 2).blk t).view.emb_mem_set _

/-- The array the call leaves. -/
theorem array_eq : (dats m 0 c).arrAt 2 cfg0.N = turnedProduct (m ((c : Thread nD τ).loc main_arg1)) (m ((c : Thread nD τ).loc main_arg0)) := by
  refine (dats m 0 c).arrAt_eq_of_cover 2 _ (fun t hf => ?_) (fun i => cover i)
  rw [Value.flushed2]
  funext x
  obtain ⟨r, j, rfl⟩ : ∃ (r : Fin 2048) (j : Fin 512), x = ix2 r j := ix2_ex x
  exact (point_at m c t r j).trans (congrArg (turnedProduct (m ((c : Thread nD τ).loc main_arg1)) (m ((c : Thread nD τ).loc main_arg0))) (place2 t r j)).symm

end Cert.DMixValue

end
-- ==== Proof.InputClaims.lean ====
module

public import proofs.«01_k».proof.Defs
public import proofs.«01_k».proof.Proof.Grad
public import proofs.«01_k».proof.Proof.DActValue
public import proofs.«01_k».proof.Proof.Gen.DAct
public import proofs.«01_k».proof.Proof.Gen.DAct.Frame
public import proofs.«01_k».proof.Proof.Gen.DActRefIdeal.Run
public import proofs.«01_k».proof.Proof.DMixValue
public import proofs.«01_k».proof.Proof.Gen.DMix
public import proofs.«01_k».proof.Proof.Gen.DMix.Frame
public import proofs.«01_k».proof.Proof.Gen.DMixRefIdeal.Run
public import Idealize.ShloMosaic.Lib.Quiescent

/-!
The claims about the two gradients of a product's input.
-/

@[expose] public section

open Idealize.ShloMosaic Idealize.ShloMosaic.TcCoe Idealize.SL.Sem
open Cert.Product

namespace Cert.DActClaims

/-- The kernel of the gradient of the gated activation leaves its inputs and its semaphores as it found them. -/
theorem frame_kernel : Cert.quiescent_DAct := fun m ρ _ => Cert.DAct.Gen.frame m ρ

/-- So does its rewritten text. -/
theorem frame_ideal : Cert.quiescent_DActIdeal := fun m ρ _ => Cert.DActIdeal.Gen.frame m ρ

/-- So does its reference. -/
theorem frame_reference : Cert.quiescent_DActRefIdeal := fun m ρ _ =>
  (θ_run Cert.DActRefIdeal.defs _ _).mono (fun r h => ⟨fun c => (h c).2, sem_eq_zero_of_no_sems (by decide) r.2⟩)
    (Cert.DActRefIdeal.Value.run (F := Ideal) m ρ)

/-- No operation was replaced. -/
theorem preserves : Cert.preserves_DAct_DActIdeal := trivial

/-- In exact arithmetic kernel and reference end in the same array for the gradient of the gated activation. -/
theorem algebraic : Cert.algebraic_DActIdeal_DActRefIdeal := fun m ρ m' ρ' _ hagree =>
  ⟨fun c => (Cert.DActIdeal.Gen.dats m 0 c).arrAt 2 Cert.DActIdeal.cfg0.N,
    Cert.DActIdeal.Value.run_blocks (F := Ideal) m ρ,
    (θ_run Cert.DActRefIdeal.defs _ _).mono (fun _ h c => ⟨(h c).1.trans
      ((input_of _ rfl rfl rfl rfl rfl rfl _ _ (hagree c).2 (hagree c).1).trans
        (Cert.DActValue.array_eq m c).symm), (h c).2⟩) (Cert.DActRefIdeal.Value.run (F := Ideal) m' ρ')⟩

end Cert.DActClaims

namespace Cert.DMixClaims

/-- The kernel of the gradient of the mixed heads leaves its inputs and its semaphores as it found them. -/
theorem frame_kernel : Cert.quiescent_DMix := fun m ρ _ => Cert.DMix.Gen.frame m ρ

/-- So does its rewritten text. -/
theorem frame_ideal : Cert.quiescent_DMixIdeal := fun m ρ _ => Cert.DMixIdeal.Gen.frame m ρ

/-- So does its reference. -/
theorem frame_reference : Cert.quiescent_DMixRefIdeal := fun m ρ _ =>
  (θ_run Cert.DMixRefIdeal.defs _ _).mono (fun r h => ⟨fun c => (h c).2, sem_eq_zero_of_no_sems (by decide) r.2⟩)
    (Cert.DMixRefIdeal.Value.run (F := Ideal) m ρ)

/-- No operation was replaced. -/
theorem preserves : Cert.preserves_DMix_DMixIdeal := trivial

/-- In exact arithmetic kernel and reference end in the same array for the gradient of the mixed heads. -/
theorem algebraic : Cert.algebraic_DMixIdeal_DMixRefIdeal := fun m ρ m' ρ' _ hagree =>
  ⟨fun c => (Cert.DMixIdeal.Gen.dats m 0 c).arrAt 2 Cert.DMixIdeal.cfg0.N,
    Cert.DMixIdeal.Value.run_blocks (F := Ideal) m ρ,
    (θ_run Cert.DMixRefIdeal.defs _ _).mono (fun _ h c => ⟨(h c).1.trans
      ((input_of _ rfl rfl rfl rfl rfl rfl _ _ (hagree c).2 (hagree c).1).trans
        (Cert.DMixValue.array_eq m c).symm), (h c).2⟩) (Cert.DMixRefIdeal.Value.run (F := Ideal) m' ρ')⟩

end Cert.DMixClaims
-- ==== Proof.InProjValue.lean ====
/- The input projection: what the call leaves. -/
module

public import proofs.«01_k».proof.Proof.Product
public import proofs.«01_k».proof.Proof.Gen.InProjIdeal.Value

@[expose] public section

noncomputable section

namespace Cert.InProjValue

open Idealize.ShloMosaic
open Idealize.ShloMosaic.ValueIdx Idealize.ShloMosaic.TcCoe Idealize.SL.Sem
open Cert.InProjIdeal Cert.InProjIdeal.Gen Cert.Product

section
variable {F : FTy → Type} [FloatOps F]

/-- A point's block is the product, added to zero, rounded. -/
theorem block (c : Dev nD) (i : grid0.Coords) (a0 : Memref sig .tc .vmem S2048x1024 .bf16) (h0 : a0.IsWhole) (a1 : Memref sig .tc .vmem S1024x512 .bf16) (h1 : a1.IsWhole) (a2 : Memref sig .tc .vmem S2048x512 .bf16) (h2 : a2.IsWhole)
    (b : Memref sig .tc .vmem S2048x512 .f32) (hb : b.IsWhole) (hc0 : cond0_0 i) (hc1 : cond0_1 i) (x : Vec F S2048x1024 .bf16) (y : Vec F S1024x512 .bf16) :
    out0_A_2 c i a0 h0 a1 h1 a2 h2 b hb hc0 hc1 x y = k0_pay3 (k0_pay2 k0_pay1 x y) := by
  unfold out0_A_2
  rw [View.read_writes_eq_canon _ _ _ (cover0_A_2 c i a0 h0 a1 h1 a2 h2 b hb hc0 hc1 x y)]
  unfold kernelRun0_A
  dsimp only
  sl_unfold_words
  rw [View.canon_unit_zero (S := S2048x512) zero2, View.readCov_cons_toLoadRect, View.readCov_unit_zero (S := S2048x512) _ zero2]
  simp only [View.readAt_eq_ld, h0.read_unread, h1.read_unread, View.ld_unit_zero (S := S2048x1024) zero2, View.ld_unit_zero (S := S1024x512) zero2]
end

/-- One step, at an index. -/
theorem pay_at (s : FVec Ideal S2048x512 .f32) (x : FVec Ideal S2048x1024 .bf16) (y : FVec Ideal S1024x512 .bf16) (r : Fin 2048) (j : Fin 512) :
    k0_pay2 (F := Ideal) s x y (ix2 r j) = s (ix2 r j) + ∑ k : Fin 1024, x (ix2 r k) * y (ix2 k j) := by
  unfold k0_pay2
  simp only [shapeCast_self]
  exact step_at s x y r j
/-- The scratch begins at zero. -/
theorem zero_at (i : S2048x512.Idx) : k0_pay1 (F := Ideal) i = (0 : EReal) := by
  unfold k0_pay1
  simp only [shapeCast_self]
  exact Ideal.ofBits_zero_f32

theorem lt_points (t : Fin cfg0.N) : t.val < 24 := lt_of_lt_of_eq t.isLt N_0
/-- Where each window stands at point `t`. -/
theorem places : ∀ t : Fin grid0.N, win0_0.index t = ![t.val / 12, 0] ∧ win0_1.index t = ![0, t.val % 12] ∧ win0_2.index t = ![t.val / 12, t.val % 12] := by decide +kernel
theorem place0 (t : Fin cfg0.N) (r : Fin 2048) (k : Fin 1024) : (win0_0.rect t).emb (ix2 r k) = ix2 ⟨2048 * (t.val / 12) + r.val, by have := lt_points t; omega⟩ k :=
  ix2_of _ _ _ ((win0_0.rect_emb_val t _ _).trans (by rw [(places t).1]; show (t.val / 12) * 2048 + r.val = 2048 * (t.val / 12) + r.val; omega))
    ((win0_0.rect_emb_val t _ _).trans (by rw [(places t).1]; show 0 * 1024 + k.val = k.val; omega))
theorem place1 (t : Fin cfg0.N) (k : Fin 1024) (j : Fin 512) : (win0_1.rect t).emb (ix2 k j) = ix2 k ⟨512 * (t.val % 12) + j.val, by have := lt_points t; omega⟩ :=
  ix2_of _ _ _ ((win0_1.rect_emb_val t _ _).trans (by rw [(places t).2.1]; show 0 * 1024 + k.val = k.val; omega))
    ((win0_1.rect_emb_val t _ _).trans (by rw [(places t).2.1]; show (t.val % 12) * 512 + j.val = 512 * (t.val % 12) + j.val; omega))
theorem place2 (t : Fin cfg0.N) (r : Fin 2048) (j : Fin 512) : (win0_2.rect t).emb (ix2 r j) = ix2 ⟨2048 * (t.val / 12) + r.val, by have := lt_points t; omega⟩ ⟨512 * (t.val % 12) + j.val, by have := lt_points t; omega⟩ :=
  ix2_of _ _ _ ((win0_2.rect_emb_val t _ _).trans (by rw [(places t).2.2]; show (t.val / 12) * 2048 + r.val = 2048 * (t.val / 12) + r.val; omega))
    ((win0_2.rect_emb_val t _ _).trans (by rw [(places t).2.2]; show (t.val % 12) * 512 + j.val = 512 * (t.val % 12) + j.val; omega))

variable (m : (ℓ : Loc nD τ sig) → Buf (Elt Ideal) ℓ) (c : Dev nD)

theorem left_at (p : Fin 4096) (q : Fin 1024) : V m c main_v1 (ix2 p q) = m ((c : Thread nD τ).loc main_arg0) (ix3 0 p q) := by
  have e : V m c main_v1 = truncf (F := Ideal) .bf16 (shapeCast S4096x1024 (m ((c : Thread nD τ).loc main_arg0)) shapeCasts_S1x4096x1024_S4096x1024) bitsLt_bf16_f32 := by
    after_reads_simp
    rfl
  rw [e]
  exact drop_at _ _ p q
/-- The left block of point `t`, at an index. -/
theorem left_block (t : Fin cfg0.N) (r : Fin 2048) (k : Fin 1024) :
    iblk m c 0 t (ix2 r k) = m ((c : Thread nD τ).loc main_arg0) (ix3 0 ⟨2048 * (t.val / 12) + r.val, by have := lt_points t; omega⟩ k) :=
  have h : ∀ W : (b : Ref sig .tc) → Buf (Elt Ideal) ((c : Thread nD τ).loc b), ((cfg0.win 0).blk t).view.read (Elt Ideal) (W (Pipeline.arrRef spec0 0)) (ix2 r k) = W main_v1 (ix2 ⟨2048 * (t.val / 12) + r.val, by have := lt_points t; omega⟩ k) := fun W => congrArg (W main_v1) (place0 t r k)
  (h (V m c)).trans (left_at m c _ _)
theorem right_at (p : Fin 1024) (q : Fin 6144) : V m c main_v2 (ix2 p q) = m ((c : Thread nD τ).loc main_arg1) (ix2 p q) := by
  have e : V m c main_v2 = truncf (F := Ideal) .bf16 (m ((c : Thread nD τ).loc main_arg1)) bitsLt_bf16_f32 := by
    after_reads_simp
  rw [e]
  rfl
/-- The right block of point `t`, at an index. -/
theorem right_block (t : Fin cfg0.N) (k : Fin 1024) (j : Fin 512) :
    iblk m c 1 t (ix2 k j) = m ((c : Thread nD τ).loc main_arg1) (ix2 k ⟨512 * (t.val % 12) + j.val, by have := lt_points t; omega⟩) :=
  have h : ∀ W : (b : Ref sig .tc) → Buf (Elt Ideal) ((c : Thread nD τ).loc b), ((cfg0.win 1).blk t).view.read (Elt Ideal) (W (Pipeline.arrRef spec0 1)) (ix2 k j) = W main_v2 (ix2 k ⟨512 * (t.val % 12) + j.val, by have := lt_points t; omega⟩) := fun W => congrArg (W main_v2) (place1 t k j)
  (h (V m c)).trans (right_at m c _ _)

/-- What a point writes. -/
theorem point_at (t : Fin cfg0.N) (r : Fin 2048) (j : Fin 512) : outsAt0 m c t (ix2 r j) = plainProduct (m ((c : Thread nD τ).loc main_arg0)) (m ((c : Thread nD τ).loc main_arg1)) (ix2 ⟨2048 * (t.val / 12) + r.val, by have := lt_points t; omega⟩ ⟨512 * (t.val % 12) + j.val, by have := lt_points t; omega⟩) := by
  unfold outsAt0
  rw [block]
  show k0_pay2 (F := Ideal) _ _ _ (ix2 r j) = _
  rw [pay_at, zero_at, zero_add]
  exact Finset.sum_congr rfl fun k _ => by rw [left_block, right_block]

/-- Every index of the result lies in some point's block. -/
theorem cover (i : S4096x6144.Idx) : ∃ t : Fin cfg0.N, (cfg0.win 2).flush t = true ∧ i ∈ ((cfg0.win 2).blk t).view.set := by
  have h0 : (i 0).val < 4096 := (i 0).isLt
  have h1 : (i 1).val < 6144 := (i 1).isLt
  have hN : cfg0.N = 24 := N_0
  let t : Fin cfg0.N := ⟨12 * ((i 0).val / 2048) + (i 1).val / 512, by omega⟩
  have ht : t.val = 12 * ((i 0).val / 2048) + (i 1).val / 512 := rfl
  refine ⟨t, flush0_2 t, ?_⟩
  have e : (win0_2.rect t).emb (ix2 (⟨(i 0).val % 2048, by omega⟩ : Fin 2048) (⟨(i 1).val % 512, by omega⟩ : Fin 512)) = i :=
    (place2 t _ _).trans (ix2_of i _ _ (by show (i 0).val = 2048 * (t.val / 12) + (i 0).val % 2048; omega) (by show (i 1).val = 512 * (t.val % 12) + (i 1).val % 512; omega)).symm
  exact e ▸ ((cfg0.win 2).blk t).view.emb_mem_set _

/-- The array the call leaves. -/
theorem array_eq : (dats m 0 c).arrAt 2 cfg0.N = plainProduct (m ((c : Thread nD τ).loc main_arg0)) (m ((c : Thread nD τ).loc main_arg1)) := by
  refine (dats m 0 c).arrAt_eq_of_cover 2 _ (fun t hf => ?_) (fun i => cover i)
  rw [Value.flushed2]
  funext x
  obtain ⟨r, j, rfl⟩ : ∃ (r : Fin 2048) (j : Fin 512), x = ix2 r j := ix2_ex x
  exact (point_at m c t r j).trans (congrArg (plainProduct (m ((c : Thread nD τ).loc main_arg0)) (m ((c : Thread nD τ).loc main_arg1))) (place2 t r j)).symm

end Cert.InProjValue

end
-- ==== Proof.FfnUpValue.lean ====
/- The wide channel product: what the call leaves. -/
module

public import proofs.«01_k».proof.Proof.Product
public import proofs.«01_k».proof.Proof.Gen.FfnUpIdeal.Value

@[expose] public section

noncomputable section

namespace Cert.FfnUpValue

open Idealize.ShloMosaic
open Idealize.ShloMosaic.ValueIdx Idealize.ShloMosaic.TcCoe Idealize.SL.Sem
open Cert.FfnUpIdeal Cert.FfnUpIdeal.Gen Cert.Product

section
variable {F : FTy → Type} [FloatOps F]

/-- A point's block is the product, added to zero, rounded. -/
theorem block (c : Dev nD) (i : grid0.Coords) (a0 : Memref sig .tc .vmem S2048x1024 .bf16) (h0 : a0.IsWhole) (a1 : Memref sig .tc .vmem S1024x512 .bf16) (h1 : a1.IsWhole) (a2 : Memref sig .tc .vmem S2048x512 .bf16) (h2 : a2.IsWhole)
    (b : Memref sig .tc .vmem S2048x512 .f32) (hb : b.IsWhole) (hc0 : cond0_0 i) (hc1 : cond0_1 i) (x : Vec F S2048x1024 .bf16) (y : Vec F S1024x512 .bf16) :
    out0_A_2 c i a0 h0 a1 h1 a2 h2 b hb hc0 hc1 x y = k0_pay3 (k0_pay2 k0_pay1 x y) := by
  unfold out0_A_2
  rw [View.read_writes_eq_canon _ _ _ (cover0_A_2 c i a0 h0 a1 h1 a2 h2 b hb hc0 hc1 x y)]
  unfold kernelRun0_A
  dsimp only
  sl_unfold_words
  rw [View.canon_unit_zero (S := S2048x512) zero2, View.readCov_cons_toLoadRect, View.readCov_unit_zero (S := S2048x512) _ zero2]
  simp only [View.readAt_eq_ld, h0.read_unread, h1.read_unread, View.ld_unit_zero (S := S2048x1024) zero2, View.ld_unit_zero (S := S1024x512) zero2]
end

/-- One step, at an index. -/
theorem pay_at (s : FVec Ideal S2048x512 .f32) (x : FVec Ideal S2048x1024 .bf16) (y : FVec Ideal S1024x512 .bf16) (r : Fin 2048) (j : Fin 512) :
    k0_pay2 (F := Ideal) s x y (ix2 r j) = s (ix2 r j) + ∑ k : Fin 1024, x (ix2 r k) * y (ix2 k j) := by
  unfold k0_pay2
  simp only [shapeCast_self]
  exact step_at s x y r j
/-- The scratch begins at zero. -/
theorem zero_at (i : S2048x512.Idx) : k0_pay1 (F := Ideal) i = (0 : EReal) := by
  unfold k0_pay1
  simp only [shapeCast_self]
  exact Ideal.ofBits_zero_f32

theorem lt_points (t : Fin cfg0.N) : t.val < 22 := lt_of_lt_of_eq t.isLt N_0
/-- Where each window stands at point `t`. -/
theorem places : ∀ t : Fin grid0.N, win0_0.index t = ![t.val / 11, 0] ∧ win0_1.index t = ![0, t.val % 11] ∧ win0_2.index t = ![t.val / 11, t.val % 11] := by decide +kernel
theorem place0 (t : Fin cfg0.N) (r : Fin 2048) (k : Fin 1024) : (win0_0.rect t).emb (ix2 r k) = ix2 ⟨2048 * (t.val / 11) + r.val, by have := lt_points t; omega⟩ k :=
  ix2_of _ _ _ ((win0_0.rect_emb_val t _ _).trans (by rw [(places t).1]; show (t.val / 11) * 2048 + r.val = 2048 * (t.val / 11) + r.val; omega))
    ((win0_0.rect_emb_val t _ _).trans (by rw [(places t).1]; show 0 * 1024 + k.val = k.val; omega))
theorem place1 (t : Fin cfg0.N) (k : Fin 1024) (j : Fin 512) : (win0_1.rect t).emb (ix2 k j) = ix2 k ⟨512 * (t.val % 11) + j.val, by have := lt_points t; omega⟩ :=
  ix2_of _ _ _ ((win0_1.rect_emb_val t _ _).trans (by rw [(places t).2.1]; show 0 * 1024 + k.val = k.val; omega))
    ((win0_1.rect_emb_val t _ _).trans (by rw [(places t).2.1]; show (t.val % 11) * 512 + j.val = 512 * (t.val % 11) + j.val; omega))
theorem place2 (t : Fin cfg0.N) (r : Fin 2048) (j : Fin 512) : (win0_2.rect t).emb (ix2 r j) = ix2 ⟨2048 * (t.val / 11) + r.val, by have := lt_points t; omega⟩ ⟨512 * (t.val % 11) + j.val, by have := lt_points t; omega⟩ :=
  ix2_of _ _ _ ((win0_2.rect_emb_val t _ _).trans (by rw [(places t).2.2]; show (t.val / 11) * 2048 + r.val = 2048 * (t.val / 11) + r.val; omega))
    ((win0_2.rect_emb_val t _ _).trans (by rw [(places t).2.2]; show (t.val % 11) * 512 + j.val = 512 * (t.val % 11) + j.val; omega))

variable (m : (ℓ : Loc nD τ sig) → Buf (Elt Ideal) ℓ) (c : Dev nD)

theorem left_at (p : Fin 4096) (q : Fin 1024) : V m c main_v1 (ix2 p q) = m ((c : Thread nD τ).loc main_arg0) (ix3 0 p q) := by
  have e : V m c main_v1 = truncf (F := Ideal) .bf16 (shapeCast S4096x1024 (m ((c : Thread nD τ).loc main_arg0)) shapeCasts_S1x4096x1024_S4096x1024) bitsLt_bf16_f32 := by
    after_reads_simp
    rfl
  rw [e]
  exact drop_at _ _ p q
/-- The left block of point `t`, at an index. -/
theorem left_block (t : Fin cfg0.N) (r : Fin 2048) (k : Fin 1024) :
    iblk m c 0 t (ix2 r k) = m ((c : Thread nD τ).loc main_arg0) (ix3 0 ⟨2048 * (t.val / 11) + r.val, by have := lt_points t; omega⟩ k) :=
  have h : ∀ W : (b : Ref sig .tc) → Buf (Elt Ideal) ((c : Thread nD τ).loc b), ((cfg0.win 0).blk t).view.read (Elt Ideal) (W (Pipeline.arrRef spec0 0)) (ix2 r k) = W main_v1 (ix2 ⟨2048 * (t.val / 11) + r.val, by have := lt_points t; omega⟩ k) := fun W => congrArg (W main_v1) (place0 t r k)
  (h (V m c)).trans (left_at m c _ _)
theorem right_at (p : Fin 1024) (q : Fin 5632) : V m c main_v2 (ix2 p q) = m ((c : Thread nD τ).loc main_arg1) (ix2 p q) := by
  have e : V m c main_v2 = truncf (F := Ideal) .bf16 (m ((c : Thread nD τ).loc main_arg1)) bitsLt_bf16_f32 := by
    after_reads_simp
  rw [e]
  rfl
/-- The right block of point `t`, at an index. -/
theorem right_block (t : Fin cfg0.N) (k : Fin 1024) (j : Fin 512) :
    iblk m c 1 t (ix2 k j) = m ((c : Thread nD τ).loc main_arg1) (ix2 k ⟨512 * (t.val % 11) + j.val, by have := lt_points t; omega⟩) :=
  have h : ∀ W : (b : Ref sig .tc) → Buf (Elt Ideal) ((c : Thread nD τ).loc b), ((cfg0.win 1).blk t).view.read (Elt Ideal) (W (Pipeline.arrRef spec0 1)) (ix2 k j) = W main_v2 (ix2 k ⟨512 * (t.val % 11) + j.val, by have := lt_points t; omega⟩) := fun W => congrArg (W main_v2) (place1 t k j)
  (h (V m c)).trans (right_at m c _ _)

/-- What a point writes. -/
theorem point_at (t : Fin cfg0.N) (r : Fin 2048) (j : Fin 512) : outsAt0 m c t (ix2 r j) = plainProduct (m ((c : Thread nD τ).loc main_arg0)) (m ((c : Thread nD τ).loc main_arg1)) (ix2 ⟨2048 * (t.val / 11) + r.val, by have := lt_points t; omega⟩ ⟨512 * (t.val % 11) + j.val, by have := lt_points t; omega⟩) := by
  unfold outsAt0
  rw [block]
  show k0_pay2 (F := Ideal) _ _ _ (ix2 r j) = _
  rw [pay_at, zero_at, zero_add]
  exact Finset.sum_congr rfl fun k _ => by rw [left_block, right_block]

/-- Every index of the result lies in some point's block. -/
theorem cover (i : S4096x5632.Idx) : ∃ t : Fin cfg0.N, (cfg0.win 2).flush t = true ∧ i ∈ ((cfg0.win 2).blk t).view.set := by
  have h0 : (i 0).val < 4096 := (i 0).isLt
  have h1 : (i 1).val < 5632 := (i 1).isLt
  have hN : cfg0.N = 22 := N_0
  let t : Fin cfg0.N := ⟨11 * ((i 0).val / 2048) + (i 1).val / 512, by omega⟩
  have ht : t.val = 11 * ((i 0).val / 2048) + (i 1).val / 512 := rfl
  refine ⟨t, flush0_2 t, ?_⟩
  have e : (win0_2.rect t).emb (ix2 (⟨(i 0).val % 2048, by omega⟩ : Fin 2048) (⟨(i 1).val % 512, by omega⟩ : Fin 512)) = i :=
    (place2 t _ _).trans (ix2_of i _ _ (by show (i 0).val = 2048 * (t.val / 11) + (i 0).val % 2048; omega) (by show (i 1).val = 512 * (t.val % 11) + (i 1).val % 512; omega)).symm
  exact e ▸ ((cfg0.win 2).blk t).view.emb_mem_set _

/-- The array the call leaves. -/
theorem array_eq : (dats m 0 c).arrAt 2 cfg0.N = plainProduct (m ((c : Thread nD τ).loc main_arg0)) (m ((c : Thread nD τ).loc main_arg1)) := by
  refine (dats m 0 c).arrAt_eq_of_cover 2 _ (fun t hf => ?_) (fun i => cover i)
  rw [Value.flushed2]
  funext x
  obtain ⟨r, j, rfl⟩ : ∃ (r : Fin 2048) (j : Fin 512), x = ix2 r j := ix2_ex x
  exact (point_at m c t r j).trans (congrArg (plainProduct (m ((c : Thread nD τ).loc main_arg0)) (m ((c : Thread nD τ).loc main_arg1))) (place2 t r j)).symm

end Cert.FfnUpValue

end
-- ==== Proof.OutProjValue.lean ====
/- The output projection with its residual: what the call leaves. -/
module

public import proofs.«01_k».proof.Proof.Product
public import proofs.«01_k».proof.Proof.Gen.OutProjIdeal.Value

@[expose] public section

noncomputable section

namespace Cert.OutProjValue

open Idealize.ShloMosaic
open Idealize.ShloMosaic.ValueIdx Idealize.ShloMosaic.TcCoe Idealize.SL.Sem
open Cert.OutProjIdeal Cert.OutProjIdeal.Gen Cert.Product

section
variable {F : FTy → Type} [FloatOps F]

/-- A point's block is the product, added to zero, plus the third array's block. -/
theorem block (c : Dev nD) (i : grid0.Coords) (a0 : Memref sig .tc .vmem S2048x2048 .bf16) (h0 : a0.IsWhole) (a1 : Memref sig .tc .vmem S2048x512 .bf16) (h1 : a1.IsWhole) (a2 : Memref sig .tc .vmem S2048x512 .f32) (h2 : a2.IsWhole) (a3 : Memref sig .tc .vmem S2048x512 .f32) (h3 : a3.IsWhole)
    (b : Memref sig .tc .vmem S2048x512 .f32) (hb : b.IsWhole) (hc0 : cond0_0 i) (hc1 : cond0_1 i) (x : Vec F S2048x2048 .bf16) (y : Vec F S2048x512 .bf16) (z : Vec F S2048x512 .f32) :
    out0_A_3 c i a0 h0 a1 h1 a2 h2 a3 h3 b hb hc0 hc1 x y z = k0_pay3 (k0_pay2 k0_pay1 x y) z := by
  unfold out0_A_3
  rw [View.read_writes_eq_canon _ _ _ (cover0_A_3 c i a0 h0 a1 h1 a2 h2 a3 h3 b hb hc0 hc1 x y z)]
  unfold kernelRun0_A
  dsimp only
  sl_unfold_words
  rw [View.canon_unit_zero (S := S2048x512) zero2, View.readCov_cons_toLoadRect, View.readCov_unit_zero (S := S2048x512) _ zero2]
  simp only [View.readAt_eq_ld, h0.read_unread, h1.read_unread, h2.read_unread, View.ld_unit_zero (S := S2048x2048) zero2, View.ld_unit_zero (S := S2048x512) zero2]
end

/-- One step, at an index. -/
theorem pay_at (s : FVec Ideal S2048x512 .f32) (x : FVec Ideal S2048x2048 .bf16) (y : FVec Ideal S2048x512 .bf16) (r : Fin 2048) (j : Fin 512) :
    k0_pay2 (F := Ideal) s x y (ix2 r j) = s (ix2 r j) + ∑ k : Fin 2048, x (ix2 r k) * y (ix2 k j) := by
  unfold k0_pay2
  simp only [shapeCast_self]
  exact step_at s x y r j
/-- The scratch begins at zero. -/
theorem zero_at (i : S2048x512.Idx) : k0_pay1 (F := Ideal) i = (0 : EReal) := by
  unfold k0_pay1
  simp only [shapeCast_self]
  exact Ideal.ofBits_zero_f32
/-- The last step, at an index. -/
theorem last_at (s z : FVec Ideal S2048x512 .f32) (i : S2048x512.Idx) : k0_pay3 (F := Ideal) s z i = s i + z i := by
  unfold k0_pay3
  simp only [shapeCast_self]
  rfl

theorem lt_points (t : Fin cfg0.N) : t.val < 4 := lt_of_lt_of_eq t.isLt N_0
/-- Where each window stands at point `t`. -/
theorem places : ∀ t : Fin grid0.N, win0_0.index t = ![t.val / 2, 0] ∧ win0_1.index t = ![0, t.val % 2] ∧ win0_2.index t = ![t.val / 2, t.val % 2] ∧ win0_3.index t = ![t.val / 2, t.val % 2] := by decide +kernel
theorem place0 (t : Fin cfg0.N) (r : Fin 2048) (k : Fin 2048) : (win0_0.rect t).emb (ix2 r k) = ix2 ⟨2048 * (t.val / 2) + r.val, by have := lt_points t; omega⟩ k :=
  ix2_of _ _ _ ((win0_0.rect_emb_val t _ _).trans (by rw [(places t).1]; show (t.val / 2) * 2048 + r.val = 2048 * (t.val / 2) + r.val; omega))
    ((win0_0.rect_emb_val t _ _).trans (by rw [(places t).1]; show 0 * 2048 + k.val = k.val; omega))
theorem place1 (t : Fin cfg0.N) (k : Fin 2048) (j : Fin 512) : (win0_1.rect t).emb (ix2 k j) = ix2 k ⟨512 * (t.val % 2) + j.val, by have := lt_points t; omega⟩ :=
  ix2_of _ _ _ ((win0_1.rect_emb_val t _ _).trans (by rw [(places t).2.1]; show 0 * 2048 + k.val = k.val; omega))
    ((win0_1.rect_emb_val t _ _).trans (by rw [(places t).2.1]; show (t.val % 2) * 512 + j.val = 512 * (t.val % 2) + j.val; omega))
theorem place2 (t : Fin cfg0.N) (r : Fin 2048) (j : Fin 512) : (win0_2.rect t).emb (ix2 r j) = ix2 ⟨2048 * (t.val / 2) + r.val, by have := lt_points t; omega⟩ ⟨512 * (t.val % 2) + j.val, by have := lt_points t; omega⟩ :=
  ix2_of _ _ _ ((win0_2.rect_emb_val t _ _).trans (by rw [(places t).2.2.1]; show (t.val / 2) * 2048 + r.val = 2048 * (t.val / 2) + r.val; omega))
    ((win0_2.rect_emb_val t _ _).trans (by rw [(places t).2.2.1]; show (t.val % 2) * 512 + j.val = 512 * (t.val % 2) + j.val; omega))
theorem place3 (t : Fin cfg0.N) (r : Fin 2048) (j : Fin 512) : (win0_3.rect t).emb (ix2 r j) = ix2 ⟨2048 * (t.val / 2) + r.val, by have := lt_points t; omega⟩ ⟨512 * (t.val % 2) + j.val, by have := lt_points t; omega⟩ :=
  ix2_of _ _ _ ((win0_3.rect_emb_val t _ _).trans (by rw [(places t).2.2.2]; show (t.val / 2) * 2048 + r.val = 2048 * (t.val / 2) + r.val; omega))
    ((win0_3.rect_emb_val t _ _).trans (by rw [(places t).2.2.2]; show (t.val % 2) * 512 + j.val = 512 * (t.val % 2) + j.val; omega))

variable (m : (ℓ : Loc nD τ sig) → Buf (Elt Ideal) ℓ) (c : Dev nD)

theorem left_at (p : Fin 4096) (q : Fin 2048) : V m c main_v1 (ix2 p q) = m ((c : Thread nD τ).loc main_arg0) (ix3 0 p q) := by
  have e : V m c main_v1 = truncf (F := Ideal) .bf16 (shapeCast S4096x2048 (m ((c : Thread nD τ).loc main_arg0)) shapeCasts_S1x4096x2048_S4096x2048) bitsLt_bf16_f32 := by
    after_reads_simp
    rfl
  rw [e]
  exact drop_at _ _ p q
/-- The left block of point `t`, at an index. -/
theorem left_block (t : Fin cfg0.N) (r : Fin 2048) (k : Fin 2048) :
    iblk m c 0 t (ix2 r k) = m ((c : Thread nD τ).loc main_arg0) (ix3 0 ⟨2048 * (t.val / 2) + r.val, by have := lt_points t; omega⟩ k) :=
  have h : ∀ W : (b : Ref sig .tc) → Buf (Elt Ideal) ((c : Thread nD τ).loc b), ((cfg0.win 0).blk t).view.read (Elt Ideal) (W (Pipeline.arrRef spec0 0)) (ix2 r k) = W main_v1 (ix2 ⟨2048 * (t.val / 2) + r.val, by have := lt_points t; omega⟩ k) := fun W => congrArg (W main_v1) (place0 t r k)
  (h (V m c)).trans (left_at m c _ _)
theorem right_at (p : Fin 2048) (q : Fin 1024) : V m c main_v2 (ix2 p q) = m ((c : Thread nD τ).loc main_arg1) (ix2 p q) := by
  have e : V m c main_v2 = truncf (F := Ideal) .bf16 (m ((c : Thread nD τ).loc main_arg1)) bitsLt_bf16_f32 := by
    after_reads_simp
  rw [e]
  rfl
/-- The right block of point `t`, at an index. -/
theorem right_block (t : Fin cfg0.N) (k : Fin 2048) (j : Fin 512) :
    iblk m c 1 t (ix2 k j) = m ((c : Thread nD τ).loc main_arg1) (ix2 k ⟨512 * (t.val % 2) + j.val, by have := lt_points t; omega⟩) :=
  have h : ∀ W : (b : Ref sig .tc) → Buf (Elt Ideal) ((c : Thread nD τ).loc b), ((cfg0.win 1).blk t).view.read (Elt Ideal) (W (Pipeline.arrRef spec0 1)) (ix2 k j) = W main_v2 (ix2 k ⟨512 * (t.val % 2) + j.val, by have := lt_points t; omega⟩) := fun W => congrArg (W main_v2) (place1 t k j)
  (h (V m c)).trans (right_at m c _ _)
theorem third_at (p : Fin 4096) (q : Fin 1024) : V m c main_v3 (ix2 p q) = m ((c : Thread nD τ).loc main_arg2) (ix3 0 p q) := by
  have e : V m c main_v3 = shapeCast S4096x1024 (m ((c : Thread nD τ).loc main_arg2)) shapeCasts_S1x4096x1024_S4096x1024 := by
    after_reads_simp
    rfl
  rw [e]
  exact drop_at _ _ p q
/-- The third block of point `t`, at an index. -/
theorem third_block (t : Fin cfg0.N) (r : Fin 2048) (j : Fin 512) :
    iblk m c 2 t (ix2 r j) = m ((c : Thread nD τ).loc main_arg2) (ix3 0 ⟨2048 * (t.val / 2) + r.val, by have := lt_points t; omega⟩ ⟨512 * (t.val % 2) + j.val, by have := lt_points t; omega⟩) :=
  have h : ∀ W : (b : Ref sig .tc) → Buf (Elt Ideal) ((c : Thread nD τ).loc b), ((cfg0.win 2).blk t).view.read (Elt Ideal) (W (Pipeline.arrRef spec0 2)) (ix2 r j) = W main_v3 (ix2 ⟨2048 * (t.val / 2) + r.val, by have := lt_points t; omega⟩ ⟨512 * (t.val % 2) + j.val, by have := lt_points t; omega⟩) := fun W => congrArg (W main_v3) (place2 t r j)
  (h (V m c)).trans (third_at m c _ _)

/-- What a point writes. -/
theorem point_at (t : Fin cfg0.N) (r : Fin 2048) (j : Fin 512) : outsAt0 m c t (ix2 r j) = residualProduct (m ((c : Thread nD τ).loc main_arg0)) (m ((c : Thread nD τ).loc main_arg1)) (m ((c : Thread nD τ).loc main_arg2)) (ix2 ⟨2048 * (t.val / 2) + r.val, by have := lt_points t; omega⟩ ⟨512 * (t.val % 2) + j.val, by have := lt_points t; omega⟩) := by
  unfold outsAt0
  rw [block]
  rw [last_at, third_block]
  refine (add_comm _ _).trans (congrArg₂ (fun a b : EReal => a + b) rfl ?_)
  rw [pay_at, zero_at, zero_add]
  exact Finset.sum_congr rfl fun k _ => by rw [left_block, right_block]

/-- Every index of the result lies in some point's block. -/
theorem cover (i : S4096x1024.Idx) : ∃ t : Fin cfg0.N, (cfg0.win 3).flush t = true ∧ i ∈ ((cfg0.win 3).blk t).view.set := by
  have h0 : (i 0).val < 4096 := (i 0).isLt
  have h1 : (i 1).val < 1024 := (i 1).isLt
  have hN : cfg0.N = 4 := N_0
  let t : Fin cfg0.N := ⟨2 * ((i 0).val / 2048) + (i 1).val / 512, by omega⟩
  have ht : t.val = 2 * ((i 0).val / 2048) + (i 1).val / 512 := rfl
  refine ⟨t, flush0_3 t, ?_⟩
  have e : (win0_3.rect t).emb (ix2 (⟨(i 0).val % 2048, by omega⟩ : Fin 2048) (⟨(i 1).val % 512, by omega⟩ : Fin 512)) = i :=
    (place3 t _ _).trans (ix2_of i _ _ (by show (i 0).val = 2048 * (t.val / 2) + (i 0).val % 2048; omega) (by show (i 1).val = 512 * (t.val % 2) + (i 1).val % 512; omega)).symm
  exact e ▸ ((cfg0.win 3).blk t).view.emb_mem_set _

/-- The array the call leaves. -/
theorem array_eq : (dats m 0 c).arrAt 3 cfg0.N = residualProduct (m ((c : Thread nD τ).loc main_arg0)) (m ((c : Thread nD τ).loc main_arg1)) (m ((c : Thread nD τ).loc main_arg2)) := by
  refine (dats m 0 c).arrAt_eq_of_cover 3 _ (fun t hf => ?_) (fun i => cover i)
  rw [Value.flushed3]
  funext x
  obtain ⟨r, j, rfl⟩ : ∃ (r : Fin 2048) (j : Fin 512), x = ix2 r j := ix2_ex x
  exact (point_at m c t r j).trans (congrArg (residualProduct (m ((c : Thread nD τ).loc main_arg0)) (m ((c : Thread nD τ).loc main_arg1)) (m ((c : Thread nD τ).loc main_arg2))) (place3 t r j)).symm

end Cert.OutProjValue

end
-- ==== Proof.FfnDownValue.lean ====
/- The narrow channel product with its residual: what the call leaves. -/
module

public import proofs.«01_k».proof.Proof.Product
public import proofs.«01_k».proof.Proof.Gen.FfnDownIdeal.Value

@[expose] public section

noncomputable section

namespace Cert.FfnDownValue

open Idealize.ShloMosaic
open Idealize.ShloMosaic.ValueIdx Idealize.ShloMosaic.TcCoe Idealize.SL.Sem
open Cert.FfnDownIdeal Cert.FfnDownIdeal.Gen Cert.Product

section
variable {F : FTy → Type} [FloatOps F]

/-- After the first half the scratch holds the first product, added to zero. -/
theorem first (c : Dev nD) (i : grid0.Coords) (a0 : Memref sig .tc .vmem S1024x1408 .bf16) (h0 : a0.IsWhole) (a1 : Memref sig .tc .vmem S1408x1024 .bf16) (h1 : a1.IsWhole) (a2 : Memref sig .tc .vmem S1024x1024 .f32) (h2 : a2.IsWhole) (a3 : Memref sig .tc .vmem S1024x1024 .f32) (h3 : a3.IsWhole)
    (b : Memref sig .tc .vmem S1024x1024 .f32) (hb : b.IsWhole) (hc0 : cond0_0 i) (hc1 : ¬cond0_1 i) (x : Vec F S1024x1408 .bf16) (y : Vec F S1408x1024 .bf16) (z : Vec F S1024x1024 .f32) :
    sout0_A_0 c i a0 h0 a1 h1 a2 h2 a3 h3 b hb hc0 hc1 x y z = k0_pay2 k0_pay1 x y := by
  unfold sout0_A_0
  rw [View.read_writes_eq_canon _ _ _ (scover0_A_0 c i a0 h0 a1 h1 a2 h2 a3 h3 b hb hc0 hc1 x y z)]
  unfold kernelRun0_A
  dsimp only
  sl_unfold_words
  rw [View.canon_cons_unit_zero (S := S1024x1024) zero2, View.readCov_unit_zero (S := S1024x1024) _ zero2]
  simp only [View.readAt_eq_ld, h0.read_unread, h1.read_unread, View.ld_unit_zero (S := S1024x1408) zero2, View.ld_unit_zero (S := S1408x1024) zero2]

/-- After the second half the block is the scratch plus the second product, plus the third array's block. -/
theorem second (c : Dev nD) (i : grid0.Coords) (a0 : Memref sig .tc .vmem S1024x1408 .bf16) (h0 : a0.IsWhole) (a1 : Memref sig .tc .vmem S1408x1024 .bf16) (h1 : a1.IsWhole) (a2 : Memref sig .tc .vmem S1024x1024 .f32) (h2 : a2.IsWhole) (a3 : Memref sig .tc .vmem S1024x1024 .f32) (h3 : a3.IsWhole)
    (b : Memref sig .tc .vmem S1024x1024 .f32) (hb : b.IsWhole) (hc0 : ¬cond0_0 i) (hc1 : cond0_1 i) (x : Vec F S1024x1408 .bf16) (y : Vec F S1408x1024 .bf16) (z : Vec F S1024x1024 .f32) (s : Vec F S1024x1024 .f32) :
    out0_B_3 c i a0 h0 a1 h1 a2 h2 a3 h3 b hb hc0 hc1 x y z s = k0_pay3 (k0_pay2 s x y) z := by
  unfold out0_B_3
  rw [View.read_writes_eq_canon _ _ _ (cover0_B_3 c i a0 h0 a1 h1 a2 h2 a3 h3 b hb hc0 hc1 x y z s)]
  unfold kernelRun0_B
  dsimp only
  sl_unfold_words
  rw [View.canon_unit_zero (S := S1024x1024) zero2, View.readCov_unit_zero (S := S1024x1024) _ zero2]
  simp only [View.readAt_eq_ld, h0.read_unread, h1.read_unread, h2.read_unread, hb.read_unread, View.ld_unit_zero (S := S1024x1408) zero2, View.ld_unit_zero (S := S1408x1024) zero2, View.ld_unit_zero (S := S1024x1024) zero2]
end

/-- One step, at an index. -/
theorem pay_at (s : FVec Ideal S1024x1024 .f32) (x : FVec Ideal S1024x1408 .bf16) (y : FVec Ideal S1408x1024 .bf16) (r : Fin 1024) (j : Fin 1024) :
    k0_pay2 (F := Ideal) s x y (ix2 r j) = s (ix2 r j) + ∑ k : Fin 1408, x (ix2 r k) * y (ix2 k j) := by
  unfold k0_pay2
  simp only [shapeCast_self]
  exact step_at s x y r j
/-- The scratch begins at zero. -/
theorem zero_at (i : S1024x1024.Idx) : k0_pay1 (F := Ideal) i = (0 : EReal) := by
  unfold k0_pay1
  simp only [shapeCast_self]
  exact Ideal.ofBits_zero_f32
/-- The last step, at an index. -/
theorem last_at (s z : FVec Ideal S1024x1024 .f32) (i : S1024x1024.Idx) : k0_pay3 (F := Ideal) s z i = s i + z i := by
  unfold k0_pay3
  simp only [shapeCast_self]
  rfl

theorem lt_points (t : Fin cfg0.N) : t.val < 8 := lt_of_lt_of_eq t.isLt N_0
/-- Where each window stands at point `t`. -/
theorem places : ∀ t : Fin grid0.N, win0_0.index t = ![t.val / 2, t.val % 2] ∧ win0_1.index t = ![t.val % 2, 0] ∧ win0_2.index t = ![t.val / 2, 0] ∧ win0_3.index t = ![t.val / 2, 0] := by decide +kernel
theorem place0 (t : Fin cfg0.N) (r : Fin 1024) (k : Fin 1408) : (win0_0.rect t).emb (ix2 r k) = ix2 ⟨1024 * (t.val / 2) + r.val, by have := lt_points t; omega⟩ ⟨1408 * (t.val % 2) + k.val, by have := lt_points t; omega⟩ :=
  ix2_of _ _ _ ((win0_0.rect_emb_val t _ _).trans (by rw [(places t).1]; show (t.val / 2) * 1024 + r.val = 1024 * (t.val / 2) + r.val; omega))
    ((win0_0.rect_emb_val t _ _).trans (by rw [(places t).1]; show (t.val % 2) * 1408 + k.val = 1408 * (t.val % 2) + k.val; omega))
theorem place1 (t : Fin cfg0.N) (k : Fin 1408) (j : Fin 1024) : (win0_1.rect t).emb (ix2 k j) = ix2 ⟨1408 * (t.val % 2) + k.val, by have := lt_points t; omega⟩ j :=
  ix2_of _ _ _ ((win0_1.rect_emb_val t _ _).trans (by rw [(places t).2.1]; show (t.val % 2) * 1408 + k.val = 1408 * (t.val % 2) + k.val; omega))
    ((win0_1.rect_emb_val t _ _).trans (by rw [(places t).2.1]; show 0 * 1024 + j.val = j.val; omega))
theorem place2 (t : Fin cfg0.N) (r : Fin 1024) (j : Fin 1024) : (win0_2.rect t).emb (ix2 r j) = ix2 ⟨1024 * (t.val / 2) + r.val, by have := lt_points t; omega⟩ j :=
  ix2_of _ _ _ ((win0_2.rect_emb_val t _ _).trans (by rw [(places t).2.2.1]; show (t.val / 2) * 1024 + r.val = 1024 * (t.val / 2) + r.val; omega))
    ((win0_2.rect_emb_val t _ _).trans (by rw [(places t).2.2.1]; show 0 * 1024 + j.val = j.val; omega))
theorem place3 (t : Fin cfg0.N) (r : Fin 1024) (j : Fin 1024) : (win0_3.rect t).emb (ix2 r j) = ix2 ⟨1024 * (t.val / 2) + r.val, by have := lt_points t; omega⟩ j :=
  ix2_of _ _ _ ((win0_3.rect_emb_val t _ _).trans (by rw [(places t).2.2.2]; show (t.val / 2) * 1024 + r.val = 1024 * (t.val / 2) + r.val; omega))
    ((win0_3.rect_emb_val t _ _).trans (by rw [(places t).2.2.2]; show 0 * 1024 + j.val = j.val; omega))

variable (m : (ℓ : Loc nD τ sig) → Buf (Elt Ideal) ℓ) (c : Dev nD)

theorem left_at (p : Fin 4096) (q : Fin 2816) : V m c main_v1 (ix2 p q) = m ((c : Thread nD τ).loc main_arg0) (ix3 0 p q) := by
  have e : V m c main_v1 = truncf (F := Ideal) .bf16 (shapeCast S4096x2816 (m ((c : Thread nD τ).loc main_arg0)) shapeCasts_S1x4096x2816_S4096x2816) bitsLt_bf16_f32 := by
    after_reads_simp
    rfl
  rw [e]
  exact drop_at _ _ p q
/-- The left block of point `t`, at an index. -/
theorem left_block (t : Fin cfg0.N) (r : Fin 1024) (k : Fin 1408) :
    iblk m c 0 t (ix2 r k) = m ((c : Thread nD τ).loc main_arg0) (ix3 0 ⟨1024 * (t.val / 2) + r.val, by have := lt_points t; omega⟩ ⟨1408 * (t.val % 2) + k.val, by have := lt_points t; omega⟩) :=
  have h : ∀ W : (b : Ref sig .tc) → Buf (Elt Ideal) ((c : Thread nD τ).loc b), ((cfg0.win 0).blk t).view.read (Elt Ideal) (W (Pipeline.arrRef spec0 0)) (ix2 r k) = W main_v1 (ix2 ⟨1024 * (t.val / 2) + r.val, by have := lt_points t; omega⟩ ⟨1408 * (t.val % 2) + k.val, by have := lt_points t; omega⟩) := fun W => congrArg (W main_v1) (place0 t r k)
  (h (V m c)).trans (left_at m c _ _)
theorem right_at (p : Fin 2816) (q : Fin 1024) : V m c main_v2 (ix2 p q) = m ((c : Thread nD τ).loc main_arg1) (ix2 p q) := by
  have e : V m c main_v2 = truncf (F := Ideal) .bf16 (m ((c : Thread nD τ).loc main_arg1)) bitsLt_bf16_f32 := by
    after_reads_simp
  rw [e]
  rfl
/-- The right block of point `t`, at an index. -/
theorem right_block (t : Fin cfg0.N) (k : Fin 1408) (j : Fin 1024) :
    iblk m c 1 t (ix2 k j) = m ((c : Thread nD τ).loc main_arg1) (ix2 ⟨1408 * (t.val % 2) + k.val, by have := lt_points t; omega⟩ j) :=
  have h : ∀ W : (b : Ref sig .tc) → Buf (Elt Ideal) ((c : Thread nD τ).loc b), ((cfg0.win 1).blk t).view.read (Elt Ideal) (W (Pipeline.arrRef spec0 1)) (ix2 k j) = W main_v2 (ix2 ⟨1408 * (t.val % 2) + k.val, by have := lt_points t; omega⟩ j) := fun W => congrArg (W main_v2) (place1 t k j)
  (h (V m c)).trans (right_at m c _ _)
theorem third_at (p : Fin 4096) (q : Fin 1024) : V m c main_v3 (ix2 p q) = m ((c : Thread nD τ).loc main_arg2) (ix3 0 p q) := by
  have e : V m c main_v3 = shapeCast S4096x1024 (m ((c : Thread nD τ).loc main_arg2)) shapeCasts_S1x4096x1024_S4096x1024 := by
    after_reads_simp
    rfl
  rw [e]
  exact drop_at _ _ p q
/-- The third block of point `t`, at an index. -/
theorem third_block (t : Fin cfg0.N) (r : Fin 1024) (j : Fin 1024) :
    iblk m c 2 t (ix2 r j) = m ((c : Thread nD τ).loc main_arg2) (ix3 0 ⟨1024 * (t.val / 2) + r.val, by have := lt_points t; omega⟩ j) :=
  have h : ∀ W : (b : Ref sig .tc) → Buf (Elt Ideal) ((c : Thread nD τ).loc b), ((cfg0.win 2).blk t).view.read (Elt Ideal) (W (Pipeline.arrRef spec0 2)) (ix2 r j) = W main_v3 (ix2 ⟨1024 * (t.val / 2) + r.val, by have := lt_points t; omega⟩ j) := fun W => congrArg (W main_v3) (place2 t r j)
  (h (V m c)).trans (third_at m c _ _)

/-- What the last point of a block writes. -/
theorem point_at (t : Fin cfg0.N) (h : t.val % 2 = 1) (r : Fin 1024) (j : Fin 1024) :
    (outsAt0 m c t.val t.isLt).1 (ix2 r j) = residualProduct (m ((c : Thread nD τ).loc main_arg0)) (m ((c : Thread nD τ).loc main_arg1)) (m ((c : Thread nD τ).loc main_arg2)) (ix2 ⟨1024 * (t.val / 2) + r.val, by have := lt_points t; omega⟩ j) := by
  have ht := lt_points t
  have hb : t.val - 1 < cfg0.N := lt_of_le_of_lt (Nat.sub_le _ _) t.isLt
  rw [outsAt0_B m c t (by omega) h]
  dsimp only
  rw [second]
  rw [last_at, third_block]
  refine (add_comm _ _).trans (congrArg₂ (fun a b : EReal => a + b) rfl ?_)
  rw [pay_at, show (outsAt0 m c (t.val - 1) hb).2 = k0_pay2 k0_pay1 (iblk m c 0 ⟨t.val - 1, hb⟩) (iblk m c 1 ⟨t.val - 1, hb⟩) from by
    rw [outsAt0_A m c ⟨t.val - 1, hb⟩ (show (t.val - 1) % 2 = 0 by omega) (show ¬(t.val - 1) % 2 = 1 by omega)]
    dsimp only
    rw [first], pay_at]
  refine two_steps 1408 _ _ _ _ (zero_at _) (fun k => ?_) (fun k => ?_)
  · rw [left_block, right_block]
    simp only [show 1408 * ((t.val - 1) % 2) + k.val = k.val by omega, show (t.val - 1) / 2 = t.val / 2 by omega]
  · rw [left_block, right_block]
    simp only [show 1408 * (t.val % 2) + k.val = 1408 + k.val by omega]

/-- The array the call leaves. -/
theorem array_eq : (dats m 0 c).arrAt 3 cfg0.N = residualProduct (m ((c : Thread nD τ).loc main_arg0)) (m ((c : Thread nD τ).loc main_arg1)) (m ((c : Thread nD τ).loc main_arg2)) := by
  refine (dats m 0 c).arrAt_eq_of_cover 3 _ (fun t hf => ?_) (fun i => (Value.covered_iff3 i).2 (by
    have h0 : (i 0).val < 4096 := (i 0).isLt; have h1 : (i 1).val < 1024 := (i 1).isLt; omega))
  rw [Value.flushed3]
  funext x
  obtain ⟨r, j, rfl⟩ : ∃ (r : Fin 1024) (j : Fin 1024), x = ix2 r j := ix2_ex x
  exact (point_at m c t ((flush0_3 t).mp hf) r j).trans (congrArg (residualProduct (m ((c : Thread nD τ).loc main_arg0)) (m ((c : Thread nD τ).loc main_arg1)) (m ((c : Thread nD τ).loc main_arg2))) (place3 t r j)).symm

end Cert.FfnDownValue

end
-- ==== Proof.ForwardClaims.lean ====
module

public import proofs.«01_k».proof.Defs
public import proofs.«01_k».proof.Proof.Grad
public import proofs.«01_k».proof.Proof.InProjValue
public import proofs.«01_k».proof.Proof.Gen.InProj
public import proofs.«01_k».proof.Proof.Gen.InProj.Frame
public import proofs.«01_k».proof.Proof.Gen.InProjRefIdeal.Run
public import proofs.«01_k».proof.Proof.FfnUpValue
public import proofs.«01_k».proof.Proof.Gen.FfnUp
public import proofs.«01_k».proof.Proof.Gen.FfnUp.Frame
public import proofs.«01_k».proof.Proof.Gen.FfnUpRefIdeal.Run
public import proofs.«01_k».proof.Proof.OutProjValue
public import proofs.«01_k».proof.Proof.Gen.OutProj
public import proofs.«01_k».proof.Proof.Gen.OutProj.Frame
public import proofs.«01_k».proof.Proof.Gen.OutProjRefIdeal.Run
public import proofs.«01_k».proof.Proof.FfnDownValue
public import proofs.«01_k».proof.Proof.Gen.FfnDown
public import proofs.«01_k».proof.Proof.Gen.FfnDown.Frame
public import proofs.«01_k».proof.Proof.Gen.FfnDownRefIdeal.Run
public import Idealize.ShloMosaic.Lib.Quiescent

/-!
The claims about the four products of the forward pass.
-/

@[expose] public section

open Idealize.ShloMosaic Idealize.ShloMosaic.TcCoe Idealize.SL.Sem
open Cert.Product

namespace Cert.InProjClaims

/-- The kernel of the input projection leaves its inputs and its semaphores as it found them. -/
theorem frame_kernel : Cert.quiescent_InProj := fun m ρ _ => Cert.InProj.Gen.frame m ρ

/-- So does its rewritten text. -/
theorem frame_ideal : Cert.quiescent_InProjIdeal := fun m ρ _ => Cert.InProjIdeal.Gen.frame m ρ

/-- So does its reference. -/
theorem frame_reference : Cert.quiescent_InProjRefIdeal := fun m ρ _ =>
  (θ_run Cert.InProjRefIdeal.defs _ _).mono (fun r h => ⟨fun c => (h c).2, sem_eq_zero_of_no_sems (by decide) r.2⟩)
    (Cert.InProjRefIdeal.Value.run (F := Ideal) m ρ)

/-- No operation was replaced. -/
theorem preserves : Cert.preserves_InProj_InProjIdeal := trivial

/-- In exact arithmetic kernel and reference end in the same array for the input projection. -/
theorem algebraic : Cert.algebraic_InProjIdeal_InProjRefIdeal := fun m ρ m' ρ' _ hagree =>
  ⟨fun c => (Cert.InProjIdeal.Gen.dats m 0 c).arrAt 2 Cert.InProjIdeal.cfg0.N,
    Cert.InProjIdeal.Value.run_blocks (F := Ideal) m ρ,
    (θ_run Cert.InProjRefIdeal.defs _ _).mono (fun _ h c => ⟨(h c).1.trans
      ((projection_of _ rfl rfl rfl rfl rfl rfl _ _ (hagree c).1 (hagree c).2).trans
        (Cert.InProjValue.array_eq m c).symm), (h c).2⟩) (Cert.InProjRefIdeal.Value.run (F := Ideal) m' ρ')⟩

end Cert.InProjClaims

namespace Cert.FfnUpClaims

/-- The kernel of the up projection leaves its inputs and its semaphores as it found them. -/
theorem frame_kernel : Cert.quiescent_FfnUp := fun m ρ _ => Cert.FfnUp.Gen.frame m ρ

/-- So does its rewritten text. -/
theorem frame_ideal : Cert.quiescent_FfnUpIdeal := fun m ρ _ => Cert.FfnUpIdeal.Gen.frame m ρ

/-- So does its reference. -/
theorem frame_reference : Cert.quiescent_FfnUpRefIdeal := fun m ρ _ =>
  (θ_run Cert.FfnUpRefIdeal.defs _ _).mono (fun r h => ⟨fun c => (h c).2, sem_eq_zero_of_no_sems (by decide) r.2⟩)
    (Cert.FfnUpRefIdeal.Value.run (F := Ideal) m ρ)

/-- No operation was replaced. -/
theorem preserves : Cert.preserves_FfnUp_FfnUpIdeal := trivial

/-- In exact arithmetic kernel and reference end in the same array for the up projection. -/
theorem algebraic : Cert.algebraic_FfnUpIdeal_FfnUpRefIdeal := fun m ρ m' ρ' _ hagree =>
  ⟨fun c => (Cert.FfnUpIdeal.Gen.dats m 0 c).arrAt 2 Cert.FfnUpIdeal.cfg0.N,
    Cert.FfnUpIdeal.Value.run_blocks (F := Ideal) m ρ,
    (θ_run Cert.FfnUpRefIdeal.defs _ _).mono (fun _ h c => ⟨(h c).1.trans
      ((projection_of _ rfl rfl rfl rfl rfl rfl _ _ (hagree c).1 (hagree c).2).trans
        (Cert.FfnUpValue.array_eq m c).symm), (h c).2⟩) (Cert.FfnUpRefIdeal.Value.run (F := Ideal) m' ρ')⟩

end Cert.FfnUpClaims

namespace Cert.OutProjClaims

/-- The kernel of the output projection with its residual leaves its inputs and its semaphores as it found them. -/
theorem frame_kernel : Cert.quiescent_OutProj := fun m ρ _ => Cert.OutProj.Gen.frame m ρ

/-- So does its rewritten text. -/
theorem frame_ideal : Cert.quiescent_OutProjIdeal := fun m ρ _ => Cert.OutProjIdeal.Gen.frame m ρ

/-- So does its reference. -/
theorem frame_reference : Cert.quiescent_OutProjRefIdeal := fun m ρ _ =>
  (θ_run Cert.OutProjRefIdeal.defs _ _).mono (fun r h => ⟨fun c => (h c).2, sem_eq_zero_of_no_sems (by decide) r.2⟩)
    (Cert.OutProjRefIdeal.Value.run (F := Ideal) m ρ)

/-- No operation was replaced. -/
theorem preserves : Cert.preserves_OutProj_OutProjIdeal := trivial

/-- In exact arithmetic kernel and reference end in the same array for the output projection with its residual. -/
theorem algebraic : Cert.algebraic_OutProjIdeal_OutProjRefIdeal := fun m ρ m' ρ' _ hagree =>
  ⟨fun c => (Cert.OutProjIdeal.Gen.dats m 0 c).arrAt 3 Cert.OutProjIdeal.cfg0.N,
    Cert.OutProjIdeal.Value.run_blocks (F := Ideal) m ρ,
    (θ_run Cert.OutProjRefIdeal.defs _ _).mono (fun _ h c => ⟨(h c).1.trans
      ((residual_of _ rfl rfl rfl rfl rfl rfl _ (hagree c).1 (hagree c).2.1 (hagree c).2.2).trans
        (Cert.OutProjValue.array_eq m c).symm), (h c).2⟩) (Cert.OutProjRefIdeal.Value.run (F := Ideal) m' ρ')⟩

end Cert.OutProjClaims

namespace Cert.FfnDownClaims

/-- The kernel of the down projection with its residual leaves its inputs and its semaphores as it found them. -/
theorem frame_kernel : Cert.quiescent_FfnDown := fun m ρ _ => Cert.FfnDown.Gen.frame m ρ

/-- So does its rewritten text. -/
theorem frame_ideal : Cert.quiescent_FfnDownIdeal := fun m ρ _ => Cert.FfnDownIdeal.Gen.frame m ρ

/-- So does its reference. -/
theorem frame_reference : Cert.quiescent_FfnDownRefIdeal := fun m ρ _ =>
  (θ_run Cert.FfnDownRefIdeal.defs _ _).mono (fun r h => ⟨fun c => (h c).2, sem_eq_zero_of_no_sems (by decide) r.2⟩)
    (Cert.FfnDownRefIdeal.Value.run (F := Ideal) m ρ)

/-- No operation was replaced. -/
theorem preserves : Cert.preserves_FfnDown_FfnDownIdeal := trivial

/-- In exact arithmetic kernel and reference end in the same array for the down projection with its residual. -/
theorem algebraic : Cert.algebraic_FfnDownIdeal_FfnDownRefIdeal := fun m ρ m' ρ' _ hagree =>
  ⟨fun c => (Cert.FfnDownIdeal.Gen.dats m 0 c).arrAt 3 Cert.FfnDownIdeal.cfg0.N,
    Cert.FfnDownIdeal.Value.run_blocks (F := Ideal) m ρ,
    (θ_run Cert.FfnDownRefIdeal.defs _ _).mono (fun _ h c => ⟨(h c).1.trans
      ((residual_of _ rfl rfl rfl rfl rfl rfl _ (hagree c).1 (hagree c).2.1 (hagree c).2.2).trans
        (Cert.FfnDownValue.array_eq m c).symm), (h c).2⟩) (Cert.FfnDownRefIdeal.Value.run (F := Ideal) m' ρ')⟩

end Cert.FfnDownClaims
-- ==== Proof.Update.lean ====
/- The AdamW step: its scalar functions, and the reference's four results as arrays of them. -/
module

public import proofs.«01_k».proof.Proof.Product
public import Idealize.ShloMosaic.PureOps.Ideal.Laws

@[expose] public section

noncomputable section

namespace Cert.Update

open Idealize.ShloMosaic
open Idealize.ShloMosaic.ValueIdx
open Cert.Product
open scoped BigOperators

/-- A literal of the program. -/
abbrev lit (b : BitVec 32) : EReal := FloatOps.ofBits (F := Ideal) .f32 b

/-- The first moment after the step. -/
def moment (g m : EReal) : EReal := lit 0x3F666666#32 * m + lit 0x3DCCCCCD#32 * g
/-- The second moment after the step. -/
def second (g v : EReal) : EReal := lit 0x3F7FBE77#32 * v + lit 0x3A83126F#32 * (g * g)
/-- The change of the weight. -/
def change (g w m v : EReal) : EReal :=
  lit 0xBA83126F#32 * (FloatOps.divf (F := Ideal) (φ := .f32) (FloatOps.divf (F := Ideal) (φ := .f32) (moment g m) (lit 0x3F26BD02#32))
    (FloatOps.sqrt (F := Ideal) (φ := .f32) (FloatOps.divf (F := Ideal) (φ := .f32) (second g v) (lit 0x3C231ACC#32)) + lit 0x322BCC77#32) + lit 0x3C23D70A#32 * w)

/-- The gradient: the devices' parts added up. -/
def totals {R C : ℕ} (P : (⟨3, ![8, R, C]⟩ : Shape).Idx → EReal) : (⟨2, ![R, C]⟩ : Shape).Idx → EReal := fun x =>
  ∑ d : Fin 8, P (ix3 d ⟨(x 0).val, (x 0).isLt⟩ ⟨(x 1).val, (x 1).isLt⟩)
/-- An array with a leading axis of one, at an index of two axes. -/
def under {R C : ℕ} (A : (⟨3, ![1, R, C]⟩ : Shape).Idx → EReal) : (⟨2, ![R, C]⟩ : Shape).Idx → EReal := fun x =>
  A (ix3 0 ⟨(x 0).val, (x 0).isLt⟩ ⟨(x 1).val, (x 1).isLt⟩)
/-- The first moments after the step. -/
def moments {R C : ℕ} (P : (⟨3, ![8, R, C]⟩ : Shape).Idx → EReal) (M : (⟨3, ![1, R, C]⟩ : Shape).Idx → EReal) : (⟨2, ![R, C]⟩ : Shape).Idx → EReal := fun x =>
  moment (totals P x) (under M x)
/-- The second moments after the step. -/
def seconds {R C : ℕ} (P : (⟨3, ![8, R, C]⟩ : Shape).Idx → EReal) (V : (⟨3, ![1, R, C]⟩ : Shape).Idx → EReal) : (⟨2, ![R, C]⟩ : Shape).Idx → EReal := fun x =>
  second (totals P x) (under V x)
/-- The changes of the weights. -/
def changes {R C : ℕ} (P : (⟨3, ![8, R, C]⟩ : Shape).Idx → EReal) (W M V : (⟨3, ![1, R, C]⟩ : Shape).Idx → EReal) : (⟨2, ![R, C]⟩ : Shape).Idx → EReal := fun x =>
  change (totals P x) (under W x) (under M x) (under V x)

/-- An index of three axes, from its coordinates. -/
theorem ix3_of {L M N : ℕ} (x : (⟨3, ![L, M, N]⟩ : Shape).Idx) (d : Fin L) (r : Fin M) (j : Fin N) (h0 : (x 0).val = d.val) (h1 : (x 1).val = r.val) (h2 : (x 2).val = j.val) : x = ix3 d r j :=
  funext fun a => Fin.ext (match a with
    | ⟨0, _⟩ => h0
    | ⟨1, _⟩ => h1
    | ⟨2, _⟩ => h2)

/-! ## The reference -/

/-- The parts' sum with a leading axis of one, at an index. -/
theorem total_at {R C : ℕ} (P : FVec Ideal ⟨3, ![8, R, C]⟩ .bf16) (hb : FTy.bits .bf16 < FTy.bits .f32)
    (hr : (⟨3, ![8, R, C]⟩ : Shape).ReducesTo [0] ⟨2, ![R, C]⟩) (hs : (⟨3, ![8, R, C]⟩ : Shape).Reduces [0] ⟨2, ![R, C]⟩) (h0 : 0 < (⟨0, ![]⟩ : Shape).numel) (r : Fin R) (j : Fin C) :
    Host.reduceAdd (F := Ideal) (extf (F := Ideal) .f32 P hb) (constant (F := Ideal) ⟨0, ![]⟩ .f32 0x00000000#32) hr h0 (ix2 r j) = totals P (ix2 r j) := by
  simp only [Host.reduceAdd, Ideal.hostReduceAdd_def]
  rw [Ideal.hostReduceAdd_single hr hs]
  refine (congrArg (· + _) Ideal.ofBits_zero_f32).trans ((zero_add _).trans (Finset.sum_congr rfl fun k _ => ?_))
  exact congrArg P (ix3_of _ k r j rfl rfl rfl)

/-- A leading axis of one put before two axes, at an index. -/
theorem lifted_at {R C : ℕ} (hb : (⟨2, ![R, C]⟩ : Shape).BroadcastsInDim ⟨3, ![1, R, C]⟩ ![1, 2]) (G : FVec Ideal ⟨2, ![R, C]⟩ .f32) (r : Fin R) (j : Fin C) :
    broadcastInDim ⟨3, ![1, R, C]⟩ ![1, 2] hb G (ix3 0 r j) = G (ix2 r j) :=
  broadcastInDim_apply _ hb G _ _ (fun a => match a with
    | ⟨0, _⟩ => by
      show r.val = if R = 1 then 0 else r.val
      split <;> omega
    | ⟨1, _⟩ => by
      show j.val = if C = 1 then 0 else j.val
      split <;> omega)

section
variable {R C : ℕ} (hc : (⟨3, ![1, R, C]⟩ : Shape).ShapeCasts ⟨2, ![R, C]⟩) (hk : (⟨0, ![]⟩ : Shape).BroadcastsInDim ⟨3, ![1, R, C]⟩ ![])

/-- A literal spread over an array. -/
abbrev spread (b : BitVec 32) : FVec Ideal ⟨3, ![1, R, C]⟩ .f32 := broadcastInDim ⟨3, ![1, R, C]⟩ ![] hk (constant (F := Ideal) ⟨0, ![]⟩ .f32 b)

/-- The reference's first moments, from any gradient. -/
theorem moment_at (G M : FVec Ideal ⟨3, ![1, R, C]⟩ .f32) (r : Fin R) (j : Fin C) :
    shapeCast ⟨2, ![R, C]⟩ (addf (mulf (spread hk 0x3F666666#32) M) (mulf (spread hk 0x3DCCCCCD#32) G)) hc (ix2 r j)
      = moment (G (ix3 0 r j)) (M (ix3 0 r j)) :=
  (drop_at _ hc r j).trans rfl

/-- The reference's second moments, from any gradient. -/
theorem second_at (G V : FVec Ideal ⟨3, ![1, R, C]⟩ .f32) (r : Fin R) (j : Fin C) :
    shapeCast ⟨2, ![R, C]⟩ (addf (mulf (spread hk 0x3F7FBE77#32) V) (mulf (spread hk 0x3A83126F#32) (mulf G G))) hc (ix2 r j)
      = second (G (ix3 0 r j)) (V (ix3 0 r j)) :=
  (drop_at _ hc r j).trans rfl

/-- The reference's changes, from any gradient. -/
theorem change_at (G W M V : FVec Ideal ⟨3, ![1, R, C]⟩ .f32) (r : Fin R) (j : Fin C) :
    shapeCast ⟨2, ![R, C]⟩ (mulf (spread hk 0xBA83126F#32) (addf (Host.divf (Host.divf (addf (mulf (spread hk 0x3F666666#32) M) (mulf (spread hk 0x3DCCCCCD#32) G)) (spread hk 0x3F26BD02#32))
        (addf (Host.sqrt (Host.divf (addf (mulf (spread hk 0x3F7FBE77#32) V) (mulf (spread hk 0x3A83126F#32) (mulf G G))) (spread hk 0x3C231ACC#32))) (spread hk 0x322BCC77#32)))
      (mulf (spread hk 0x3C23D70A#32) W))) hc (ix2 r j)
      = change (G (ix3 0 r j)) (W (ix3 0 r j)) (M (ix3 0 r j)) (V (ix3 0 r j)) :=
  (drop_at _ hc r j).trans rfl
end

section
variable {R C : ℕ} (hc : (⟨3, ![1, R, C]⟩ : Shape).ShapeCasts ⟨2, ![R, C]⟩) (hk : (⟨0, ![]⟩ : Shape).BroadcastsInDim ⟨3, ![1, R, C]⟩ ![])
  (hb : FTy.bits .bf16 < FTy.bits .f32) (hr : (⟨3, ![8, R, C]⟩ : Shape).ReducesTo [0] ⟨2, ![R, C]⟩) (hs : (⟨3, ![8, R, C]⟩ : Shape).Reduces [0] ⟨2, ![R, C]⟩) (h0 : 0 < (⟨0, ![]⟩ : Shape).numel)
  (hl : (⟨2, ![R, C]⟩ : Shape).BroadcastsInDim ⟨3, ![1, R, C]⟩ ![1, 2])

/-- The reference's gradient with its leading axis of one. -/
abbrev gradient (P : FVec Ideal ⟨3, ![8, R, C]⟩ .bf16) : FVec Ideal ⟨3, ![1, R, C]⟩ .f32 :=
  broadcastInDim ⟨3, ![1, R, C]⟩ ![1, 2] hl (Host.reduceAdd (F := Ideal) (extf (F := Ideal) .f32 P hb) (constant (F := Ideal) ⟨0, ![]⟩ .f32 0x00000000#32) hr h0)

include hs in
/-- The gradient, at an index. -/
theorem gradient_at (P : FVec Ideal ⟨3, ![8, R, C]⟩ .bf16) (r : Fin R) (j : Fin C) : gradient hb hr h0 hl P (ix3 0 r j) = totals P (ix2 r j) :=
  (lifted_at hl _ r j).trans (total_at P hb hr hs h0 r j)

variable {P P' : FVec Ideal ⟨3, ![8, R, C]⟩ .bf16} {W W' M M' V V' : FVec Ideal ⟨3, ![1, R, C]⟩ .f32} (eP : P = P')

include hs eP in
/-- The reference's gradient as an array. -/
theorem totals_of : shapeCast ⟨2, ![R, C]⟩ (gradient hb hr h0 hl P) hc = totals P' := by
  subst eP
  funext i
  obtain ⟨r, j, rfl⟩ := ix2_ex i
  exact (drop_at _ hc r j).trans (gradient_at hb hr hs h0 hl P r j)

include hs eP in
/-- The reference's first moments as an array. -/
theorem moments_of (eM : M = M') :
    shapeCast ⟨2, ![R, C]⟩ (addf (mulf (spread hk 0x3F666666#32) M) (mulf (spread hk 0x3DCCCCCD#32) (gradient hb hr h0 hl P))) hc = moments P' M' := by
  subst eP eM
  funext i
  obtain ⟨r, j, rfl⟩ := ix2_ex i
  exact (moment_at hc hk _ M r j).trans (congrArg (fun g => moment g (M (ix3 0 r j))) (gradient_at hb hr hs h0 hl P r j))

include hs eP in
/-- The reference's second moments as an array. -/
theorem seconds_of (eV : V = V') :
    shapeCast ⟨2, ![R, C]⟩ (addf (mulf (spread hk 0x3F7FBE77#32) V) (mulf (spread hk 0x3A83126F#32) (mulf (gradient hb hr h0 hl P) (gradient hb hr h0 hl P)))) hc = seconds P' V' := by
  subst eP eV
  funext i
  obtain ⟨r, j, rfl⟩ := ix2_ex i
  exact (second_at hc hk _ V r j).trans (congrArg (fun g => second g (V (ix3 0 r j))) (gradient_at hb hr hs h0 hl P r j))

include hs eP in
/-- The reference's changes as an array. -/
theorem changes_of (eW : W = W') (eM : M = M') (eV : V = V') :
    shapeCast ⟨2, ![R, C]⟩ (mulf (spread hk 0xBA83126F#32) (addf (Host.divf (Host.divf (addf (mulf (spread hk 0x3F666666#32) M) (mulf (spread hk 0x3DCCCCCD#32) (gradient hb hr h0 hl P))) (spread hk 0x3F26BD02#32))
        (addf (Host.sqrt (Host.divf (addf (mulf (spread hk 0x3F7FBE77#32) V) (mulf (spread hk 0x3A83126F#32) (mulf (gradient hb hr h0 hl P) (gradient hb hr h0 hl P)))) (spread hk 0x3C231ACC#32))) (spread hk 0x322BCC77#32)))
      (mulf (spread hk 0x3C23D70A#32) W))) hc = changes P' W' M' V' := by
  subst eP eW eM eV
  funext i
  obtain ⟨r, j, rfl⟩ := ix2_ex i
  exact (change_at hc hk _ W M V r j).trans (congrArg (fun g => change g (W (ix3 0 r j)) (M (ix3 0 r j)) (V (ix3 0 r j))) (gradient_at hb hr hs h0 hl P r j))
end

/-! ## The kernel's body -/

/-- One device's slice of a block, without its axis of one. -/
theorem slice_at {R C : ℕ} (k : ℕ) (hk : k < 8) (P : Vec Ideal ⟨3, ![8, R, C]⟩ .bf16) (inb) (hc : (⟨3, ![1, R, C]⟩ : Shape).ShapeCasts ⟨2, ![R, C]⟩) (r : Fin R) (j : Fin C) :
    shapeCast ⟨2, ![R, C]⟩ (View.ld P (Rect.unit (s := ⟨3, ![8, R, C]⟩) ![k, 0, 0] ![1, R, C] inb)) hc (ix2 r j) = P (ix3 ⟨k, hk⟩ r j) :=
  (drop_at _ hc r j).trans (congrArg P (ix3_of _ _ _ _ (by simp [Rect.unit, Rect.emb]; rfl) (by simp [Rect.unit, Rect.emb]; rfl) (by simp [Rect.unit, Rect.emb]; rfl)))

/-- One device's slice of a block, widened. -/
abbrev slice {R C : ℕ} (k : ℕ) (P : Vec Ideal ⟨3, ![8, R, C]⟩ .bf16) (inb : ∀ a, ![k, 0, 0] a + ![1, R, C] a ≤ (⟨3, ![8, R, C]⟩ : Shape).size a)
    (hc : (⟨3, ![1, R, C]⟩ : Shape).ShapeCasts ⟨2, ![R, C]⟩) (hb : FTy.bits .bf16 < FTy.bits .f32) : FVec Ideal ⟨2, ![R, C]⟩ .f32 :=
  extf (F := Ideal) .f32 (shapeCast ⟨2, ![R, C]⟩ (View.ld P (Rect.unit (s := ⟨3, ![8, R, C]⟩) ![k, 0, 0] ![1, R, C] inb)) hc) hb

/-- The eight slices added in turn. -/
theorem parts_at {R C : ℕ} (P : Vec Ideal ⟨3, ![8, R, C]⟩ .bf16) (i0 i1 i2 i3 i4 i5 i6 i7) (hc : (⟨3, ![1, R, C]⟩ : Shape).ShapeCasts ⟨2, ![R, C]⟩) (hb : FTy.bits .bf16 < FTy.bits .f32) (r : Fin R) (j : Fin C) :
    addf (addf (addf (addf (addf (addf (addf (slice 0 P i0 hc hb) (slice 1 P i1 hc hb)) (slice 2 P i2 hc hb)) (slice 3 P i3 hc hb)) (slice 4 P i4 hc hb)) (slice 5 P i5 hc hb)) (slice 6 P i6 hc hb)) (slice 7 P i7 hc hb) (ix2 r j)
      = totals P (ix2 r j) := by
  have e : ∀ (k : ℕ) (hk : k < 8) (i), slice k P i hc hb (ix2 r j) = P (ix3 ⟨k, hk⟩ r j) := fun k hk i => slice_at k hk P i hc r j
  show (((((((slice 0 P i0 hc hb (ix2 r j) + slice 1 P i1 hc hb (ix2 r j) : EReal) + slice 2 P i2 hc hb (ix2 r j) : EReal) + slice 3 P i3 hc hb (ix2 r j) : EReal) + slice 4 P i4 hc hb (ix2 r j) : EReal)
    + slice 5 P i5 hc hb (ix2 r j) : EReal) + slice 6 P i6 hc hb (ix2 r j) : EReal) + slice 7 P i7 hc hb (ix2 r j) : EReal) = _
  rw [e 0 (by omega), e 1 (by omega), e 2 (by omega), e 3 (by omega), e 4 (by omega), e 5 (by omega), e 6 (by omega), e 7 (by omega)]
  exact (Fin.sum_univ_eight (fun d => P (ix3 d r j))).symm

end Cert.Update

end
-- ==== Proof.UpdateOutValue.lean ====
/- The AdamW step of the output projection: what the call leaves. -/
module

public import proofs.«01_k».proof.Proof.Update
public import proofs.«01_k».proof.Proof.Gen.UpdateOutIdeal.Value

@[expose] public section

noncomputable section

namespace Cert.UpdateOutValue

open Idealize.ShloMosaic
open Idealize.ShloMosaic.ValueIdx Idealize.ShloMosaic.TcCoe Idealize.SL.Sem
open Cert.UpdateOutIdeal Cert.UpdateOutIdeal.Gen Cert.Product Cert.Update

section
variable (x0 : Vec Ideal S8x256x1024 .bf16) (x1 x2 x3 : Vec Ideal S256x1024 .f32) (r : Fin 256) (j : Fin 1024)

/-- The gradient that the body adds up. -/
theorem sum_at : k0_pay6 (F := Ideal) x0 x1 x2 x3 (ix2 r j) = totals x0 (ix2 r j) := by
  unfold k0_pay6 k0_pay4
  exact parts_at x0 _ _ _ _ _ _ _ _ _ _ r j
/-- The block of the gradient. -/
theorem block4 : out0_4 (F := Ideal) x0 x1 x2 x3 (ix2 r j) = totals x0 (ix2 r j) := by
  unfold out0_4
  rw [View.canon_unit_zero (S := S256x1024) zero2]
  exact sum_at x0 x1 x2 x3 r j
/-- The block of the changes. -/
theorem block5 : out0_5 (F := Ideal) x0 x1 x2 x3 (ix2 r j) = change (totals x0 (ix2 r j)) (x1 (ix2 r j)) (x2 (ix2 r j)) (x3 (ix2 r j)) := by
  unfold out0_5 k0_pay7 k0_pay5 k0_pay3 k0_pay2 k0_pay1
  rw [View.canon_unit_zero (S := S256x1024) zero2, View.ld_unit_zero (S := S256x1024) zero2, View.ld_unit_zero (S := S256x1024) zero2, View.ld_unit_zero (S := S256x1024) zero2]
  simp only [shapeCast_self]
  rw [← sum_at x0 x1 x2 x3 r j]
  rfl
/-- The block of the first moments. -/
theorem block6 : out0_6 (F := Ideal) x0 x1 x2 x3 (ix2 r j) = moment (totals x0 (ix2 r j)) (x2 (ix2 r j)) := by
  unfold out0_6 k0_pay7 k0_pay5 k0_pay1
  rw [View.canon_unit_zero (S := S256x1024) zero2, View.ld_unit_zero (S := S256x1024) zero2]
  simp only [shapeCast_self]
  rw [← sum_at x0 x1 x2 x3 r j]
  rfl
/-- The block of the second moments. -/
theorem block7 : out0_7 (F := Ideal) x0 x1 x2 x3 (ix2 r j) = second (totals x0 (ix2 r j)) (x3 (ix2 r j)) := by
  unfold out0_7 k0_pay2
  rw [View.canon_unit_zero (S := S256x1024) zero2, View.ld_unit_zero (S := S256x1024) zero2]
  simp only [shapeCast_self]
  rw [← sum_at x0 x1 x2 x3 r j]
  rfl
end

theorem lt_points (t : Fin cfg0.N) : t.val < 1 := lt_of_lt_of_eq t.isLt N_0
/-- Where the windows stand at point `t`. -/
theorem place_parts : ∀ t : Fin grid0.N, win0_0.index t = ![0, t.val, 0] := by decide +kernel
theorem places : ∀ t : Fin grid0.N, win0_1.index t = ![t.val, 0] ∧ win0_2.index t = ![t.val, 0] ∧ win0_3.index t = ![t.val, 0] ∧ win0_4.index t = ![t.val, 0] ∧ win0_5.index t = ![t.val, 0] ∧ win0_6.index t = ![t.val, 0] ∧ win0_7.index t = ![t.val, 0] := by decide +kernel
theorem place0 (t : Fin cfg0.N) (d : Fin 8) (r : Fin 256) (j : Fin 1024) : (win0_0.rect t).emb (ix3 d r j) = ix3 d ⟨256 * t.val + r.val, by have := lt_points t; omega⟩ j :=
  ix3_of _ _ _ _ ((win0_0.rect_emb_val t _ _).trans (by rw [place_parts t]; show 0 * 8 + d.val = d.val; omega))
    ((win0_0.rect_emb_val t _ _).trans (by rw [place_parts t]; show t.val * 256 + r.val = 256 * t.val + r.val; omega))
    ((win0_0.rect_emb_val t _ _).trans (by rw [place_parts t]; show 0 * 1024 + j.val = j.val; omega))
theorem place1 (t : Fin cfg0.N) (r : Fin 256) (j : Fin 1024) : (win0_1.rect t).emb (ix2 r j) = ix2 ⟨256 * t.val + r.val, by have := lt_points t; omega⟩ j :=
  ix2_of _ _ _ ((win0_1.rect_emb_val t _ _).trans (by rw [(places t).1]; show t.val * 256 + r.val = 256 * t.val + r.val; omega))
    ((win0_1.rect_emb_val t _ _).trans (by rw [(places t).1]; show 0 * 1024 + j.val = j.val; omega))
theorem place2 (t : Fin cfg0.N) (r : Fin 256) (j : Fin 1024) : (win0_2.rect t).emb (ix2 r j) = ix2 ⟨256 * t.val + r.val, by have := lt_points t; omega⟩ j :=
  ix2_of _ _ _ ((win0_2.rect_emb_val t _ _).trans (by rw [(places t).2.1]; show t.val * 256 + r.val = 256 * t.val + r.val; omega))
    ((win0_2.rect_emb_val t _ _).trans (by rw [(places t).2.1]; show 0 * 1024 + j.val = j.val; omega))
theorem place3 (t : Fin cfg0.N) (r : Fin 256) (j : Fin 1024) : (win0_3.rect t).emb (ix2 r j) = ix2 ⟨256 * t.val + r.val, by have := lt_points t; omega⟩ j :=
  ix2_of _ _ _ ((win0_3.rect_emb_val t _ _).trans (by rw [(places t).2.2.1]; show t.val * 256 + r.val = 256 * t.val + r.val; omega))
    ((win0_3.rect_emb_val t _ _).trans (by rw [(places t).2.2.1]; show 0 * 1024 + j.val = j.val; omega))
theorem place4 (t : Fin cfg0.N) (r : Fin 256) (j : Fin 1024) : (win0_4.rect t).emb (ix2 r j) = ix2 ⟨256 * t.val + r.val, by have := lt_points t; omega⟩ j :=
  ix2_of _ _ _ ((win0_4.rect_emb_val t _ _).trans (by rw [(places t).2.2.2.1]; show t.val * 256 + r.val = 256 * t.val + r.val; omega))
    ((win0_4.rect_emb_val t _ _).trans (by rw [(places t).2.2.2.1]; show 0 * 1024 + j.val = j.val; omega))
theorem place5 (t : Fin cfg0.N) (r : Fin 256) (j : Fin 1024) : (win0_5.rect t).emb (ix2 r j) = ix2 ⟨256 * t.val + r.val, by have := lt_points t; omega⟩ j :=
  ix2_of _ _ _ ((win0_5.rect_emb_val t _ _).trans (by rw [(places t).2.2.2.2.1]; show t.val * 256 + r.val = 256 * t.val + r.val; omega))
    ((win0_5.rect_emb_val t _ _).trans (by rw [(places t).2.2.2.2.1]; show 0 * 1024 + j.val = j.val; omega))
theorem place6 (t : Fin cfg0.N) (r : Fin 256) (j : Fin 1024) : (win0_6.rect t).emb (ix2 r j) = ix2 ⟨256 * t.val + r.val, by have := lt_points t; omega⟩ j :=
  ix2_of _ _ _ ((win0_6.rect_emb_val t _ _).trans (by rw [(places t).2.2.2.2.2.1]; show t.val * 256 + r.val = 256 * t.val + r.val; omega))
    ((win0_6.rect_emb_val t _ _).trans (by rw [(places t).2.2.2.2.2.1]; show 0 * 1024 + j.val = j.val; omega))
theorem place7 (t : Fin cfg0.N) (r : Fin 256) (j : Fin 1024) : (win0_7.rect t).emb (ix2 r j) = ix2 ⟨256 * t.val + r.val, by have := lt_points t; omega⟩ j :=
  ix2_of _ _ _ ((win0_7.rect_emb_val t _ _).trans (by rw [(places t).2.2.2.2.2.2]; show t.val * 256 + r.val = 256 * t.val + r.val; omega))
    ((win0_7.rect_emb_val t _ _).trans (by rw [(places t).2.2.2.2.2.2]; show 0 * 1024 + j.val = j.val; omega))

variable (m : (ℓ : Loc nD τ sig) → Buf (Elt Ideal) ℓ) (c : Dev nD)

/-- The parts' block of point `t`, at an index. -/
theorem parts_block (t : Fin cfg0.N) (d : Fin 8) (r : Fin 256) (j : Fin 1024) :
    iblk m c 0 t (ix3 d r j) = m ((c : Thread nD τ).loc main_arg0) (ix3 d ⟨256 * t.val + r.val, by have := lt_points t; omega⟩ j) :=
  have h : ∀ W : (b : Ref sig .tc) → Buf (Elt Ideal) ((c : Thread nD τ).loc b), ((cfg0.win 0).blk t).view.read (Elt Ideal) (W (Pipeline.arrRef spec0 0)) (ix3 d r j) = W main_arg0 (ix3 d ⟨256 * t.val + r.val, by have := lt_points t; omega⟩ j) := fun W => congrArg (W main_arg0) (place0 t d r j)
  (h (V m c)).trans (congrFun (V_main_arg0 m c) _)
/-- Their sum. -/
theorem total_block (t : Fin cfg0.N) (r : Fin 256) (j : Fin 1024) : totals (iblk m c 0 t) (ix2 r j) = totals (m ((c : Thread nD τ).loc main_arg0)) (ix2 ⟨256 * t.val + r.val, by have := lt_points t; omega⟩ j) :=
  Finset.sum_congr rfl fun d _ => parts_block m c t d r j
theorem weight_at (p : Fin 256) (q : Fin 1024) : V m c main_v0 (ix2 p q) = m ((c : Thread nD τ).loc main_arg1) (ix3 0 p q) := by
  have e : V m c main_v0 = shapeCast S256x1024 (m ((c : Thread nD τ).loc main_arg1)) shapeCasts_S1x256x1024_S256x1024 := by
    after_reads_simp
    try rfl
  rw [e]
  exact drop_at _ _ p q
/-- The block of the weights of point `t`, at an index. -/
theorem weight_block (t : Fin cfg0.N) (r : Fin 256) (j : Fin 1024) : iblk m c 1 t (ix2 r j) = under (m ((c : Thread nD τ).loc main_arg1)) (ix2 ⟨256 * t.val + r.val, by have := lt_points t; omega⟩ j) :=
  have h : ∀ W : (b : Ref sig .tc) → Buf (Elt Ideal) ((c : Thread nD τ).loc b), ((cfg0.win 1).blk t).view.read (Elt Ideal) (W (Pipeline.arrRef spec0 1)) (ix2 r j) = W main_v0 (ix2 ⟨256 * t.val + r.val, by have := lt_points t; omega⟩ j) := fun W => congrArg (W main_v0) (place1 t r j)
  (h (V m c)).trans (weight_at m c _ _)
theorem first_at (p : Fin 256) (q : Fin 1024) : V m c main_v1 (ix2 p q) = m ((c : Thread nD τ).loc main_arg2) (ix3 0 p q) := by
  have e : V m c main_v1 = shapeCast S256x1024 (m ((c : Thread nD τ).loc main_arg2)) shapeCasts_S1x256x1024_S256x1024 := by
    after_reads_simp
    try rfl
  rw [e]
  exact drop_at _ _ p q
/-- The block of the first moments of point `t`, at an index. -/
theorem first_block (t : Fin cfg0.N) (r : Fin 256) (j : Fin 1024) : iblk m c 2 t (ix2 r j) = under (m ((c : Thread nD τ).loc main_arg2)) (ix2 ⟨256 * t.val + r.val, by have := lt_points t; omega⟩ j) :=
  have h : ∀ W : (b : Ref sig .tc) → Buf (Elt Ideal) ((c : Thread nD τ).loc b), ((cfg0.win 2).blk t).view.read (Elt Ideal) (W (Pipeline.arrRef spec0 2)) (ix2 r j) = W main_v1 (ix2 ⟨256 * t.val + r.val, by have := lt_points t; omega⟩ j) := fun W => congrArg (W main_v1) (place2 t r j)
  (h (V m c)).trans (first_at m c _ _)
theorem second_at (p : Fin 256) (q : Fin 1024) : V m c main_v2 (ix2 p q) = m ((c : Thread nD τ).loc main_arg3) (ix3 0 p q) := by
  have e : V m c main_v2 = shapeCast S256x1024 (m ((c : Thread nD τ).loc main_arg3)) shapeCasts_S1x256x1024_S256x1024 := by
    after_reads_simp
    try rfl
  rw [e]
  exact drop_at _ _ p q
/-- The block of the second moments of point `t`, at an index. -/
theorem second_block (t : Fin cfg0.N) (r : Fin 256) (j : Fin 1024) : iblk m c 3 t (ix2 r j) = under (m ((c : Thread nD τ).loc main_arg3)) (ix2 ⟨256 * t.val + r.val, by have := lt_points t; omega⟩ j) :=
  have h : ∀ W : (b : Ref sig .tc) → Buf (Elt Ideal) ((c : Thread nD τ).loc b), ((cfg0.win 3).blk t).view.read (Elt Ideal) (W (Pipeline.arrRef spec0 3)) (ix2 r j) = W main_v2 (ix2 ⟨256 * t.val + r.val, by have := lt_points t; omega⟩ j) := fun W => congrArg (W main_v2) (place3 t r j)
  (h (V m c)).trans (second_at m c _ _)

/-- The point and the place in its block of an index. -/
theorem split (i : S256x1024.Idx) : ∃ (t : Fin cfg0.N) (r : Fin 256) (j : Fin 1024), i = ix2 ⟨256 * t.val + r.val, by have := lt_points t; omega⟩ j := by
  have h0 : (i 0).val < 256 := (i 0).isLt
  have hN : cfg0.N = 1 := N_0
  exact ⟨⟨(i 0).val / 256, by omega⟩, ⟨(i 0).val % 256, by omega⟩, ⟨(i 1).val, (i 1).isLt⟩,
    ix2_of i _ _ (by show (i 0).val = 256 * ((i 0).val / 256) + (i 0).val % 256; omega) rfl⟩

/-- The array of the gradient. -/
theorem array4_eq : (dats m 0 c).arrAt 4 cfg0.N = totals (m ((c : Thread nD τ).loc main_arg0)) := by
  refine (dats m 0 c).arrAt_eq_of_cover 4 _ (fun t hf => ?_) (fun i => ?_)
  · rw [Value.flushed4]
    funext x
    obtain ⟨r, j, rfl⟩ : ∃ (r : Fin 256) (j : Fin 1024), x = ix2 r j := ix2_ex x
    refine (show _ = out0_4 (F := Ideal) (iblk m c 0 t) (iblk m c 1 t) (iblk m c 2 t) (iblk m c 3 t) (ix2 r j) from rfl).trans ?_
    rw [block4, total_block]
    exact (congrArg (totals (m ((c : Thread nD τ).loc main_arg0))) (place4 t r j)).symm
  · obtain ⟨t, r, j, rfl⟩ := split i
    exact ⟨t, flush0_4 t, place4 t r j ▸ ((cfg0.win 4).blk t).view.emb_mem_set _⟩

/-- The array of the changes. -/
theorem array5_eq : (dats m 0 c).arrAt 5 cfg0.N = changes (m ((c : Thread nD τ).loc main_arg0)) (m ((c : Thread nD τ).loc main_arg1)) (m ((c : Thread nD τ).loc main_arg2)) (m ((c : Thread nD τ).loc main_arg3)) := by
  refine (dats m 0 c).arrAt_eq_of_cover 5 _ (fun t hf => ?_) (fun i => ?_)
  · rw [Value.flushed5]
    funext x
    obtain ⟨r, j, rfl⟩ : ∃ (r : Fin 256) (j : Fin 1024), x = ix2 r j := ix2_ex x
    refine (show _ = out0_5 (F := Ideal) (iblk m c 0 t) (iblk m c 1 t) (iblk m c 2 t) (iblk m c 3 t) (ix2 r j) from rfl).trans ?_
    rw [block5, total_block, weight_block, first_block, second_block]
    exact (congrArg (changes (m ((c : Thread nD τ).loc main_arg0)) (m ((c : Thread nD τ).loc main_arg1)) (m ((c : Thread nD τ).loc main_arg2)) (m ((c : Thread nD τ).loc main_arg3))) (place5 t r j)).symm
  · obtain ⟨t, r, j, rfl⟩ := split i
    exact ⟨t, flush0_5 t, place5 t r j ▸ ((cfg0.win 5).blk t).view.emb_mem_set _⟩

/-- The array of the first moments. -/
theorem array6_eq : (dats m 0 c).arrAt 6 cfg0.N = moments (m ((c : Thread nD τ).loc main_arg0)) (m ((c : Thread nD τ).loc main_arg2)) := by
  refine (dats m 0 c).arrAt_eq_of_cover 6 _ (fun t hf => ?_) (fun i => ?_)
  · rw [Value.flushed6]
    funext x
    obtain ⟨r, j, rfl⟩ : ∃ (r : Fin 256) (j : Fin 1024), x = ix2 r j := ix2_ex x
    refine (show _ = out0_6 (F := Ideal) (iblk m c 0 t) (iblk m c 1 t) (iblk m c 2 t) (iblk m c 3 t) (ix2 r j) from rfl).trans ?_
    rw [block6, total_block, first_block]
    exact (congrArg (moments (m ((c : Thread nD τ).loc main_arg0)) (m ((c : Thread nD τ).loc main_arg2))) (place6 t r j)).symm
  · obtain ⟨t, r, j, rfl⟩ := split i
    exact ⟨t, flush0_6 t, place6 t r j ▸ ((cfg0.win 6).blk t).view.emb_mem_set _⟩

/-- The array of the second moments. -/
theorem array7_eq : (dats m 0 c).arrAt 7 cfg0.N = seconds (m ((c : Thread nD τ).loc main_arg0)) (m ((c : Thread nD τ).loc main_arg3)) := by
  refine (dats m 0 c).arrAt_eq_of_cover 7 _ (fun t hf => ?_) (fun i => ?_)
  · rw [Value.flushed7]
    funext x
    obtain ⟨r, j, rfl⟩ : ∃ (r : Fin 256) (j : Fin 1024), x = ix2 r j := ix2_ex x
    refine (show _ = out0_7 (F := Ideal) (iblk m c 0 t) (iblk m c 1 t) (iblk m c 2 t) (iblk m c 3 t) (ix2 r j) from rfl).trans ?_
    rw [block7, total_block, second_block]
    exact (congrArg (seconds (m ((c : Thread nD τ).loc main_arg0)) (m ((c : Thread nD τ).loc main_arg3))) (place7 t r j)).symm
  · obtain ⟨t, r, j, rfl⟩ := split i
    exact ⟨t, flush0_7 t, place7 t r j ▸ ((cfg0.win 7).blk t).view.emb_mem_set _⟩

end Cert.UpdateOutValue

end
-- ==== Proof.UpdateUpValue.lean ====
/- The AdamW step of the up projection: what the call leaves. -/
module

public import proofs.«01_k».proof.Proof.Update
public import proofs.«01_k».proof.Proof.Gen.UpdateUpIdeal.Value

@[expose] public section

noncomputable section

namespace Cert.UpdateUpValue

open Idealize.ShloMosaic
open Idealize.ShloMosaic.ValueIdx Idealize.ShloMosaic.TcCoe Idealize.SL.Sem
open Cert.UpdateUpIdeal Cert.UpdateUpIdeal.Gen Cert.Product Cert.Update

section
variable (x0 : Vec Ideal S8x256x704 .bf16) (x1 x2 x3 : Vec Ideal S256x704 .f32) (r : Fin 256) (j : Fin 704)

/-- The gradient that the body adds up. -/
theorem sum_at : k0_pay6 (F := Ideal) x0 x1 x2 x3 (ix2 r j) = totals x0 (ix2 r j) := by
  unfold k0_pay6 k0_pay4
  exact parts_at x0 _ _ _ _ _ _ _ _ _ _ r j
/-- The block of the gradient. -/
theorem block4 : out0_4 (F := Ideal) x0 x1 x2 x3 (ix2 r j) = totals x0 (ix2 r j) := by
  unfold out0_4
  rw [View.canon_unit_zero (S := S256x704) zero2]
  exact sum_at x0 x1 x2 x3 r j
/-- The block of the changes. -/
theorem block5 : out0_5 (F := Ideal) x0 x1 x2 x3 (ix2 r j) = change (totals x0 (ix2 r j)) (x1 (ix2 r j)) (x2 (ix2 r j)) (x3 (ix2 r j)) := by
  unfold out0_5 k0_pay7 k0_pay5 k0_pay3 k0_pay2 k0_pay1
  rw [View.canon_unit_zero (S := S256x704) zero2, View.ld_unit_zero (S := S256x704) zero2, View.ld_unit_zero (S := S256x704) zero2, View.ld_unit_zero (S := S256x704) zero2]
  simp only [shapeCast_self]
  rw [← sum_at x0 x1 x2 x3 r j]
  rfl
/-- The block of the first moments. -/
theorem block6 : out0_6 (F := Ideal) x0 x1 x2 x3 (ix2 r j) = moment (totals x0 (ix2 r j)) (x2 (ix2 r j)) := by
  unfold out0_6 k0_pay7 k0_pay5 k0_pay1
  rw [View.canon_unit_zero (S := S256x704) zero2, View.ld_unit_zero (S := S256x704) zero2]
  simp only [shapeCast_self]
  rw [← sum_at x0 x1 x2 x3 r j]
  rfl
/-- The block of the second moments. -/
theorem block7 : out0_7 (F := Ideal) x0 x1 x2 x3 (ix2 r j) = second (totals x0 (ix2 r j)) (x3 (ix2 r j)) := by
  unfold out0_7 k0_pay2
  rw [View.canon_unit_zero (S := S256x704) zero2, View.ld_unit_zero (S := S256x704) zero2]
  simp only [shapeCast_self]
  rw [← sum_at x0 x1 x2 x3 r j]
  rfl
end

theorem lt_points (t : Fin cfg0.N) : t.val < 4 := lt_of_lt_of_eq t.isLt N_0
/-- Where the windows stand at point `t`. -/
theorem place_parts : ∀ t : Fin grid0.N, win0_0.index t = ![0, t.val, 0] := by decide +kernel
theorem places : ∀ t : Fin grid0.N, win0_1.index t = ![t.val, 0] ∧ win0_2.index t = ![t.val, 0] ∧ win0_3.index t = ![t.val, 0] ∧ win0_4.index t = ![t.val, 0] ∧ win0_5.index t = ![t.val, 0] ∧ win0_6.index t = ![t.val, 0] ∧ win0_7.index t = ![t.val, 0] := by decide +kernel
theorem place0 (t : Fin cfg0.N) (d : Fin 8) (r : Fin 256) (j : Fin 704) : (win0_0.rect t).emb (ix3 d r j) = ix3 d ⟨256 * t.val + r.val, by have := lt_points t; omega⟩ j :=
  ix3_of _ _ _ _ ((win0_0.rect_emb_val t _ _).trans (by rw [place_parts t]; show 0 * 8 + d.val = d.val; omega))
    ((win0_0.rect_emb_val t _ _).trans (by rw [place_parts t]; show t.val * 256 + r.val = 256 * t.val + r.val; omega))
    ((win0_0.rect_emb_val t _ _).trans (by rw [place_parts t]; show 0 * 704 + j.val = j.val; omega))
theorem place1 (t : Fin cfg0.N) (r : Fin 256) (j : Fin 704) : (win0_1.rect t).emb (ix2 r j) = ix2 ⟨256 * t.val + r.val, by have := lt_points t; omega⟩ j :=
  ix2_of _ _ _ ((win0_1.rect_emb_val t _ _).trans (by rw [(places t).1]; show t.val * 256 + r.val = 256 * t.val + r.val; omega))
    ((win0_1.rect_emb_val t _ _).trans (by rw [(places t).1]; show 0 * 704 + j.val = j.val; omega))
theorem place2 (t : Fin cfg0.N) (r : Fin 256) (j : Fin 704) : (win0_2.rect t).emb (ix2 r j) = ix2 ⟨256 * t.val + r.val, by have := lt_points t; omega⟩ j :=
  ix2_of _ _ _ ((win0_2.rect_emb_val t _ _).trans (by rw [(places t).2.1]; show t.val * 256 + r.val = 256 * t.val + r.val; omega))
    ((win0_2.rect_emb_val t _ _).trans (by rw [(places t).2.1]; show 0 * 704 + j.val = j.val; omega))
theorem place3 (t : Fin cfg0.N) (r : Fin 256) (j : Fin 704) : (win0_3.rect t).emb (ix2 r j) = ix2 ⟨256 * t.val + r.val, by have := lt_points t; omega⟩ j :=
  ix2_of _ _ _ ((win0_3.rect_emb_val t _ _).trans (by rw [(places t).2.2.1]; show t.val * 256 + r.val = 256 * t.val + r.val; omega))
    ((win0_3.rect_emb_val t _ _).trans (by rw [(places t).2.2.1]; show 0 * 704 + j.val = j.val; omega))
theorem place4 (t : Fin cfg0.N) (r : Fin 256) (j : Fin 704) : (win0_4.rect t).emb (ix2 r j) = ix2 ⟨256 * t.val + r.val, by have := lt_points t; omega⟩ j :=
  ix2_of _ _ _ ((win0_4.rect_emb_val t _ _).trans (by rw [(places t).2.2.2.1]; show t.val * 256 + r.val = 256 * t.val + r.val; omega))
    ((win0_4.rect_emb_val t _ _).trans (by rw [(places t).2.2.2.1]; show 0 * 704 + j.val = j.val; omega))
theorem place5 (t : Fin cfg0.N) (r : Fin 256) (j : Fin 704) : (win0_5.rect t).emb (ix2 r j) = ix2 ⟨256 * t.val + r.val, by have := lt_points t; omega⟩ j :=
  ix2_of _ _ _ ((win0_5.rect_emb_val t _ _).trans (by rw [(places t).2.2.2.2.1]; show t.val * 256 + r.val = 256 * t.val + r.val; omega))
    ((win0_5.rect_emb_val t _ _).trans (by rw [(places t).2.2.2.2.1]; show 0 * 704 + j.val = j.val; omega))
theorem place6 (t : Fin cfg0.N) (r : Fin 256) (j : Fin 704) : (win0_6.rect t).emb (ix2 r j) = ix2 ⟨256 * t.val + r.val, by have := lt_points t; omega⟩ j :=
  ix2_of _ _ _ ((win0_6.rect_emb_val t _ _).trans (by rw [(places t).2.2.2.2.2.1]; show t.val * 256 + r.val = 256 * t.val + r.val; omega))
    ((win0_6.rect_emb_val t _ _).trans (by rw [(places t).2.2.2.2.2.1]; show 0 * 704 + j.val = j.val; omega))
theorem place7 (t : Fin cfg0.N) (r : Fin 256) (j : Fin 704) : (win0_7.rect t).emb (ix2 r j) = ix2 ⟨256 * t.val + r.val, by have := lt_points t; omega⟩ j :=
  ix2_of _ _ _ ((win0_7.rect_emb_val t _ _).trans (by rw [(places t).2.2.2.2.2.2]; show t.val * 256 + r.val = 256 * t.val + r.val; omega))
    ((win0_7.rect_emb_val t _ _).trans (by rw [(places t).2.2.2.2.2.2]; show 0 * 704 + j.val = j.val; omega))

variable (m : (ℓ : Loc nD τ sig) → Buf (Elt Ideal) ℓ) (c : Dev nD)

/-- The parts' block of point `t`, at an index. -/
theorem parts_block (t : Fin cfg0.N) (d : Fin 8) (r : Fin 256) (j : Fin 704) :
    iblk m c 0 t (ix3 d r j) = m ((c : Thread nD τ).loc main_arg0) (ix3 d ⟨256 * t.val + r.val, by have := lt_points t; omega⟩ j) :=
  have h : ∀ W : (b : Ref sig .tc) → Buf (Elt Ideal) ((c : Thread nD τ).loc b), ((cfg0.win 0).blk t).view.read (Elt Ideal) (W (Pipeline.arrRef spec0 0)) (ix3 d r j) = W main_arg0 (ix3 d ⟨256 * t.val + r.val, by have := lt_points t; omega⟩ j) := fun W => congrArg (W main_arg0) (place0 t d r j)
  (h (V m c)).trans (congrFun (V_main_arg0 m c) _)
/-- Their sum. -/
theorem total_block (t : Fin cfg0.N) (r : Fin 256) (j : Fin 704) : totals (iblk m c 0 t) (ix2 r j) = totals (m ((c : Thread nD τ).loc main_arg0)) (ix2 ⟨256 * t.val + r.val, by have := lt_points t; omega⟩ j) :=
  Finset.sum_congr rfl fun d _ => parts_block m c t d r j
theorem weight_at (p : Fin 1024) (q : Fin 704) : V m c main_v0 (ix2 p q) = m ((c : Thread nD τ).loc main_arg1) (ix3 0 p q) := by
  have e : V m c main_v0 = shapeCast S1024x704 (m ((c : Thread nD τ).loc main_arg1)) shapeCasts_S1x1024x704_S1024x704 := by
    after_reads_simp
    try rfl
  rw [e]
  exact drop_at _ _ p q
/-- The block of the weights of point `t`, at an index. -/
theorem weight_block (t : Fin cfg0.N) (r : Fin 256) (j : Fin 704) : iblk m c 1 t (ix2 r j) = under (m ((c : Thread nD τ).loc main_arg1)) (ix2 ⟨256 * t.val + r.val, by have := lt_points t; omega⟩ j) :=
  have h : ∀ W : (b : Ref sig .tc) → Buf (Elt Ideal) ((c : Thread nD τ).loc b), ((cfg0.win 1).blk t).view.read (Elt Ideal) (W (Pipeline.arrRef spec0 1)) (ix2 r j) = W main_v0 (ix2 ⟨256 * t.val + r.val, by have := lt_points t; omega⟩ j) := fun W => congrArg (W main_v0) (place1 t r j)
  (h (V m c)).trans (weight_at m c _ _)
theorem first_at (p : Fin 1024) (q : Fin 704) : V m c main_v1 (ix2 p q) = m ((c : Thread nD τ).loc main_arg2) (ix3 0 p q) := by
  have e : V m c main_v1 = shapeCast S1024x704 (m ((c : Thread nD τ).loc main_arg2)) shapeCasts_S1x1024x704_S1024x704 := by
    after_reads_simp
    try rfl
  rw [e]
  exact drop_at _ _ p q
/-- The block of the first moments of point `t`, at an index. -/
theorem first_block (t : Fin cfg0.N) (r : Fin 256) (j : Fin 704) : iblk m c 2 t (ix2 r j) = under (m ((c : Thread nD τ).loc main_arg2)) (ix2 ⟨256 * t.val + r.val, by have := lt_points t; omega⟩ j) :=
  have h : ∀ W : (b : Ref sig .tc) → Buf (Elt Ideal) ((c : Thread nD τ).loc b), ((cfg0.win 2).blk t).view.read (Elt Ideal) (W (Pipeline.arrRef spec0 2)) (ix2 r j) = W main_v1 (ix2 ⟨256 * t.val + r.val, by have := lt_points t; omega⟩ j) := fun W => congrArg (W main_v1) (place2 t r j)
  (h (V m c)).trans (first_at m c _ _)
theorem second_at (p : Fin 1024) (q : Fin 704) : V m c main_v2 (ix2 p q) = m ((c : Thread nD τ).loc main_arg3) (ix3 0 p q) := by
  have e : V m c main_v2 = shapeCast S1024x704 (m ((c : Thread nD τ).loc main_arg3)) shapeCasts_S1x1024x704_S1024x704 := by
    after_reads_simp
    try rfl
  rw [e]
  exact drop_at _ _ p q
/-- The block of the second moments of point `t`, at an index. -/
theorem second_block (t : Fin cfg0.N) (r : Fin 256) (j : Fin 704) : iblk m c 3 t (ix2 r j) = under (m ((c : Thread nD τ).loc main_arg3)) (ix2 ⟨256 * t.val + r.val, by have := lt_points t; omega⟩ j) :=
  have h : ∀ W : (b : Ref sig .tc) → Buf (Elt Ideal) ((c : Thread nD τ).loc b), ((cfg0.win 3).blk t).view.read (Elt Ideal) (W (Pipeline.arrRef spec0 3)) (ix2 r j) = W main_v2 (ix2 ⟨256 * t.val + r.val, by have := lt_points t; omega⟩ j) := fun W => congrArg (W main_v2) (place3 t r j)
  (h (V m c)).trans (second_at m c _ _)

/-- The point and the place in its block of an index. -/
theorem split (i : S1024x704.Idx) : ∃ (t : Fin cfg0.N) (r : Fin 256) (j : Fin 704), i = ix2 ⟨256 * t.val + r.val, by have := lt_points t; omega⟩ j := by
  have h0 : (i 0).val < 1024 := (i 0).isLt
  have hN : cfg0.N = 4 := N_0
  exact ⟨⟨(i 0).val / 256, by omega⟩, ⟨(i 0).val % 256, by omega⟩, ⟨(i 1).val, (i 1).isLt⟩,
    ix2_of i _ _ (by show (i 0).val = 256 * ((i 0).val / 256) + (i 0).val % 256; omega) rfl⟩

/-- The array of the gradient. -/
theorem array4_eq : (dats m 0 c).arrAt 4 cfg0.N = totals (m ((c : Thread nD τ).loc main_arg0)) := by
  refine (dats m 0 c).arrAt_eq_of_cover 4 _ (fun t hf => ?_) (fun i => ?_)
  · rw [Value.flushed4]
    funext x
    obtain ⟨r, j, rfl⟩ : ∃ (r : Fin 256) (j : Fin 704), x = ix2 r j := ix2_ex x
    refine (show _ = out0_4 (F := Ideal) (iblk m c 0 t) (iblk m c 1 t) (iblk m c 2 t) (iblk m c 3 t) (ix2 r j) from rfl).trans ?_
    rw [block4, total_block]
    exact (congrArg (totals (m ((c : Thread nD τ).loc main_arg0))) (place4 t r j)).symm
  · obtain ⟨t, r, j, rfl⟩ := split i
    exact ⟨t, flush0_4 t, place4 t r j ▸ ((cfg0.win 4).blk t).view.emb_mem_set _⟩

/-- The array of the changes. -/
theorem array5_eq : (dats m 0 c).arrAt 5 cfg0.N = changes (m ((c : Thread nD τ).loc main_arg0)) (m ((c : Thread nD τ).loc main_arg1)) (m ((c : Thread nD τ).loc main_arg2)) (m ((c : Thread nD τ).loc main_arg3)) := by
  refine (dats m 0 c).arrAt_eq_of_cover 5 _ (fun t hf => ?_) (fun i => ?_)
  · rw [Value.flushed5]
    funext x
    obtain ⟨r, j, rfl⟩ : ∃ (r : Fin 256) (j : Fin 704), x = ix2 r j := ix2_ex x
    refine (show _ = out0_5 (F := Ideal) (iblk m c 0 t) (iblk m c 1 t) (iblk m c 2 t) (iblk m c 3 t) (ix2 r j) from rfl).trans ?_
    rw [block5, total_block, weight_block, first_block, second_block]
    exact (congrArg (changes (m ((c : Thread nD τ).loc main_arg0)) (m ((c : Thread nD τ).loc main_arg1)) (m ((c : Thread nD τ).loc main_arg2)) (m ((c : Thread nD τ).loc main_arg3))) (place5 t r j)).symm
  · obtain ⟨t, r, j, rfl⟩ := split i
    exact ⟨t, flush0_5 t, place5 t r j ▸ ((cfg0.win 5).blk t).view.emb_mem_set _⟩

/-- The array of the first moments. -/
theorem array6_eq : (dats m 0 c).arrAt 6 cfg0.N = moments (m ((c : Thread nD τ).loc main_arg0)) (m ((c : Thread nD τ).loc main_arg2)) := by
  refine (dats m 0 c).arrAt_eq_of_cover 6 _ (fun t hf => ?_) (fun i => ?_)
  · rw [Value.flushed6]
    funext x
    obtain ⟨r, j, rfl⟩ : ∃ (r : Fin 256) (j : Fin 704), x = ix2 r j := ix2_ex x
    refine (show _ = out0_6 (F := Ideal) (iblk m c 0 t) (iblk m c 1 t) (iblk m c 2 t) (iblk m c 3 t) (ix2 r j) from rfl).trans ?_
    rw [block6, total_block, first_block]
    exact (congrArg (moments (m ((c : Thread nD τ).loc main_arg0)) (m ((c : Thread nD τ).loc main_arg2))) (place6 t r j)).symm
  · obtain ⟨t, r, j, rfl⟩ := split i
    exact ⟨t, flush0_6 t, place6 t r j ▸ ((cfg0.win 6).blk t).view.emb_mem_set _⟩

/-- The array of the second moments. -/
theorem array7_eq : (dats m 0 c).arrAt 7 cfg0.N = seconds (m ((c : Thread nD τ).loc main_arg0)) (m ((c : Thread nD τ).loc main_arg3)) := by
  refine (dats m 0 c).arrAt_eq_of_cover 7 _ (fun t hf => ?_) (fun i => ?_)
  · rw [Value.flushed7]
    funext x
    obtain ⟨r, j, rfl⟩ : ∃ (r : Fin 256) (j : Fin 704), x = ix2 r j := ix2_ex x
    refine (show _ = out0_7 (F := Ideal) (iblk m c 0 t) (iblk m c 1 t) (iblk m c 2 t) (iblk m c 3 t) (ix2 r j) from rfl).trans ?_
    rw [block7, total_block, second_block]
    exact (congrArg (seconds (m ((c : Thread nD τ).loc main_arg0)) (m ((c : Thread nD τ).loc main_arg3))) (place7 t r j)).symm
  · obtain ⟨t, r, j, rfl⟩ := split i
    exact ⟨t, flush0_7 t, place7 t r j ▸ ((cfg0.win 7).blk t).view.emb_mem_set _⟩

end Cert.UpdateUpValue

end
-- ==== Proof.UpdateDownValue.lean ====
/- The AdamW step of the down projection: what the call leaves. -/
module

public import proofs.«01_k».proof.Proof.Update
public import proofs.«01_k».proof.Proof.Gen.UpdateDownIdeal.Value

@[expose] public section

noncomputable section

namespace Cert.UpdateDownValue

open Idealize.ShloMosaic
open Idealize.ShloMosaic.ValueIdx Idealize.ShloMosaic.TcCoe Idealize.SL.Sem
open Cert.UpdateDownIdeal Cert.UpdateDownIdeal.Gen Cert.Product Cert.Update

section
variable (x0 : Vec Ideal S8x352x1024 .bf16) (x1 x2 x3 : Vec Ideal S352x1024 .f32) (r : Fin 352) (j : Fin 1024)

/-- The gradient that the body adds up. -/
theorem sum_at : k0_pay6 (F := Ideal) x0 x1 x2 x3 (ix2 r j) = totals x0 (ix2 r j) := by
  unfold k0_pay6 k0_pay4
  exact parts_at x0 _ _ _ _ _ _ _ _ _ _ r j
/-- The block of the gradient. -/
theorem block4 : out0_4 (F := Ideal) x0 x1 x2 x3 (ix2 r j) = totals x0 (ix2 r j) := by
  unfold out0_4
  rw [View.canon_unit_zero (S := S352x1024) zero2]
  exact sum_at x0 x1 x2 x3 r j
/-- The block of the changes. -/
theorem block5 : out0_5 (F := Ideal) x0 x1 x2 x3 (ix2 r j) = change (totals x0 (ix2 r j)) (x1 (ix2 r j)) (x2 (ix2 r j)) (x3 (ix2 r j)) := by
  unfold out0_5 k0_pay7 k0_pay5 k0_pay3 k0_pay2 k0_pay1
  rw [View.canon_unit_zero (S := S352x1024) zero2, View.ld_unit_zero (S := S352x1024) zero2, View.ld_unit_zero (S := S352x1024) zero2, View.ld_unit_zero (S := S352x1024) zero2]
  simp only [shapeCast_self]
  rw [← sum_at x0 x1 x2 x3 r j]
  rfl
/-- The block of the first moments. -/
theorem block6 : out0_6 (F := Ideal) x0 x1 x2 x3 (ix2 r j) = moment (totals x0 (ix2 r j)) (x2 (ix2 r j)) := by
  unfold out0_6 k0_pay7 k0_pay5 k0_pay1
  rw [View.canon_unit_zero (S := S352x1024) zero2, View.ld_unit_zero (S := S352x1024) zero2]
  simp only [shapeCast_self]
  rw [← sum_at x0 x1 x2 x3 r j]
  rfl
/-- The block of the second moments. -/
theorem block7 : out0_7 (F := Ideal) x0 x1 x2 x3 (ix2 r j) = second (totals x0 (ix2 r j)) (x3 (ix2 r j)) := by
  unfold out0_7 k0_pay2
  rw [View.canon_unit_zero (S := S352x1024) zero2, View.ld_unit_zero (S := S352x1024) zero2]
  simp only [shapeCast_self]
  rw [← sum_at x0 x1 x2 x3 r j]
  rfl
end

theorem lt_points (t : Fin cfg0.N) : t.val < 1 := lt_of_lt_of_eq t.isLt N_0
/-- Where the windows stand at point `t`. -/
theorem place_parts : ∀ t : Fin grid0.N, win0_0.index t = ![0, t.val, 0] := by decide +kernel
theorem places : ∀ t : Fin grid0.N, win0_1.index t = ![t.val, 0] ∧ win0_2.index t = ![t.val, 0] ∧ win0_3.index t = ![t.val, 0] ∧ win0_4.index t = ![t.val, 0] ∧ win0_5.index t = ![t.val, 0] ∧ win0_6.index t = ![t.val, 0] ∧ win0_7.index t = ![t.val, 0] := by decide +kernel
theorem place0 (t : Fin cfg0.N) (d : Fin 8) (r : Fin 352) (j : Fin 1024) : (win0_0.rect t).emb (ix3 d r j) = ix3 d ⟨352 * t.val + r.val, by have := lt_points t; omega⟩ j :=
  ix3_of _ _ _ _ ((win0_0.rect_emb_val t _ _).trans (by rw [place_parts t]; show 0 * 8 + d.val = d.val; omega))
    ((win0_0.rect_emb_val t _ _).trans (by rw [place_parts t]; show t.val * 352 + r.val = 352 * t.val + r.val; omega))
    ((win0_0.rect_emb_val t _ _).trans (by rw [place_parts t]; show 0 * 1024 + j.val = j.val; omega))
theorem place1 (t : Fin cfg0.N) (r : Fin 352) (j : Fin 1024) : (win0_1.rect t).emb (ix2 r j) = ix2 ⟨352 * t.val + r.val, by have := lt_points t; omega⟩ j :=
  ix2_of _ _ _ ((win0_1.rect_emb_val t _ _).trans (by rw [(places t).1]; show t.val * 352 + r.val = 352 * t.val + r.val; omega))
    ((win0_1.rect_emb_val t _ _).trans (by rw [(places t).1]; show 0 * 1024 + j.val = j.val; omega))
theorem place2 (t : Fin cfg0.N) (r : Fin 352) (j : Fin 1024) : (win0_2.rect t).emb (ix2 r j) = ix2 ⟨352 * t.val + r.val, by have := lt_points t; omega⟩ j :=
  ix2_of _ _ _ ((win0_2.rect_emb_val t _ _).trans (by rw [(places t).2.1]; show t.val * 352 + r.val = 352 * t.val + r.val; omega))
    ((win0_2.rect_emb_val t _ _).trans (by rw [(places t).2.1]; show 0 * 1024 + j.val = j.val; omega))
theorem place3 (t : Fin cfg0.N) (r : Fin 352) (j : Fin 1024) : (win0_3.rect t).emb (ix2 r j) = ix2 ⟨352 * t.val + r.val, by have := lt_points t; omega⟩ j :=
  ix2_of _ _ _ ((win0_3.rect_emb_val t _ _).trans (by rw [(places t).2.2.1]; show t.val * 352 + r.val = 352 * t.val + r.val; omega))
    ((win0_3.rect_emb_val t _ _).trans (by rw [(places t).2.2.1]; show 0 * 1024 + j.val = j.val; omega))
theorem place4 (t : Fin cfg0.N) (r : Fin 352) (j : Fin 1024) : (win0_4.rect t).emb (ix2 r j) = ix2 ⟨352 * t.val + r.val, by have := lt_points t; omega⟩ j :=
  ix2_of _ _ _ ((win0_4.rect_emb_val t _ _).trans (by rw [(places t).2.2.2.1]; show t.val * 352 + r.val = 352 * t.val + r.val; omega))
    ((win0_4.rect_emb_val t _ _).trans (by rw [(places t).2.2.2.1]; show 0 * 1024 + j.val = j.val; omega))
theorem place5 (t : Fin cfg0.N) (r : Fin 352) (j : Fin 1024) : (win0_5.rect t).emb (ix2 r j) = ix2 ⟨352 * t.val + r.val, by have := lt_points t; omega⟩ j :=
  ix2_of _ _ _ ((win0_5.rect_emb_val t _ _).trans (by rw [(places t).2.2.2.2.1]; show t.val * 352 + r.val = 352 * t.val + r.val; omega))
    ((win0_5.rect_emb_val t _ _).trans (by rw [(places t).2.2.2.2.1]; show 0 * 1024 + j.val = j.val; omega))
theorem place6 (t : Fin cfg0.N) (r : Fin 352) (j : Fin 1024) : (win0_6.rect t).emb (ix2 r j) = ix2 ⟨352 * t.val + r.val, by have := lt_points t; omega⟩ j :=
  ix2_of _ _ _ ((win0_6.rect_emb_val t _ _).trans (by rw [(places t).2.2.2.2.2.1]; show t.val * 352 + r.val = 352 * t.val + r.val; omega))
    ((win0_6.rect_emb_val t _ _).trans (by rw [(places t).2.2.2.2.2.1]; show 0 * 1024 + j.val = j.val; omega))
theorem place7 (t : Fin cfg0.N) (r : Fin 352) (j : Fin 1024) : (win0_7.rect t).emb (ix2 r j) = ix2 ⟨352 * t.val + r.val, by have := lt_points t; omega⟩ j :=
  ix2_of _ _ _ ((win0_7.rect_emb_val t _ _).trans (by rw [(places t).2.2.2.2.2.2]; show t.val * 352 + r.val = 352 * t.val + r.val; omega))
    ((win0_7.rect_emb_val t _ _).trans (by rw [(places t).2.2.2.2.2.2]; show 0 * 1024 + j.val = j.val; omega))

variable (m : (ℓ : Loc nD τ sig) → Buf (Elt Ideal) ℓ) (c : Dev nD)

/-- The parts' block of point `t`, at an index. -/
theorem parts_block (t : Fin cfg0.N) (d : Fin 8) (r : Fin 352) (j : Fin 1024) :
    iblk m c 0 t (ix3 d r j) = m ((c : Thread nD τ).loc main_arg0) (ix3 d ⟨352 * t.val + r.val, by have := lt_points t; omega⟩ j) :=
  have h : ∀ W : (b : Ref sig .tc) → Buf (Elt Ideal) ((c : Thread nD τ).loc b), ((cfg0.win 0).blk t).view.read (Elt Ideal) (W (Pipeline.arrRef spec0 0)) (ix3 d r j) = W main_arg0 (ix3 d ⟨352 * t.val + r.val, by have := lt_points t; omega⟩ j) := fun W => congrArg (W main_arg0) (place0 t d r j)
  (h (V m c)).trans (congrFun (V_main_arg0 m c) _)
/-- Their sum. -/
theorem total_block (t : Fin cfg0.N) (r : Fin 352) (j : Fin 1024) : totals (iblk m c 0 t) (ix2 r j) = totals (m ((c : Thread nD τ).loc main_arg0)) (ix2 ⟨352 * t.val + r.val, by have := lt_points t; omega⟩ j) :=
  Finset.sum_congr rfl fun d _ => parts_block m c t d r j
theorem weight_at (p : Fin 352) (q : Fin 1024) : V m c main_v0 (ix2 p q) = m ((c : Thread nD τ).loc main_arg1) (ix3 0 p q) := by
  have e : V m c main_v0 = shapeCast S352x1024 (m ((c : Thread nD τ).loc main_arg1)) shapeCasts_S1x352x1024_S352x1024 := by
    after_reads_simp
    try rfl
  rw [e]
  exact drop_at _ _ p q
/-- The block of the weights of point `t`, at an index. -/
theorem weight_block (t : Fin cfg0.N) (r : Fin 352) (j : Fin 1024) : iblk m c 1 t (ix2 r j) = under (m ((c : Thread nD τ).loc main_arg1)) (ix2 ⟨352 * t.val + r.val, by have := lt_points t; omega⟩ j) :=
  have h : ∀ W : (b : Ref sig .tc) → Buf (Elt Ideal) ((c : Thread nD τ).loc b), ((cfg0.win 1).blk t).view.read (Elt Ideal) (W (Pipeline.arrRef spec0 1)) (ix2 r j) = W main_v0 (ix2 ⟨352 * t.val + r.val, by have := lt_points t; omega⟩ j) := fun W => congrArg (W main_v0) (place1 t r j)
  (h (V m c)).trans (weight_at m c _ _)
theorem first_at (p : Fin 352) (q : Fin 1024) : V m c main_v1 (ix2 p q) = m ((c : Thread nD τ).loc main_arg2) (ix3 0 p q) := by
  have e : V m c main_v1 = shapeCast S352x1024 (m ((c : Thread nD τ).loc main_arg2)) shapeCasts_S1x352x1024_S352x1024 := by
    after_reads_simp
    try rfl
  rw [e]
  exact drop_at _ _ p q
/-- The block of the first moments of point `t`, at an index. -/
theorem first_block (t : Fin cfg0.N) (r : Fin 352) (j : Fin 1024) : iblk m c 2 t (ix2 r j) = under (m ((c : Thread nD τ).loc main_arg2)) (ix2 ⟨352 * t.val + r.val, by have := lt_points t; omega⟩ j) :=
  have h : ∀ W : (b : Ref sig .tc) → Buf (Elt Ideal) ((c : Thread nD τ).loc b), ((cfg0.win 2).blk t).view.read (Elt Ideal) (W (Pipeline.arrRef spec0 2)) (ix2 r j) = W main_v1 (ix2 ⟨352 * t.val + r.val, by have := lt_points t; omega⟩ j) := fun W => congrArg (W main_v1) (place2 t r j)
  (h (V m c)).trans (first_at m c _ _)
theorem second_at (p : Fin 352) (q : Fin 1024) : V m c main_v2 (ix2 p q) = m ((c : Thread nD τ).loc main_arg3) (ix3 0 p q) := by
  have e : V m c main_v2 = shapeCast S352x1024 (m ((c : Thread nD τ).loc main_arg3)) shapeCasts_S1x352x1024_S352x1024 := by
    after_reads_simp
    try rfl
  rw [e]
  exact drop_at _ _ p q
/-- The block of the second moments of point `t`, at an index. -/
theorem second_block (t : Fin cfg0.N) (r : Fin 352) (j : Fin 1024) : iblk m c 3 t (ix2 r j) = under (m ((c : Thread nD τ).loc main_arg3)) (ix2 ⟨352 * t.val + r.val, by have := lt_points t; omega⟩ j) :=
  have h : ∀ W : (b : Ref sig .tc) → Buf (Elt Ideal) ((c : Thread nD τ).loc b), ((cfg0.win 3).blk t).view.read (Elt Ideal) (W (Pipeline.arrRef spec0 3)) (ix2 r j) = W main_v2 (ix2 ⟨352 * t.val + r.val, by have := lt_points t; omega⟩ j) := fun W => congrArg (W main_v2) (place3 t r j)
  (h (V m c)).trans (second_at m c _ _)

/-- The point and the place in its block of an index. -/
theorem split (i : S352x1024.Idx) : ∃ (t : Fin cfg0.N) (r : Fin 352) (j : Fin 1024), i = ix2 ⟨352 * t.val + r.val, by have := lt_points t; omega⟩ j := by
  have h0 : (i 0).val < 352 := (i 0).isLt
  have hN : cfg0.N = 1 := N_0
  exact ⟨⟨(i 0).val / 352, by omega⟩, ⟨(i 0).val % 352, by omega⟩, ⟨(i 1).val, (i 1).isLt⟩,
    ix2_of i _ _ (by show (i 0).val = 352 * ((i 0).val / 352) + (i 0).val % 352; omega) rfl⟩

/-- The array of the gradient. -/
theorem array4_eq : (dats m 0 c).arrAt 4 cfg0.N = totals (m ((c : Thread nD τ).loc main_arg0)) := by
  refine (dats m 0 c).arrAt_eq_of_cover 4 _ (fun t hf => ?_) (fun i => ?_)
  · rw [Value.flushed4]
    funext x
    obtain ⟨r, j, rfl⟩ : ∃ (r : Fin 352) (j : Fin 1024), x = ix2 r j := ix2_ex x
    refine (show _ = out0_4 (F := Ideal) (iblk m c 0 t) (iblk m c 1 t) (iblk m c 2 t) (iblk m c 3 t) (ix2 r j) from rfl).trans ?_
    rw [block4, total_block]
    exact (congrArg (totals (m ((c : Thread nD τ).loc main_arg0))) (place4 t r j)).symm
  · obtain ⟨t, r, j, rfl⟩ := split i
    exact ⟨t, flush0_4 t, place4 t r j ▸ ((cfg0.win 4).blk t).view.emb_mem_set _⟩

/-- The array of the changes. -/
theorem array5_eq : (dats m 0 c).arrAt 5 cfg0.N = changes (m ((c : Thread nD τ).loc main_arg0)) (m ((c : Thread nD τ).loc main_arg1)) (m ((c : Thread nD τ).loc main_arg2)) (m ((c : Thread nD τ).loc main_arg3)) := by
  refine (dats m 0 c).arrAt_eq_of_cover 5 _ (fun t hf => ?_) (fun i => ?_)
  · rw [Value.flushed5]
    funext x
    obtain ⟨r, j, rfl⟩ : ∃ (r : Fin 352) (j : Fin 1024), x = ix2 r j := ix2_ex x
    refine (show _ = out0_5 (F := Ideal) (iblk m c 0 t) (iblk m c 1 t) (iblk m c 2 t) (iblk m c 3 t) (ix2 r j) from rfl).trans ?_
    rw [block5, total_block, weight_block, first_block, second_block]
    exact (congrArg (changes (m ((c : Thread nD τ).loc main_arg0)) (m ((c : Thread nD τ).loc main_arg1)) (m ((c : Thread nD τ).loc main_arg2)) (m ((c : Thread nD τ).loc main_arg3))) (place5 t r j)).symm
  · obtain ⟨t, r, j, rfl⟩ := split i
    exact ⟨t, flush0_5 t, place5 t r j ▸ ((cfg0.win 5).blk t).view.emb_mem_set _⟩

/-- The array of the first moments. -/
theorem array6_eq : (dats m 0 c).arrAt 6 cfg0.N = moments (m ((c : Thread nD τ).loc main_arg0)) (m ((c : Thread nD τ).loc main_arg2)) := by
  refine (dats m 0 c).arrAt_eq_of_cover 6 _ (fun t hf => ?_) (fun i => ?_)
  · rw [Value.flushed6]
    funext x
    obtain ⟨r, j, rfl⟩ : ∃ (r : Fin 352) (j : Fin 1024), x = ix2 r j := ix2_ex x
    refine (show _ = out0_6 (F := Ideal) (iblk m c 0 t) (iblk m c 1 t) (iblk m c 2 t) (iblk m c 3 t) (ix2 r j) from rfl).trans ?_
    rw [block6, total_block, first_block]
    exact (congrArg (moments (m ((c : Thread nD τ).loc main_arg0)) (m ((c : Thread nD τ).loc main_arg2))) (place6 t r j)).symm
  · obtain ⟨t, r, j, rfl⟩ := split i
    exact ⟨t, flush0_6 t, place6 t r j ▸ ((cfg0.win 6).blk t).view.emb_mem_set _⟩

/-- The array of the second moments. -/
theorem array7_eq : (dats m 0 c).arrAt 7 cfg0.N = seconds (m ((c : Thread nD τ).loc main_arg0)) (m ((c : Thread nD τ).loc main_arg3)) := by
  refine (dats m 0 c).arrAt_eq_of_cover 7 _ (fun t hf => ?_) (fun i => ?_)
  · rw [Value.flushed7]
    funext x
    obtain ⟨r, j, rfl⟩ : ∃ (r : Fin 352) (j : Fin 1024), x = ix2 r j := ix2_ex x
    refine (show _ = out0_7 (F := Ideal) (iblk m c 0 t) (iblk m c 1 t) (iblk m c 2 t) (iblk m c 3 t) (ix2 r j) from rfl).trans ?_
    rw [block7, total_block, second_block]
    exact (congrArg (seconds (m ((c : Thread nD τ).loc main_arg0)) (m ((c : Thread nD τ).loc main_arg3))) (place7 t r j)).symm
  · obtain ⟨t, r, j, rfl⟩ := split i
    exact ⟨t, flush0_7 t, place7 t r j ▸ ((cfg0.win 7).blk t).view.emb_mem_set _⟩

end Cert.UpdateDownValue

end
-- ==== Proof.UpdateClaims.lean ====
/- The claims about the AdamW steps. -/
module

public import proofs.«01_k».proof.Defs
public import proofs.«01_k».proof.Proof.UpdateOutValue
public import proofs.«01_k».proof.Proof.Gen.UpdateOut
public import proofs.«01_k».proof.Proof.Gen.UpdateOut.Frame
public import proofs.«01_k».proof.Proof.Gen.UpdateOutRefIdeal.Run
public import proofs.«01_k».proof.Proof.UpdateUpValue
public import proofs.«01_k».proof.Proof.Gen.UpdateUp
public import proofs.«01_k».proof.Proof.Gen.UpdateUp.Frame
public import proofs.«01_k».proof.Proof.Gen.UpdateUpRefIdeal.Run
public import proofs.«01_k».proof.Proof.UpdateDownValue
public import proofs.«01_k».proof.Proof.Gen.UpdateDown
public import proofs.«01_k».proof.Proof.Gen.UpdateDown.Frame
public import proofs.«01_k».proof.Proof.Gen.UpdateDownRefIdeal.Run
public import Idealize.ShloMosaic.Lib.Quiescent

@[expose] public section

noncomputable section

open Idealize.ShloMosaic Idealize.ShloMosaic.TcCoe Idealize.SL.Sem
open Cert.Product Cert.Update

namespace Cert.UpdateOutClaims

/-- The kernel of the step of the output projection leaves its inputs and its semaphores as it found them. -/
theorem frame_kernel : Cert.quiescent_UpdateOut := fun m ρ _ => Cert.UpdateOut.Gen.frame m ρ

/-- So does its ideal program. -/
theorem frame_ideal : Cert.quiescent_UpdateOutIdeal := fun m ρ _ => Cert.UpdateOutIdeal.Gen.frame m ρ

/-- So does its reference. -/
theorem frame_reference : Cert.quiescent_UpdateOutRefIdeal := fun m ρ _ =>
  (θ_run Cert.UpdateOutRefIdeal.defs _ _).mono (fun r h => ⟨fun c => (h c).2.2.2.2, sem_eq_zero_of_no_sems (by decide) r.2⟩)
    (Cert.UpdateOutRefIdeal.Value.run (F := Ideal) m ρ)

/-- No operation was replaced. -/
theorem preserves : Cert.preserves_UpdateOut_UpdateOutIdeal := trivial

/-- In exact arithmetic kernel and reference end in the same gradient, changes and moments for the output projection. -/
theorem algebraic : Cert.algebraic_UpdateOutIdeal_UpdateOutRefIdeal := fun m ρ m' ρ' _ hagree =>
  ⟨fun c => (Cert.UpdateOutIdeal.Gen.dats m 0 c).arrAt 4 Cert.UpdateOutIdeal.cfg0.N, fun c => (Cert.UpdateOutIdeal.Gen.dats m 0 c).arrAt 5 Cert.UpdateOutIdeal.cfg0.N,
    fun c => (Cert.UpdateOutIdeal.Gen.dats m 0 c).arrAt 6 Cert.UpdateOutIdeal.cfg0.N, fun c => (Cert.UpdateOutIdeal.Gen.dats m 0 c).arrAt 7 Cert.UpdateOutIdeal.cfg0.N,
    Cert.UpdateOutIdeal.Value.run_blocks (F := Ideal) m ρ,
    (θ_run Cert.UpdateOutRefIdeal.defs _ _).mono (fun _ h c =>
      have ⟨a0, a1, a2, a3⟩ := hagree c
      ⟨(h c).1.trans ((totals_of _ _ _ (by decide) _ _ a0).trans (Cert.UpdateOutValue.array4_eq m c).symm),
        (h c).2.1.trans ((changes_of _ _ _ _ (by decide) _ _ a0 a1 a2 a3).trans (Cert.UpdateOutValue.array5_eq m c).symm),
        (h c).2.2.1.trans ((moments_of _ _ _ _ (by decide) _ _ a0 a2).trans (Cert.UpdateOutValue.array6_eq m c).symm),
        (h c).2.2.2.1.trans ((seconds_of _ _ _ _ (by decide) _ _ a0 a3).trans (Cert.UpdateOutValue.array7_eq m c).symm),
        (h c).2.2.2.2⟩) (Cert.UpdateOutRefIdeal.Value.run (F := Ideal) m' ρ')⟩

end Cert.UpdateOutClaims

namespace Cert.UpdateUpClaims

/-- The kernel of the step of the up projection leaves its inputs and its semaphores as it found them. -/
theorem frame_kernel : Cert.quiescent_UpdateUp := fun m ρ _ => Cert.UpdateUp.Gen.frame m ρ

/-- So does its ideal program. -/
theorem frame_ideal : Cert.quiescent_UpdateUpIdeal := fun m ρ _ => Cert.UpdateUpIdeal.Gen.frame m ρ

/-- So does its reference. -/
theorem frame_reference : Cert.quiescent_UpdateUpRefIdeal := fun m ρ _ =>
  (θ_run Cert.UpdateUpRefIdeal.defs _ _).mono (fun r h => ⟨fun c => (h c).2.2.2.2, sem_eq_zero_of_no_sems (by decide) r.2⟩)
    (Cert.UpdateUpRefIdeal.Value.run (F := Ideal) m ρ)

/-- No operation was replaced. -/
theorem preserves : Cert.preserves_UpdateUp_UpdateUpIdeal := trivial

/-- In exact arithmetic kernel and reference end in the same gradient, changes and moments for the up projection. -/
theorem algebraic : Cert.algebraic_UpdateUpIdeal_UpdateUpRefIdeal := fun m ρ m' ρ' _ hagree =>
  ⟨fun c => (Cert.UpdateUpIdeal.Gen.dats m 0 c).arrAt 4 Cert.UpdateUpIdeal.cfg0.N, fun c => (Cert.UpdateUpIdeal.Gen.dats m 0 c).arrAt 5 Cert.UpdateUpIdeal.cfg0.N,
    fun c => (Cert.UpdateUpIdeal.Gen.dats m 0 c).arrAt 6 Cert.UpdateUpIdeal.cfg0.N, fun c => (Cert.UpdateUpIdeal.Gen.dats m 0 c).arrAt 7 Cert.UpdateUpIdeal.cfg0.N,
    Cert.UpdateUpIdeal.Value.run_blocks (F := Ideal) m ρ,
    (θ_run Cert.UpdateUpRefIdeal.defs _ _).mono (fun _ h c =>
      have ⟨a0, a1, a2, a3⟩ := hagree c
      ⟨(h c).1.trans ((totals_of _ _ _ (by decide) _ _ a0).trans (Cert.UpdateUpValue.array4_eq m c).symm),
        (h c).2.1.trans ((changes_of _ _ _ _ (by decide) _ _ a0 a1 a2 a3).trans (Cert.UpdateUpValue.array5_eq m c).symm),
        (h c).2.2.1.trans ((moments_of _ _ _ _ (by decide) _ _ a0 a2).trans (Cert.UpdateUpValue.array6_eq m c).symm),
        (h c).2.2.2.1.trans ((seconds_of _ _ _ _ (by decide) _ _ a0 a3).trans (Cert.UpdateUpValue.array7_eq m c).symm),
        (h c).2.2.2.2⟩) (Cert.UpdateUpRefIdeal.Value.run (F := Ideal) m' ρ')⟩

end Cert.UpdateUpClaims

namespace Cert.UpdateDownClaims

/-- The kernel of the step of the down projection leaves its inputs and its semaphores as it found them. -/
theorem frame_kernel : Cert.quiescent_UpdateDown := fun m ρ _ => Cert.UpdateDown.Gen.frame m ρ

/-- So does its ideal program. -/
theorem frame_ideal : Cert.quiescent_UpdateDownIdeal := fun m ρ _ => Cert.UpdateDownIdeal.Gen.frame m ρ

/-- So does its reference. -/
theorem frame_reference : Cert.quiescent_UpdateDownRefIdeal := fun m ρ _ =>
  (θ_run Cert.UpdateDownRefIdeal.defs _ _).mono (fun r h => ⟨fun c => (h c).2.2.2.2, sem_eq_zero_of_no_sems (by decide) r.2⟩)
    (Cert.UpdateDownRefIdeal.Value.run (F := Ideal) m ρ)

/-- No operation was replaced. -/
theorem preserves : Cert.preserves_UpdateDown_UpdateDownIdeal := trivial

/-- In exact arithmetic kernel and reference end in the same gradient, changes and moments for the down projection. -/
theorem algebraic : Cert.algebraic_UpdateDownIdeal_UpdateDownRefIdeal := fun m ρ m' ρ' _ hagree =>
  ⟨fun c => (Cert.UpdateDownIdeal.Gen.dats m 0 c).arrAt 4 Cert.UpdateDownIdeal.cfg0.N, fun c => (Cert.UpdateDownIdeal.Gen.dats m 0 c).arrAt 5 Cert.UpdateDownIdeal.cfg0.N,
    fun c => (Cert.UpdateDownIdeal.Gen.dats m 0 c).arrAt 6 Cert.UpdateDownIdeal.cfg0.N, fun c => (Cert.UpdateDownIdeal.Gen.dats m 0 c).arrAt 7 Cert.UpdateDownIdeal.cfg0.N,
    Cert.UpdateDownIdeal.Value.run_blocks (F := Ideal) m ρ,
    (θ_run Cert.UpdateDownRefIdeal.defs _ _).mono (fun _ h c =>
      have ⟨a0, a1, a2, a3⟩ := hagree c
      ⟨(h c).1.trans ((totals_of _ _ _ (by decide) _ _ a0).trans (Cert.UpdateDownValue.array4_eq m c).symm),
        (h c).2.1.trans ((changes_of _ _ _ _ (by decide) _ _ a0 a1 a2 a3).trans (Cert.UpdateDownValue.array5_eq m c).symm),
        (h c).2.2.1.trans ((moments_of _ _ _ _ (by decide) _ _ a0 a2).trans (Cert.UpdateDownValue.array6_eq m c).symm),
        (h c).2.2.2.1.trans ((seconds_of _ _ _ _ (by decide) _ _ a0 a3).trans (Cert.UpdateDownValue.array7_eq m c).symm),
        (h c).2.2.2.2⟩) (Cert.UpdateDownRefIdeal.Value.run (F := Ideal) m' ρ')⟩

end Cert.UpdateDownClaims

end
-- ==== Proof.lean ====
/- The certificate: every claim, gathered. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.KernelIdeal.Value
public import proofs.«01_k».proof.Proof.Claims
public import proofs.«01_k».proof.Proof.WeightClaims
public import proofs.«01_k».proof.Proof.InputClaims
public import proofs.«01_k».proof.Proof.ForwardClaims
public import proofs.«01_k».proof.Proof.UpdateClaims
public import Idealize.ShloMosaic.Adequacy
public import Idealize.ShloMosaic.Init

@[expose] public section

noncomputable section

namespace Cert.Proof

open Idealize.ShloMosaic Idealize.SL.Sem Cert.Kernel

/-- Every claim of the certificate. -/
theorem claim : Cert.Claim := ⟨Cert.Kernel.Gen.facts, Cert.KernelIdeal.Gen.facts, Cert.ReferenceIdeal.Gen.facts,
  Cert.DwIn.Gen.facts, Cert.DwInIdeal.Gen.facts, Cert.DwInRefIdeal.Gen.facts,
  Cert.DwUp.Gen.facts, Cert.DwUpIdeal.Gen.facts, Cert.DwUpRefIdeal.Gen.facts,
  Cert.DwDown.Gen.facts, Cert.DwDownIdeal.Gen.facts, Cert.DwDownRefIdeal.Gen.facts,
  Cert.DwOut.Gen.facts, Cert.DwOutIdeal.Gen.facts, Cert.DwOutRefIdeal.Gen.facts,
  Cert.DAct.Gen.facts, Cert.DActIdeal.Gen.facts, Cert.DActRefIdeal.Gen.facts,
  Cert.DMix.Gen.facts, Cert.DMixIdeal.Gen.facts, Cert.DMixRefIdeal.Gen.facts,
  Cert.InProj.Gen.facts, Cert.InProjIdeal.Gen.facts, Cert.InProjRefIdeal.Gen.facts,
  Cert.FfnUp.Gen.facts, Cert.FfnUpIdeal.Gen.facts, Cert.FfnUpRefIdeal.Gen.facts,
  Cert.OutProj.Gen.facts, Cert.OutProjIdeal.Gen.facts, Cert.OutProjRefIdeal.Gen.facts,
  Cert.FfnDown.Gen.facts, Cert.FfnDownIdeal.Gen.facts, Cert.FfnDownRefIdeal.Gen.facts,
  Cert.UpdateOut.Gen.facts, Cert.UpdateOutIdeal.Gen.facts, Cert.UpdateOutRefIdeal.Gen.facts,
  Cert.UpdateUp.Gen.facts, Cert.UpdateUpIdeal.Gen.facts, Cert.UpdateUpRefIdeal.Gen.facts,
  Cert.UpdateDown.Gen.facts, Cert.UpdateDownIdeal.Gen.facts, Cert.UpdateDownRefIdeal.Gen.facts,
  Cert.Finite.facts,
  Cert.Claims.frame_kernel, Cert.Claims.frame_ideal, Cert.Claims.frame_ideal_finite, Cert.Claims.frame_reference, Cert.Claims.frame_reference_finite,
  Cert.DwInClaims.frame_kernel, Cert.DwInClaims.frame_ideal, Cert.DwInClaims.frame_reference,
  Cert.DwUpClaims.frame_kernel, Cert.DwUpClaims.frame_ideal, Cert.DwUpClaims.frame_reference,
  Cert.DwDownClaims.frame_kernel, Cert.DwDownClaims.frame_ideal, Cert.DwDownClaims.frame_reference,
  Cert.DwOutClaims.frame_kernel, Cert.DwOutClaims.frame_ideal, Cert.DwOutClaims.frame_reference,
  Cert.DActClaims.frame_kernel, Cert.DActClaims.frame_ideal, Cert.DActClaims.frame_reference,
  Cert.DMixClaims.frame_kernel, Cert.DMixClaims.frame_ideal, Cert.DMixClaims.frame_reference,
  Cert.InProjClaims.frame_kernel, Cert.InProjClaims.frame_ideal, Cert.InProjClaims.frame_reference,
  Cert.FfnUpClaims.frame_kernel, Cert.FfnUpClaims.frame_ideal, Cert.FfnUpClaims.frame_reference,
  Cert.OutProjClaims.frame_kernel, Cert.OutProjClaims.frame_ideal, Cert.OutProjClaims.frame_reference,
  Cert.FfnDownClaims.frame_kernel, Cert.FfnDownClaims.frame_ideal, Cert.FfnDownClaims.frame_reference,
  Cert.UpdateOutClaims.frame_kernel, Cert.UpdateOutClaims.frame_ideal, Cert.UpdateOutClaims.frame_reference,
  Cert.UpdateUpClaims.frame_kernel, Cert.UpdateUpClaims.frame_ideal, Cert.UpdateUpClaims.frame_reference,
  Cert.UpdateDownClaims.frame_kernel, Cert.UpdateDownClaims.frame_ideal, Cert.UpdateDownClaims.frame_reference,
  Cert.Claims.preserves, Cert.Claims.algebraic,
  Cert.DwInClaims.preserves, Cert.DwInClaims.algebraic,
  Cert.DwUpClaims.preserves, Cert.DwUpClaims.algebraic,
  Cert.DwDownClaims.preserves, Cert.DwDownClaims.algebraic,
  Cert.DwOutClaims.preserves, Cert.DwOutClaims.algebraic,
  Cert.DActClaims.preserves, Cert.DActClaims.algebraic,
  Cert.DMixClaims.preserves, Cert.DMixClaims.algebraic,
  Cert.InProjClaims.preserves, Cert.InProjClaims.algebraic,
  Cert.FfnUpClaims.preserves, Cert.FfnUpClaims.algebraic,
  Cert.OutProjClaims.preserves, Cert.OutProjClaims.algebraic,
  Cert.FfnDownClaims.preserves, Cert.FfnDownClaims.algebraic,
  Cert.UpdateOutClaims.preserves, Cert.UpdateOutClaims.algebraic,
  Cert.UpdateUpClaims.preserves, Cert.UpdateUpClaims.algebraic,
  Cert.UpdateDownClaims.preserves, Cert.UpdateDownClaims.algebraic⟩

end Cert.Proof

end
